-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tame [hPre_tame : Cert.Pre_tame.Facts] (m : (ℓ : Loc Cert.KernelIdeal.nD Cert.KernelIdeal.τ Cert.KernelIdeal.sig) → Buf (Elt Ideal) ℓ) : Prop :=
  ∀ c : Dev Cert.KernelIdeal.nD,
    (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame [hPre_tame : Cert.Pre_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_tame [hKernelIdeal : Cert.KernelIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_tame [hReferenceIdeal : Cert.ReferenceIdeal.Facts] [hPre_tame : Cert.Pre_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def preserves_Kernel_KernelIdeal : Prop :=
  True

def algebraic_KernelIdeal_ReferenceIdeal_pre_tame [hKernelIdeal : Cert.KernelIdeal.Facts] [hReferenceIdeal : Cert.ReferenceIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v24_0)) (v1 : (c : Dev Cert.KernelIdeal.nD) → Buf (Elt Ideal) ((c.tc : Thread Cert.KernelIdeal.nD Cert.KernelIdeal.τ).loc Cert.KernelIdeal.main_v24_1)) (v2 : (c : Dev Cert.KernelIdeal.nD) → Buf (Elt Ideal) ((c.tc : Thread Cert.KernelIdeal.nD Cert.KernelIdeal.τ).loc Cert.KernelIdeal.main_v24_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24_0) = v0 c
          ∧ r.2.mem ((c.tc : Thread Cert.KernelIdeal.nD Cert.KernelIdeal.τ).loc Cert.KernelIdeal.main_v24_1) = v1 c
          ∧ r.2.mem ((c.tc : Thread Cert.KernelIdeal.nD Cert.KernelIdeal.τ).loc Cert.KernelIdeal.main_v24_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_v57) = v1 c
          ∧ r.2.mem ((c.tc : Thread Cert.ReferenceIdeal.nD Cert.ReferenceIdeal.τ).loc Cert.ReferenceIdeal.main_v58) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v14)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v14) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v15) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v2) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v2) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v9_0)) (v1 : (c : Dev Cert.Kernel5Ideal.nD) → Buf (Elt Ideal) ((c.tc : Thread Cert.Kernel5Ideal.nD Cert.Kernel5Ideal.τ).loc Cert.Kernel5Ideal.main_v9_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v9_0) = v0 c
          ∧ r.2.mem ((c.tc : Thread Cert.Kernel5Ideal.nD Cert.Kernel5Ideal.τ).loc Cert.Kernel5Ideal.main_v9_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v36) = v0 c
          ∧ r.2.mem ((c.tc : Thread Cert.Reference5Ideal.nD Cert.Reference5Ideal.τ).loc Cert.Reference5Ideal.main_v19) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)) (v2 : (c : Dev Cert.Kernel6Ideal.nD) → Buf (Elt Ideal) ((c.tc : Thread Cert.Kernel6Ideal.nD Cert.Kernel6Ideal.τ).loc Cert.Kernel6Ideal.main_v0_2)) (v3 : (c : Dev Cert.Kernel6Ideal.nD) → Buf (Elt Ideal) ((c.tc : Thread Cert.Kernel6Ideal.nD Cert.Kernel6Ideal.τ).loc Cert.Kernel6Ideal.main_v0_3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_v0_2) = v2 c
          ∧ r.2.mem ((c.tc : Thread Cert.Kernel6Ideal.nD Cert.Kernel6Ideal.τ).loc Cert.Kernel6Ideal.main_v0_3) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v1) = v0 c
          ∧ r.2.mem ((c.tc : Thread Cert.Reference6Ideal.nD Cert.Reference6Ideal.τ).loc Cert.Reference6Ideal.main_v25) = v1 c
          ∧ r.2.mem ((c.tc : Thread Cert.Reference6Ideal.nD Cert.Reference6Ideal.τ).loc Cert.Reference6Ideal.main_v6) = v2 c
          ∧ r.2.mem ((c.tc : Thread Cert.Reference6Ideal.nD Cert.Reference6Ideal.τ).loc Cert.Reference6Ideal.main_v12) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v15)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v15) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v17) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_tame : Cert.Pre_tame.Facts),
    quiescent_Kernel (hKernel := hKernel)
    ∧ quiescent_KernelIdeal (hKernelIdeal := hKernelIdeal)
    ∧ quiescent_KernelIdeal_pre_tame (hKernelIdeal := hKernelIdeal) (hPre_tame := hPre_tame)
    ∧ quiescent_ReferenceIdeal (hReferenceIdeal := hReferenceIdeal)
    ∧ quiescent_ReferenceIdeal_pre_tame (hReferenceIdeal := hReferenceIdeal) (hPre_tame := hPre_tame)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal_pre_tame (hKernelIdeal := hKernelIdeal) (hReferenceIdeal := hReferenceIdeal) (hPre_tame := hPre_tame)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Pre_tame.lean ====
abbrev S4096x4608 : Shape := ⟨2, ![4096, 4608]⟩
abbrev S4096x512 : Shape := ⟨2, ![4096, 512]⟩
abbrev S4096x8x64 : Shape := ⟨3, ![4096, 8, 64]⟩
abbrev S8x4096x64 : Shape := ⟨3, ![8, 4096, 64]⟩
abbrev S8x4096x4096 : Shape := ⟨3, ![8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S1x4096x4096 : Shape := ⟨3, ![1, 4096, 4096]⟩
abbrev S4096x1536 : Shape := ⟨2, ![4096, 1536]⟩

class Facts : Prop where
  slices_S4096x4608_S4096x512_0_0 : S4096x4608.Slices ![0, 0] S4096x512
  slices_S4096x4608_S4096x512_0_512 : S4096x4608.Slices ![0, 512] S4096x512
  shapeCasts_S4096x512_S4096x8x64 : S4096x512.ShapeCasts S4096x8x64
  transposes_S4096x8x64_S8x4096x64_1_0_2 : S4096x8x64.Transposes [1, 0, 2] S8x4096x64
  bcast_S_S8x4096x4096 : S_.BroadcastsInDim S8x4096x4096 (![] : Fin 0 → Fin S8x4096x4096.rank)
  bcast_S4096_S1x4096_1 : S4096.BroadcastsInDim S1x4096 (![1] : Fin 1 → Fin S1x4096.rank)
  bcast_S4096_S4096x1_0 : S4096.BroadcastsInDim S4096x1 (![0] : Fin 1 → Fin S4096x1.rank)
  bcast_S1x4096_S4096x4096_0_1 : S1x4096.BroadcastsInDim S4096x4096 (![0, 1] : Fin 2 → Fin S4096x4096.rank)
  bcast_S4096x1_S4096x4096_0_1 : S4096x1.BroadcastsInDim S4096x4096 (![0, 1] : Fin 2 → Fin S4096x4096.rank)
  bcast_S4096x4096_S1x4096x4096_1_2 : S4096x4096.BroadcastsInDim S1x4096x4096 (![1, 2] : Fin 2 → Fin S1x4096x4096.rank)
  slices_S4096x4608_S4096x1536_0_0 : S4096x4608.Slices ![0, 0] S4096x1536
  bcast_S_S4096x1536 : S_.BroadcastsInDim S4096x1536 (![] : Fin 0 → Fin S4096x1536.rank)
  bcast_S_S4096x512 : S_.BroadcastsInDim S4096x512 (![] : Fin 0 → Fin S4096x512.rank)
  bcast_S1x4096x4096_S8x4096x4096_0_1_2 : S1x4096x4096.BroadcastsInDim S8x4096x4096 (![0, 1, 2] : Fin 3 → Fin S8x4096x4096.rank)
  dot_S8x4096x64_S8x4096x64_S8x4096x4096_2_2_1_1_0_0_wf : DotDims.WF S8x4096x64 S8x4096x64 S8x4096x4096 [2] [2] [1] [1] [0] [0]

variable [Facts]

def dot_S8x4096x64_S8x4096x64_S8x4096x4096_2_2_1_1_0_0 : DotDims S8x4096x64 S8x4096x64 S8x4096x4096 where
  lhsContracting := [2]
  rhsContracting := [2]
  lhsNonContracting := [1]
  rhsNonContracting := [1]
  lhsBatch := [0]
  rhsBatch := [0]
  wf := dot_S8x4096x64_S8x4096x64_S8x4096x4096_2_2_1_1_0_0_wf
def fn_part1 {F : FTy → Type} [FloatOps F] (main_v8 : FVec F S8x4096x4096 .f32) (main_v16 : IVec S1x4096x4096 1) (main_v20 : IVec S4096x1536 1) (main_v21 : FVec F S4096x512 .f32) : IVec S4096x1536 1 × IVec S4096x512 1 × IVec S8x4096x4096 1 :=
  let main_cst_1 : FVec F S_ .f32 := constant S_ .f32 0x7F800000#32
  let main_v22 : FVec F S4096x512 .f32 := broadcastInDim S4096x512 ![] bcast_S_S4096x512 main_cst_1
  let main_v23 : IVec S4096x512 1 := cmpf .olt main_v21 main_v22
  let main_cst_2 : FVec F S_ .f32 := constant S_ .f32 0xC2A00000#32
  let main_v24 : FVec F S8x4096x4096 .f32 := broadcastInDim S8x4096x4096 ![] bcast_S_S8x4096x4096 main_cst_2
  let main_v25 : IVec S8x4096x4096 1 := cmpf .oge main_v8 main_v24
  let main_v26 : IVec S1x4096x4096 1 := noti main_v16
  let main_v27 : IVec S8x4096x4096 1 := broadcastInDim S8x4096x4096 ![0, 1, 2] bcast_S1x4096x4096_S8x4096x4096_0_1_2 main_v26
  let main_v28 : IVec S8x4096x4096 1 := ori main_v25 main_v27
  (main_v20, main_v23, main_v28)

def fn {F : FTy → Type} [FloatOps F] (main_arg0 : FVec F S4096x4608 .f32) (main_arg1 : FVec F S4096x512 .f32) : IVec S4096x1536 1 × IVec S4096x512 1 × IVec S8x4096x4096 1 :=
  let main_v0 : FVec F S4096x512 .f32 := (extractStridedSlice S4096x512 ![0, 0] · slices_S4096x4608_S4096x512_0_0) main_arg0
  let main_v1 : FVec F S4096x512 .f32 := (extractStridedSlice S4096x512 ![0, 512] · slices_S4096x4608_S4096x512_0_512) main_arg0
  let main_v2 : FVec F S4096x8x64 .f32 := shapeCast S4096x8x64 main_v0 shapeCasts_S4096x512_S4096x8x64
  let main_v3 : FVec F S8x4096x64 .f32 := (transpose S8x4096x64 [1, 0, 2] · transposes_S4096x8x64_S8x4096x64_1_0_2) main_v2
  let main_v4 : FVec F S4096x8x64 .f32 := shapeCast S4096x8x64 main_v1 shapeCasts_S4096x512_S4096x8x64
  let main_v5 : FVec F S8x4096x64 .f32 := (transpose S8x4096x64 [1, 0, 2] · transposes_S4096x8x64_S8x4096x64_1_0_2) main_v4
  let main_v6 : FVec F S8x4096x4096 .f32 := (fun l r => Host.dotGeneral dot_S8x4096x64_S8x4096x64_S8x4096x4096_2_2_1_1_0_0 none l r) main_v3 main_v5
  let main_cst : FVec F S_ .f32 := constant S_ .f32 0x3E000000#32
  let main_v7 : FVec F S8x4096x4096 .f32 := broadcastInDim S8x4096x4096 ![] bcast_S_S8x4096x4096 main_cst
  let main_v8 : FVec F S8x4096x4096 .f32 := mulf main_v6 main_v7
  let main_v9 : IVec S4096 32 := iotaInDim S4096 32 0
  let main_v10 : IVec S1x4096 32 := broadcastInDim S1x4096 ![1] bcast_S4096_S1x4096_1 main_v9
  let main_v11 : IVec S4096 32 := iotaInDim S4096 32 0
  let main_v12 : IVec S4096x1 32 := broadcastInDim S4096x1 ![0] bcast_S4096_S4096x1_0 main_v11
  let main_v13 : IVec S4096x4096 32 := broadcastInDim S4096x4096 ![0, 1] bcast_S1x4096_S4096x4096_0_1 main_v10
  let main_v14 : IVec S4096x4096 32 := broadcastInDim S4096x4096 ![0, 1] bcast_S4096x1_S4096x4096_0_1 main_v12
  let main_v15 : IVec S4096x4096 1 := cmpi .slt main_v13 main_v14
  let main_v16 : IVec S1x4096x4096 1 := broadcastInDim S1x4096x4096 ![1, 2] bcast_S4096x4096_S1x4096x4096_1_2 main_v15
  let main_v17 : FVec F S4096x1536 .f32 := (extractStridedSlice S4096x1536 ![0, 0] · slices_S4096x4608_S4096x1536_0_0) main_arg0
  let main_v18 : FVec F S4096x1536 .f32 := Host.absf main_v17
  let main_cst_0 : FVec F S_ .f32 := constant S_ .f32 0x7F800000#32
  let main_v19 : FVec F S4096x1536 .f32 := broadcastInDim S4096x1536 ![] bcast_S_S4096x1536 main_cst_0
  let main_v20 : IVec S4096x1536 1 := cmpf .olt main_v18 main_v19
  let main_v21 : FVec F S4096x512 .f32 := Host.absf main_arg1
  fn_part1 (F := F) main_v8 main_v16 main_v20 main_v21
-- ==== Kernel.lean ====
abbrev S4096x4608 : Shape := ⟨2, ![4096, 4608]⟩
abbrev S4096x512 : Shape := ⟨2, ![4096, 512]⟩
abbrev S4096x8x64 : Shape := ⟨3, ![4096, 8, 64]⟩
abbrev S8x4096x64 : Shape := ⟨3, ![8, 4096, 64]⟩
abbrev S8x4096x4096 : Shape := ⟨3, ![8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S1x4096x4096 : Shape := ⟨3, ![1, 4096, 4096]⟩
abbrev S8x4096 : Shape := ⟨2, ![8, 4096]⟩
abbrev S4096x8 : Shape := ⟨2, ![4096, 8]⟩
abbrev S1024x128 : Shape := ⟨2, ![1024, 128]⟩
abbrev S4096x128 : Shape := ⟨2, ![4096, 128]⟩
abbrev S2x1024x128 : Shape := ⟨3, ![2, 1024, 128]⟩
abbrev S128x4096 : Shape := ⟨2, ![128, 4096]⟩
abbrev S256x256 : Shape := ⟨2, ![256, 256]⟩
abbrev S512x256 : Shape := ⟨2, ![512, 256]⟩
abbrev S128x1024 : Shape := ⟨2, ![128, 1024]⟩
abbrev S256x128 : Shape := ⟨2, ![256, 128]⟩
abbrev S128x256 : Shape := ⟨2, ![128, 256]⟩
abbrev S1024x256 : Shape := ⟨2, ![1024, 256]⟩
abbrev S1024x512 : Shape := ⟨2, ![1024, 512]⟩
abbrev S1x1024x128 : Shape := ⟨3, ![1, 1024, 128]⟩
abbrev S1024x1 : Shape := ⟨2, ![1024, 1]⟩
abbrev S768x256 : Shape := ⟨2, ![768, 256]⟩
abbrev S768x128 : Shape := ⟨2, ![768, 128]⟩
abbrev S768x512 : Shape := ⟨2, ![768, 512]⟩
abbrev S1x768x128 : Shape := ⟨3, ![1, 768, 128]⟩
abbrev S128x768 : Shape := ⟨2, ![128, 768]⟩
abbrev S768x1 : Shape := ⟨2, ![768, 1]⟩
abbrev S512x128 : Shape := ⟨2, ![512, 128]⟩
abbrev S512x512 : Shape := ⟨2, ![512, 512]⟩
abbrev S1x512x128 : Shape := ⟨3, ![1, 512, 128]⟩
abbrev S128x512 : Shape := ⟨2, ![128, 512]⟩
abbrev S512x1 : Shape := ⟨2, ![512, 1]⟩
abbrev S256x512 : Shape := ⟨2, ![256, 512]⟩
abbrev S1x256x128 : Shape := ⟨3, ![1, 256, 128]⟩
abbrev S256x1 : Shape := ⟨2, ![256, 1]⟩

abbrev nBuf : Space → Nat
  | .hbm => 50
  | .vmem => 21
  | .smem => 0
  | _ => 0

abbrev bufTy : (tb : Table) → Fin (tcTables nBuf tb) → BufTy
  | .hbm, ⟨0, _⟩ => ⟨S4096x4608, .f32⟩
  | .hbm, ⟨1, _⟩ => ⟨S4096x512, .f32⟩
  | .hbm, ⟨2, _⟩ => ⟨S4096x512, .f32⟩
  | .hbm, ⟨3, _⟩ => ⟨S4096x512, .f32⟩
  | .hbm, ⟨4, _⟩ => ⟨S4096x8x64, .f32⟩
  | .hbm, ⟨5, _⟩ => ⟨S8x4096x64, .f32⟩
  | .hbm, ⟨6, _⟩ => ⟨S4096x8x64, .f32⟩
  | .hbm, ⟨7, _⟩ => ⟨S8x4096x64, .f32⟩
  | .hbm, ⟨8, _⟩ => ⟨S8x4096x4096, .f32⟩
  | .hbm, ⟨9, _⟩ => ⟨S_, .f32⟩
  | .hbm, ⟨10, _⟩ => ⟨S8x4096x4096, .f32⟩
  | .hbm, ⟨11, _⟩ => ⟨S8x4096x4096, .f32⟩
  | .hbm, ⟨12, _⟩ => ⟨S4096, .i32⟩
  | .hbm, ⟨13, _⟩ => ⟨S1x4096, .i32⟩
  | .hbm, ⟨14, _⟩ => ⟨S4096, .i32⟩
  | .hbm, ⟨15, _⟩ => ⟨S4096x1, .i32⟩
  | .hbm, ⟨16, _⟩ => ⟨S4096x4096, .i32⟩
  | .hbm, ⟨17, _⟩ => ⟨S4096x4096, .i32⟩
  | .hbm, ⟨18, _⟩ => ⟨S4096x4096, .i1⟩
  | .hbm, ⟨19, _⟩ => ⟨S1x4096x4096, .i1⟩
  | .hbm, ⟨20, _⟩ => ⟨S8x4096x4096, .f32⟩
  | .hbm, ⟨21, _⟩ => ⟨S_, .f32⟩
  | .hbm, ⟨22, _⟩ => ⟨S8x4096x4096, .f32⟩
  | .hbm, ⟨23, _⟩ => ⟨S8x4096x4096, .f32⟩
  | .hbm, ⟨24, _⟩ => ⟨S8x4096x4096, .f32⟩
  | .hbm, ⟨25, _⟩ => ⟨S8x4096x4096, .f32⟩
  | .hbm, ⟨26, _⟩ => ⟨S8x4096x4096, .i1⟩
  | .hbm, ⟨27, _⟩ => ⟨S8x4096x4096, .f32⟩
  | .hbm, ⟨28, _⟩ => ⟨S8x4096x4096, .f32⟩
  | .hbm, ⟨29, _⟩ => ⟨S8x4096x4096, .f32⟩
  | .hbm, ⟨30, _⟩ => ⟨S8x4096x4096, .f32⟩
  | .hbm, ⟨31, _⟩ => ⟨S8x4096x4096, .f32⟩
  | .hbm, ⟨32, _⟩ => ⟨S8x4096x4096, .f32⟩
  | .hbm, ⟨33, _⟩ => ⟨S8x4096x4096, .f32⟩
  | .hbm, ⟨34, _⟩ => ⟨S8x4096x4096, .f32⟩
  | .hbm, ⟨35, _⟩ => ⟨S8x4096x4096, .f32⟩
  | .hbm, ⟨36, _⟩ => ⟨S8x4096x4096, .f32⟩
  | .hbm, ⟨37, _⟩ => ⟨S_, .f32⟩
  | .hbm, ⟨38, _⟩ => ⟨S_, .f32⟩
  | .hbm, ⟨39, _⟩ => ⟨S8x4096x4096, .i1⟩
  | .hbm, ⟨40, _⟩ => ⟨S8x4096x4096, .f32⟩
  | .hbm, ⟨41, _⟩ => ⟨S8x4096x4096, .f32⟩
  | .hbm, ⟨42, _⟩ => ⟨S_, .f32⟩
  | .hbm, ⟨43, _⟩ => ⟨S8x4096, .f32⟩
  | .hbm, ⟨44, _⟩ => ⟨S4096x8, .f32⟩
  | .hbm, ⟨45, _⟩ => ⟨S4096x8x64, .f32⟩
  | .hbm, ⟨46, _⟩ => ⟨S4096x512, .f32⟩
  | .hbm, ⟨47, _⟩ => ⟨S4096x512, .bf16⟩
  | .hbm, ⟨48, _⟩ => ⟨S4096x512, .bf16⟩
  | .hbm, ⟨49, _⟩ => ⟨S4096x512, .bf16⟩
  | .local _ .vmem, ⟨0, _⟩ => ⟨S1024x128, .f32⟩
  | .local _ .vmem, ⟨1, _⟩ => ⟨S1024x128, .f32⟩
  | .local _ .vmem, ⟨2, _⟩ => ⟨S4096x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x128, .bf16⟩
  | .local _ .vmem, ⟨11, _⟩ => ⟨S1024x128, .bf16⟩
  | .local _ .vmem, ⟨12, _⟩ => ⟨S4096x128, .bf16⟩
  | .local _ .vmem, ⟨13, _⟩ => ⟨S4096x128, .bf16⟩
  | .local _ .vmem, ⟨14, _⟩ => ⟨S4096x128, .bf16⟩
  | .local _ .vmem, ⟨15, _⟩ => ⟨S4096x128, .bf16⟩
  | .local _ .vmem, ⟨16, _⟩ => ⟨S2x1024x128, .f32⟩
  | .local _ .vmem, ⟨17, _⟩ => ⟨S2x1024x128, .f32⟩
  | .local _ .vmem, ⟨18, _⟩ => ⟨S2x1024x128, .f32⟩
  | .local _ .vmem, ⟨19, _⟩ => ⟨S128x4096, .f32⟩
  | .local _ .vmem, ⟨20, _⟩ => ⟨S128x4096, .f32⟩
  | _, _ => ⟨S4096x4608, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_call0_v0 : Ref sig .tc := ⟨.hbm, 20, rfl⟩
abbrev main_call0_call0_cst : Ref sig .tc := ⟨.hbm, 21, rfl⟩
abbrev main_call0_call0_v0 : Ref sig .tc := ⟨.hbm, 22, rfl⟩
abbrev main_call0_call0_v1 : Ref sig .tc := ⟨.hbm, 23, rfl⟩
abbrev main_call0_call0_v2 : Ref sig .tc := ⟨.hbm, 24, rfl⟩
abbrev main_call0_call0_v3 : Ref sig .tc := ⟨.hbm, 25, rfl⟩
abbrev main_call0_call0_v4 : Ref sig .tc := ⟨.hbm, 26, rfl⟩
abbrev main_call0_call0_v5 : Ref sig .tc := ⟨.hbm, 27, rfl⟩
abbrev main_call0_call0_v6 : Ref sig .tc := ⟨.hbm, 28, rfl⟩
abbrev main_call0_call0_v7 : Ref sig .tc := ⟨.hbm, 29, rfl⟩
abbrev main_call0_call0_v8 : Ref sig .tc := ⟨.hbm, 30, rfl⟩
abbrev main_call0_call0_v9 : Ref sig .tc := ⟨.hbm, 31, rfl⟩
abbrev main_call0_call0_v10 : Ref sig .tc := ⟨.hbm, 32, rfl⟩
abbrev main_call0_call0_v11 : Ref sig .tc := ⟨.hbm, 33, rfl⟩
abbrev main_call0_v1 : Ref sig .tc := ⟨.hbm, 34, rfl⟩
abbrev main_v17 : Ref sig .tc := ⟨.hbm, 35, rfl⟩
abbrev main_v18 : Ref sig .tc := ⟨.hbm, 36, rfl⟩
abbrev main_cst_0 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_v19 : Ref sig .tc := ⟨.hbm, 41, rfl⟩
abbrev main_cst_1 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24_0 : Ref sig .tc := ⟨.hbm, 47, rfl⟩
abbrev main_v24_1 : Ref sig .tc := ⟨.hbm, 48, rfl⟩
abbrev main_v24_2 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 4], ![false, false]⟩

@[reducible] def k0_t1_loop (i : grid0.Coords) : Scf.Loop 32 :=
  let c0_i32_26 : BitVec 32 := 0#32
  let c4_i32 : BitVec 32 := 4#32
  let arg1 : BitVec 32 := BitVec.ofNat 32 (i 1).val
  let v58 : BitVec 32 := Scalar.muli c4_i32 arg1
  let v59 : BitVec 32 := Scalar.subi v58 c0_i32_26
  let c1_i32 : BitVec 32 := 1#32
  let v61 : BitVec 32 := Scalar.divsi v59 c1_i32
  let v62 : BitVec 32 := Scalar.muli v61 c1_i32
  let v63 : BitVec 32 := Scalar.addi c0_i32_26 v62
  let c1_i32_27 : BitVec 32 := 1#32
  ⟨c0_i32_26, v63, c1_i32_27⟩
def k0_mult1 (i : grid0.Coords) (k0_t1 : Fin (k0_t1_loop i).trips) : BitVec 32 :=
  let c0_i32_26 : BitVec 32 := 0#32
  let c1_i32_27 : BitVec 32 := 1#32
  let arg15 : BitVec 32 := Scf.iv c0_i32_26 c1_i32_27 k0_t1
  let c256_i32_325 : BitVec 32 := 256#32
  let v782 : BitVec 32 := Scalar.muli arg15 c256_i32_325
  v782
def k0_off1 (i : grid0.Coords) (k0_t1 : Fin (k0_t1_loop i).trips) : Fin 2 → Nat :=
  let c0_i32_26 : BitVec 32 := 0#32
  let c1_i32_27 : BitVec 32 := 1#32
  let arg15 : BitVec 32 := Scf.iv c0_i32_26 c1_i32_27 k0_t1
  let c256_i32_325 : BitVec 32 := 256#32
  let v782 : BitVec 32 := Scalar.muli arg15 c256_i32_325
  let v783 : BitVec 32 := v782
  let v784 : Index := Scalar.indexCast v783
  let c0_326 : Index := 0#32
  ![v784.toNat, 0]
def k0_off2 (i : grid0.Coords) (k0_t1 : Fin (k0_t1_loop i).trips) : Fin 2 → Nat :=
  let c0_386 : Index := 0#32
  let c0_i32_26 : BitVec 32 := 0#32
  let c1_i32_27 : BitVec 32 := 1#32
  let arg15 : BitVec 32 := Scf.iv c0_i32_26 c1_i32_27 k0_t1
  let c256_i32_325 : BitVec 32 := 256#32
  let v782 : BitVec 32 := Scalar.muli arg15 c256_i32_325
  let v783 : BitVec 32 := v782
  let v920 : Index := Scalar.indexCast v783
  ![0, v920.toNat]
@[reducible] def k0_t2_loop (i : grid0.Coords) : Scf.Loop 32 :=
  let c0_i32_26 : BitVec 32 := 0#32
  let c4_i32 : BitVec 32 := 4#32
  let arg1 : BitVec 32 := BitVec.ofNat 32 (i 1).val
  let v58 : BitVec 32 := Scalar.muli c4_i32 arg1
  let v59 : BitVec 32 := Scalar.subi v58 c0_i32_26
  let c1_i32 : BitVec 32 := 1#32
  let v61 : BitVec 32 := Scalar.divsi v59 c1_i32
  let v62 : BitVec 32 := Scalar.muli v61 c1_i32
  let v63 : BitVec 32 := Scalar.addi c0_i32_26 v62
  let v60 : BitVec 32 := Scalar.addi c0_i32_26 v59
  let c1_i32_28 : BitVec 32 := 1#32
  ⟨v63, v60, c1_i32_28⟩
def k0_mult2 (i : grid0.Coords) (k0_t2 : Fin (k0_t2_loop i).trips) : BitVec 32 :=
  let c0_i32_26 : BitVec 32 := 0#32
  let c4_i32 : BitVec 32 := 4#32
  let arg1 : BitVec 32 := BitVec.ofNat 32 (i 1).val
  let v58 : BitVec 32 := Scalar.muli c4_i32 arg1
  let v59 : BitVec 32 := Scalar.subi v58 c0_i32_26
  let c1_i32 : BitVec 32 := 1#32
  let v61 : BitVec 32 := Scalar.divsi v59 c1_i32
  let v62 : BitVec 32 := Scalar.muli v61 c1_i32
  let v63 : BitVec 32 := Scalar.addi c0_i32_26 v62
  let c1_i32_28 : BitVec 32 := 1#32
  let arg15 : BitVec 32 := Scf.iv v63 c1_i32_28 k0_t2
  let c256_i32_325 : BitVec 32 := 256#32
  let v782 : BitVec 32 := Scalar.muli arg15 c256_i32_325
  v782
def k0_off3 (i : grid0.Coords) (k0_t2 : Fin (k0_t2_loop i).trips) : Fin 2 → Nat :=
  let c0_i32_26 : BitVec 32 := 0#32
  let c4_i32 : BitVec 32 := 4#32
  let arg1 : BitVec 32 := BitVec.ofNat 32 (i 1).val
  let v58 : BitVec 32 := Scalar.muli c4_i32 arg1
  let v59 : BitVec 32 := Scalar.subi v58 c0_i32_26
  let c1_i32 : BitVec 32 := 1#32
  let v61 : BitVec 32 := Scalar.divsi v59 c1_i32
  let v62 : BitVec 32 := Scalar.muli v61 c1_i32
  let v63 : BitVec 32 := Scalar.addi c0_i32_26 v62
  let c1_i32_28 : BitVec 32 := 1#32
  let arg15 : BitVec 32 := Scf.iv v63 c1_i32_28 k0_t2
  let c256_i32_325 : BitVec 32 := 256#32
  let v782 : BitVec 32 := Scalar.muli arg15 c256_i32_325
  let v783 : BitVec 32 := v782
  let v784 : Index := Scalar.indexCast v783
  let c0_326 : Index := 0#32
  ![v784.toNat, 0]
def k0_off4 (i : grid0.Coords) (k0_t2 : Fin (k0_t2_loop i).trips) : Fin 2 → Nat :=
  let c0_386 : Index := 0#32
  let c0_i32_26 : BitVec 32 := 0#32
  let c4_i32 : BitVec 32 := 4#32
  let arg1 : BitVec 32 := BitVec.ofNat 32 (i 1).val
  let v58 : BitVec 32 := Scalar.muli c4_i32 arg1
  let v59 : BitVec 32 := Scalar.subi v58 c0_i32_26
  let c1_i32 : BitVec 32 := 1#32
  let v61 : BitVec 32 := Scalar.divsi v59 c1_i32
  let v62 : BitVec 32 := Scalar.muli v61 c1_i32
  let v63 : BitVec 32 := Scalar.addi c0_i32_26 v62
  let c1_i32_28 : BitVec 32 := 1#32
  let arg15 : BitVec 32 := Scf.iv v63 c1_i32_28 k0_t2
  let c256_i32_325 : BitVec 32 := 256#32
  let v782 : BitVec 32 := Scalar.muli arg15 c256_i32_325
  let v783 : BitVec 32 := v782
  let v920 : Index := Scalar.indexCast v783
  ![0, v920.toNat]
def k0_mult3 (i : grid0.Coords) : BitVec 32 :=
  let c4_i32_29 : BitVec 32 := 4#32
  let arg1 : BitVec 32 := BitVec.ofNat 32 (i 1).val
  let v64 : BitVec 32 := Scalar.muli c4_i32_29 arg1
  let c0_i32_30 : BitVec 32 := 0#32
  let v65 : BitVec 32 := Scalar.addi v64 c0_i32_30
  let c256_i32 : BitVec 32 := 256#32
  let v69 : BitVec 32 := Scalar.muli v65 c256_i32
  v69
def k0_off5 (i : grid0.Coords) (c0_i32_30 : BitVec 32) : Fin 2 → Nat :=
  let c4_i32_29 : BitVec 32 := 4#32
  let arg1 : BitVec 32 := BitVec.ofNat 32 (i 1).val
  let v64 : BitVec 32 := Scalar.muli c4_i32_29 arg1
  let v65 : BitVec 32 := Scalar.addi v64 c0_i32_30
  let c256_i32 : BitVec 32 := 256#32
  let v69 : BitVec 32 := Scalar.muli v65 c256_i32
  let v70 : BitVec 32 := v69
  let v71 : Index := Scalar.indexCast v70
  let c0_31 : Index := 0#32
  ![v71.toNat, 0]
def k0_off6 (i : grid0.Coords) (c0_i32_30 : BitVec 32) : Fin 2 → Nat :=
  let c0_96 : Index := 0#32
  let c4_i32_29 : BitVec 32 := 4#32
  let arg1 : BitVec 32 := BitVec.ofNat 32 (i 1).val
  let v64 : BitVec 32 := Scalar.muli c4_i32_29 arg1
  let v65 : BitVec 32 := Scalar.addi v64 c0_i32_30
  let c256_i32 : BitVec 32 := 256#32
  let v69 : BitVec 32 := Scalar.muli v65 c256_i32
  let v70 : BitVec 32 := v69
  let v219 : Index := Scalar.indexCast v70
  ![0, v219.toNat]
def k0_mult4 (i : grid0.Coords) : BitVec 32 :=
  let c4_i32_100 : BitVec 32 := 4#32
  let arg1 : BitVec 32 := BitVec.ofNat 32 (i 1).val
  let v233 : BitVec 32 := Scalar.muli c4_i32_100 arg1
  let c1_i32_101 : BitVec 32 := 1#32
  let v234 : BitVec 32 := Scalar.addi v233 c1_i32_101
  let c256_i32_102 : BitVec 32 := 256#32
  let v238 : BitVec 32 := Scalar.muli v234 c256_i32_102
  v238
def k0_mult5 (i : grid0.Coords) : BitVec 32 :=
  let c4_i32_172 : BitVec 32 := 4#32
  let arg1 : BitVec 32 := BitVec.ofNat 32 (i 1).val
  let v412 : BitVec 32 := Scalar.muli c4_i32_172 arg1
  let c2_i32 : BitVec 32 := 2#32
  let v413 : BitVec 32 := Scalar.addi v412 c2_i32
  let c256_i32_173 : BitVec 32 := 256#32
  let v417 : BitVec 32 := Scalar.muli v413 c256_i32_173
  v417
def k0_mult6 (i : grid0.Coords) : BitVec 32 :=
  let c4_i32_243 : BitVec 32 := 4#32
  let arg1 : BitVec 32 := BitVec.ofNat 32 (i 1).val
  let v591 : BitVec 32 := Scalar.muli c4_i32_243 arg1
  let c3_i32 : BitVec 32 := 3#32
  let v592 : BitVec 32 := Scalar.addi v591 c3_i32
  let c256_i32_244 : BitVec 32 := 256#32
  let v596 : BitVec 32 := Scalar.muli v592 c256_i32_244
  v596
def k0_cond2 (i : grid0.Coords) : BitVec 1 :=
  let arg1 : BitVec 32 := BitVec.ofNat 32 (i 1).val
  let c3_i32_323 : BitVec 32 := 3#32
  let v779 : BitVec 1 := Scalar.cmpi .eq arg1 c3_i32_323
  let v780 : BitVec 32 := Scalar.extui v779
  let c0_i32_324 : BitVec 32 := 0#32
  let v781 : BitVec 1 := Scalar.cmpi .ne v780 c0_i32_324
  v781

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S4096x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S4096x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ReferenceIdeal.lean ====
abbrev S4096x4608 : Shape := ⟨2, ![4096, 4608]⟩
abbrev S4096x512 : Shape := ⟨2, ![4096, 512]⟩
abbrev S4096x8x64 : Shape := ⟨3, ![4096, 8, 64]⟩
abbrev S8x4096x64 : Shape := ⟨3, ![8, 4096, 64]⟩
abbrev S8x4096x4096 : Shape := ⟨3, ![8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S1x4096x4096 : Shape := ⟨3, ![1, 4096, 4096]⟩
abbrev S8x64x4096 : Shape := ⟨3, ![8, 64, 4096]⟩

abbrev nBuf : Space → Nat
  | .hbm => 132
  | .vmem => 0
  | .smem => 0
  | _ => 0

abbrev hbmTy0_0 (i : Nat) : BufTy := match i % 128 with
  | 0 => ⟨S4096x4608, .f32⟩
  | 1 => ⟨S4096x512, .f32⟩
  | 2 => ⟨S4096x512, .f32⟩
  | 3 => ⟨S4096x512, .f32⟩
  | 4 => ⟨S4096x512, .f32⟩
  | 5 => ⟨S4096x8x64, .f32⟩
  | 6 => ⟨S8x4096x64, .f32⟩
  | 7 => ⟨S4096x8x64, .f32⟩
  | 8 => ⟨S8x4096x64, .f32⟩
  | 9 => ⟨S8x4096x4096, .f32⟩
  | 10 => ⟨S_, .f32⟩
  | 11 => ⟨S8x4096x4096, .f32⟩
  | 12 => ⟨S8x4096x4096, .f32⟩
  | 13 => ⟨S4096, .i32⟩
  | 14 => ⟨S1x4096, .i32⟩
  | 15 => ⟨S4096, .i32⟩
  | 16 => ⟨S4096x1, .i32⟩
  | 17 => ⟨S4096x4096, .i32⟩
  | 18 => ⟨S4096x4096, .i32⟩
  | 19 => ⟨S4096x4096, .i1⟩
  | 20 => ⟨S1x4096x4096, .i1⟩
  | 21 => ⟨S8x4096x4096, .f32⟩
  | 22 => ⟨S_, .f32⟩
  | 23 => ⟨S8x4096x4096, .f32⟩
  | 24 => ⟨S8x4096x4096, .f32⟩
  | 25 => ⟨S8x4096x4096, .f32⟩
  | 26 => ⟨S8x4096x4096, .f32⟩
  | 27 => ⟨S8x4096x4096, .i1⟩
  | 28 => ⟨S8x4096x4096, .f32⟩
  | 29 => ⟨S8x4096x4096, .f32⟩
  | 30 => ⟨S8x4096x4096, .f32⟩
  | 31 => ⟨S8x4096x4096, .f32⟩
  | 32 => ⟨S8x4096x4096, .f32⟩
  | 33 => ⟨S8x4096x4096, .f32⟩
  | 34 => ⟨S8x4096x4096, .f32⟩
  | 35 => ⟨S8x4096x4096, .f32⟩
  | 36 => ⟨S_, .f32⟩
  | 37 => ⟨S8x4096x4096, .f32⟩
  | 38 => ⟨S8x4096x4096, .i1⟩
  | 39 => ⟨S_, .f32⟩
  | 40 => ⟨S8x4096x4096, .f32⟩
  | 41 => ⟨S8x4096x4096, .f32⟩
  | 42 => ⟨S_, .f32⟩
  | 43 => ⟨S8x4096x4096, .f32⟩
  | 44 => ⟨S8x4096x4096, .i1⟩
  | 45 => ⟨S_, .f32⟩
  | 46 => ⟨S8x4096x4096, .f32⟩
  | 47 => ⟨S8x4096x4096, .f32⟩
  | 48 => ⟨S8x4096x4096, .f32⟩
  | 49 => ⟨S8x4096x4096, .f32⟩
  | 50 => ⟨S_, .f32⟩
  | 51 => ⟨S_, .f32⟩
  | 52 => ⟨S_, .i1⟩
  | 53 => ⟨S_, .f32⟩
  | 54 => ⟨S_, .f32⟩
  | 55 => ⟨S_, .f32⟩
  | 56 => ⟨S_, .f32⟩
  | 57 => ⟨S8x4096x4096, .f32⟩
  | 58 => ⟨S8x4096x4096, .i1⟩
  | 59 => ⟨S_, .f32⟩
  | 60 => ⟨S8x4096x4096, .f32⟩
  | 61 => ⟨S8x4096x4096, .f32⟩
  | 62 => ⟨S8x4096x4096, .f32⟩
  | 63 => ⟨S8x4096x4096, .f32⟩
  | 64 => ⟨S8x4096x4096, .f32⟩
  | 65 => ⟨S_, .f32⟩
  | 66 => ⟨S8x4096x4096, .f32⟩
  | 67 => ⟨S8x4096x4096, .f32⟩
  | 68 => ⟨S8x4096x4096, .f32⟩
  | 69 => ⟨S8x4096x4096, .f32⟩
  | 70 => ⟨S_, .f32⟩
  | 71 => ⟨S_, .f32⟩
  | 72 => ⟨S8x4096x4096, .i1⟩
  | 73 => ⟨S8x4096x4096, .f32⟩
  | 74 => ⟨S8x4096x4096, .f32⟩
  | 75 => ⟨S_, .f32⟩
  | 76 => ⟨S8x4096x4096, .f32⟩
  | 77 => ⟨S_, .f32⟩
  | 78 => ⟨S_, .f32⟩
  | 79 => ⟨S8x4096x4096, .f32⟩
  | 80 => ⟨S8x4096x4096, .f32⟩
  | 81 => ⟨S8x4096x4096, .f32⟩
  | 82 => ⟨S8x4096x4096, .f32⟩
  | 83 => ⟨S_, .f32⟩
  | 84 => ⟨S_, .f32⟩
  | 85 => ⟨S8x4096x4096, .i1⟩
  | 86 => ⟨S8x4096x4096, .f32⟩
  | 87 => ⟨S8x4096x4096, .f32⟩
  | 88 => ⟨S_, .f32⟩
  | 89 => ⟨S8x4096x4096, .f32⟩
  | 90 => ⟨S4096x8x64, .f32⟩
  | 91 => ⟨S8x4096x64, .f32⟩
  | 92 => ⟨S8x4096x64, .f32⟩
  | 93 => ⟨S4096x8x64, .f32⟩
  | 94 => ⟨S4096x512, .f32⟩
  | 95 => ⟨S4096x8x64, .f32⟩
  | 96 => ⟨S8x4096x64, .f32⟩
  | 97 => ⟨S8x64x4096, .f32⟩
  | 98 => ⟨S8x4096x64, .f32⟩
  | 99 => ⟨S8x4096x4096, .f32⟩
  | 100 => ⟨S4096x8x64, .f32⟩
  | 101 => ⟨S4096x512, .f32⟩
  | 102 => ⟨S_, .f32⟩
  | 103 => ⟨S8x4096x4096, .f32⟩
  | 104 => ⟨S8x4096x4096, .f32⟩
  | 105 => ⟨S8x4096x4096, .f32⟩
  | 106 => ⟨S8x4096x4096, .f32⟩
  | 107 => ⟨S_, .f32⟩
  | 108 => ⟨S_, .f32⟩
  | 109 => ⟨S8x4096x4096, .f32⟩
  | 110 => ⟨S8x4096x4096, .f32⟩
  | 111 => ⟨S_, .f32⟩
  | 112 => ⟨S8x4096x4096, .f32⟩
  | 113 => ⟨S8x4096x4096, .f32⟩
  | 114 => ⟨S8x4096x4096, .f32⟩
  | 115 => ⟨S8x4096x4096, .f32⟩
  | 116 => ⟨S8x4096x4096, .f32⟩
  | 117 => ⟨S8x4096x4096, .f32⟩
  | 118 => ⟨S8x4096x4096, .f32⟩
  | 119 => ⟨S8x4096x4096, .f32⟩
  | 120 => ⟨S_, .f32⟩
  | 121 => ⟨S8x4096x4096, .f32⟩
  | 122 => ⟨S8x4096x4096, .f32⟩
  | 123 => ⟨S8x4096x64, .f32⟩
  | 124 => ⟨S8x4096x64, .f32⟩
  | 125 => ⟨S4096x8x64, .f32⟩
  | 126 => ⟨S4096x512, .f32⟩
  | 127 => ⟨S4096x8x64, .f32⟩
  | _ => ⟨S4096x4608, .f32⟩

abbrev hbmTy0_1 (i : Nat) : BufTy := match i % 128 with
  | 0 => ⟨S4096x512, .f32⟩
  | 1 => ⟨S4096x512, .bf16⟩
  | 2 => ⟨S4096x512, .bf16⟩
  | 3 => ⟨S4096x512, .bf16⟩
  | _ => ⟨S4096x4608, .f32⟩

abbrev hbmTy (i : Nat) : BufTy := match i / 128 with
  | 0 => hbmTy0_0 i
  | 1 => hbmTy0_1 i
  | _ => ⟨S4096x4608, .f32⟩

abbrev bufTy : (tb : Table) → Fin (tcTables nBuf tb) → BufTy
  | .hbm, ⟨i, _⟩ => hbmTy i
  | _, _ => ⟨S4096x4608, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_call0_v0 : Ref sig .tc := ⟨.hbm, 21, rfl⟩
abbrev main_call0_call0_cst : Ref sig .tc := ⟨.hbm, 22, rfl⟩
abbrev main_call0_call0_v0 : Ref sig .tc := ⟨.hbm, 23, rfl⟩
abbrev main_call0_call0_v1 : Ref sig .tc := ⟨.hbm, 24, rfl⟩
abbrev main_call0_call0_v2 : Ref sig .tc := ⟨.hbm, 25, rfl⟩
abbrev main_call0_call0_v3 : Ref sig .tc := ⟨.hbm, 26, rfl⟩
abbrev main_call0_call0_v4 : Ref sig .tc := ⟨.hbm, 27, rfl⟩
abbrev main_call0_call0_v5 : Ref sig .tc := ⟨.hbm, 28, rfl⟩
abbrev main_call0_call0_v6 : Ref sig .tc := ⟨.hbm, 29, rfl⟩
abbrev main_call0_call0_v7 : Ref sig .tc := ⟨.hbm, 30, rfl⟩
abbrev main_call0_call0_v8 : Ref sig .tc := ⟨.hbm, 31, rfl⟩
abbrev main_call0_call0_v9 : Ref sig .tc := ⟨.hbm, 32, rfl⟩
abbrev main_call0_call0_v10 : Ref sig .tc := ⟨.hbm, 33, rfl⟩
abbrev main_call0_call0_v11 : Ref sig .tc := ⟨.hbm, 34, rfl⟩
abbrev main_call0_v1_0 : Ref sig .tc := ⟨.hbm, 35, rfl⟩
abbrev main_call0_call0_cst_0 : Ref sig .tc := ⟨.hbm, 36, rfl⟩
abbrev main_call0_call0_v13 : Ref sig .tc := ⟨.hbm, 37, rfl⟩
abbrev main_call0_call0_v14 : Ref sig .tc := ⟨.hbm, 38, rfl⟩
abbrev main_call0_call0_cst_1 : Ref sig .tc := ⟨.hbm, 39, rfl⟩
abbrev main_call0_call0_v15 : Ref sig .tc := ⟨.hbm, 40, rfl⟩
abbrev main_call0_call0_v16 : Ref sig .tc := ⟨.hbm, 41, rfl⟩
abbrev main_call0_call0_cst_2 : Ref sig .tc := ⟨.hbm, 42, rfl⟩
abbrev main_call0_call0_v17 : Ref sig .tc := ⟨.hbm, 43, rfl⟩
abbrev main_call0_call0_v18 : Ref sig .tc := ⟨.hbm, 44, rfl⟩
abbrev main_call0_call0_cst_3 : Ref sig .tc := ⟨.hbm, 45, rfl⟩
abbrev main_call0_call0_v19 : Ref sig .tc := ⟨.hbm, 46, rfl⟩
abbrev main_call0_call0_v20 : Ref sig .tc := ⟨.hbm, 47, rfl⟩
abbrev main_call0_call0_v21 : Ref sig .tc := ⟨.hbm, 48, rfl⟩
abbrev main_v18_1 : Ref sig .tc := ⟨.hbm, 49, rfl⟩
abbrev main_call0_call0_cst_4 : Ref sig .tc := ⟨.hbm, 50, rfl⟩
abbrev main_call0_call0_cst_5 : Ref sig .tc := ⟨.hbm, 51, rfl⟩
abbrev main_call0_call0_v23 : Ref sig .tc := ⟨.hbm, 52, rfl⟩
abbrev main_call0_call0_cst_6 : Ref sig .tc := ⟨.hbm, 53, rfl⟩
abbrev main_call0_call0_cst_7 : Ref sig .tc := ⟨.hbm, 54, rfl⟩
abbrev main_call0_call0_v24 : Ref sig .tc := ⟨.hbm, 55, rfl⟩
abbrev main_call0_call0_cst_8 : Ref sig .tc := ⟨.hbm, 56, rfl⟩
abbrev main_call0_call0_v25 : Ref sig .tc := ⟨.hbm, 57, rfl⟩
abbrev main_call0_call0_v26 : Ref sig .tc := ⟨.hbm, 58, rfl⟩
abbrev main_call0_call0_cst_9 : Ref sig .tc := ⟨.hbm, 59, rfl⟩
abbrev main_call0_call0_v27 : Ref sig .tc := ⟨.hbm, 60, rfl⟩
abbrev main_call0_call0_v28 : Ref sig .tc := ⟨.hbm, 61, rfl⟩
abbrev main_call0_call0_v29 : Ref sig .tc := ⟨.hbm, 62, rfl⟩
abbrev main_call0_call0_v30 : Ref sig .tc := ⟨.hbm, 63, rfl⟩
abbrev main_call0_call0_v31 : Ref sig .tc := ⟨.hbm, 64, rfl⟩
abbrev main_call0_call0_cst_10 : Ref sig .tc := ⟨.hbm, 65, rfl⟩
abbrev main_call0_call0_v32 : Ref sig .tc := ⟨.hbm, 66, rfl⟩
abbrev main_v18_2 : Ref sig .tc := ⟨.hbm, 67, rfl⟩
abbrev main_v18_0 : Ref sig .tc := ⟨.hbm, 68, rfl⟩
abbrev main_v19 : Ref sig .tc := ⟨.hbm, 69, rfl⟩
abbrev main_cst_0 : Ref sig .tc := ⟨.hbm, 70, rfl⟩
abbrev main_call1_v0 : Ref sig .tc := ⟨.hbm, 71, rfl⟩
abbrev main_v20_1 : Ref sig .tc := ⟨.hbm, 72, rfl⟩
abbrev main_call1_v2 : Ref sig .tc := ⟨.hbm, 73, rfl⟩
abbrev main_v20_0 : Ref sig .tc := ⟨.hbm, 74, rfl⟩
abbrev main_call1_cst : Ref sig .tc := ⟨.hbm, 75, rfl⟩
abbrev main_v20_2 : Ref sig .tc := ⟨.hbm, 76, rfl⟩
abbrev main_call2_cst : Ref sig .tc := ⟨.hbm, 77, rfl⟩
abbrev main_call2_v0 : Ref sig .tc := ⟨.hbm, 78, rfl⟩
abbrev main_v21 : Ref sig .tc := ⟨.hbm, 79, rfl⟩
abbrev main_v22 : Ref sig .tc := ⟨.hbm, 80, rfl⟩
abbrev main_v23 : Ref sig .tc := ⟨.hbm, 81, rfl⟩
abbrev main_v24 : Ref sig .tc := ⟨.hbm, 82, rfl⟩
abbrev main_cst_1 : Ref sig .tc := ⟨.hbm, 83, rfl⟩
abbrev main_call3_v0 : Ref sig .tc := ⟨.hbm, 84, rfl⟩
abbrev main_v25_1 : Ref sig .tc := ⟨.hbm, 85, rfl⟩
abbrev main_call3_v2 : Ref sig .tc := ⟨.hbm, 86, rfl⟩
abbrev main_v25_0 : Ref sig .tc := ⟨.hbm, 87, rfl⟩
abbrev main_call3_cst : Ref sig .tc := ⟨.hbm, 88, rfl⟩
abbrev main_v25_2 : Ref sig .tc := ⟨.hbm, 89, rfl⟩
abbrev main_v26 : Ref sig .tc := ⟨.hbm, 90, rfl⟩
abbrev main_v27 : Ref sig .tc := ⟨.hbm, 91, rfl⟩
abbrev main_v28 : Ref sig .tc := ⟨.hbm, 92, rfl⟩
abbrev main_v29 : Ref sig .tc := ⟨.hbm, 93, rfl⟩
abbrev main_v30 : Ref sig .tc := ⟨.hbm, 94, rfl⟩
abbrev main_v31 : Ref sig .tc := ⟨.hbm, 95, rfl⟩
abbrev main_v32 : Ref sig .tc := ⟨.hbm, 96, rfl⟩
abbrev main_v33 : Ref sig .tc := ⟨.hbm, 97, rfl⟩
abbrev main_v34 : Ref sig .tc := ⟨.hbm, 98, rfl⟩
abbrev main_v35 : Ref sig .tc := ⟨.hbm, 99, rfl⟩
abbrev main_v36 : Ref sig .tc := ⟨.hbm, 100, rfl⟩
abbrev main_v37 : Ref sig .tc := ⟨.hbm, 101, rfl⟩
abbrev main_call4_cst : Ref sig .tc := ⟨.hbm, 102, rfl⟩
abbrev main_call4_v0 : Ref sig .tc := ⟨.hbm, 103, rfl⟩
abbrev main_v38 : Ref sig .tc := ⟨.hbm, 104, rfl⟩
abbrev main_v39 : Ref sig .tc := ⟨.hbm, 105, rfl⟩
abbrev main_v40 : Ref sig .tc := ⟨.hbm, 106, rfl⟩
abbrev main_call5_cst : Ref sig .tc := ⟨.hbm, 107, rfl⟩
abbrev main_call5_v0 : Ref sig .tc := ⟨.hbm, 108, rfl⟩
abbrev main_v41 : Ref sig .tc := ⟨.hbm, 109, rfl⟩
abbrev main_v42 : Ref sig .tc := ⟨.hbm, 110, rfl⟩
abbrev main_call6_cst : Ref sig .tc := ⟨.hbm, 111, rfl⟩
abbrev main_call6_v0 : Ref sig .tc := ⟨.hbm, 112, rfl⟩
abbrev main_v43 : Ref sig .tc := ⟨.hbm, 113, rfl⟩
abbrev main_v44 : Ref sig .tc := ⟨.hbm, 114, rfl⟩
abbrev main_v45 : Ref sig .tc := ⟨.hbm, 115, rfl⟩
abbrev main_call7_v0 : Ref sig .tc := ⟨.hbm, 116, rfl⟩
abbrev main_call7_v1 : Ref sig .tc := ⟨.hbm, 117, rfl⟩
abbrev main_v46 : Ref sig .tc := ⟨.hbm, 118, rfl⟩
abbrev main_v47 : Ref sig .tc := ⟨.hbm, 119, rfl⟩
abbrev main_cst_2 : Ref sig .tc := ⟨.hbm, 120, rfl⟩
abbrev main_v48 : Ref sig .tc := ⟨.hbm, 121, rfl⟩
abbrev main_v49 : Ref sig .tc := ⟨.hbm, 122, rfl⟩
abbrev main_v50 : Ref sig .tc := ⟨.hbm, 123, rfl⟩
abbrev main_v51 : Ref sig .tc := ⟨.hbm, 124, rfl⟩
abbrev main_v52 : Ref sig .tc := ⟨.hbm, 125, rfl⟩
abbrev main_v53 : Ref sig .tc := ⟨.hbm, 126, rfl⟩
abbrev main_v54 : Ref sig .tc := ⟨.hbm, 127, rfl⟩
abbrev main_v55 : Ref sig .tc := ⟨.hbm, 128, rfl⟩
abbrev main_v56 : Ref sig .tc := ⟨.hbm, 129, rfl⟩
abbrev main_v57 : Ref sig .tc := ⟨.hbm, 130, rfl⟩
abbrev main_v58 : Ref sig .tc := ⟨.hbm, 131, rfl⟩

abbrev nD : Nat := 1
abbrev τ : Topo := Topo.v7x

variable {F : FTy → Type} [FloatOps F]
-- ==== Kernel2.lean ====
abbrev S4096x1024 : Shape := ⟨2, ![4096, 1024]⟩
abbrev S1x1024 : Shape := ⟨2, ![1, 1024]⟩
abbrev S1024x4608 : Shape := ⟨2, ![1024, 4608]⟩
abbrev S4096x4608 : Shape := ⟨2, ![4096, 4608]⟩
abbrev S_ : Shape := ⟨0, ![]⟩
abbrev S4096 : Shape := ⟨1, ![4096]⟩
abbrev S4096x1 : Shape := ⟨2, ![4096, 1]⟩
abbrev S4608x1024 : Shape := ⟨2, ![4608, 1024]⟩
abbrev S1024x1152 : Shape := ⟨2, ![1024, 1152]⟩
abbrev S1024x1024 : Shape := ⟨2, ![1024, 1024]⟩
abbrev S1152x1024 : Shape := ⟨2, ![1152, 1024]⟩

abbrev nBuf : Space → Nat
  | .hbm => 22
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x4608, .f32⟩
  | .hbm, ⟨3, _⟩ => ⟨S4096x4608, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .bf16⟩
  | .hbm, ⟨20, _⟩ => ⟨S4096x4608, .bf16⟩
  | .hbm, ⟨21, _⟩ => ⟨S4608x1024, .f32⟩
  | .local _ .vmem, ⟨0, _⟩ => ⟨S1024x1152, .bf16⟩
  | .local _ .vmem, ⟨1, _⟩ => ⟨S1024x1152, .bf16⟩
  | .local _ .vmem, ⟨2, _⟩ => ⟨S1024x1024, .bf16⟩
  | .local _ .vmem, ⟨3, _⟩ => ⟨S1024x1024, .bf16⟩
  | .local _ .vmem, ⟨4, _⟩ => ⟨S1152x1024, .f32⟩
  | .local _ .vmem, ⟨5, _⟩ => ⟨S1152x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg1 : BitVec 32 := BitVec.ofNat 32 (i 1).val
  let c0_i32 : BitVec 32 := 0#32
  let v5 : BitVec 1 := Scalar.cmpi .eq arg1 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg1 : BitVec 32 := BitVec.ofNat 32 (i 1).val
  let c0_i32_4 : BitVec 32 := 0#32
  let v8 : BitVec 1 := Scalar.cmpi .sgt arg1 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1152 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1152x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference2Ideal.lean ====
abbrev S4096x1024 : Shape := ⟨2, ![4096, 1024]⟩
abbrev S1x1024 : Shape := ⟨2, ![1, 1024]⟩
abbrev S1024x4608 : Shape := ⟨2, ![1024, 4608]⟩
abbrev S4096x4608 : Shape := ⟨2, ![4096, 4608]⟩
abbrev S_ : Shape := ⟨0, ![]⟩
abbrev S4096 : Shape := ⟨1, ![4096]⟩
abbrev S4096x1 : Shape := ⟨2, ![4096, 1]⟩
abbrev S4608x1024 : Shape := ⟨2, ![4608, 1024]⟩

abbrev nBuf : Space → Nat
  | .hbm => 23
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x4608, .f32⟩
  | .hbm, ⟨3, _⟩ => ⟨S4096x4608, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x4608, .f32⟩
  | .hbm, ⟨20, _⟩ => ⟨S4608x1024, .f32⟩
  | .hbm, ⟨21, _⟩ => ⟨S1024x4608, .f32⟩
  | .hbm, ⟨22, _⟩ => ⟨S4608x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Kernel3.lean ====
abbrev S4096x1024 : Shape := ⟨2, ![4096, 1024]⟩
abbrev S1024x1024 : Shape := ⟨2, ![1024, 1024]⟩

abbrev nBuf : Space → Nat
  | .hbm => 6
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .bf16⟩
  | .hbm, ⟨4, _⟩ => ⟨S4096x1024, .bf16⟩
  | .hbm, ⟨5, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def k0_cond1 (i : grid0.Coords) : BitVec 1 :=
  let arg1 : BitVec 32 := BitVec.ofNat 32 (i 1).val
  let c0_i32 : BitVec 32 := 0#32
  let v5 : BitVec 1 := Scalar.cmpi .eq arg1 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg1 : BitVec 32 := BitVec.ofNat 32 (i 1).val
  let c0_i32_4 : BitVec 32 := 0#32
  let v8 : BitVec 1 := Scalar.cmpi .sgt arg1 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference3Ideal.lean ====
abbrev S4096x1024 : Shape := ⟨2, ![4096, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .f32⟩
  | .hbm, ⟨4, _⟩ => ⟨S1024x1024, .f32⟩
  | .hbm, ⟨5, _⟩ => ⟨S1024x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel4.lean ====
abbrev S4096x256 : Shape := ⟨2, ![4096, 256]⟩
abbrev S256x1024 : Shape := ⟨2, ![256, 1024]⟩
abbrev S4096x1024 : Shape := ⟨2, ![4096, 1024]⟩
abbrev S1024x256 : Shape := ⟨2, ![1024, 256]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4096x256, .f32⟩
  | .hbm, ⟨1, _⟩ => ⟨S256x1024, .f32⟩
  | .hbm, ⟨2, _⟩ => ⟨S4096x1024, .f32⟩
  | .hbm, ⟨3, _⟩ => ⟨S4096x1024, .bf16⟩
  | .hbm, ⟨4, _⟩ => ⟨S256x1024, .f32⟩
  | .local _ .vmem, ⟨0, _⟩ => ⟨S1024x256, .f32⟩
  | .local _ .vmem, ⟨1, _⟩ => ⟨S1024x256, .f32⟩
  | .local _ .vmem, ⟨2, _⟩ => ⟨S1024x1024, .bf16⟩
  | .local _ .vmem, ⟨3, _⟩ => ⟨S1024x1024, .bf16⟩
  | .local _ .vmem, ⟨4, _⟩ => ⟨S256x1024, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def k0_cond1 (i : grid0.Coords) : BitVec 1 :=
  let arg1 : BitVec 32 := BitVec.ofNat 32 (i 1).val
  let c0_i32 : BitVec 32 := 0#32
  let v5 : BitVec 1 := Scalar.cmpi .eq arg1 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg1 : BitVec 32 := BitVec.ofNat 32 (i 1).val
  let c0_i32_4 : BitVec 32 := 0#32
  let v8 : BitVec 1 := Scalar.cmpi .sgt arg1 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference4Ideal.lean ====
abbrev S4096x256 : Shape := ⟨2, ![4096, 256]⟩
abbrev S256x1024 : Shape := ⟨2, ![256, 1024]⟩
abbrev S4096x1024 : Shape := ⟨2, ![4096, 1024]⟩
abbrev S1024x256 : Shape := ⟨2, ![1024, 256]⟩

abbrev nBuf : Space → Nat
  | .hbm => 6
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S256x1024, .f32⟩
  | .hbm, ⟨2, _⟩ => ⟨S4096x1024, .f32⟩
  | .hbm, ⟨3, _⟩ => ⟨S4096x1024, .f32⟩
  | .hbm, ⟨4, _⟩ => ⟨S1024x256, .f32⟩
  | .hbm, ⟨5, _⟩ => ⟨S256x1024, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel5.lean ====
abbrev S4096x1024 : Shape := ⟨2, ![4096, 1024]⟩
abbrev S1x1024 : Shape := ⟨2, ![1, 1024]⟩
abbrev S1024x4616 : Shape := ⟨2, ![1024, 4616]⟩
abbrev S4096x4616 : Shape := ⟨2, ![4096, 4616]⟩
abbrev S4616x1024 : Shape := ⟨2, ![4616, 1024]⟩
abbrev S8x1024 : Shape := ⟨2, ![8, 1024]⟩
abbrev S_ : Shape := ⟨0, ![]⟩
abbrev S128x1024 : Shape := ⟨2, ![128, 1024]⟩
abbrev S4096x4608 : Shape := ⟨2, ![4096, 4608]⟩
abbrev S4096x8 : Shape := ⟨2, ![4096, 8]⟩
abbrev S4096x128 : Shape := ⟨2, ![4096, 128]⟩
abbrev S1024x1152 : Shape := ⟨2, ![1024, 1152]⟩
abbrev S1024x128 : Shape := ⟨2, ![1024, 128]⟩
abbrev S1152x1024 : Shape := ⟨2, ![1152, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 20
  | .vmem => 16
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x4616, .f32⟩
  | .hbm, ⟨3, _⟩ => ⟨S4096x4616, .f32⟩
  | .hbm, ⟨4, _⟩ => ⟨S4096x1024, .f32⟩
  | .hbm, ⟨5, _⟩ => ⟨S4616x1024, .f32⟩
  | .hbm, ⟨6, _⟩ => ⟨S4616x1024, .bf16⟩
  | .hbm, ⟨7, _⟩ => ⟨S8x1024, .bf16⟩
  | .hbm, ⟨8, _⟩ => ⟨S_, .i32⟩
  | .hbm, ⟨9, _⟩ => ⟨S_, .bf16⟩
  | .hbm, ⟨10, _⟩ => ⟨S128x1024, .bf16⟩
  | .hbm, ⟨11, _⟩ => ⟨S4096x4608, .f32⟩
  | .hbm, ⟨12, _⟩ => ⟨S4096x4608, .bf16⟩
  | .hbm, ⟨13, _⟩ => ⟨S4096x8, .f32⟩
  | .hbm, ⟨14, _⟩ => ⟨S_, .i32⟩
  | .hbm, ⟨15, _⟩ => ⟨S_, .f32⟩
  | .hbm, ⟨16, _⟩ => ⟨S4096x128, .f32⟩
  | .hbm, ⟨17, _⟩ => ⟨S4096x128, .bf16⟩
  | .hbm, ⟨18, _⟩ => ⟨S4096x1024, .f32⟩
  | .hbm, ⟨19, _⟩ => ⟨S1x1024, .f32⟩
  | .local _ .vmem, ⟨0, _⟩ => ⟨S1024x1152, .bf16⟩
  | .local _ .vmem, ⟨1, _⟩ => ⟨S1024x1152, .bf16⟩
  | .local _ .vmem, ⟨2, _⟩ => ⟨S1024x128, .bf16⟩
  | .local _ .vmem, ⟨3, _⟩ => ⟨S1024x128, .bf16⟩
  | .local _ .vmem, ⟨4, _⟩ => ⟨S1152x1024, .bf16⟩
  | .local _ .vmem, ⟨5, _⟩ => ⟨S1152x1024, .bf16⟩
  | .local _ .vmem, ⟨6, _⟩ => ⟨S128x1024, .bf16⟩
  | .local _ .vmem, ⟨7, _⟩ => ⟨S1024x1024, .f32⟩
  | .local _ .vmem, ⟨8, _⟩ => ⟨S1024x1024, .f32⟩
  | .local _ .vmem, ⟨9, _⟩ => ⟨S1x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | .local _ .vmem, ⟨13, _⟩ => ⟨S1024x1024, .f32⟩
  | .local _ .vmem, ⟨14, _⟩ => ⟨S1x1024, .f32⟩
  | .local _ .vmem, ⟨15, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_0 : Ref sig .tc := ⟨.hbm, 14, rfl⟩
abbrev main_call1_v0 : Ref sig .tc := ⟨.hbm, 15, rfl⟩
abbrev main_v7 : Ref sig .tc := ⟨.hbm, 16, rfl⟩
abbrev main_v8 : Ref sig .tc := ⟨.hbm, 17, rfl⟩
abbrev main_v9_0 : Ref sig .tc := ⟨.hbm, 18, rfl⟩
abbrev main_v9_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def k0_cond3 (i : grid0.Coords) : BitVec 1 :=
  let arg0 : BitVec 32 := BitVec.ofNat 32 (i 0).val
  let c0_i32_25 : BitVec 32 := 0#32
  let v47 : BitVec 1 := Scalar.cmpi .eq arg0 c0_i32_25
  let v48 : BitVec 32 := Scalar.extui v47
  let c0_i32_26 : BitVec 32 := 0#32
  let v49 : BitVec 1 := Scalar.cmpi .ne v48 c0_i32_26
  v49

def k0_cond4 (i : grid0.Coords) : BitVec 1 :=
  let arg0 : BitVec 32 := BitVec.ofNat 32 (i 0).val
  let c0_i32_27 : BitVec 32 := 0#32
  let v50 : BitVec 1 := Scalar.cmpi .sgt arg0 c0_i32_27
  let v51 : BitVec 32 := Scalar.extui v50
  let c0_i32_28 : BitVec 32 := 0#32
  let v52 : BitVec 1 := Scalar.cmpi .ne v51 c0_i32_28
  v52

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1152 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1152x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S128x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== Reference5Ideal.lean ====
abbrev S4096x1024 : Shape := ⟨2, ![4096, 1024]⟩
abbrev S1x1024 : Shape := ⟨2, ![1, 1024]⟩
abbrev S1024x4616 : Shape := ⟨2, ![1024, 4616]⟩
abbrev S4096x4616 : Shape := ⟨2, ![4096, 4616]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 50
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x4616, .f32⟩
  | .hbm, ⟨3, _⟩ => ⟨S4096x4616, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x4616, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S1024, .f32⟩
  | .hbm, ⟨29, _⟩ => ⟨S1x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096, .f32⟩
  | .hbm, ⟨35, _⟩ => ⟨S4096x1, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S_, .f32⟩
  | .hbm, ⟨44, _⟩ => ⟨S4096, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]
-- ==== Kernel6.lean ====
abbrev S4x896x1024 : Shape := ⟨3, ![4, 896, 1024]⟩
abbrev S896x1024 : Shape := ⟨2, ![896, 1024]⟩
abbrev S4x224x1024 : Shape := ⟨3, ![4, 224, 1024]⟩
abbrev S224x1024 : Shape := ⟨2, ![224, 1024]⟩
abbrev S1x224x1024 : Shape := ⟨3, ![1, 224, 1024]⟩

abbrev nBuf : Space → Nat
  | .hbm => 8
  | .vmem => 16
  | .smem => 0
  | _ => 0

abbrev bufTy : (tb : Table) → Fin (tcTables nBuf tb) → BufTy
  | .hbm, ⟨0, _⟩ => ⟨S4x896x1024, .bf16⟩
  | .hbm, ⟨1, _⟩ => ⟨S896x1024, .f32⟩
  | .hbm, ⟨2, _⟩ => ⟨S896x1024, .f32⟩
  | .hbm, ⟨3, _⟩ => ⟨S896x1024, .f32⟩
  | .hbm, ⟨4, _⟩ => ⟨S896x1024, .f32⟩
  | .hbm, ⟨5, _⟩ => ⟨S896x1024, .f32⟩
  | .hbm, ⟨6, _⟩ => ⟨S896x1024, .f32⟩
  | .hbm, ⟨7, _⟩ => ⟨S896x1024, .f32⟩
  | .local _ .vmem, ⟨0, _⟩ => ⟨S4x224x1024, .bf16⟩
  | .local _ .vmem, ⟨1, _⟩ => ⟨S4x224x1024, .bf16⟩
  | .local _ .vmem, ⟨2, _⟩ => ⟨S224x1024, .f32⟩
  | .local _ .vmem, ⟨3, _⟩ => ⟨S224x1024, .f32⟩
  | .local _ .vmem, ⟨4, _⟩ => ⟨S224x1024, .f32⟩
  | .local _ .vmem, ⟨5, _⟩ => ⟨S224x1024, .f32⟩
  | .local _ .vmem, ⟨6, _⟩ => ⟨S224x1024, .f32⟩
  | .local _ .vmem, ⟨7, _⟩ => ⟨S224x1024, .f32⟩
  | .local _ .vmem, ⟨8, _⟩ => ⟨S224x1024, .f32⟩
  | .local _ .vmem, ⟨9, _⟩ => ⟨S224x1024, .f32⟩
  | .local _ .vmem, ⟨10, _⟩ => ⟨S224x1024, .f32⟩
  | .local _ .vmem, ⟨11, _⟩ => ⟨S224x1024, .f32⟩
  | .local _ .vmem, ⟨12, _⟩ => ⟨S224x1024, .f32⟩
  | .local _ .vmem, ⟨13, _⟩ => ⟨S224x1024, .f32⟩
  | .local _ .vmem, ⟨14, _⟩ => ⟨S224x1024, .f32⟩
  | .local _ .vmem, ⟨15, _⟩ => ⟨S224x1024, .f32⟩
  | _, _ => ⟨S4x896x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x224x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S224x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S224x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S224x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S224x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S224x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S224x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S224x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference6Ideal.lean ====
abbrev S4x896x1024 : Shape := ⟨3, ![4, 896, 1024]⟩
abbrev S896x1024 : Shape := ⟨2, ![896, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x896x1024, .bf16⟩
  | .hbm, ⟨1, _⟩ => ⟨S896x1024, .f32⟩
  | .hbm, ⟨2, _⟩ => ⟨S896x1024, .f32⟩
  | .hbm, ⟨3, _⟩ => ⟨S896x1024, .f32⟩
  | .hbm, ⟨4, _⟩ => ⟨S4x896x1024, .f32⟩
  | .hbm, ⟨5, _⟩ => ⟨S_, .f32⟩
  | .hbm, ⟨6, _⟩ => ⟨S896x1024, .f32⟩
  | .hbm, ⟨7, _⟩ => ⟨S_, .f32⟩
  | .hbm, ⟨8, _⟩ => ⟨S896x1024, .f32⟩
  | .hbm, ⟨9, _⟩ => ⟨S896x1024, .f32⟩
  | .hbm, ⟨10, _⟩ => ⟨S_, .f32⟩
  | .hbm, ⟨11, _⟩ => ⟨S896x1024, .f32⟩
  | .hbm, ⟨12, _⟩ => ⟨S896x1024, .f32⟩
  | .hbm, ⟨13, _⟩ => ⟨S896x1024, .f32⟩
  | .hbm, ⟨14, _⟩ => ⟨S_, .f32⟩
  | .hbm, ⟨15, _⟩ => ⟨S896x1024, .f32⟩
  | .hbm, ⟨16, _⟩ => ⟨S896x1024, .f32⟩
  | .hbm, ⟨17, _⟩ => ⟨S896x1024, .f32⟩
  | .hbm, ⟨18, _⟩ => ⟨S_, .f32⟩
  | .hbm, ⟨19, _⟩ => ⟨S896x1024, .f32⟩
  | .hbm, ⟨20, _⟩ => ⟨S896x1024, .f32⟩
  | .hbm, ⟨21, _⟩ => ⟨S896x1024, .f32⟩
  | .hbm, ⟨22, _⟩ => ⟨S_, .f32⟩
  | .hbm, ⟨23, _⟩ => ⟨S896x1024, .f32⟩
  | .hbm, ⟨24, _⟩ => ⟨S896x1024, .f32⟩
  | .hbm, ⟨25, _⟩ => ⟨S_, .f32⟩
  | .hbm, ⟨26, _⟩ => ⟨S896x1024, .f32⟩
  | .hbm, ⟨27, _⟩ => ⟨S896x1024, .f32⟩
  | .hbm, ⟨28, _⟩ => ⟨S896x1024, .f32⟩
  | .hbm, ⟨29, _⟩ => ⟨S_, .f32⟩
  | .hbm, ⟨30, _⟩ => ⟨S896x1024, .f32⟩
  | .hbm, ⟨31, _⟩ => ⟨S896x1024, .f32⟩
  | .hbm, ⟨32, _⟩ => ⟨S896x1024, .f32⟩
  | .hbm, ⟨33, _⟩ => ⟨S_, .f32⟩
  | .hbm, ⟨34, _⟩ => ⟨S896x1024, .f32⟩
  | .hbm, ⟨35, _⟩ => ⟨S896x1024, .f32⟩
  | .hbm, ⟨36, _⟩ => ⟨S896x1024, .f32⟩
  | .hbm, ⟨37, _⟩ => ⟨S_, .f32⟩
  | .hbm, ⟨38, _⟩ => ⟨S896x1024, .f32⟩
  | .hbm, ⟨39, _⟩ => ⟨S896x1024, .f32⟩
  | _, _ => ⟨S4x896x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel7.lean ====
abbrev S4096x1024 : Shape := ⟨2, ![4096, 1024]⟩
abbrev S1x1024 : Shape := ⟨2, ![1, 1024]⟩
abbrev S1024x8 : Shape := ⟨2, ![1024, 8]⟩
abbrev S4096x8 : Shape := ⟨2, ![4096, 8]⟩
abbrev S4616x1024 : Shape := ⟨2, ![4616, 1024]⟩
abbrev S_ : Shape := ⟨0, ![]⟩
abbrev S4096 : Shape := ⟨1, ![4096]⟩
abbrev S4096x1 : Shape := ⟨2, ![4096, 1]⟩
abbrev S4096x128 : Shape := ⟨2, ![4096, 128]⟩
abbrev S1024x128 : Shape := ⟨2, ![1024, 128]⟩
abbrev S1024x1024 : Shape := ⟨2, ![1024, 1024]⟩
abbrev S8x1024 : Shape := ⟨2, ![8, 1024]⟩
abbrev S128x1024 : Shape := ⟨2, ![128, 1024]⟩

abbrev nBuf : Space → Nat
  | .hbm => 26
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x8, .f32⟩
  | .hbm, ⟨3, _⟩ => ⟨S4096x8, .f32⟩
  | .hbm, ⟨4, _⟩ => ⟨S4616x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .bf16⟩
  | .hbm, ⟨21, _⟩ => ⟨S_, .i32⟩
  | .hbm, ⟨22, _⟩ => ⟨S_, .f32⟩
  | .hbm, ⟨23, _⟩ => ⟨S4096x128, .f32⟩
  | .hbm, ⟨24, _⟩ => ⟨S4096x128, .bf16⟩
  | .hbm, ⟨25, _⟩ => ⟨S4616x1024, .f32⟩
  | .local _ .vmem, ⟨0, _⟩ => ⟨S1024x128, .bf16⟩
  | .local _ .vmem, ⟨1, _⟩ => ⟨S1024x128, .bf16⟩
  | .local _ .vmem, ⟨2, _⟩ => ⟨S1024x1024, .bf16⟩
  | .local _ .vmem, ⟨3, _⟩ => ⟨S1024x1024, .bf16⟩
  | .local _ .vmem, ⟨4, _⟩ => ⟨S8x1024, .f32⟩
  | .local _ .vmem, ⟨5, _⟩ => ⟨S128x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c : Ref sig .tc := ⟨.hbm, 21, rfl⟩
abbrev main_call0_v0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![4], ![false]⟩

def k0_cond3 (i : grid0.Coords) : BitVec 1 :=
  let arg0 : BitVec 32 := BitVec.ofNat 32 (i 0).val
  let c3_i32 : BitVec 32 := 3#32
  let v11 : BitVec 1 := Scalar.cmpi .eq arg0 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c576_i32 : BitVec 32 := 576#32
  let c0_i32 : BitVec 32 := 0#32
  let c0_i32_0 : BitVec 32 := 0#32
  ![c576_i32.toNat, c0_i32.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference7Ideal.lean ====
abbrev S4096x1024 : Shape := ⟨2, ![4096, 1024]⟩
abbrev S1x1024 : Shape := ⟨2, ![1, 1024]⟩
abbrev S1024x8 : Shape := ⟨2, ![1024, 8]⟩
abbrev S4096x8 : Shape := ⟨2, ![4096, 8]⟩
abbrev S4616x1024 : Shape := ⟨2, ![4616, 1024]⟩
abbrev S4608x1024 : Shape := ⟨2, ![4608, 1024]⟩
abbrev S_ : Shape := ⟨0, ![]⟩
abbrev S4096 : Shape := ⟨1, ![4096]⟩
abbrev S4096x1 : Shape := ⟨2, ![4096, 1]⟩
abbrev S8x1024 : Shape := ⟨2, ![8, 1024]⟩

abbrev nBuf : Space → Nat
  | .hbm => 26
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x8, .f32⟩
  | .hbm, ⟨3, _⟩ => ⟨S4096x8, .f32⟩
  | .hbm, ⟨4, _⟩ => ⟨S4616x1024, .f32⟩
  | .hbm, ⟨5, _⟩ => ⟨S4608x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x8, .f32⟩
  | .hbm, ⟨22, _⟩ => ⟨S8x1024, .f32⟩
  | .hbm, ⟨23, _⟩ => ⟨S1024x8, .f32⟩
  | .hbm, ⟨24, _⟩ => ⟨S8x1024, .f32⟩
  | .hbm, ⟨25, _⟩ => ⟨S4616x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]
-- ==== Proof.Products.lean ====
/- A product of a transposed array with another, both read a block of rows at a time: entry `(i, j)` is the sum over the rows of one
   array's column `i` times the other's column `j`, and the sums over the blocks make up the sum over all rows. All sums are of extended
   reals, where addition is associative and commutative whatever the terms. -/
module

public import Idealize.ShloMosaic.Lib.ValueIdx
public import Idealize.ShloMosaic.Lib.Pointwise.Contract
public import Idealize.ShloMosaic.PureOps.Ideal.Laws

@[expose] public section

noncomputable section

namespace Cert.Proof

open Idealize.ShloMosaic
open scoped BigOperators

/-- An array's entry at a row and a column given as numbers, zero outside the array. -/
def cell {n m : ℕ} (v : (⟨2, ![n, m]⟩ : Shape).Idx → EReal) (r c : ℕ) : EReal :=
  if h : r < n ∧ c < m then v (ValueIdx.ix2 ⟨r, h.1⟩ ⟨c, h.2⟩) else 0

theorem cell_of {n m : ℕ} (v : (⟨2, ![n, m]⟩ : Shape).Idx → EReal) (i : (⟨2, ![n, m]⟩ : Shape).Idx) {r c : ℕ} (hr : (i 0).val = r)
    (hc : (i 1).val = c) : v i = cell v r c := by
  subst hr hc
  have h0 : (i 0).val < n := (i 0).isLt
  have h1 : (i 1).val < m := (i 1).isLt
  unfold cell
  rw [dif_pos ⟨h0, h1⟩]
  exact congrArg v (funext fun a => match a with | ⟨0, _⟩ => rfl | ⟨1, _⟩ => rfl)

/-- The sum over the first `n` rows of column `i` of one array times column `j` of the other. -/
def cross (A B : ℕ → ℕ → EReal) (n i j : ℕ) : EReal := ∑ k ∈ Finset.range n, A k i * B k j

/-- A block of `K` further rows. -/
theorem cross_add (A B : ℕ → ℕ → EReal) (n K i j : ℕ) :
    cross A B n i j + ∑ k : Fin K, A (n + k.val) i * B (n + k.val) j = cross A B (n + K) i j := by
  unfold cross
  rw [Finset.sum_range_add, Finset.sum_range (fun k => A (n + k) i * B (n + k) j)]

theorem cross_zero (A B : ℕ → ℕ → EReal) (i j : ℕ) : cross A B 0 i j = 0 := Finset.sum_range_zero _

theorem cross_comm (A B : ℕ → ℕ → EReal) (n i j : ℕ) : cross A B n i j = cross B A n j i :=
  Finset.sum_congr rfl fun _ _ => mul_comm _ _

end Cert.Proof

end
-- ==== Proof.RealVec.lean ====
/- Vectors whose elements are real numbers. At the exact instance an element is an extended real; `R2 v f` says that the
   matrix `v` holds the real number `f r c` at row `r` and column `c`, and `R3`, `M2` say the same of a three-axis vector
   and of a mask. Each vector operation the kernel uses is then one operation on the functions. -/
module

public import Idealize.ShloMosaic.Lib.MatmulPlain
public import Idealize.ShloMosaic.Lib.ValueIdx
public import Idealize.ShloMosaic.Lib.ValueLayout
public import Idealize.ShloMosaic.Lib.Pipeline.Value
public import Idealize.ShloMosaic.Lib.IdealHost
public import Mathlib.Analysis.SpecialFunctions.Log.Basic

@[expose] public section

noncomputable section

namespace Cert.Proof

open Idealize.ShloMosaic Idealize.ShloMosaic.ValueIdx
open scoped BigOperators

/-- The matrix `v` holds the reals `f r c`. -/
def R2 {n m : ℕ} {φ : FTy} (v : FVec Ideal ⟨2, ![n, m]⟩ φ) (f : ℕ → ℕ → ℝ) : Prop :=
  ∀ i : (⟨2, ![n, m]⟩ : Shape).Idx, v i = ((f (i 0).val (i 1).val : ℝ) : EReal)

/-- The three-axis vector `v` holds the reals `f h r c`. -/
def R3 {a n m : ℕ} {φ : FTy} (v : FVec Ideal ⟨3, ![a, n, m]⟩ φ) (f : ℕ → ℕ → ℕ → ℝ) : Prop :=
  ∀ i : (⟨3, ![a, n, m]⟩ : Shape).Idx, v i = ((f (i 0).val (i 1).val (i 2).val : ℝ) : EReal)

/-- The mask `c` is set where `p r c` holds. -/
def M2 {n m : ℕ} (c : IVec ⟨2, ![n, m]⟩ 1) (p : ℕ → ℕ → Bool) : Prop :=
  ∀ i : (⟨2, ![n, m]⟩ : Shape).Idx, c i = if p (i 0).val (i 1).val then 1#1 else 0#1

theorem coe_sum {ι : Type} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

section
variable {n m : ℕ} {φ ψ : FTy} {u v : FVec Ideal ⟨2, ![n, m]⟩ φ} {f g : ℕ → ℕ → ℝ}

theorem R2.of_ix (h : ∀ (r : Fin n) (c : Fin m), v (ix2 r c) = ((f r.val c.val : ℝ) : EReal)) : R2 v f := fun i => by
  have e := eq_ix2 i
  rw [e]
  exact h (i 0) (i 1)

theorem R2.congr (h : R2 v f) (hfg : ∀ r < n, ∀ c < m, f r c = g r c) : R2 v g := fun i => by
  rw [h i, hfg _ (i 0).isLt _ (i 1).isLt]

theorem R2.addf (h : R2 u f) (h' : R2 v g) : R2 (addf u v) (fun r c => f r c + g r c) := fun i => by
  show u i + v i = _
  rw [h i, h' i, EReal.coe_add]

theorem R2.subf (h : R2 u f) (h' : R2 v g) : R2 (subf u v) (fun r c => f r c - g r c) := fun i => by
  show u i - v i = _
  rw [h i, h' i, EReal.coe_sub]

theorem R2.mulf (h : R2 u f) (h' : R2 v g) : R2 (mulf u v) (fun r c => f r c * g r c) := fun i => by
  show u i * v i = _
  rw [h i, h' i, EReal.coe_mul]

theorem R2.minimumf (h : R2 u f) (h' : R2 v g) : R2 (minimumf u v) (fun r c => min (f r c) (g r c)) := fun i => by
  show min (u i) (v i) = _
  rw [h i, h' i, EReal.coe_strictMono.monotone.map_min]

theorem R2.exp (h : R2 v f) : R2 (exp v) (fun r c => Real.exp (f r c)) := fun i => by
  show Ideal.exp (v i) = _
  rw [h i, Ideal.exp_coe]

theorem R2.log (h : R2 v f) (hp : ∀ r c, 0 < f r c) : R2 (log v) (fun r c => Real.log (f r c)) := fun i => by
  show Ideal.log (v i) = _
  rw [h i, Ideal.log_coe, if_neg (not_le.2 (hp _ _))]

theorem R2.truncf (h : R2 v f) (hb : ψ.bits < φ.bits) : R2 (truncf ψ v hb) f := fun i => h i

theorem R2.extf (h : R2 v f) (hb : φ.bits < ψ.bits) : R2 (extf ψ v hb) f := fun i => h i

theorem R2.splat {x : Ideal φ} {a : ℝ} (h : x = (a : EReal)) : R2 (n := n) (m := m) (φ := φ) (broadcast ⟨2, ![n, m]⟩ x) (fun _ _ => a) :=
  fun _ => h

theorem R2.const {b : BitVec φ.bits} {a : ℝ} (h : Ideal.ofBits φ b = (a : EReal)) :
    R2 (n := n) (m := m) (φ := φ) (constant ⟨2, ![n, m]⟩ φ b) (fun _ _ => a) := fun _ => h

theorem R2.select {c : IVec ⟨2, ![n, m]⟩ 1} {p : ℕ → ℕ → Bool} (hc : M2 c p) (h : R2 u f) (h' : R2 v g) :
    R2 (φ := φ) (select c u v) (fun r c => if p r c then f r c else g r c) := fun i => by
  show Scalar.select (c i) (u i) (v i) = _
  rw [hc i, h i, h' i]
  show _ = ((if p (i 0).val (i 1).val then f (i 0).val (i 1).val else g (i 0).val (i 1).val : ℝ) : EReal)
  by_cases hp : p (i 0).val (i 1).val
  · rw [if_pos hp, if_pos hp]; rfl
  · rw [if_neg hp, if_neg hp]; rfl

theorem R2.castSelf (h : R2 v f) (hs : (⟨2, ![n, m]⟩ : Shape).ShapeCasts ⟨2, ![n, m]⟩) :
    R2 (φ := φ) (shapeCast ⟨2, ![n, m]⟩ v hs) f := by
  rw [shapeCast_self]; exact h

theorem R2.transpose (h : R2 v f) (ht : (⟨2, ![n, m]⟩ : Shape).Transposes [1, 0] ⟨2, ![m, n]⟩) :
    R2 (φ := φ) (transpose ⟨2, ![m, n]⟩ [1, 0] v ht) (fun r c => f c r) :=
  R2.of_ix fun r c => by
    rw [transpose_ix2_apply]
    exact h _

theorem R2.slice {n' m' : ℕ} {off : Fin 2 → ℕ} {r0 c0 : ℕ} (h : R2 v f)
    (hs : (⟨2, ![n, m]⟩ : Shape).Slices off ⟨2, ![n', m']⟩) (h0 : off 0 = r0) (h1 : off 1 = c0) :
    R2 (φ := φ) (extractStridedSlice ⟨2, ![n', m']⟩ off v hs) (fun r c => f (r0 + r) (c0 + c)) := fun i => by
  subst h0 h1
  unfold extractStridedSlice
  rw [h]; rfl

theorem R2.column {v : FVec Ideal ⟨2, ![n, 1]⟩ φ} (h : R2 v f) (hb : (⟨2, ![n, 1]⟩ : Shape).Broadcasts ⟨2, ![n, m]⟩) :
    R2 (φ := φ) (broadcastTo ⟨2, ![n, m]⟩ v hb) (fun r _ => f r 0) := fun i => by
  rw [broadcastTo_apply v hb i (ix2 (i 0) (0 : Fin 1))]
  · exact h _
  · intro a
    match a with
    | ⟨0, _⟩ =>
      show (i 0).val = if n = 1 then 0 else (i 0).val
      split
      · next e => have := (i 0).isLt; simp [e] at this; omega
      · rfl
    | ⟨1, _⟩ => rfl

theorem R2.beside {n₁ m₁ : ℕ} {u v : FVec Ideal ⟨2, ![n₁, m₁]⟩ φ} (h : R2 u f) (h' : R2 v g)
    (hc : Shape.Concatenates [⟨2, ![n₁, m₁]⟩, ⟨2, ![n₁, m₁]⟩] ⟨2, ![n₁, m]⟩ 1) :
    R2 (φ := φ) (concatenate ⟨2, ![n₁, m]⟩ 1 [⟨⟨2, ![n₁, m₁]⟩, u⟩, ⟨⟨2, ![n₁, m₁]⟩, v⟩] hc)
      (fun r c => if c < m₁ then f r c else g r (c - m₁)) := fun i => by
  have hsz : (i 1).val < m₁ + m₁ := by
    have h2 := hc.2.2
    have h3 := (i 1).isLt
    simp at h2 h3
    omega
  show _ = ((if (i 1).val < m₁ then f (i 0).val (i 1).val else g (i 0).val ((i 1).val - m₁) : ℝ) : EReal)
  by_cases hlt : (i 1).val < m₁
  · rw [if_pos hlt, concatenate_pair_apply_left (s₁ := ⟨2, ![n₁, m₁]⟩) (s₂ := ⟨2, ![n₁, m₁]⟩) 1 u v hc i rfl (ix2 (i 0) ⟨(i 1).val, hlt⟩)]
    · exact h _
    · intro b; match b with | ⟨0, _⟩ => rfl | ⟨1, _⟩ => rfl
  · rw [if_neg hlt, concatenate_pair_apply_right (s₁ := ⟨2, ![n₁, m₁]⟩) (s₂ := ⟨2, ![n₁, m₁]⟩) 1 u v hc i rfl rfl
      (ix2 (i 0) ⟨(i 1).val - m₁, by omega⟩)]
    · exact h' _
    · intro b hb; match b with | ⟨0, _⟩ => rfl | ⟨1, _⟩ => exact absurd rfl hb
    · show (i 1).val - m₁ + m₁ = (i 1).val
      omega

theorem R2.above {n₁ m₁ : ℕ} {u v : FVec Ideal ⟨2, ![n₁, m₁]⟩ φ} (h : R2 u f) (h' : R2 v g)
    (hc : Shape.Concatenates [⟨2, ![n₁, m₁]⟩, ⟨2, ![n₁, m₁]⟩] ⟨2, ![n, m₁]⟩ 0) :
    R2 (φ := φ) (concatenate ⟨2, ![n, m₁]⟩ 0 [⟨⟨2, ![n₁, m₁]⟩, u⟩, ⟨⟨2, ![n₁, m₁]⟩, v⟩] hc)
      (fun r c => if r < n₁ then f r c else g (r - n₁) c) := fun i => by
  have hsz : (i 0).val < n₁ + n₁ := by
    have h2 := hc.2.2
    have h3 := (i 0).isLt
    simp at h2 h3
    omega
  show _ = ((if (i 0).val < n₁ then f (i 0).val (i 1).val else g ((i 0).val - n₁) (i 1).val : ℝ) : EReal)
  by_cases hlt : (i 0).val < n₁
  · rw [if_pos hlt, concatenate_pair_apply_left (s₁ := ⟨2, ![n₁, m₁]⟩) (s₂ := ⟨2, ![n₁, m₁]⟩) 0 u v hc i rfl (ix2 ⟨(i 0).val, hlt⟩ (i 1))]
    · exact h _
    · intro b; match b with | ⟨0, _⟩ => rfl | ⟨1, _⟩ => rfl
  · rw [if_neg hlt, concatenate_pair_apply_right (s₁ := ⟨2, ![n₁, m₁]⟩) (s₂ := ⟨2, ![n₁, m₁]⟩) 0 u v hc i rfl rfl
      (ix2 ⟨(i 0).val - n₁, by omega⟩ (i 1))]
    · exact h' _
    · intro b hb; match b with | ⟨0, _⟩ => exact absurd rfl hb | ⟨1, _⟩ => rfl
    · show (i 0).val - n₁ + n₁ = (i 0).val
      omega

theorem R2.matmul {K : ℕ} {φ₁ φ₂ : FTy} {l : FVec Ideal ⟨2, ![n, K]⟩ φ₁} {r : FVec Ideal ⟨2, ![K, m]⟩ φ₂}
    {acc : FVec Ideal ⟨2, ![n, m]⟩ .f32} {a : ℕ → ℕ → ℝ} (prec : Option ContractPrecision)
    (hl : R2 l f) (hr : R2 r g) (ha : R2 acc a) :
    R2 (Idealize.ShloMosaic.matmul (DotDims.plain n K m) prec l r acc) (fun i j => a i j + ∑ k ∈ Finset.range K, f i k * g k j) :=
  R2.of_ix fun i j => by
    refine (Ideal.matmul_plain_apply prec l r acc i j).trans ?_
    rw [ha, EReal.coe_add, coe_sum, Finset.sum_range]
    congr 1
    refine Finset.sum_congr rfl fun k _ => ?_
    rw [hl, hr, EReal.coe_mul]; rfl

theorem R2.matmulT {K : ℕ} {φ₁ φ₂ : FTy} {l : FVec Ideal ⟨2, ![n, K]⟩ φ₁} {r : FVec Ideal ⟨2, ![m, K]⟩ φ₂}
    {acc : FVec Ideal ⟨2, ![n, m]⟩ .f32} {a : ℕ → ℕ → ℝ} (prec : Option ContractPrecision)
    (hl : R2 l f) (hr : R2 r g) (ha : R2 acc a) :
    R2 (Idealize.ShloMosaic.matmul (DotDims.transposedRhs n K m) prec l r acc) (fun i j => a i j + ∑ k ∈ Finset.range K, f i k * g j k) :=
  R2.of_ix fun i j => by
    refine (Ideal.matmul_transposedRhs_apply prec l r acc i j).trans ?_
    rw [ha, EReal.coe_add, coe_sum, Finset.sum_range]
    congr 1
    refine Finset.sum_congr rfl fun k _ => ?_
    rw [hl, hr, EReal.coe_mul]; rfl

theorem R3.congr {a : ℕ} {v : FVec Ideal ⟨3, ![a, n, m]⟩ φ} {f g : ℕ → ℕ → ℕ → ℝ} (h : R3 v f)
    (hfg : ∀ t < a, ∀ r < n, ∀ c < m, f t r c = g t r c) : R3 v g := fun i => by
  rw [h i, hfg _ (i 0).isLt _ (i 1).isLt _ (i 2).isLt]

theorem R3.drop {v : FVec Ideal ⟨3, ![1, n, m]⟩ φ} {f : ℕ → ℕ → ℕ → ℝ} (h : R3 v f)
    (hs : (⟨3, ![1, n, m]⟩ : Shape).ShapeCasts ⟨2, ![n, m]⟩) : R2 (φ := φ) (shapeCast ⟨2, ![n, m]⟩ v hs) (f 0) :=
  R2.of_ix fun r c => by
    rw [shapeCast_1ab_ab_apply]
    exact h _

theorem R2.lift (h : R2 v f) (hs : (⟨2, ![n, m]⟩ : Shape).ShapeCasts ⟨3, ![1, n, m]⟩) :
    R3 (φ := φ) (shapeCast ⟨3, ![1, n, m]⟩ v hs) (fun _ => f) := fun i => by
  have e := eq_ix3 i
  rw [e]
  exact (shapeCast_ab_1ab_apply v hs (i 0) (i 1) (i 2)).trans (h (ix2 (i 1) (i 2)))

theorem R2.rotate (h : R2 v f) (b : BitVec 32) (hr : (⟨2, ![n, m]⟩ : Shape).Rotates 1 none) :
    R2 (φ := φ) (dynamicRotate (s := ⟨2, ![n, m]⟩) 1 b none v hr) (fun r c => f r ((c + m - b.toNat % m) % m)) := fun i => by
  show v _ = _
  rw [h]; rfl

end

theorem small_toInt {a : ℕ} (ha : a < 2 ^ 31) : (BitVec.ofNat 32 a).toInt = (a : ℤ) := by
  rw [BitVec.toInt_eq_toNat_of_lt, BitVec.toNat_ofNat, Nat.mod_eq_of_lt (by omega)]
  rw [BitVec.toNat_ofNat, Nat.mod_eq_of_lt (by omega)]; omega

/-- Signed comparison of two small numbers held in 32-bit words. -/
theorem slt_small {a b : ℕ} (ha : a < 2 ^ 31) (hb : b < 2 ^ 31) : (BitVec.ofNat 32 a).slt (BitVec.ofNat 32 b) = decide (a < b) := by
  rw [BitVec.slt_eq_decide, small_toInt ha, small_toInt hb]
  simp

theorem sle_small {a b : ℕ} (ha : a < 2 ^ 31) (hb : b < 2 ^ 31) : (BitVec.ofNat 32 a).sle (BitVec.ofNat 32 b) = decide (a ≤ b) := by
  rw [BitVec.sle_eq_decide, small_toInt ha, small_toInt hb]
  simp

/-- The mask comparing the column with a number. -/
theorem M2.low {n m : ℕ} {k : ℕ} (hm : m < 2 ^ 31) (hk : k < 2 ^ 31) (hi : (⟨2, ![n, m]⟩ : Shape).Iotas .tc 32 [1]) :
    M2 (cmpi .slt (iota .tc ⟨2, ![n, m]⟩ 32 [1] hi) (broadcast ⟨2, ![n, m]⟩ (BitVec.ofNat 32 k))) (fun _ c => decide (c < k)) := fun i => by
  have h : (i 1).val < m := (i 1).isLt
  show BitVec.ofBool ((iota .tc ⟨2, ![n, m]⟩ 32 [1] hi i).slt (BitVec.ofNat 32 k)) = _
  rw [iota_single_apply, slt_small (by omega) hk]
  by_cases hc : (i 1).val < k <;> simp [hc]

/-- The mask comparing the column with the row. -/
theorem M2.colRow {n m : ℕ} (hn : n < 2 ^ 31) (hm : m < 2 ^ 31) (hi : (⟨2, ![n, m]⟩ : Shape).Iotas .tc 32 [1])
    (hj : (⟨2, ![n, m]⟩ : Shape).Iotas .tc 32 [0]) :
    M2 (cmpi .slt (iota .tc ⟨2, ![n, m]⟩ 32 [1] hi) (iota .tc ⟨2, ![n, m]⟩ 32 [0] hj)) (fun r c => decide (c < r)) := fun i => by
  have h : (i 1).val < m := (i 1).isLt
  have h' : (i 0).val < n := (i 0).isLt
  show BitVec.ofBool ((iota .tc ⟨2, ![n, m]⟩ 32 [1] hi i).slt (iota .tc ⟨2, ![n, m]⟩ 32 [0] hj i)) = _
  rw [iota_single_apply, iota_single_apply, slt_small (by omega) (by omega)]
  by_cases hc : (i 1).val < (i 0).val <;> simp [hc]

/-- The mask comparing the row with the column. -/
theorem M2.rowCol {n m : ℕ} (hn : n < 2 ^ 31) (hm : m < 2 ^ 31) (hi : (⟨2, ![n, m]⟩ : Shape).Iotas .tc 32 [0])
    (hj : (⟨2, ![n, m]⟩ : Shape).Iotas .tc 32 [1]) :
    M2 (cmpi .slt (iota .tc ⟨2, ![n, m]⟩ 32 [0] hi) (iota .tc ⟨2, ![n, m]⟩ 32 [1] hj)) (fun r c => decide (r < c)) := fun i => by
  have h : (i 1).val < m := (i 1).isLt
  have h' : (i 0).val < n := (i 0).isLt
  show BitVec.ofBool ((iota .tc ⟨2, ![n, m]⟩ 32 [0] hi i).slt (iota .tc ⟨2, ![n, m]⟩ 32 [1] hj i)) = _
  rw [iota_single_apply, iota_single_apply, slt_small (by omega) (by omega)]
  by_cases hc : (i 0).val < (i 1).val <;> simp [hc]

/-- The mask comparing the row with the column, equality included. -/
theorem M2.rowColLe {n m : ℕ} (hn : n < 2 ^ 31) (hm : m < 2 ^ 31) (hi : (⟨2, ![n, m]⟩ : Shape).Iotas .tc 32 [0])
    (hj : (⟨2, ![n, m]⟩ : Shape).Iotas .tc 32 [1]) :
    M2 (cmpi .sle (iota .tc ⟨2, ![n, m]⟩ 32 [0] hi) (iota .tc ⟨2, ![n, m]⟩ 32 [1] hj)) (fun r c => decide (r ≤ c)) := fun i => by
  have h : (i 1).val < m := (i 1).isLt
  have h' : (i 0).val < n := (i 0).isLt
  show BitVec.ofBool ((iota .tc ⟨2, ![n, m]⟩ 32 [0] hi i).sle (iota .tc ⟨2, ![n, m]⟩ 32 [1] hj i)) = _
  rw [iota_single_apply, iota_single_apply, sle_small (by omega) (by omega)]
  by_cases hc : (i 0).val ≤ (i 1).val <;> simp [hc]

/-- A mask turned into the numbers one and zero. -/
theorem M2.toReal {n m : ℕ} {φ : FTy} {c : IVec ⟨2, ![n, m]⟩ 1} {p : ℕ → ℕ → Bool} (hc : M2 c p) (hw : 1 < 32) :
    R2 (φ := φ) (sitofp φ (extui 32 c hw)) (fun r s => if p r s then 1 else 0) := fun i => by
  show ((((c i).setWidth 32).toInt : ℝ) : EReal) = ((if p (i 0).val (i 1).val then 1 else 0 : ℝ) : EReal)
  rw [hc i]
  by_cases h : p (i 0).val (i 1).val <;> simp [h]

theorem bits_zero : Ideal.ofBits .f32 0x00000000#32 = ((0 : ℝ) : EReal) := by
  rw [Ideal.ofBits_zero_f32]; rfl

theorem bits_one : Ideal.ofBits .f32 0x3F800000#32 = ((1 : ℝ) : EReal) := by
  rw [Ideal.ofBits_one_f32]; rfl

theorem bits_eighth : Ideal.ofBits .f32 0x3E000000#32 = ((0.125 : ℝ) : EReal) := by
  simp [Ideal.ofBits, Ideal.ieee, -EReal.coe_mul]; norm_num

theorem bits_eighty : Ideal.ofBits .f32 0x42A00000#32 = ((80 : ℝ) : EReal) := by
  simp [Ideal.ofBits, Ideal.ieee, -EReal.coe_mul]; norm_num

end Cert.Proof
-- ==== Proof.WeightIn.lean ====
/- The gradient of the input projection's weights, the 1152 output columns of a block at a time: the kernel goes down the rows 1024 at a time and adds each block's product to what the
   blocks above left; the reference contracts all 4096 rows at once. -/
module

public import proofs.«01_k».proof.Proof.Products
public import proofs.«01_k».proof.Proof.RealVec
public import proofs.«01_k».proof.Proof.Gen.Kernel2Ideal.Value
public import proofs.«01_k».proof.Proof.Gen.Reference2Ideal.Read

@[expose] public section

noncomputable section

namespace Cert.Proof.WeightIn

open Idealize.ShloMosaic Idealize.ShloMosaic.TcCoe Idealize.SL Idealize.SL.Sem Cert.Kernel2Ideal Cert.Kernel2Ideal.Gen Cert.Kernel2Ideal.Value
open scoped BigOperators

section
variable (c : Dev nD) (i : grid0.Coords) (a2 : Memref sig .tc .vmem S1024x1152 .bf16) (h2 : a2.IsWhole) (a3 : Memref sig .tc .vmem S1024x1024 .bf16)
  (h3 : a3.IsWhole) (a4 : Memref sig .tc .vmem S1152x1024 .f32) (h4 : a4.IsWhole) (x : Vec Ideal S1024x1152 .bf16) (y : Vec Ideal S1024x1024 .bf16)

/-- The origin of a whole block. -/
theorem origin : (![0, 0] : Fin 2 → Nat) = fun _ => 0 := by decide

/-- The word of a zero. -/
theorem zero_word : FloatOps.ofBits (F := Ideal) .f32 0x00000000#32 = (0 : EReal) := bits_zero.trans EReal.coe_zero

/-- The first block's point leaves its product. -/
theorem out_first (h0 : cond0_0 i) (h1 : ¬ cond0_1 i) : out0_A_2 c i a2 h2 a3 h3 a4 h4 h0 h1 x y = k0_pay1 x y := by
  unfold out0_A_2
  rw [View.read_writes_eq_canon _ _ _ (cover0_A_2 c i a2 h2 a3 h3 a4 h4 h0 h1 x y)]
  unfold kernelRun0_A
  dsimp only
  rw [View.canon_unit_zero origin]
  simp only [View.readAt_eq_ld, h2.read_unread, h3.read_unread, View.ld_unit_zero (S := S1024x1024) origin, View.ld_unit_zero (S := S1024x1152) origin, View.ld_unit_zero (S := S1152x1024) origin]

/-- A later block's point adds its product to what was there. -/
theorem out_next (h0 : ¬ cond0_0 i) (h1 : cond0_1 i) (o : Vec Ideal S1152x1024 .f32) :
    out0_B_2 c i a2 h2 a3 h3 a4 h4 h0 h1 x y o = k0_pay2 x y o := by
  unfold out0_B_2
  rw [View.read_writes_eq_canon _ _ _ (cover0_B_2 c i a2 h2 a3 h3 a4 h4 h0 h1 x y o)]
  unfold kernelRun0_B
  dsimp only
  rw [View.canon_unit_zero origin]
  simp only [View.readAt_eq_ld, h2.read_unread, h3.read_unread, h4.read_unread, View.ld_unit_zero (S := S1024x1024) origin, View.ld_unit_zero (S := S1024x1152) origin, View.ld_unit_zero (S := S1152x1024) origin]

theorem pay1_apply (j : S1152x1024.Idx) :
    (k0_pay1 x y : FVec Ideal S1152x1024 .f32) j = ∑ k : Fin 1024, cell (x : FVec Ideal S1024x1152 .bf16) k.val (j 0).val * cell (y : FVec Ideal S1024x1024 .bf16) k.val (j 1).val := by
  unfold k0_pay1
  simp only [shapeCast_self]
  refine (Ideal.matmul_apply₁ _ rfl rfl _ _ _ j).trans ?_
  refine (congrArg₂ (· + ·) zero_word (Finset.sum_congr rfl fun k _ => congrArg₂ (· * ·) (cell_of _ _ rfl rfl) (cell_of _ _ rfl rfl))).trans (zero_add _)

theorem pay2_apply (o : Vec Ideal S1152x1024 .f32) (j : S1152x1024.Idx) :
    (k0_pay2 x y o : FVec Ideal S1152x1024 .f32) j = (o : FVec Ideal S1152x1024 .f32) j + (k0_pay1 x y : FVec Ideal S1152x1024 .f32) j := by
  unfold k0_pay2
  simp only [shapeCast_self]
  rfl

end

section
variable (m : (ℓ : Loc nD τ sig) → Buf (Elt Ideal) ℓ) (c : Dev nD)

/-- The projection's derivative, the activations and the norm's weights. -/
abbrev left : FVec Ideal ⟨2, ![4096, 4608]⟩ .f32 := m ((c : Thread nD τ).loc main_arg3)
abbrev acts : FVec Ideal ⟨2, ![4096, 1024]⟩ .f32 := m ((c : Thread nD τ).loc main_arg0)
abbrev norms : FVec Ideal ⟨2, ![1, 1024]⟩ .f32 := m ((c : Thread nD τ).loc main_arg1)

/-- The normalised activations, as the reference computes them. -/
abbrev right : FVec Ideal ⟨2, ![4096, 1024]⟩ .f32 := Cert.Reference2Ideal.Read.val_main_v11 (F := Ideal) (acts m c) (norms m c)

theorem V_left : (V m c main_v13 : FVec Ideal ⟨2, ![4096, 4608]⟩ .bf16) = left m c := by
  simp only [V, hostOps0, List.flatten_cons, List.flatten_nil, List.append_nil, List.cons_append, List.nil_append]
  after_results_simp <;> rfl

theorem V_right : (V m c main_v12 : FVec Ideal ⟨2, ![4096, 1024]⟩ .bf16) = right m c := by
  simp only [V, hostOps0, List.flatten_cons, List.flatten_nil, List.append_nil, List.cons_append, List.nil_append]
  after_results_simp <;> rfl

theorem at0 : ∀ t : Fin cfg0.N, win0_0.index t (0 : Fin 2) = t.val % 4 ∧ win0_0.index t (1 : Fin 2) = t.val / 4 :=
  (by decide +kernel : ∀ t : Fin grid0.N, win0_0.index t (0 : Fin 2) = t.val % 4 ∧ win0_0.index t (1 : Fin 2) = t.val / 4)
theorem at1 : ∀ t : Fin cfg0.N, win0_1.index t (0 : Fin 2) = t.val % 4 ∧ win0_1.index t (1 : Fin 2) = 0 :=
  (by decide +kernel : ∀ t : Fin grid0.N, win0_1.index t (0 : Fin 2) = t.val % 4 ∧ win0_1.index t (1 : Fin 2) = 0)
theorem at2 : ∀ t : Fin cfg0.N, win0_2.index t (0 : Fin 2) = t.val / 4 ∧ win0_2.index t (1 : Fin 2) = 0 :=
  (by decide +kernel : ∀ t : Fin grid0.N, win0_2.index t (0 : Fin 2) = t.val / 4 ∧ win0_2.index t (1 : Fin 2) = 0)

/-- A point holds 1024 rows of the left array, 1152 of its columns. -/
theorem load_left (t : Fin cfg0.N) (r l : ℕ) (hr : r < 1024) (hl : l < 1152) :
    cell (n := 1024) (m := 1152) (iblk m c 0 t : FVec Ideal S1024x1152 .bf16) r l = cell (left m c) (1024 * (t.val % 4) + r) (1152 * (t.val / 4) + l) := by
  unfold cell
  rw [dif_pos ⟨hr, hl⟩]
  have e0 : (((cfg0.win 0).blk t).view.emb (ValueIdx.ix2 ⟨r, hr⟩ ⟨l, hl⟩) 0).val = win0_0.index t (0 : Fin 2) * 1024 + 1 * r := rfl
  have e1 : (((cfg0.win 0).blk t).view.emb (ValueIdx.ix2 ⟨r, hr⟩ ⟨l, hl⟩) 1).val = win0_0.index t (1 : Fin 2) * 1152 + 1 * l := rfl
  rw [(at0 t).1] at e0
  rw [(at0 t).2] at e1
  exact (congrFun (V_left m c) _).trans (cell_of (left m c) _ (by rw [e0]; omega) (by rw [e1]; omega))

/-- … and the same rows of the right array. -/
theorem load_right (t : Fin cfg0.N) (r l : ℕ) (hr : r < 1024) (hl : l < 1024) :
    cell (n := 1024) (m := 1024) (iblk m c 1 t : FVec Ideal S1024x1024 .bf16) r l = cell (right m c) (1024 * (t.val % 4) + r) l := by
  unfold cell
  rw [dif_pos ⟨hr, hl⟩]
  have e0 : (((cfg0.win 1).blk t).view.emb (ValueIdx.ix2 ⟨r, hr⟩ ⟨l, hl⟩) 0).val = win0_1.index t (0 : Fin 2) * 1024 + 1 * r := rfl
  have e1 : (((cfg0.win 1).blk t).view.emb (ValueIdx.ix2 ⟨r, hr⟩ ⟨l, hl⟩) 1).val = win0_1.index t (1 : Fin 2) * 1024 + 1 * l := rfl
  rw [(at1 t).1] at e0
  rw [(at1 t).2] at e1
  exact (congrFun (V_right m c) _).trans (cell_of (right m c) _ (by rw [e0]; omega) (by rw [e1]; omega))

theorem pay_at (t : Fin cfg0.N) (j : S1152x1024.Idx) : (k0_pay1 (iblk m c 0 t) (iblk m c 1 t) : FVec Ideal S1152x1024 .f32) j =
    ∑ k : Fin 1024, cell (left m c) (1024 * (t.val % 4) + k.val) (1152 * (t.val / 4) + (j 0).val) * cell (right m c) (1024 * (t.val % 4) + k.val) (j 1).val :=
  (pay1_apply _ _ j).trans (Finset.sum_congr rfl fun k _ =>
    congrArg₂ (· * ·) (load_left m c t k.val (j 0).val k.isLt (j 0).isLt) (load_right m c t k.val (j 1).val k.isLt (j 1).isLt))

/-- After a point the block holds the products of the rows so far. -/
def Holds (t : Fin cfg0.N) : Prop := ∀ j : S1152x1024.Idx, (outsAt0 m c t.val t.isLt : FVec Ideal S1152x1024 .f32) j =
  cross (cell (left m c)) (cell (right m c)) (1024 * (t.val % 4) + 1024) (1152 * (t.val / 4) + (j 0).val) (j 1).val

theorem holds_first (t : Fin cfg0.N) (h : t.val % 4 = 0) : Holds m c t := fun j => by
  rw [outsAt0_A m c t h (by omega), out_first]
  refine (pay_at m c t j).trans ?_
  rw [← cross_add, h, Nat.mul_zero, cross_zero, zero_add]

theorem holds_next (t s : Fin cfg0.N) (h : t.val = s.val + 1) (h4 : ¬ t.val % 4 = 0) (hs : Holds m c s) : Holds m c t := fun j => by
  obtain ⟨sv, hsv⟩ := s
  obtain rfl : sv = t.val - 1 := by dsimp only at h; omega
  rw [outsAt0_B m c t h4 (by omega), out_next]
  refine (pay2_apply _ _ _ j).trans ?_
  rw [pay_at m c t j]
  refine (congrArg (· + _) ((hs j).trans ?_)).trans (cross_add _ _ _ _ _ _)
  show cross _ _ (1024 * ((t.val - 1) % 4) + 1024) (1152 * ((t.val - 1) / 4) + (j 0).val) _ = _
  rw [show 1024 * ((t.val - 1) % 4) + 1024 = 1024 * (t.val % 4) by omega, show (t.val - 1) / 4 = t.val / 4 by omega]

theorem holds (n : ℕ) (hn : n < cfg0.N) : Holds m c ⟨n, hn⟩ := by
  induction n with
  | zero => exact holds_first m c _ rfl
  | succ n ih =>
    by_cases h4 : (n + 1) % 4 = 0
    · exact holds_first m c _ h4
    · exact holds_next m c _ ⟨n, Nat.lt_of_succ_lt hn⟩ rfl h4 (ih _)

/-- The result array. -/
def G : FVec Ideal ⟨2, ![4608, 1024]⟩ .f32 := fun i => cross (cell (left m c)) (cell (right m c)) 4096 (i 0).val (i 1).val

theorem final : (dats m 0 c).arrAt 2 cfg0.N = G m c := by
  refine (dats m 0 c).arrAt_eq_of_cover 2 (G m c) (fun t hf => ?_) (fun i => ?_)
  · have ht : t.val % 4 = 3 := (flush0_2 t).mp hf
    rw [flushed2]
    funext j
    have e0 : (((cfg0.win 2).blk t).view.emb j 0).val = win0_2.index t (0 : Fin 2) * 1152 + 1 * (j 0).val := rfl
    have e1 : (((cfg0.win 2).blk t).view.emb j 1).val = win0_2.index t (1 : Fin 2) * 1024 + 1 * (j 1).val := rfl
    rw [(at2 t).1] at e0
    rw [(at2 t).2] at e1
    refine (holds m c t.val t.isLt j).trans ?_
    show cross _ _ (1024 * (t.val % 4) + 1024) (1152 * (t.val / 4) + (j 0).val) (j 1).val =
      cross _ _ 4096 (((cfg0.win 2).blk t).view.emb j 0).val (((cfg0.win 2).blk t).view.emb j 1).val
    rw [e0, e1, show 1024 * (t.val % 4) + 1024 = 4096 by omega, Nat.mul_comm 1152, Nat.one_mul, Nat.one_mul, Nat.zero_mul, Nat.zero_add]
  · have h0 : (i 0).val < 4608 := (i 0).isLt
    have h1 : (i 1).val < 1024 := (i 1).isLt
    let t : Fin cfg0.N := ⟨4 * ((i 0).val / 1152) + 3, lt_of_lt_of_eq (by omega) N_0.symm⟩
    have ht : t.val / 4 = (i 0).val / 1152 := by show (4 * ((i 0).val / 1152) + 3) / 4 = _; omega
    have hr : (i 0).val % 1152 < 1152 := Nat.mod_lt _ (by decide)
    refine ⟨t, (flush0_2 _).mpr (by show (4 * ((i 0).val / 1152) + 3) % 4 = 3; omega), ?_⟩
    have e0 : (((cfg0.win 2).blk t).view.emb (ValueIdx.ix2 ⟨(i 0).val % 1152, hr⟩ ⟨(i 1).val, h1⟩) 0).val = win0_2.index t (0 : Fin 2) * 1152 + 1 * ((i 0).val % 1152) := rfl
    have e1 : (((cfg0.win 2).blk t).view.emb (ValueIdx.ix2 ⟨(i 0).val % 1152, hr⟩ ⟨(i 1).val, h1⟩) 1).val = win0_2.index t (1 : Fin 2) * 1024 + 1 * (i 1).val := rfl
    rw [(at2 t).1, ht] at e0
    rw [(at2 t).2] at e1
    have e : ((cfg0.win 2).blk t).view.emb (ValueIdx.ix2 ⟨(i 0).val % 1152, hr⟩ ⟨(i 1).val, h1⟩) = i := funext fun a => Fin.ext (match a with
      | ⟨0, _⟩ => e0.trans (show (i 0).val / 1152 * 1152 + 1 * ((i 0).val % 1152) = (i 0).val by omega)
      | ⟨1, _⟩ => e1.trans (show 0 * 1024 + 1 * (i 1).val = (i 1).val by omega))
    exact Finset.mem_map.mpr ⟨_, Finset.mem_univ _, e⟩

/-- The reference's entry: all rows at once. -/
theorem ref_eq (x0 : FVec Ideal ⟨2, ![4096, 1024]⟩ .f32) (x1 : FVec Ideal ⟨2, ![1, 1024]⟩ .f32) (x3 : FVec Ideal ⟨2, ![4096, 4608]⟩ .f32)
    (i : (⟨2, ![4608, 1024]⟩ : Shape).Idx) : (Cert.Reference2Ideal.Read.val_main_v15 (F := Ideal) x0 x1 x3 : FVec Ideal ⟨2, ![4608, 1024]⟩ .f32) i =
      cross (cell x3) (cell (n := 4096) (m := 1024) (Cert.Reference2Ideal.Read.val_main_v11 (F := Ideal) x0 x1)) 4096 (i 0).val (i 1).val := by
  rw [Cert.Reference2Ideal.Read.val_main_v15_apply, Cert.Reference2Ideal.Read.val_main_v14_apply, Cert.Reference2Ideal.Read.val_main_v13_apply]
  unfold cross
  rw [Finset.sum_range (fun k => cell x3 k (i 0).val * cell (n := 4096) (m := 1024) (Cert.Reference2Ideal.Read.val_main_v11 (F := Ideal) x0 x1) k (i 1).val)]
  exact Finset.sum_congr rfl fun k _ => congrArg₂ (· * ·) (cell_of x3 _ rfl rfl) (cell_of (n := 4096) (m := 1024) _ _ rfl rfl)

/-- What the kernel leaves is what the reference computes. -/
theorem result : (dats m 0 c).arrAt 2 cfg0.N = Cert.Reference2Ideal.Read.val_main_v15 (F := Ideal) (acts m c) (norms m c) (left m c) :=
  (final m c).trans (funext fun i => (ref_eq (acts m c) (norms m c) (left m c) i).symm)

end

end Cert.Proof.WeightIn

end
-- ==== Proof.WeightOut.lean ====
/- The gradient of the output projection's weights: the kernel goes down the rows 1024 at a time and adds each block's product to what the
   blocks above left; the reference contracts all 4096 rows at once. -/
module

public import proofs.«01_k».proof.Proof.Products
public import proofs.«01_k».proof.Proof.RealVec
public import proofs.«01_k».proof.Proof.Gen.Kernel3Ideal.Value
public import proofs.«01_k».proof.Proof.Gen.Reference3Ideal.Read

@[expose] public section

noncomputable section

namespace Cert.Proof.WeightOut

open Idealize.ShloMosaic Idealize.ShloMosaic.TcCoe Idealize.SL Idealize.SL.Sem Cert.Kernel3Ideal Cert.Kernel3Ideal.Gen Cert.Kernel3Ideal.Value
open scoped BigOperators

section
variable (c : Dev nD) (i : grid0.Coords) (a2 : Memref sig .tc .vmem S1024x1024 .bf16) (h2 : a2.IsWhole) (a3 : Memref sig .tc .vmem S1024x1024 .bf16)
  (h3 : a3.IsWhole) (a4 : Memref sig .tc .vmem S1024x1024 .f32) (h4 : a4.IsWhole) (x : Vec Ideal S1024x1024 .bf16) (y : Vec Ideal S1024x1024 .bf16)

/-- The origin of a whole block. -/
theorem origin : (![0, 0] : Fin 2 → Nat) = fun _ => 0 := by decide

/-- The word of a zero. -/
theorem zero_word : FloatOps.ofBits (F := Ideal) .f32 0x00000000#32 = (0 : EReal) := bits_zero.trans EReal.coe_zero

/-- The first block's point leaves its product. -/
theorem out_first (h0 : cond0_0 i) (h1 : ¬ cond0_1 i) : out0_A_2 c i a2 h2 a3 h3 a4 h4 h0 h1 x y = k0_pay1 x y := by
  unfold out0_A_2
  rw [View.read_writes_eq_canon _ _ _ (cover0_A_2 c i a2 h2 a3 h3 a4 h4 h0 h1 x y)]
  unfold kernelRun0_A
  dsimp only
  rw [View.canon_unit_zero origin]
  simp only [View.readAt_eq_ld, h2.read_unread, h3.read_unread, View.ld_unit_zero (S := S1024x1024) origin]

/-- A later block's point adds its product to what was there. -/
theorem out_next (h0 : ¬ cond0_0 i) (h1 : cond0_1 i) (o : Vec Ideal S1024x1024 .f32) :
    out0_B_2 c i a2 h2 a3 h3 a4 h4 h0 h1 x y o = k0_pay2 x y o := by
  unfold out0_B_2
  rw [View.read_writes_eq_canon _ _ _ (cover0_B_2 c i a2 h2 a3 h3 a4 h4 h0 h1 x y o)]
  unfold kernelRun0_B
  dsimp only
  rw [View.canon_unit_zero origin]
  simp only [View.readAt_eq_ld, h2.read_unread, h3.read_unread, h4.read_unread, View.ld_unit_zero (S := S1024x1024) origin]

theorem pay1_apply (j : S1024x1024.Idx) :
    (k0_pay1 x y : FVec Ideal S1024x1024 .f32) j = ∑ k : Fin 1024, cell (x : FVec Ideal S1024x1024 .bf16) k.val (j 0).val * cell (y : FVec Ideal S1024x1024 .bf16) k.val (j 1).val := by
  unfold k0_pay1
  simp only [shapeCast_self]
  refine (Ideal.matmul_apply₁ _ rfl rfl _ _ _ j).trans ?_
  refine (congrArg₂ (· + ·) zero_word (Finset.sum_congr rfl fun k _ => congrArg₂ (· * ·) (cell_of _ _ rfl rfl) (cell_of _ _ rfl rfl))).trans (zero_add _)

theorem pay2_apply (o : Vec Ideal S1024x1024 .f32) (j : S1024x1024.Idx) :
    (k0_pay2 x y o : FVec Ideal S1024x1024 .f32) j = (o : FVec Ideal S1024x1024 .f32) j + (k0_pay1 x y : FVec Ideal S1024x1024 .f32) j := by
  unfold k0_pay2
  simp only [shapeCast_self]
  rfl

end

section
variable (m : (ℓ : Loc nD τ sig) → Buf (Elt Ideal) ℓ) (c : Dev nD)

/-- The two arrays multiplied. -/
abbrev left : FVec Ideal ⟨2, ![4096, 1024]⟩ .f32 := m ((c : Thread nD τ).loc main_arg0)
abbrev right : FVec Ideal ⟨2, ![4096, 1024]⟩ .f32 := m ((c : Thread nD τ).loc main_arg2)

theorem V_left : (V m c main_v0 : FVec Ideal ⟨2, ![4096, 1024]⟩ .bf16) = left m c := by
  simp only [V, hostOps0, List.flatten_cons, List.flatten_nil, List.append_nil, List.cons_append, List.nil_append]
  after_results_simp <;> rfl

theorem V_right : (V m c main_v1 : FVec Ideal ⟨2, ![4096, 1024]⟩ .bf16) = right m c := by
  simp only [V, hostOps0, List.flatten_cons, List.flatten_nil, List.append_nil, List.cons_append, List.nil_append]
  after_results_simp <;> rfl

theorem at0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem at1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
theorem at2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)

/-- Point `t` holds rows `1024 t` to `1024 t + 1023` of the left array, all its columns. -/
theorem load_left (t : Fin cfg0.N) (r l : ℕ) (hr : r < 1024) (hl : l < 1024) :
    cell (n := 1024) (m := 1024) (iblk m c 0 t : FVec Ideal S1024x1024 .bf16) r l = cell (left m c) (1024 * t.val + r) l := by
  unfold cell
  rw [dif_pos ⟨hr, hl⟩]
  have e0 : (((cfg0.win 0).blk t).view.emb (ValueIdx.ix2 ⟨r, hr⟩ ⟨l, hl⟩) 0).val = win0_0.index t (0 : Fin 2) * 1024 + 1 * r := rfl
  have e1 : (((cfg0.win 0).blk t).view.emb (ValueIdx.ix2 ⟨r, hr⟩ ⟨l, hl⟩) 1).val = win0_0.index t (1 : Fin 2) * 1024 + 1 * l := rfl
  rw [(at0 t).1] at e0
  rw [(at0 t).2] at e1
  exact (congrFun (V_left m c) _).trans (cell_of (left m c) _ (by rw [e0]; omega) (by rw [e1]; omega))

/-- … and the same rows of the right array. -/
theorem load_right (t : Fin cfg0.N) (r l : ℕ) (hr : r < 1024) (hl : l < 1024) :
    cell (n := 1024) (m := 1024) (iblk m c 1 t : FVec Ideal S1024x1024 .bf16) r l = cell (right m c) (1024 * t.val + r) l := by
  unfold cell
  rw [dif_pos ⟨hr, hl⟩]
  have e0 : (((cfg0.win 1).blk t).view.emb (ValueIdx.ix2 ⟨r, hr⟩ ⟨l, hl⟩) 0).val = win0_1.index t (0 : Fin 2) * 1024 + 1 * r := rfl
  have e1 : (((cfg0.win 1).blk t).view.emb (ValueIdx.ix2 ⟨r, hr⟩ ⟨l, hl⟩) 1).val = win0_1.index t (1 : Fin 2) * 1024 + 1 * l := rfl
  rw [(at1 t).1] at e0
  rw [(at1 t).2] at e1
  exact (congrFun (V_right m c) _).trans (cell_of (right m c) _ (by rw [e0]; omega) (by rw [e1]; omega))

theorem pay_at (t : Fin cfg0.N) (j : S1024x1024.Idx) : (k0_pay1 (iblk m c 0 t) (iblk m c 1 t) : FVec Ideal S1024x1024 .f32) j =
    ∑ k : Fin 1024, cell (left m c) (1024 * t.val + k.val) (j 0).val * cell (right m c) (1024 * t.val + k.val) (j 1).val :=
  (pay1_apply _ _ j).trans (Finset.sum_congr rfl fun k _ =>
    congrArg₂ (· * ·) (load_left m c t k.val (j 0).val k.isLt (j 0).isLt) (load_right m c t k.val (j 1).val k.isLt (j 1).isLt))

/-- After a point the block holds the products of the rows so far. -/
def Holds (t : Fin cfg0.N) : Prop := ∀ j : S1024x1024.Idx, (outsAt0 m c t.val t.isLt : FVec Ideal S1024x1024 .f32) j =
  cross (cell (left m c)) (cell (right m c)) (1024 * t.val + 1024) (j 0).val (j 1).val

theorem holds_first (t : Fin cfg0.N) (h : t.val = 0) : Holds m c t := fun j => by
  rw [outsAt0_A m c t (by omega) (by omega), out_first]
  refine (pay_at m c t j).trans ?_
  rw [← cross_add, h, Nat.mul_zero, cross_zero, zero_add]

theorem holds_next (t s : Fin cfg0.N) (h : t.val = s.val + 1) (hs : Holds m c s) : Holds m c t := fun j => by
  have hN : t.val < 4 := lt_of_lt_of_eq t.isLt N_0
  obtain ⟨sv, hsv⟩ := s
  obtain rfl : sv = t.val - 1 := by dsimp only at h; omega
  rw [outsAt0_B m c t (by omega) (by omega), out_next]
  refine (pay2_apply _ _ _ j).trans ?_
  rw [pay_at m c t j]
  exact (congrArg (· + _) ((hs j).trans (congrArg (fun n => cross _ _ n _ _) (show 1024 * (t.val - 1) + 1024 = 1024 * t.val by omega)))).trans
    (cross_add _ _ _ _ _ _)

theorem holds (n : ℕ) (hn : n < cfg0.N) : Holds m c ⟨n, hn⟩ := by
  induction n with
  | zero => exact holds_first m c _ rfl
  | succ n ih => exact holds_next m c _ ⟨n, Nat.lt_of_succ_lt hn⟩ rfl (ih _)

/-- The result array. -/
def G : FVec Ideal ⟨2, ![1024, 1024]⟩ .f32 := fun i => cross (cell (left m c)) (cell (right m c)) 4096 (i 0).val (i 1).val

theorem final : (dats m 0 c).arrAt 2 cfg0.N = G m c := by
  refine (dats m 0 c).arrAt_eq_of_cover 2 (G m c) (fun t hf => ?_) (fun i => ?_)
  · have ht : t.val % 4 = 3 := (flush0_2 t).mp hf
    have hN : t.val < 4 := lt_of_lt_of_eq t.isLt N_0
    rw [flushed2]
    funext j
    have e0 : (((cfg0.win 2).blk t).view.emb j 0).val = win0_2.index t (0 : Fin 2) * 1024 + 1 * (j 0).val := rfl
    have e1 : (((cfg0.win 2).blk t).view.emb j 1).val = win0_2.index t (1 : Fin 2) * 1024 + 1 * (j 1).val := rfl
    rw [(at2 t).1] at e0
    rw [(at2 t).2] at e1
    refine (holds m c t.val t.isLt j).trans ?_
    show _ = cross _ _ 4096 (((cfg0.win 2).blk t).view.emb j 0).val (((cfg0.win 2).blk t).view.emb j 1).val
    rw [e0, e1, show 1024 * t.val + 1024 = 4096 by omega]
    congr 1 <;> omega
  · have h0 : (i 0).val < 1024 := (i 0).isLt
    have h1 : (i 1).val < 1024 := (i 1).isLt
    let t : Fin cfg0.N := ⟨3, lt_of_lt_of_eq (by decide) N_0.symm⟩
    refine ⟨t, (flush0_2 _).mpr rfl, ?_⟩
    have e0 : (((cfg0.win 2).blk t).view.emb (ValueIdx.ix2 ⟨(i 0).val, h0⟩ ⟨(i 1).val, h1⟩) 0).val = win0_2.index t (0 : Fin 2) * 1024 + 1 * (i 0).val := rfl
    have e1 : (((cfg0.win 2).blk t).view.emb (ValueIdx.ix2 ⟨(i 0).val, h0⟩ ⟨(i 1).val, h1⟩) 1).val = win0_2.index t (1 : Fin 2) * 1024 + 1 * (i 1).val := rfl
    rw [(at2 t).1] at e0
    rw [(at2 t).2] at e1
    have e : ((cfg0.win 2).blk t).view.emb (ValueIdx.ix2 ⟨(i 0).val, h0⟩ ⟨(i 1).val, h1⟩) = i := funext fun a => Fin.ext (match a with
      | ⟨0, _⟩ => e0.trans (show 0 * 1024 + 1 * (i 0).val = (i 0).val by omega)
      | ⟨1, _⟩ => e1.trans (show 0 * 1024 + 1 * (i 1).val = (i 1).val by omega))
    exact Finset.mem_map.mpr ⟨_, Finset.mem_univ _, e⟩

/-- The reference's entry: all rows at once. -/
theorem ref_eq (x0 x2 : FVec Ideal ⟨2, ![4096, 1024]⟩ .f32) (i : (⟨2, ![1024, 1024]⟩ : Shape).Idx) :
    (Cert.Reference3Ideal.Read.val_main_v2 (F := Ideal) x0 x2 : FVec Ideal ⟨2, ![1024, 1024]⟩ .f32) i = cross (cell x0) (cell x2) 4096 (i 0).val (i 1).val := by
  rw [Cert.Reference3Ideal.Read.val_main_v2_apply, Cert.Reference3Ideal.Read.val_main_v1_apply, cross_comm]
  unfold cross
  rw [Finset.sum_range (fun k => cell x2 k (i 1).val * cell x0 k (i 0).val)]
  exact Finset.sum_congr rfl fun k _ => congrArg₂ (· * ·) (cell_of x2 _ rfl rfl) (cell_of x0 _ rfl rfl)

/-- What the kernel leaves is what the reference computes. -/
theorem result : (dats m 0 c).arrAt 2 cfg0.N = Cert.Reference3Ideal.Read.val_main_v2 (F := Ideal) (left m c) (right m c) :=
  (final m c).trans (funext fun i => (ref_eq (left m c) (right m c) i).symm)

end

end Cert.Proof.WeightOut

end
-- ==== Proof.WeightUp.lean ====
/- The gradient of the ensemble's up-projection weights: the kernel goes down the rows 1024 at a time and adds each block's product to what the
   blocks above left; the reference contracts all 4096 rows at once. -/
module

public import proofs.«01_k».proof.Proof.Products
public import proofs.«01_k».proof.Proof.RealVec
public import proofs.«01_k».proof.Proof.Gen.Kernel4Ideal.Value
public import proofs.«01_k».proof.Proof.Gen.Reference4Ideal.Read

@[expose] public section

noncomputable section

namespace Cert.Proof.WeightUp

open Idealize.ShloMosaic Idealize.ShloMosaic.TcCoe Idealize.SL Idealize.SL.Sem Cert.Kernel4Ideal Cert.Kernel4Ideal.Gen Cert.Kernel4Ideal.Value
open scoped BigOperators

section
variable (c : Dev nD) (i : grid0.Coords) (a2 : Memref sig .tc .vmem S1024x256 .f32) (h2 : a2.IsWhole) (a3 : Memref sig .tc .vmem S1024x1024 .bf16)
  (h3 : a3.IsWhole) (a4 : Memref sig .tc .vmem S256x1024 .f32) (h4 : a4.IsWhole) (x : Vec Ideal S1024x256 .f32) (y : Vec Ideal S1024x1024 .bf16)

/-- The origin of a whole block. -/
theorem origin : (![0, 0] : Fin 2 → Nat) = fun _ => 0 := by decide

/-- The word of a zero. -/
theorem zero_word : FloatOps.ofBits (F := Ideal) .f32 0x00000000#32 = (0 : EReal) := bits_zero.trans EReal.coe_zero

/-- The first block's point leaves its product. -/
theorem out_first (h0 : cond0_0 i) (h1 : ¬ cond0_1 i) : out0_A_2 c i a2 h2 a3 h3 a4 h4 h0 h1 x y = k0_pay1 x y := by
  unfold out0_A_2
  rw [View.read_writes_eq_canon _ _ _ (cover0_A_2 c i a2 h2 a3 h3 a4 h4 h0 h1 x y)]
  unfold kernelRun0_A
  dsimp only
  rw [View.canon_unit_zero origin]
  simp only [View.readAt_eq_ld, h2.read_unread, h3.read_unread, View.ld_unit_zero (S := S1024x1024) origin, View.ld_unit_zero (S := S1024x256) origin, View.ld_unit_zero (S := S256x1024) origin]

/-- A later block's point adds its product to what was there. -/
theorem out_next (h0 : ¬ cond0_0 i) (h1 : cond0_1 i) (o : Vec Ideal S256x1024 .f32) :
    out0_B_2 c i a2 h2 a3 h3 a4 h4 h0 h1 x y o = k0_pay2 x y o := by
  unfold out0_B_2
  rw [View.read_writes_eq_canon _ _ _ (cover0_B_2 c i a2 h2 a3 h3 a4 h4 h0 h1 x y o)]
  unfold kernelRun0_B
  dsimp only
  rw [View.canon_unit_zero origin]
  simp only [View.readAt_eq_ld, h2.read_unread, h3.read_unread, h4.read_unread, View.ld_unit_zero (S := S1024x1024) origin, View.ld_unit_zero (S := S1024x256) origin, View.ld_unit_zero (S := S256x1024) origin]

theorem pay1_apply (j : S256x1024.Idx) :
    (k0_pay1 x y : FVec Ideal S256x1024 .f32) j = ∑ k : Fin 1024, cell (x : FVec Ideal S1024x256 .f32) k.val (j 0).val * cell (y : FVec Ideal S1024x1024 .bf16) k.val (j 1).val := by
  unfold k0_pay1
  simp only [shapeCast_self]
  refine (Ideal.matmul_apply₁ _ rfl rfl _ _ _ j).trans ?_
  refine (congrArg₂ (· + ·) zero_word (Finset.sum_congr rfl fun k _ => congrArg₂ (· * ·) (cell_of _ _ rfl rfl) (cell_of _ _ rfl rfl))).trans (zero_add _)

theorem pay2_apply (o : Vec Ideal S256x1024 .f32) (j : S256x1024.Idx) :
    (k0_pay2 x y o : FVec Ideal S256x1024 .f32) j = (o : FVec Ideal S256x1024 .f32) j + (k0_pay1 x y : FVec Ideal S256x1024 .f32) j := by
  unfold k0_pay2
  simp only [shapeCast_self]
  rfl

end

section
variable (m : (ℓ : Loc nD τ sig) → Buf (Elt Ideal) ℓ) (c : Dev nD)

/-- The two arrays multiplied. -/
abbrev left : FVec Ideal ⟨2, ![4096, 256]⟩ .f32 := m ((c : Thread nD τ).loc main_arg0)
abbrev right : FVec Ideal ⟨2, ![4096, 1024]⟩ .f32 := m ((c : Thread nD τ).loc main_arg2)

theorem V_right : (V m c main_v0 : FVec Ideal ⟨2, ![4096, 1024]⟩ .bf16) = right m c := by
  simp only [V, hostOps0, List.flatten_cons, List.flatten_nil, List.append_nil, List.cons_append, List.nil_append]
  after_results_simp <;> rfl

theorem at0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem at1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
theorem at2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)

/-- Point `t` holds rows `1024 t` to `1024 t + 1023` of the left array, all its columns. -/
theorem load_left (t : Fin cfg0.N) (r l : ℕ) (hr : r < 1024) (hl : l < 256) :
    cell (n := 1024) (m := 256) (iblk m c 0 t : FVec Ideal S1024x256 .f32) r l = cell (left m c) (1024 * t.val + r) l := by
  unfold cell
  rw [dif_pos ⟨hr, hl⟩]
  have e0 : (((cfg0.win 0).blk t).view.emb (ValueIdx.ix2 ⟨r, hr⟩ ⟨l, hl⟩) 0).val = win0_0.index t (0 : Fin 2) * 1024 + 1 * r := rfl
  have e1 : (((cfg0.win 0).blk t).view.emb (ValueIdx.ix2 ⟨r, hr⟩ ⟨l, hl⟩) 1).val = win0_0.index t (1 : Fin 2) * 256 + 1 * l := rfl
  rw [(at0 t).1] at e0
  rw [(at0 t).2] at e1
  exact (congrFun (V_main_arg0 m c) _).trans (cell_of (left m c) _ (by rw [e0]; omega) (by rw [e1]; omega))

/-- … and the same rows of the right array. -/
theorem load_right (t : Fin cfg0.N) (r l : ℕ) (hr : r < 1024) (hl : l < 1024) :
    cell (n := 1024) (m := 1024) (iblk m c 1 t : FVec Ideal S1024x1024 .bf16) r l = cell (right m c) (1024 * t.val + r) l := by
  unfold cell
  rw [dif_pos ⟨hr, hl⟩]
  have e0 : (((cfg0.win 1).blk t).view.emb (ValueIdx.ix2 ⟨r, hr⟩ ⟨l, hl⟩) 0).val = win0_1.index t (0 : Fin 2) * 1024 + 1 * r := rfl
  have e1 : (((cfg0.win 1).blk t).view.emb (ValueIdx.ix2 ⟨r, hr⟩ ⟨l, hl⟩) 1).val = win0_1.index t (1 : Fin 2) * 1024 + 1 * l := rfl
  rw [(at1 t).1] at e0
  rw [(at1 t).2] at e1
  exact (congrFun (V_right m c) _).trans (cell_of (right m c) _ (by rw [e0]; omega) (by rw [e1]; omega))

theorem pay_at (t : Fin cfg0.N) (j : S256x1024.Idx) : (k0_pay1 (iblk m c 0 t) (iblk m c 1 t) : FVec Ideal S256x1024 .f32) j =
    ∑ k : Fin 1024, cell (left m c) (1024 * t.val + k.val) (j 0).val * cell (right m c) (1024 * t.val + k.val) (j 1).val :=
  (pay1_apply _ _ j).trans (Finset.sum_congr rfl fun k _ =>
    congrArg₂ (· * ·) (load_left m c t k.val (j 0).val k.isLt (j 0).isLt) (load_right m c t k.val (j 1).val k.isLt (j 1).isLt))

/-- After a point the block holds the products of the rows so far. -/
def Holds (t : Fin cfg0.N) : Prop := ∀ j : S256x1024.Idx, (outsAt0 m c t.val t.isLt : FVec Ideal S256x1024 .f32) j =
  cross (cell (left m c)) (cell (right m c)) (1024 * t.val + 1024) (j 0).val (j 1).val

theorem holds_first (t : Fin cfg0.N) (h : t.val = 0) : Holds m c t := fun j => by
  rw [outsAt0_A m c t (by omega) (by omega), out_first]
  refine (pay_at m c t j).trans ?_
  rw [← cross_add, h, Nat.mul_zero, cross_zero, zero_add]

theorem holds_next (t s : Fin cfg0.N) (h : t.val = s.val + 1) (hs : Holds m c s) : Holds m c t := fun j => by
  have hN : t.val < 4 := lt_of_lt_of_eq t.isLt N_0
  obtain ⟨sv, hsv⟩ := s
  obtain rfl : sv = t.val - 1 := by dsimp only at h; omega
  rw [outsAt0_B m c t (by omega) (by omega), out_next]
  refine (pay2_apply _ _ _ j).trans ?_
  rw [pay_at m c t j]
  exact (congrArg (· + _) ((hs j).trans (congrArg (fun n => cross _ _ n _ _) (show 1024 * (t.val - 1) + 1024 = 1024 * t.val by omega)))).trans
    (cross_add _ _ _ _ _ _)

theorem holds (n : ℕ) (hn : n < cfg0.N) : Holds m c ⟨n, hn⟩ := by
  induction n with
  | zero => exact holds_first m c _ rfl
  | succ n ih => exact holds_next m c _ ⟨n, Nat.lt_of_succ_lt hn⟩ rfl (ih _)

/-- The result array. -/
def G : FVec Ideal ⟨2, ![256, 1024]⟩ .f32 := fun i => cross (cell (left m c)) (cell (right m c)) 4096 (i 0).val (i 1).val

theorem final : (dats m 0 c).arrAt 2 cfg0.N = G m c := by
  refine (dats m 0 c).arrAt_eq_of_cover 2 (G m c) (fun t hf => ?_) (fun i => ?_)
  · have ht : t.val % 4 = 3 := (flush0_2 t).mp hf
    have hN : t.val < 4 := lt_of_lt_of_eq t.isLt N_0
    rw [flushed2]
    funext j
    have e0 : (((cfg0.win 2).blk t).view.emb j 0).val = win0_2.index t (0 : Fin 2) * 256 + 1 * (j 0).val := rfl
    have e1 : (((cfg0.win 2).blk t).view.emb j 1).val = win0_2.index t (1 : Fin 2) * 1024 + 1 * (j 1).val := rfl
    rw [(at2 t).1] at e0
    rw [(at2 t).2] at e1
    refine (holds m c t.val t.isLt j).trans ?_
    show _ = cross _ _ 4096 (((cfg0.win 2).blk t).view.emb j 0).val (((cfg0.win 2).blk t).view.emb j 1).val
    rw [e0, e1, show 1024 * t.val + 1024 = 4096 by omega]
    congr 1 <;> omega
  · have h0 : (i 0).val < 256 := (i 0).isLt
    have h1 : (i 1).val < 1024 := (i 1).isLt
    let t : Fin cfg0.N := ⟨3, lt_of_lt_of_eq (by decide) N_0.symm⟩
    refine ⟨t, (flush0_2 _).mpr rfl, ?_⟩
    have e0 : (((cfg0.win 2).blk t).view.emb (ValueIdx.ix2 ⟨(i 0).val, h0⟩ ⟨(i 1).val, h1⟩) 0).val = win0_2.index t (0 : Fin 2) * 256 + 1 * (i 0).val := rfl
    have e1 : (((cfg0.win 2).blk t).view.emb (ValueIdx.ix2 ⟨(i 0).val, h0⟩ ⟨(i 1).val, h1⟩) 1).val = win0_2.index t (1 : Fin 2) * 1024 + 1 * (i 1).val := rfl
    rw [(at2 t).1] at e0
    rw [(at2 t).2] at e1
    have e : ((cfg0.win 2).blk t).view.emb (ValueIdx.ix2 ⟨(i 0).val, h0⟩ ⟨(i 1).val, h1⟩) = i := funext fun a => Fin.ext (match a with
      | ⟨0, _⟩ => e0.trans (show 0 * 256 + 1 * (i 0).val = (i 0).val by omega)
      | ⟨1, _⟩ => e1.trans (show 0 * 1024 + 1 * (i 1).val = (i 1).val by omega))
    exact Finset.mem_map.mpr ⟨_, Finset.mem_univ _, e⟩

/-- The reference's entry: all rows at once. -/
theorem ref_eq (x0 : FVec Ideal ⟨2, ![4096, 256]⟩ .f32) (x2 : FVec Ideal ⟨2, ![4096, 1024]⟩ .f32) (i : (⟨2, ![256, 1024]⟩ : Shape).Idx) :
    (Cert.Reference4Ideal.Read.val_main_v2 (F := Ideal) x0 x2 : FVec Ideal ⟨2, ![256, 1024]⟩ .f32) i = cross (cell x0) (cell x2) 4096 (i 0).val (i 1).val := by
  rw [Cert.Reference4Ideal.Read.val_main_v2_apply, Cert.Reference4Ideal.Read.val_main_v1_apply, cross_comm]
  unfold cross
  rw [Finset.sum_range (fun k => cell x2 k (i 1).val * cell x0 k (i 0).val)]
  exact Finset.sum_congr rfl fun k _ => congrArg₂ (· * ·) (cell_of x2 _ rfl rfl) (cell_of x0 _ rfl rfl)

/-- What the kernel leaves is what the reference computes. -/
theorem result : (dats m 0 c).arrAt 2 cfg0.N = Cert.Reference4Ideal.Read.val_main_v2 (F := Ideal) (left m c) (right m c) :=
  (final m c).trans (funext fun i => (ref_eq (left m c) (right m c) i).symm)

end

end Cert.Proof.WeightUp

end
-- ==== Proof.Norm.lean ====
/- The derivative of a row's normalisation, on extended reals. Jax writes it through the derivative of the reciprocal root, the kernel
   through the normalised row; the two agree whatever the row and the derivative hold. A row with an infinite entry has scale zero, and then
   only the residual's derivative is left. -/
module

public import proofs.«01_k».proof.Proof.RealVec

@[expose] public section

noncomputable section

namespace Cert.Proof.Norm

open Idealize.ShloMosaic
open scoped BigOperators

/-- The row's length, the small number added to the mean square, and minus one half, as words. -/
abbrev len : EReal := Ideal.ofBits .f32 0x44800000#32
abbrev eps : EReal := Ideal.ofBits .f32 0x358637BD#32
abbrev half : EReal := Ideal.ofBits .f32 0xBF000000#32

theorem len_eq : len = ((1024 : ℝ) : EReal) := by
  simp [len, Ideal.ofBits, Ideal.ieee, -EReal.coe_mul]; norm_num

theorem half_eq : half = ((-(1 / 2) : ℝ) : EReal) := by
  simp [half, Ideal.ofBits, Ideal.ieee, -EReal.coe_mul]; norm_num

theorem eps_eq : ∃ e : ℝ, 0 < e ∧ eps = (e : EReal) := by
  refine ⟨8796093 * (2 : ℝ) ^ (-43 : ℤ), by positivity, ?_⟩
  simp [eps, Ideal.ofBits, Ideal.ieee, -EReal.coe_mul]

theorem div_len (x : EReal) : Ideal.div x len = x * ((1 / 1024 : ℝ) : EReal) := by
  unfold Ideal.div
  rw [len_eq, if_neg (by norm_num), ← EReal.coe_inv, one_div]

/-- A real factor that is not negative goes into a sum. -/
theorem sum_mul {ι : Type} (s : Finset ι) (f : ι → EReal) (a : ℝ) (ha : 0 ≤ a) : ∑ k ∈ s, f k * (a : EReal) = (∑ k ∈ s, f k) * (a : EReal) := by
  classical
  induction s using Finset.induction_on with
  | empty => simp
  | insert k s hk ih =>
    rw [Finset.sum_insert hk, Finset.sum_insert hk, ih, mul_comm (f k + _) _,
      EReal.left_distrib_of_nonneg_of_ne_top (EReal.coe_nonneg.2 ha) (EReal.coe_ne_top a), mul_comm _ (f k), mul_comm _ (∑ k ∈ s, f k)]

/-- Twice a real multiple. -/
theorem twice (a : ℝ) (S : EReal) : (a : EReal) * S + (a : EReal) * S = ((2 * a : ℝ) : EReal) * S := by
  rcases le_total 0 a with h | h
  · rw [← EReal.right_distrib_of_nonneg (EReal.coe_nonneg.2 h) (EReal.coe_nonneg.2 h), ← EReal.coe_add, two_mul]
  · have h' : 0 ≤ -a := neg_nonneg.2 h
    rw [← neg_mul_neg (a : EReal) S, ← EReal.coe_neg, ← EReal.right_distrib_of_nonneg (EReal.coe_nonneg.2 h') (EReal.coe_nonneg.2 h'), ← EReal.coe_add,
      ← neg_mul_neg ((2 * a : ℝ) : EReal) S, ← EReal.coe_neg]
    congr 2
    ring

theorem sq_nonneg (x : EReal) : 0 ≤ x * x := by
  induction x with
  | bot => simp
  | top => simp
  | coe r => rw [← EReal.coe_mul]; exact EReal.coe_nonneg.2 (mul_self_nonneg r)

theorem sum_sq_nonneg (s : Finset (Fin 1024)) (x : Fin 1024 → EReal) : 0 ≤ ∑ k ∈ s, x k * x k := Finset.sum_nonneg fun k _ => sq_nonneg (x k)

/-- A row's mean square plus the small number, and its reciprocal root. -/
def shifted (x : Fin 1024 → EReal) : EReal := Ideal.div (∑ k, x k * x k) len + eps
def scale (x : Fin 1024 → EReal) : EReal := Ideal.rsqrt (shifted x)

theorem shifted_top {x : Fin 1024 → EReal} {k : Fin 1024} (h : x k = ⊤ ∨ x k = ⊥) : shifted x = ⊤ := by
  have hk : x k * x k = ⊤ := by rcases h with h | h <;> rw [h] <;> rfl
  obtain ⟨e, -, he⟩ := eps_eq
  have hs : ∑ k, x k * x k = ⊤ := by
    rw [← Finset.add_sum_erase _ _ (Finset.mem_univ k), hk]
    exact EReal.top_add_of_ne_bot (ne_of_gt (lt_of_lt_of_le EReal.bot_lt_zero (sum_sq_nonneg _ x)))
  unfold shifted
  rw [hs, div_len, EReal.top_mul_coe_of_pos (by norm_num), he, EReal.top_add_coe]

theorem shifted_real (x : Fin 1024 → ℝ) : ∃ s : ℝ, 0 < s ∧ shifted (fun k => (x k : EReal)) = (s : EReal) := by
  obtain ⟨e, he, h⟩ := eps_eq
  refine ⟨(∑ k, x k * x k) * (1 / 1024) + e, ?_, ?_⟩
  · have : 0 ≤ ∑ k, x k * x k := Finset.sum_nonneg fun k _ => mul_self_nonneg (x k)
    positivity
  · unfold shifted
    rw [div_len, h, EReal.coe_add, EReal.coe_mul, coe_sum]
    simp only [EReal.coe_mul]

theorem scale_real {x : Fin 1024 → EReal} {s : ℝ} (hs : 0 < s) (h : shifted x = (s : EReal)) : scale x = (((Real.sqrt s)⁻¹ : ℝ) : EReal) := by
  unfold scale
  rw [h, Ideal.rsqrt_coe, if_neg (not_lt.2 hs.le), if_neg hs.ne']

/-- The derivative of a normalised row with an unchanged copy, as the kernel and as the reference write it. -/
theorem derivative (x g : Fin 1024 → EReal) (t : EReal) (j : Fin 1024) :
    t + scale x * (g j - x j * scale x * Ideal.div (∑ k, g k * (x k * scale x)) len) =
      t + g j * scale x + x j * Ideal.div ((∑ k, x k * g k) * (half * Ideal.div (scale x) (shifted x))) len
        + Ideal.div ((∑ k, x k * g k) * (half * Ideal.div (scale x) (shifted x))) len * x j := by
  by_cases hx : ∃ k, x k = ⊤ ∨ x k = ⊥
  · obtain ⟨k, hk⟩ := hx
    have h := shifted_top hk
    have h0 : scale x = 0 := by unfold scale; rw [h, Ideal.rsqrt_top]
    have hd : Ideal.div 0 (⊤ : EReal) = 0 := by unfold Ideal.div; rw [if_neg EReal.top_ne_zero, zero_mul]
    rw [h, h0, hd]
    simp only [mul_zero, zero_mul, add_zero, div_len]
  · have hx' : ∀ k, ∃ r : ℝ, x k = (r : EReal) := fun k => by
      have := not_exists.1 hx k
      exact ⟨(x k).toReal, (EReal.coe_toReal (fun h => this (Or.inl h)) (fun h => this (Or.inr h))).symm⟩
    choose xr hxr using hx'
    obtain rfl : x = fun k => (xr k : EReal) := funext hxr
    obtain ⟨s, hs, h⟩ := shifted_real xr
    have hr := scale_real hs h
    have hp : 0 < (Real.sqrt s)⁻¹ := inv_pos.2 (Real.sqrt_pos.2 hs)
    have hq : (Real.sqrt s)⁻¹ * s⁻¹ = (Real.sqrt s)⁻¹ * (Real.sqrt s)⁻¹ * (Real.sqrt s)⁻¹ := by
      rw [mul_assoc, ← mul_inv (Real.sqrt s) (Real.sqrt s), Real.mul_self_sqrt hs.le]
    rw [h, hr]
    generalize (Real.sqrt s)⁻¹ = ρ at *
    have hd : Ideal.div (ρ : EReal) (s : EReal) = ((ρ * ρ * ρ : ℝ) : EReal) := by
      unfold Ideal.div
      rw [if_neg (by exact_mod_cast hs.ne'), ← EReal.coe_inv, ← EReal.coe_mul, hq]
    have hsum : ∑ k, g k * ((xr k : EReal) * (ρ : EReal)) = (∑ k, (xr k : EReal) * g k) * (ρ : EReal) := by
      rw [← sum_mul _ _ _ hp.le]
      exact Finset.sum_congr rfl fun k _ => by rw [← mul_assoc, mul_comm (g k)]
    rw [hd, hsum, div_len, div_len, half_eq]
    generalize ∑ k, (xr k : EReal) * g k = S
    beta_reduce
    generalize xr j = a
    generalize g j = b
    have e1 : (ρ : EReal) * (b - (a : EReal) * (ρ : EReal) * (S * (ρ : EReal) * ((1 / 1024 : ℝ) : EReal))) =
        b * (ρ : EReal) + ((-(a * ρ * ρ * ρ * (1 / 1024)) : ℝ) : EReal) * S := by
      rw [sub_eq_add_neg, EReal.left_distrib_of_nonneg_of_ne_top (EReal.coe_nonneg.2 hp.le) (EReal.coe_ne_top ρ), mul_comm (ρ : EReal) b, mul_neg, EReal.coe_neg, neg_mul]
      simp only [EReal.coe_mul]
      congr 2
      ac_rfl
    have e2 : (a : EReal) * (S * (((-(1 / 2) : ℝ) : EReal) * ((ρ * ρ * ρ : ℝ) : EReal)) * ((1 / 1024 : ℝ) : EReal)) =
        ((a * (-(1 / 2)) * (ρ * ρ * ρ) * (1 / 1024) : ℝ) : EReal) * S := by
      simp only [EReal.coe_mul]
      ac_rfl
    rw [e1, mul_comm _ (a : EReal), e2, add_assoc (t + _), twice, ← add_assoc]
    congr 3
    ring

end Cert.Proof.Norm

end
-- ==== Proof.InprojBody.lean ====
/- What one point of the input projection's backward pass computes, entry by entry: the running sum, the norm's derivative, and a block's
   part of the gradient of the norm's weights. -/
module

public import proofs.«01_k».proof.Proof.Products
public import proofs.«01_k».proof.Proof.Norm
public import proofs.«01_k».proof.Proof.Gen.Kernel5Ideal.Skeleton

@[expose] public section

noncomputable section

namespace Cert.Proof.Inproj

open Idealize.ShloMosaic Idealize.ShloMosaic.TcCoe Idealize.SL.Sem Cert.Kernel5Ideal Cert.Kernel5Ideal.Gen Cert.Proof.Norm
open scoped BigOperators

/-- The word of a zero. -/
theorem zero_word : FloatOps.ofBits (F := Ideal) .f32 0x00000000#32 = (0 : EReal) := bits_zero.trans EReal.coe_zero

theorem pay1_at (a : FVec Ideal S1024x128 .bf16) (b : FVec Ideal S128x1024 .bf16) (j : S1024x1024.Idx) :
    (k0_pay1 a b : FVec Ideal S1024x1024 .f32) j = ∑ k : Fin 128, cell a (j 0).val k.val * cell b k.val (j 1).val := by
  unfold k0_pay1
  simp only [shapeCast_self]
  refine (Ideal.matmul_apply₁ _ rfl rfl _ _ _ j).trans ?_
  refine (congrArg₂ (· + ·) zero_word (Finset.sum_congr rfl fun k _ => congrArg₂ (· * ·) (cell_of _ _ rfl rfl) (cell_of _ _ rfl rfl))).trans (zero_add _)

theorem pay2_at (o : FVec Ideal S1024x1024 .f32) (a : FVec Ideal S1024x1152 .bf16) (b : FVec Ideal S1152x1024 .bf16) (j : S1024x1024.Idx) :
    (k0_pay2 o a b : FVec Ideal S1024x1024 .f32) j = o j + ∑ k : Fin 1152, cell a (j 0).val k.val * cell b k.val (j 1).val := by
  unfold k0_pay2
  simp only [shapeCast_self]
  refine congrArg (o j + ·) ((Ideal.matmul_apply₁ _ rfl rfl _ _ _ j).trans ?_)
  refine (congrArg₂ (· + ·) zero_word (Finset.sum_congr rfl fun k _ => congrArg₂ (· * ·) (cell_of _ _ rfl rfl) (cell_of _ _ rfl rfl))).trans (zero_add _)

/-- A row's sum, as a column. -/
theorem row_sum (v : FVec Ideal S1024x1024 .f32) (r : Fin 1024) :
    shapeCast S1024x1 (multiReduction .add [1] S1024 v 0x00000000#32 reduces_S1024x1024_S1024 (.inl rfl) rfl) shapeCasts_S1024_S1024x1 (ix2 r (0 : Fin 1)) =
      ∑ k : Fin 1024, v (ix2 r k) := by
  refine (shapeCast_apply _ shapeCasts_S1024_S1024x1 _ (fun a => match a with | ⟨0, _⟩ => ⟨r.val, r.isLt⟩ : S1024.Idx) ?_).trans ?_
  · rw [Shape.rowMajor_val_one, Shape.rowMajor_val_two]
    show r.val = r.val * 1 + 0
    omega
  · refine (Ideal.multiReduction_add_single v _ reduces_S1024x1024_S1024 _ _ _).trans (Finset.sum_congr rfl fun k _ => congrArg v ?_)
    exact funext fun a => Fin.ext (match a with | ⟨0, _⟩ => rfl | ⟨1, _⟩ => rfl)

/-- A column's sum, as a row. -/
theorem column_sum (v : FVec Ideal S1024x1024 .f32) (c : Fin 1024) :
    shapeCast S1x1024 (multiReduction .add [0] S1024 v 0x00000000#32 reduces_S1024x1024_S1024_2 (.inl rfl) rfl) shapeCasts_S1024_S1x1024 (ix2 (0 : Fin 1) c) =
      ∑ k : Fin 1024, v (ix2 k c) := by
  refine (shapeCast_apply _ shapeCasts_S1024_S1x1024 _ (fun a => match a with | ⟨0, _⟩ => ⟨c.val, c.isLt⟩ : S1024.Idx) ?_).trans ?_
  · rw [Shape.rowMajor_val_one, Shape.rowMajor_val_two]
    show c.val = 0 * 1024 + c.val
    omega
  · refine (Ideal.multiReduction_add_single v _ reduces_S1024x1024_S1024_2 _ _ _).trans (Finset.sum_congr rfl fun k _ => congrArg v ?_)
    exact funext fun a => Fin.ext (match a with | ⟨0, _⟩ => rfl | ⟨1, _⟩ => rfl)

/-- A column repeated along the rows, and a row along the columns. -/
theorem across (v : FVec Ideal S1024x1 .f32) (r c : Fin 1024) :
    broadcastTo S1024x1024 v broadcasts_S1024x1_S1024x1024 (ix2 r c) = v (ix2 r (0 : Fin 1)) :=
  broadcastTo_apply v _ _ _ fun a => match a with
    | ⟨0, _⟩ => by show r.val = if (1024 : ℕ) = 1 then 0 else r.val; rw [if_neg (by decide)]
    | ⟨1, _⟩ => rfl

theorem down (v : FVec Ideal S1x1024 .f32) (r c : Fin 1024) :
    broadcastTo S1024x1024 v broadcasts_S1x1024_S1024x1024 (ix2 r c) = v (ix2 (0 : Fin 1) c) :=
  broadcastTo_apply v _ _ _ fun a => match a with
    | ⟨0, _⟩ => rfl
    | ⟨1, _⟩ => by show c.val = if (1024 : ℕ) = 1 then 0 else c.val; rw [if_neg (by decide)]

/-- A row of a block. -/
abbrev row (x : FVec Ideal S1024x1024 .f32) (r : Fin 1024) : Fin 1024 → EReal := fun k => x (ix2 r k)

variable (x acc : FVec Ideal S1024x1024 .f32)

theorem pay3_at (r : Fin 1024) : (k0_pay3 x : FVec Ideal S1024x1 .f32) (ix2 r (0 : Fin 1)) = scale (row x r) := by
  unfold k0_pay3
  show Ideal.rsqrt (Ideal.div (shapeCast S1024x1 (multiReduction .add [1] S1024 (mulf x x) 0x00000000#32 reduces_S1024x1024_S1024 (.inl rfl) rfl)
    shapeCasts_S1024_S1024x1 (ix2 r (0 : Fin 1))) len + eps) = _
  rw [row_sum]
  rfl

theorem pay4_at (r c : Fin 1024) : (k0_pay4 x : FVec Ideal S1024x1024 .f32) (ix2 r c) = row x r c * scale (row x r) := by
  unfold k0_pay4
  show x (ix2 r c) * broadcastTo S1024x1024 (k0_pay3 x) broadcasts_S1024x1_S1024x1024 (ix2 r c) = _
  rw [across, pay3_at]

theorem pay5_at (pw : FVec Ideal S1x1024 .f32) (t : FVec Ideal S1024x1024 .f32) (r c : Fin 1024) :
    (k0_pay5 x acc pw t : FVec Ideal S1024x1024 .f32) (ix2 r c) = t (ix2 r c) + scale (row x r) * (row acc r c * pw (ix2 (0 : Fin 1) c)
      - row x r c * scale (row x r) * Ideal.div (∑ k : Fin 1024, row acc r k * pw (ix2 (0 : Fin 1) k) * (row x r k * scale (row x r))) len) := by
  unfold k0_pay5
  have hs : ∀ k, (mulf (mulf acc (broadcastTo S1024x1024 pw broadcasts_S1x1024_S1024x1024)) (k0_pay4 x) : FVec Ideal S1024x1024 .f32) (ix2 r k) =
      row acc r k * pw (ix2 (0 : Fin 1) k) * (row x r k * scale (row x r)) := fun k => by
    show acc (ix2 r k) * broadcastTo S1024x1024 pw broadcasts_S1x1024_S1024x1024 (ix2 r k) * (k0_pay4 x : FVec Ideal S1024x1024 .f32) (ix2 r k) = _
    rw [down, pay4_at]
  show t (ix2 r c) + broadcastTo S1024x1024 (k0_pay3 x) broadcasts_S1024x1_S1024x1024 (ix2 r c) *
    (acc (ix2 r c) * broadcastTo S1024x1024 pw broadcasts_S1x1024_S1024x1024 (ix2 r c) - (k0_pay4 x : FVec Ideal S1024x1024 .f32) (ix2 r c) *
      broadcastTo S1024x1024 (divf (shapeCast S1024x1 (multiReduction .add [1] S1024 (mulf (mulf acc (broadcastTo S1024x1024 pw broadcasts_S1x1024_S1024x1024)) (k0_pay4 x))
        0x00000000#32 reduces_S1024x1024_S1024 (.inl rfl) rfl) shapeCasts_S1024_S1024x1) (broadcast S1024x1 (Scalar.ofBits .f32 0x44800000#32)) : FVec Ideal S1024x1 .f32)
        broadcasts_S1024x1_S1024x1024 (ix2 r c)) = _
  rw [across, across, down, pay3_at, pay4_at]
  refine congrArg (fun z => t (ix2 r c) + scale (row x r) * (row acc r c * pw (ix2 (0 : Fin 1) c) - row x r c * scale (row x r) * Ideal.div z len)) ?_
  exact (row_sum _ r).trans (Finset.sum_congr rfl fun k _ => hs k)

theorem pay6_at (c : Fin 1024) : (k0_pay6 x acc : FVec Ideal S1x1024 .f32) (ix2 (0 : Fin 1) c) =
    ∑ k : Fin 1024, row acc k c * (row x k c * scale (row x k)) := by
  unfold k0_pay6
  refine (column_sum _ c).trans (Finset.sum_congr rfl fun k _ => ?_)
  show acc (ix2 k c) * (k0_pay4 x : FVec Ideal S1024x1024 .f32) (ix2 k c) = _
  rw [pay4_at]

theorem pay7_at (prev : FVec Ideal S1x1024 .f32) (c : Fin 1024) : (k0_pay7 x acc prev : FVec Ideal S1x1024 .f32) (ix2 (0 : Fin 1) c) =
    prev (ix2 (0 : Fin 1) c) + ∑ k : Fin 1024, row acc k c * (row x k c * scale (row x k)) := by
  unfold k0_pay7
  simp only [shapeCast_self]
  exact congrArg (prev (ix2 (0 : Fin 1) c) + ·) (pay6_at x acc c)

end Cert.Proof.Inproj

end
-- ==== Proof.InprojPoint.lean ====
/- What one point of the input projection's backward pass leaves in its two blocks and in the sum it carries, as the values it computes from
   what it loads. -/
module

public import proofs.«01_k».proof.Proof.Products
public import proofs.«01_k».proof.Proof.Gen.Kernel5Ideal.Value

@[expose] public section

noncomputable section

namespace Cert.Proof.Inproj

open Idealize.ShloMosaic Idealize.ShloMosaic.TcCoe Idealize.SL Idealize.SL.Sem Cert.Kernel5Ideal Cert.Kernel5Ideal.Gen

/-- The origin of a whole block. -/
theorem origin : (![0, 0] : Fin 2 → Nat) = fun _ => 0 := by decide

variable (c : Dev nD) (i : grid0.Coords)
  (a2 : Memref sig .tc .vmem S1024x1152 .bf16) (h2 : a2.IsWhole) (a3 : Memref sig .tc .vmem S1024x128 .bf16) (h3 : a3.IsWhole)
  (a4 : Memref sig .tc .vmem S1152x1024 .bf16) (h4 : a4.IsWhole) (a5 : Memref sig .tc .vmem S128x1024 .bf16) (h5 : a5.IsWhole)
  (a6 : Memref sig .tc .vmem S1024x1024 .f32) (h6 : a6.IsWhole) (a7 : Memref sig .tc .vmem S1x1024 .f32) (h7 : a7.IsWhole)
  (a8 : Memref sig .tc .vmem S1024x1024 .f32) (h8 : a8.IsWhole) (a9 : Memref sig .tc .vmem S1024x1024 .f32) (h9 : a9.IsWhole)
  (a10 : Memref sig .tc .vmem S1x1024 .f32) (h10 : a10.IsWhole) (a11 : Memref sig .tc .vmem S1024x1024 .f32) (h11 : a11.IsWhole)
  (x0 : Vec Ideal S1024x1152 .bf16) (x1 : Vec Ideal S1024x128 .bf16) (x2 : Vec Ideal S1152x1024 .bf16) (x3 : Vec Ideal S128x1024 .bf16) (x4 : Vec Ideal S1024x1024 .f32) (x5 : Vec Ideal S1x1024 .f32) (x6 : Vec Ideal S1024x1024 .f32)

/-- The first point of a block of rows starts the sum with the gates. -/
theorem sum_first (h0 : cond0_0 i) (h1 : ¬ cond0_1 i) :
    sout0_A_0 c i a2 h2 a3 h3 a4 h4 a5 h5 a6 h6 a7 h7 a8 h8 a9 h9 a10 h10 a11 h11 h0 h1 x0 x1 x2 x3 x4 x5 x6 = k0_pay2 (k0_pay1 x1 x3) x0 x2 := by
  unfold sout0_A_0
  rw [View.read_writes_eq_canon _ _ _ (scover0_A_0 c i a2 h2 a3 h3 a4 h4 a5 h5 a6 h6 a7 h7 a8 h8 a9 h9 a10 h10 a11 h11 h0 h1 x0 x1 x2 x3 x4 x5 x6)]
  unfold kernelRun0_A
  dsimp only
  rw [View.canon_cons_unit_zero origin]
  simp only [kernelRun0_A.sl.v3, kernelRun0_A.sl.HS0_1, View.readCov_unit_zero (S := S1024x1024) _ origin, View.readAt_eq_ld, h2.read_unread, h3.read_unread, h4.read_unread, h5.read_unread, h6.read_unread, h7.read_unread, h8.read_unread, h9.read_unread, h10.read_unread, h11.read_unread,
    View.ld_unit_zero (S := S1024x1152) origin, View.ld_unit_zero (S := S1024x128) origin, View.ld_unit_zero (S := S1152x1024) origin, View.ld_unit_zero (S := S128x1024) origin, View.ld_unit_zero (S := S1024x1024) origin, View.ld_unit_zero (S := S1x1024) origin]

/-- A later point adds its columns. -/
theorem sum_B (h0 : ¬ cond0_0 i) (h1 : ¬ cond0_1 i) (s : Vec Ideal S1024x1024 .f32) :
    sout0_B_0 c i a2 h2 a3 h3 a4 h4 a5 h5 a6 h6 a7 h7 a8 h8 a9 h9 a10 h10 a11 h11 h0 h1 x0 x1 x2 x3 x4 x5 x6 s = k0_pay2 s x0 x2 := by
  unfold sout0_B_0
  rw [View.read_writes_eq_canon _ _ _ (scover0_B_0 c i a2 h2 a3 h3 a4 h4 a5 h5 a6 h6 a7 h7 a8 h8 a9 h9 a10 h10 a11 h11 h0 h1 x0 x1 x2 x3 x4 x5 x6 s)]
  unfold kernelRun0_B
  dsimp only
  rw [View.canon_unit_zero origin]
  simp only [View.readAt_eq_ld, h2.read_unread, h3.read_unread, h4.read_unread, h5.read_unread, h6.read_unread, h7.read_unread, h8.read_unread, h9.read_unread, h10.read_unread, h11.read_unread,
    View.ld_unit_zero (S := S1024x1152) origin, View.ld_unit_zero (S := S1024x128) origin, View.ld_unit_zero (S := S1152x1024) origin, View.ld_unit_zero (S := S128x1024) origin, View.ld_unit_zero (S := S1024x1024) origin, View.ld_unit_zero (S := S1x1024) origin]

/-- A later point adds its columns. -/
theorem sum_C (h0 : ¬ cond0_0 i) (h1 : cond0_1 i) (g2 : cond0_2 i) (g3 : ¬ cond0_3 i) (s : Vec Ideal S1024x1024 .f32) :
    sout0_C_0 c i a2 h2 a3 h3 a4 h4 a5 h5 a6 h6 a7 h7 a8 h8 a9 h9 a10 h10 a11 h11 h0 h1 g2 g3 x0 x1 x2 x3 x4 x5 x6 s = k0_pay2 s x0 x2 := by
  unfold sout0_C_0
  rw [View.read_writes_eq_canon _ _ _ (scover0_C_0 c i a2 h2 a3 h3 a4 h4 a5 h5 a6 h6 a7 h7 a8 h8 a9 h9 a10 h10 a11 h11 h0 h1 g2 g3 x0 x1 x2 x3 x4 x5 x6 s)]
  unfold kernelRun0_C
  dsimp only
  unfold kernelRun0_C.sl.HS0_1
  rw [View.canon_unit_zero origin]
  simp only [View.readAt_eq_ld, h2.read_unread, h3.read_unread, h4.read_unread, h5.read_unread, h6.read_unread, h7.read_unread, h8.read_unread, h9.read_unread, h10.read_unread, h11.read_unread,
    View.ld_unit_zero (S := S1024x1152) origin, View.ld_unit_zero (S := S1024x128) origin, View.ld_unit_zero (S := S1152x1024) origin, View.ld_unit_zero (S := S128x1024) origin, View.ld_unit_zero (S := S1024x1024) origin, View.ld_unit_zero (S := S1x1024) origin]

/-- A later point adds its columns. -/
theorem sum_D (h0 : ¬ cond0_0 i) (h1 : cond0_1 i) (g2 : ¬ cond0_2 i) (g3 : cond0_3 i) (o : Vec Ideal S1x1024 .f32) (s : Vec Ideal S1024x1024 .f32) :
    sout0_D_0 c i a2 h2 a3 h3 a4 h4 a5 h5 a6 h6 a7 h7 a8 h8 a9 h9 a10 h10 a11 h11 h0 h1 g2 g3 x0 x1 x2 x3 x4 x5 x6 o s = k0_pay2 s x0 x2 := by
  unfold sout0_D_0
  rw [View.read_writes_eq_canon _ _ _ (scover0_D_0 c i a2 h2 a3 h3 a4 h4 a5 h5 a6 h6 a7 h7 a8 h8 a9 h9 a10 h10 a11 h11 h0 h1 g2 g3 x0 x1 x2 x3 x4 x5 x6 o s)]
  unfold kernelRun0_D
  dsimp only
  unfold kernelRun0_D.sl.HS0_1
  rw [View.canon_unit_zero origin]
  simp only [View.readAt_eq_ld, h2.read_unread, h3.read_unread, h4.read_unread, h5.read_unread, h6.read_unread, h7.read_unread, h8.read_unread, h9.read_unread, h10.read_unread, h11.read_unread,
    View.ld_unit_zero (S := S1024x1152) origin, View.ld_unit_zero (S := S1024x128) origin, View.ld_unit_zero (S := S1152x1024) origin, View.ld_unit_zero (S := S128x1024) origin, View.ld_unit_zero (S := S1024x1024) origin, View.ld_unit_zero (S := S1x1024) origin]

/-- The block's last point computes the derivative. -/
theorem grad_C (h0 : ¬ cond0_0 i) (h1 : cond0_1 i) (g2 : cond0_2 i) (g3 : ¬ cond0_3 i) (s : Vec Ideal S1024x1024 .f32) :
    out0_C_7 c i a2 h2 a3 h3 a4 h4 a5 h5 a6 h6 a7 h7 a8 h8 a9 h9 a10 h10 a11 h11 h0 h1 g2 g3 x0 x1 x2 x3 x4 x5 x6 s = k0_pay5 x4 (k0_pay2 s x0 x2) x5 x6 := by
  unfold out0_C_7
  rw [View.read_writes_eq_canon _ _ _ (cover0_C_7 c i a2 h2 a3 h3 a4 h4 a5 h5 a6 h6 a7 h7 a8 h8 a9 h9 a10 h10 a11 h11 h0 h1 g2 g3 x0 x1 x2 x3 x4 x5 x6 s)]
  unfold kernelRun0_C
  dsimp only
  rw [View.canon_unit_zero origin]
  simp only [kernelRun0_C.sl.v27, kernelRun0_C.sl.HS0_1, View.readCov_unit_zero (S := S1024x1024) _ origin, View.readAt_eq_ld, h2.read_unread, h3.read_unread, h4.read_unread, h5.read_unread, h6.read_unread, h7.read_unread, h8.read_unread, h9.read_unread, h10.read_unread, h11.read_unread,
    View.ld_unit_zero (S := S1024x1152) origin, View.ld_unit_zero (S := S1024x128) origin, View.ld_unit_zero (S := S1152x1024) origin, View.ld_unit_zero (S := S128x1024) origin, View.ld_unit_zero (S := S1024x1024) origin, View.ld_unit_zero (S := S1x1024) origin]

/-- The block's last point computes the derivative. -/
theorem grad_D (h0 : ¬ cond0_0 i) (h1 : cond0_1 i) (g2 : ¬ cond0_2 i) (g3 : cond0_3 i) (o : Vec Ideal S1x1024 .f32) (s : Vec Ideal S1024x1024 .f32) :
    out0_D_7 c i a2 h2 a3 h3 a4 h4 a5 h5 a6 h6 a7 h7 a8 h8 a9 h9 a10 h10 a11 h11 h0 h1 g2 g3 x0 x1 x2 x3 x4 x5 x6 o s = k0_pay5 x4 (k0_pay2 s x0 x2) x5 x6 := by
  unfold out0_D_7
  rw [View.read_writes_eq_canon _ _ _ (cover0_D_7 c i a2 h2 a3 h3 a4 h4 a5 h5 a6 h6 a7 h7 a8 h8 a9 h9 a10 h10 a11 h11 h0 h1 g2 g3 x0 x1 x2 x3 x4 x5 x6 o s)]
  unfold kernelRun0_D
  dsimp only
  rw [View.canon_unit_zero origin]
  simp only [kernelRun0_D.sl.v27, kernelRun0_D.sl.HS0_1, View.readCov_unit_zero (S := S1024x1024) _ origin, View.readAt_eq_ld, h2.read_unread, h3.read_unread, h4.read_unread, h5.read_unread, h6.read_unread, h7.read_unread, h8.read_unread, h9.read_unread, h10.read_unread, h11.read_unread,
    View.ld_unit_zero (S := S1024x1152) origin, View.ld_unit_zero (S := S1024x128) origin, View.ld_unit_zero (S := S1152x1024) origin, View.ld_unit_zero (S := S128x1024) origin, View.ld_unit_zero (S := S1024x1024) origin, View.ld_unit_zero (S := S1x1024) origin]

/-- The first block's part of the gradient of the norm's weights. -/
theorem part_C (h0 : ¬ cond0_0 i) (h1 : cond0_1 i) (g2 : cond0_2 i) (g3 : ¬ cond0_3 i) (s : Vec Ideal S1024x1024 .f32) :
    out0_C_8 c i a2 h2 a3 h3 a4 h4 a5 h5 a6 h6 a7 h7 a8 h8 a9 h9 a10 h10 a11 h11 h0 h1 g2 g3 x0 x1 x2 x3 x4 x5 x6 s = k0_pay6 x4 (k0_pay2 s x0 x2) := by
  unfold out0_C_8
  rw [View.read_writes_eq_canon _ _ _ (cover0_C_8 c i a2 h2 a3 h3 a4 h4 a5 h5 a6 h6 a7 h7 a8 h8 a9 h9 a10 h10 a11 h11 h0 h1 g2 g3 x0 x1 x2 x3 x4 x5 x6 s)]
  unfold kernelRun0_C
  dsimp only
  rw [View.canon_unit_zero origin]
  simp only [kernelRun0_C.sl.v27, kernelRun0_C.sl.HS0_1, View.readCov_unit_zero (S := S1024x1024) _ origin, View.readAt_eq_ld, h2.read_unread, h3.read_unread, h4.read_unread, h5.read_unread, h6.read_unread, h7.read_unread, h8.read_unread, h9.read_unread, h10.read_unread, h11.read_unread,
    View.ld_unit_zero (S := S1024x1152) origin, View.ld_unit_zero (S := S1024x128) origin, View.ld_unit_zero (S := S1152x1024) origin, View.ld_unit_zero (S := S128x1024) origin, View.ld_unit_zero (S := S1024x1024) origin, View.ld_unit_zero (S := S1x1024) origin]

/-- A later block's, added to it. -/
theorem part_D (h0 : ¬ cond0_0 i) (h1 : cond0_1 i) (g2 : ¬ cond0_2 i) (g3 : cond0_3 i) (o : Vec Ideal S1x1024 .f32) (s : Vec Ideal S1024x1024 .f32) :
    out0_D_8 c i a2 h2 a3 h3 a4 h4 a5 h5 a6 h6 a7 h7 a8 h8 a9 h9 a10 h10 a11 h11 h0 h1 g2 g3 x0 x1 x2 x3 x4 x5 x6 o s = k0_pay7 x4 (k0_pay2 s x0 x2) o := by
  unfold out0_D_8
  rw [View.read_writes_eq_canon _ _ _ (cover0_D_8 c i a2 h2 a3 h3 a4 h4 a5 h5 a6 h6 a7 h7 a8 h8 a9 h9 a10 h10 a11 h11 h0 h1 g2 g3 x0 x1 x2 x3 x4 x5 x6 o s)]
  unfold kernelRun0_D
  dsimp only
  rw [View.canon_unit_zero origin]
  simp only [kernelRun0_D.sl.v27, kernelRun0_D.sl.HS0_1, View.readCov_unit_zero (S := S1024x1024) _ origin, View.readAt_eq_ld, h2.read_unread, h3.read_unread, h4.read_unread, h5.read_unread, h6.read_unread, h7.read_unread, h8.read_unread, h9.read_unread, h10.read_unread, h11.read_unread,
    View.ld_unit_zero (S := S1024x1152) origin, View.ld_unit_zero (S := S1024x128) origin, View.ld_unit_zero (S := S1152x1024) origin, View.ld_unit_zero (S := S128x1024) origin, View.ld_unit_zero (S := S1024x1024) origin, View.ld_unit_zero (S := S1x1024) origin]

end Cert.Proof.Inproj

end
-- ==== Proof.InprojLoad.lean ====
/- What a point of the input projection's backward pass loads: blocks of the projection's derivative and of the transposed weights, and the
   last eight columns and rows of the two, widened with zeros. -/
module

public import proofs.«01_k».proof.Proof.Products
public import proofs.«01_k».proof.Proof.Gen.Kernel5Ideal.Value
public import Idealize.ShloMosaic.Lib.KernelVsHost

@[expose] public section

noncomputable section

namespace Cert.Proof.Inproj

open Idealize.ShloMosaic Idealize.ShloMosaic.TcCoe Idealize.SL Idealize.SL.Sem Cert.Kernel5Ideal Cert.Kernel5Ideal.Gen Cert.Kernel5Ideal.Value
open scoped BigOperators

variable (m : (ℓ : Loc nD τ sig) → Buf (Elt Ideal) ℓ) (c : Dev nD)

/-- The activations, the norm's weights, the projection's weights, its result's derivative, and the derivative that passes the norm by. -/
abbrev acts : FVec Ideal ⟨2, ![4096, 1024]⟩ .f32 := m ((c : Thread nD τ).loc main_arg0)
abbrev norms : FVec Ideal ⟨2, ![1, 1024]⟩ .f32 := m ((c : Thread nD τ).loc main_arg1)
abbrev weights : FVec Ideal ⟨2, ![1024, 4616]⟩ .f32 := m ((c : Thread nD τ).loc main_arg2)
abbrev outer : FVec Ideal ⟨2, ![4096, 4616]⟩ .f32 := m ((c : Thread nD τ).loc main_arg3)
abbrev past : FVec Ideal ⟨2, ![4096, 1024]⟩ .f32 := m ((c : Thread nD τ).loc main_arg4)

/-- The transposed weights. -/
abbrev turned : FVec Ideal S4616x1024 .bf16 := truncf (F := Ideal) .bf16 (transpose S4616x1024 [1, 0] (weights m c) transposes_S1024x4616_S4616x1024_1_0) bitsLt_bf16_f32

theorem turned_at (i : S4616x1024.Idx) : turned m c i = cell (weights m c) (i 1).val (i 0).val :=
  (transpose_apply [1, 0] (weights m c) transposes_S1024x4616_S4616x1024_1_0 i (ValueIdx.ix2 ⟨(i 1).val, (i 1).isLt⟩ ⟨(i 0).val, (i 0).isLt⟩)
    (fun b => match b with | ⟨0, _⟩ => rfl | ⟨1, _⟩ => rfl)).trans (cell_of (weights m c) _ rfl rfl)

theorem V_turned : (V m c main_v1 : FVec Ideal S4616x1024 .bf16) = turned m c := by
  simp only [V, hostOps0, hostOps0_1, hostOps0_2, hostOps0_3, hostOps0_4, List.flatten_cons, List.flatten_nil, List.append_nil, List.cons_append, List.nil_append]
  after_results_simp <;> rfl

theorem V_wide : (V m c main_v3 : FVec Ideal S128x1024 .bf16) = pad S128x1024 ![0, 0] ![120, 0] ![0, 0]
    (extractStridedSlice S8x1024 ![4608, 0] (turned m c) slices_S4616x1024_S8x1024_4608_0) (sitofp (F := Ideal) .bf16 (constantI S_ 32 0#32)) pads_S8x1024_S128x1024_01200_000 h_S_ := by
  simp only [V, hostOps0, hostOps0_1, hostOps0_2, hostOps0_3, hostOps0_4, List.flatten_cons, List.flatten_nil, List.append_nil, List.cons_append, List.nil_append]
  after_results_simp <;> rfl

theorem V_outer : (V m c main_v5 : FVec Ideal S4096x4608 .bf16) =
    truncf (F := Ideal) .bf16 (extractStridedSlice S4096x4608 ![0, 0] (outer m c) slices_S4096x4616_S4096x4608_0_0) bitsLt_bf16_f32 := by
  simp only [V, hostOps0, hostOps0_1, hostOps0_2, hostOps0_3, hostOps0_4, List.flatten_cons, List.flatten_nil, List.append_nil, List.cons_append, List.nil_append]
  after_results_simp <;> rfl

theorem V_gates : (V m c main_v8 : FVec Ideal S4096x128 .bf16) = truncf (F := Ideal) .bf16 (pad S4096x128 ![0, 0] ![0, 120] ![0, 0]
    (extractStridedSlice S4096x8 ![0, 4608] (outer m c) slices_S4096x4616_S4096x8_0_4608) (sitofp (F := Ideal) .f32 (constantI S_ 32 0#32)) pads_S4096x8_S4096x128_000_01200 h_S_)
    bitsLt_bf16_f32 := by
  simp only [V, hostOps0, hostOps0_1, hostOps0_2, hostOps0_3, hostOps0_4, List.flatten_cons, List.flatten_nil, List.append_nil, List.cons_append, List.nil_append]
  after_results_simp <;> rfl

theorem V_acts : (V m c main_arg0 : FVec Ideal S4096x1024 .f32) = acts m c := by
  simp only [V, hostOps0, hostOps0_1, hostOps0_2, hostOps0_3, hostOps0_4, List.flatten_cons, List.flatten_nil, List.append_nil, List.cons_append, List.nil_append]
  after_results_simp <;> rfl

theorem V_norms : (V m c main_arg1 : FVec Ideal S1x1024 .f32) = norms m c := by
  simp only [V, hostOps0, hostOps0_1, hostOps0_2, hostOps0_3, hostOps0_4, List.flatten_cons, List.flatten_nil, List.append_nil, List.cons_append, List.nil_append]
  after_results_simp <;> rfl

theorem V_past : (V m c main_arg4 : FVec Ideal S4096x1024 .f32) = past m c := by
  simp only [V, hostOps0, hostOps0_1, hostOps0_2, hostOps0_3, hostOps0_4, List.flatten_cons, List.flatten_nil, List.append_nil, List.cons_append, List.nil_append]
  after_results_simp <;> rfl

theorem wide_at (i : S128x1024.Idx) (h : (i 0).val < 8) : (V m c main_v3 : FVec Ideal S128x1024 .bf16) i = cell (weights m c) (i 1).val (4608 + (i 0).val) := by
  rw [V_wide]
  refine (pad_apply_of_inside _ _ _ _ _ pads_S8x1024_S128x1024_01200_000 h_S_ i (ValueIdx.ix2 ⟨(i 0).val, h⟩ ⟨(i 1).val, (i 1).isLt⟩ : S8x1024.Idx)
    (fun a => match a with
      | ⟨0, _⟩ => (show (i 0).val = 0 + (i 0).val * (0 + 1) by omega)
      | ⟨1, _⟩ => (show (i 1).val = 0 + (i 1).val * (0 + 1) by omega))).trans ?_
  have h1 : (i 1).val < 1024 := (i 1).isLt
  refine (extractStridedSlice_apply _ _ slices_S4616x1024_S8x1024_4608_0 (ValueIdx.ix2 ⟨(i 0).val, h⟩ ⟨(i 1).val, h1⟩ : S8x1024.Idx) (ValueIdx.ix2 ⟨4608 + (i 0).val, by omega⟩ ⟨(i 1).val, h1⟩ : S4616x1024.Idx)
    (fun a => match a with
      | ⟨0, _⟩ => rfl
      | ⟨1, _⟩ => (show (i 1).val = 0 + (i 1).val by omega))).trans ?_
  exact turned_at m c _

theorem outer_at (i : S4096x4608.Idx) : (V m c main_v5 : FVec Ideal S4096x4608 .bf16) i = cell (outer m c) (i 0).val (i 1).val := by
  rw [V_outer]
  have h0 : (i 0).val < 4096 := (i 0).isLt
  have h1 : (i 1).val < 4608 := (i 1).isLt
  exact (extractStridedSlice_apply _ _ slices_S4096x4616_S4096x4608_0_0 i (ValueIdx.ix2 ⟨(i 0).val, h0⟩ ⟨(i 1).val, by omega⟩ : S4096x4616.Idx)
    (fun a => match a with
      | ⟨0, _⟩ => (show (i 0).val = 0 + (i 0).val by omega)
      | ⟨1, _⟩ => (show (i 1).val = 0 + (i 1).val by omega))).trans (cell_of (outer m c) _ rfl rfl)

theorem gates_at (i : S4096x128.Idx) (h : (i 1).val < 8) : (V m c main_v8 : FVec Ideal S4096x128 .bf16) i = cell (outer m c) (i 0).val (4608 + (i 1).val) := by
  rw [V_gates]
  have h0 : (i 0).val < 4096 := (i 0).isLt
  refine (pad_apply_of_inside _ _ _ _ _ pads_S4096x8_S4096x128_000_01200 h_S_ i (ValueIdx.ix2 ⟨(i 0).val, h0⟩ ⟨(i 1).val, h⟩ : S4096x8.Idx)
    (fun a => match a with
      | ⟨0, _⟩ => (show (i 0).val = 0 + (i 0).val * (0 + 1) by omega)
      | ⟨1, _⟩ => (show (i 1).val = 0 + (i 1).val * (0 + 1) by omega))).trans ?_
  exact (extractStridedSlice_apply _ _ slices_S4096x4616_S4096x8_0_4608 (ValueIdx.ix2 ⟨(i 0).val, h0⟩ ⟨(i 1).val, h⟩ : S4096x8.Idx) (ValueIdx.ix2 ⟨(i 0).val, h0⟩ ⟨4608 + (i 1).val, by omega⟩ : S4096x4616.Idx)
    (fun a => match a with
      | ⟨0, _⟩ => (show (i 0).val = 0 + (i 0).val by omega)
      | ⟨1, _⟩ => rfl)).trans (cell_of (outer m c) _ rfl rfl)

theorem gates_zero (i : S4096x128.Idx) (h : ¬ (i 1).val < 8) : (V m c main_v8 : FVec Ideal S4096x128 .bf16) i = (0 : EReal) := by
  rw [V_gates]
  refine (pad_apply_of_not_inside _ _ _ _ _ pads_S4096x8_S4096x128_000_01200 h_S_ i 1 (fun hin => h ?_)).trans ?_
  · have h2 : ((i 1).val - 0) / (0 + 1) < 8 := hin.2.2
    omega
  · show (((0#32 : BitVec 32).toInt : ℝ) : EReal) = 0
    simp

theorem at0 : ∀ t : Fin cfg0.N, win0_0.index t (0 : Fin 2) = t.val / 4 ∧ win0_0.index t (1 : Fin 2) = t.val % 4 :=
  (by decide +kernel : ∀ t : Fin grid0.N, win0_0.index t (0 : Fin 2) = t.val / 4 ∧ win0_0.index t (1 : Fin 2) = t.val % 4)
theorem at1 : ∀ t : Fin cfg0.N, win0_1.index t (0 : Fin 2) = t.val / 4 ∧ win0_1.index t (1 : Fin 2) = 0 :=
  (by decide +kernel : ∀ t : Fin grid0.N, win0_1.index t (0 : Fin 2) = t.val / 4 ∧ win0_1.index t (1 : Fin 2) = 0)
theorem at2 : ∀ t : Fin cfg0.N, win0_2.index t (0 : Fin 2) = t.val % 4 ∧ win0_2.index t (1 : Fin 2) = 0 :=
  (by decide +kernel : ∀ t : Fin grid0.N, win0_2.index t (0 : Fin 2) = t.val % 4 ∧ win0_2.index t (1 : Fin 2) = 0)
theorem at3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem at4 : ∀ t : Fin cfg0.N, win0_4.index t (0 : Fin 2) = t.val / 4 ∧ win0_4.index t (1 : Fin 2) = 0 :=
  (by decide +kernel : ∀ t : Fin grid0.N, win0_4.index t (0 : Fin 2) = t.val / 4 ∧ win0_4.index t (1 : Fin 2) = 0)
theorem at5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)
theorem at6 : ∀ t : Fin cfg0.N, win0_6.index t (0 : Fin 2) = t.val / 4 ∧ win0_6.index t (1 : Fin 2) = 0 :=
  (by decide +kernel : ∀ t : Fin grid0.N, win0_6.index t (0 : Fin 2) = t.val / 4 ∧ win0_6.index t (1 : Fin 2) = 0)
theorem at7 : ∀ t : Fin cfg0.N, win0_7.index t (0 : Fin 2) = t.val / 4 ∧ win0_7.index t (1 : Fin 2) = 0 :=
  (by decide +kernel : ∀ t : Fin grid0.N, win0_7.index t (0 : Fin 2) = t.val / 4 ∧ win0_7.index t (1 : Fin 2) = 0)
theorem at8 : ∀ t : Fin cfg0.N, win0_8.index t (0 : Fin 2) = 0 ∧ win0_8.index t (1 : Fin 2) = 0 :=
  (by decide +kernel : ∀ t : Fin grid0.N, win0_8.index t (0 : Fin 2) = 0 ∧ win0_8.index t (1 : Fin 2) = 0)

/-- A point's block of the projection's derivative. -/
theorem load_outer (t : Fin cfg0.N) (r l : ℕ) (hr : r < 1024) (hl : l < 1152) :
    cell (n := 1024) (m := 1152) (iblk m c 0 t : FVec Ideal S1024x1152 .bf16) r l = cell (outer m c) (1024 * (t.val / 4) + r) (1152 * (t.val % 4) + l) := by
  unfold cell
  rw [dif_pos ⟨hr, hl⟩]
  have e0 : (((cfg0.win 0).blk t).view.emb (ValueIdx.ix2 ⟨r, hr⟩ ⟨l, hl⟩) 0).val = win0_0.index t (0 : Fin 2) * 1024 + 1 * r := rfl
  have e1 : (((cfg0.win 0).blk t).view.emb (ValueIdx.ix2 ⟨r, hr⟩ ⟨l, hl⟩) 1).val = win0_0.index t (1 : Fin 2) * 1152 + 1 * l := rfl
  rw [(at0 t).1] at e0
  rw [(at0 t).2] at e1
  refine (outer_at m c _).trans ?_
  rw [e0, e1, Nat.mul_comm 1024, Nat.mul_comm 1152, Nat.one_mul, Nat.one_mul]
  rfl

/-- … of its last eight columns, and of the zeros after them. -/
theorem load_gates (t : Fin cfg0.N) (r l : ℕ) (hr : r < 1024) (hl : l < 8) :
    cell (n := 1024) (m := 128) (iblk m c 1 t : FVec Ideal S1024x128 .bf16) r l = cell (outer m c) (1024 * (t.val / 4) + r) (4608 + l) := by
  have hl' : l < 128 := by omega
  unfold cell
  rw [dif_pos ⟨hr, hl'⟩]
  have e0 : (((cfg0.win 1).blk t).view.emb (ValueIdx.ix2 ⟨r, hr⟩ ⟨l, hl'⟩) 0).val = win0_1.index t (0 : Fin 2) * 1024 + 1 * r := rfl
  have e1 : (((cfg0.win 1).blk t).view.emb (ValueIdx.ix2 ⟨r, hr⟩ ⟨l, hl'⟩) 1).val = win0_1.index t (1 : Fin 2) * 128 + 1 * l := rfl
  rw [(at1 t).1] at e0
  rw [(at1 t).2, Nat.zero_mul, Nat.zero_add, Nat.one_mul] at e1
  refine (gates_at m c _ (e1.trans_lt hl)).trans ?_
  rw [e0, e1, Nat.mul_comm 1024, Nat.one_mul]
  rfl

theorem load_zeros (t : Fin cfg0.N) (r l : ℕ) (hr : r < 1024) (hl : ¬ l < 8) (hl' : l < 128) :
    cell (n := 1024) (m := 128) (iblk m c 1 t : FVec Ideal S1024x128 .bf16) r l = 0 := by
  unfold cell
  rw [dif_pos ⟨hr, hl'⟩]
  have e1 : (((cfg0.win 1).blk t).view.emb (ValueIdx.ix2 ⟨r, hr⟩ ⟨l, hl'⟩) 1).val = win0_1.index t (1 : Fin 2) * 128 + 1 * l := rfl
  rw [(at1 t).2, Nat.zero_mul, Nat.zero_add, Nat.one_mul] at e1
  exact gates_zero m c _ (fun h => hl (e1.symm.trans_lt h))

/-- A point's block of the transposed weights. -/
theorem load_weights (t : Fin cfg0.N) (r l : ℕ) (hr : r < 1152) (hl : l < 1024) :
    cell (n := 1152) (m := 1024) (X0_2 m c t : FVec Ideal S1152x1024 .bf16) r l = cell (weights m c) l (1152 * (t.val % 4) + r) := by
  unfold cell
  rw [dif_pos ⟨hr, hl⟩]
  unfold X0_2 Pipeline.Window.fill
  rw [dif_pos (moved0_2 t _)]
  refine (congrFun (V_turned m c) _).trans ((turned_at m c _).trans ?_)
  have e0 : (((cfg0.win 2).blk t).view.emb (fun a => ⟨((ValueIdx.ix2 (⟨r, hr⟩ : Fin 1152) (⟨l, hl⟩ : Fin 1024) : S1152x1024.Idx) a).val,
    ((cfg0.win 2).moved_iff _ _).mp (moved0_2 t (ValueIdx.ix2 (⟨r, hr⟩ : Fin 1152) (⟨l, hl⟩ : Fin 1024) : S1152x1024.Idx)) a⟩) 0).val = win0_2.index t (0 : Fin 2) * 1152 + 1 * r := rfl
  have e1 : (((cfg0.win 2).blk t).view.emb (fun a => ⟨((ValueIdx.ix2 (⟨r, hr⟩ : Fin 1152) (⟨l, hl⟩ : Fin 1024) : S1152x1024.Idx) a).val,
    ((cfg0.win 2).moved_iff _ _).mp (moved0_2 t (ValueIdx.ix2 (⟨r, hr⟩ : Fin 1152) (⟨l, hl⟩ : Fin 1024) : S1152x1024.Idx)) a⟩) 1).val = win0_2.index t (1 : Fin 2) * 1024 + 1 * l := rfl
  rw [(at2 t).1] at e0
  rw [(at2 t).2, Nat.zero_mul, Nat.zero_add, Nat.one_mul] at e1
  refine (congrArg₂ (fun a b => cell (weights m c) a b) e1 e0).trans ?_
  rw [Nat.mul_comm 1152, Nat.one_mul]
  rfl

/-- … and its last eight rows. -/
theorem load_rows (t : Fin cfg0.N) (r l : ℕ) (hr : r < 8) (hl : l < 1024) :
    cell (n := 128) (m := 1024) (iblk m c 3 t : FVec Ideal S128x1024 .bf16) r l = cell (weights m c) l (4608 + r) := by
  have hr' : r < 128 := by omega
  unfold cell
  rw [dif_pos ⟨hr', hl⟩]
  have e0 : (((cfg0.win 3).blk t).view.emb (ValueIdx.ix2 ⟨r, hr'⟩ ⟨l, hl⟩) 0).val = win0_3.index t (0 : Fin 2) * 128 + 1 * r := rfl
  have e1 : (((cfg0.win 3).blk t).view.emb (ValueIdx.ix2 ⟨r, hr'⟩ ⟨l, hl⟩) 1).val = win0_3.index t (1 : Fin 2) * 1024 + 1 * l := rfl
  rw [(at3 t).1, Nat.zero_mul, Nat.zero_add, Nat.one_mul] at e0
  rw [(at3 t).2, Nat.zero_mul, Nat.zero_add, Nat.one_mul] at e1
  refine (wide_at m c _ (e0.trans_lt hr)).trans ?_
  rw [e0, e1]
  rfl

/-- A point's rows of the activations, … -/
theorem load_acts (t : Fin cfg0.N) (r l : Fin 1024) :
    (iblk m c 4 t : FVec Ideal S1024x1024 .f32) (ix2 r l) = cell (acts m c) (1024 * (t.val / 4) + r.val) l.val := by
  have e0 : (((cfg0.win 4).blk t).view.emb (ix2 r l) 0).val = win0_4.index t (0 : Fin 2) * 1024 + 1 * r.val := rfl
  have e1 : (((cfg0.win 4).blk t).view.emb (ix2 r l) 1).val = win0_4.index t (1 : Fin 2) * 1024 + 1 * l.val := rfl
  rw [(at4 t).1] at e0
  rw [(at4 t).2] at e1
  exact (congrFun (V_acts m c) _).trans (cell_of (acts m c) _ (by rw [e0]; omega) (by rw [e1]; omega))

/-- … the norm's weights, … -/
theorem load_norms (t : Fin cfg0.N) (l : Fin 1024) :
    (iblk m c 5 t : FVec Ideal S1x1024 .f32) (ix2 (0 : Fin 1) l) = cell (norms m c) 0 l.val := by
  have e0 : (((cfg0.win 5).blk t).view.emb (ix2 (0 : Fin 1) l) 0).val = win0_5.index t (0 : Fin 2) * 1 + 1 * 0 := rfl
  have e1 : (((cfg0.win 5).blk t).view.emb (ix2 (0 : Fin 1) l) 1).val = win0_5.index t (1 : Fin 2) * 1024 + 1 * l.val := rfl
  rw [(at5 t).1] at e0
  rw [(at5 t).2] at e1
  exact (congrFun (V_norms m c) _).trans (cell_of (norms m c) _ (by rw [e0]) (by rw [e1]; omega))

/-- … and the rows of what passes the norm by. -/
theorem load_past (t : Fin cfg0.N) (r l : Fin 1024) :
    (iblk m c 6 t : FVec Ideal S1024x1024 .f32) (ix2 r l) = cell (past m c) (1024 * (t.val / 4) + r.val) l.val := by
  have e0 : (((cfg0.win 6).blk t).view.emb (ix2 r l) 0).val = win0_6.index t (0 : Fin 2) * 1024 + 1 * r.val := rfl
  have e1 : (((cfg0.win 6).blk t).view.emb (ix2 r l) 1).val = win0_6.index t (1 : Fin 2) * 1024 + 1 * l.val := rfl
  rw [(at6 t).1] at e0
  rw [(at6 t).2] at e1
  exact (congrFun (V_past m c) _).trans (cell_of (past m c) _ (by rw [e0]; omega) (by rw [e1]; omega))

end Cert.Proof.Inproj

end
-- ==== Proof.InprojRef.lean ====
/- The reference's backward pass of the norm and the input projection, entry by entry, in the words the kernel's blocks are told in. -/
module

public import proofs.«01_k».proof.Proof.Products
public import proofs.«01_k».proof.Proof.Norm
public import proofs.«01_k».proof.Proof.Gen.Reference5Ideal.Read

@[expose] public section

noncomputable section

namespace Cert.Proof.Inproj.Ref

open Idealize.ShloMosaic Idealize.ShloMosaic.TcCoe Idealize.SL.Sem Cert.Reference5Ideal Cert.Reference5Ideal.Read Cert.Proof.Norm
open scoped BigOperators

variable (x0 : FVec Ideal ⟨2, ![4096, 1024]⟩ .f32) (x1 : FVec Ideal ⟨2, ![1, 1024]⟩ .f32) (x2 : FVec Ideal ⟨2, ![1024, 4616]⟩ .f32)
  (x3 : FVec Ideal ⟨2, ![4096, 4616]⟩ .f32) (x4 : FVec Ideal ⟨2, ![4096, 1024]⟩ .f32)

/-- A row of the activations. -/
abbrev line (r : ℕ) : Fin 1024 → EReal := fun k => cell x0 r k.val

/-- The normalised activations' derivative, before the norm's weights: the first `n` columns of the projection's derivative against the weights. -/
abbrev back (n r j : ℕ) : EReal := cross (fun k i => cell x3 i k) (fun k i => cell x2 i k) n r j

/-- … with the norm's weights. -/
abbrev grad (r : ℕ) : Fin 1024 → EReal := fun k => back x2 x3 4616 r k.val * cell x1 0 k.val

/-- A row's part of the gradient of the norm's weights. -/
abbrev part (r j : ℕ) : EReal := back x2 x3 4616 r j * (cell x0 r j * scale (line x0 r))

theorem zero_word : FloatOps.ofBits (F := Ideal) .f32 0x00000000#32 = (0 : EReal) := bits_zero.trans EReal.coe_zero

theorem v6_eq (i : S4096x1.Idx) : (val_main_v6 (F := Ideal) x0 i : EReal) = shifted (line x0 (i 0).val) := by
  rw [val_main_v6_apply, val_main_v4_apply, val_main_v2_apply, val_main_v1_apply, val_main_v3_apply, val_main_v5_apply, val_main_cst_apply, val_main_cst_0_apply, val_main_cst_1_apply,
    zero_word]
  refine congrArg (fun z => Ideal.div z len + eps) ((zero_add _).trans (Finset.sum_congr rfl fun k _ => ?_))
  rw [val_main_v0_apply]
  exact congrArg₂ (· * ·) (cell_of x0 _ rfl rfl) (cell_of x0 _ rfl rfl)

theorem v7_eq (i : S4096x1.Idx) : (val_main_v7 (F := Ideal) x0 i : EReal) = scale (line x0 (i 0).val) := by
  rw [val_main_v7_apply]
  exact congrArg Ideal.rsqrt (v6_eq x0 i)

theorem v10_eq (i : S4096x1.Idx) : (val_main_v10 (F := Ideal) x0 i : EReal) = half * Ideal.div (scale (line x0 (i 0).val)) (shifted (line x0 (i 0).val)) := by
  rw [val_main_v10_apply, val_main_v8_apply, val_main_v9_apply, val_main_cst_2_apply]
  exact congrArg₂ (fun a b => half * Ideal.div a b) (v7_eq x0 i) (v6_eq x0 i)

theorem v16_eq (i : S4096x1024.Idx) : (val_main_v16 (F := Ideal) x2 x3 i : EReal) = back x2 x3 4616 (i 0).val (i 1).val := by
  rw [val_main_v16_apply]
  unfold back cross
  rw [Finset.sum_range (fun k => cell x3 (i 0).val k * cell x2 (i 1).val k)]
  exact Finset.sum_congr rfl fun k _ => congrArg₂ (· * ·) (cell_of x3 _ rfl rfl) (cell_of x2 _ rfl rfl)

theorem v21_eq (i : S4096x1024.Idx) : (val_main_v21 (F := Ideal) x1 x2 x3 i : EReal) = back x2 x3 4616 (i 0).val (i 1).val * cell x1 0 (i 1).val := by
  rw [val_main_v21_apply, val_main_v20_apply]
  exact congrArg₂ (· * ·) (v16_eq x2 x3 i) (cell_of x1 _ rfl rfl)

theorem v24_eq (i : S4096x1.Idx) : (val_main_v24 (F := Ideal) x0 x1 x2 x3 i : EReal) = ∑ k : Fin 1024, line x0 (i 0).val k * grad x1 x2 x3 (i 0).val k := by
  have h1 : (i 1).val < 1 := (i 1).isLt
  rw [val_main_v24_apply, val_main_v23_apply, val_main_cst_4_apply, zero_word]
  refine (zero_add _).trans (Finset.sum_congr rfl fun k _ => ?_)
  rw [val_main_v22_apply]
  refine (congrArg₂ (· * ·) (cell_of x0 _ rfl rfl) (v21_eq x1 x2 x3 _)).trans ?_
  show cell x0 ((i 0).val * 1 + (i 1).val) k.val * (back x2 x3 4616 ((i 0).val * 1 + (i 1).val) k.val * cell x1 0 k.val) = _
  rw [show (i 0).val * 1 + (i 1).val = (i 0).val by omega]

theorem v32_eq (i : S4096x1024.Idx) : (val_main_v32 (F := Ideal) x0 x1 x2 x3 i : EReal) =
    Ideal.div ((∑ k : Fin 1024, line x0 (i 0).val k * grad x1 x2 x3 (i 0).val k) * (half * Ideal.div (scale (line x0 (i 0).val)) (shifted (line x0 (i 0).val)))) len := by
  rw [val_main_v32_apply, val_main_v31_apply, val_main_cst_6_apply, zero_word]
  refine (zero_add _).trans ((Fin.sum_univ_one _).trans ?_)
  rw [val_main_v30_apply, val_main_v28_apply, val_main_v29_apply, val_main_cst_5_apply]
  exact congrArg₂ (fun a b => Ideal.div (a * b) len) (v24_eq x0 x1 x2 x3 _) (v10_eq x0 _)

/-- The activations' derivative. -/
theorem v36_eq (i : S4096x1024.Idx) : (val_main_v36 (F := Ideal) x0 x1 x2 x3 x4 i : EReal) =
    cell x4 (i 0).val (i 1).val + scale (line x0 (i 0).val) * (grad x1 x2 x3 (i 0).val ⟨(i 1).val, (i 1).isLt⟩ - line x0 (i 0).val ⟨(i 1).val, (i 1).isLt⟩ * scale (line x0 (i 0).val)
      * Ideal.div (∑ k : Fin 1024, grad x1 x2 x3 (i 0).val k * (line x0 (i 0).val k * scale (line x0 (i 0).val))) len) := by
  rw [derivative, val_main_v36_apply, val_main_v34_apply, val_main_v35_apply, val_main_v33_apply, val_main_v27_apply, val_main_v26_apply, val_main_v25_apply]
  have e : ∀ a b : EReal, ∀ p q s x w, a = p → b = q → s = scale (line x0 (i 0).val) → x = line x0 (i 0).val ⟨(i 1).val, (i 1).isLt⟩ →
      w = Ideal.div ((∑ k : Fin 1024, line x0 (i 0).val k * grad x1 x2 x3 (i 0).val k) * (half * Ideal.div (scale (line x0 (i 0).val)) (shifted (line x0 (i 0).val)))) len →
      a + b * s + x * w + w * x = p + q * scale (line x0 (i 0).val) + line x0 (i 0).val ⟨(i 1).val, (i 1).isLt⟩ *
        Ideal.div ((∑ k : Fin 1024, line x0 (i 0).val k * grad x1 x2 x3 (i 0).val k) * (half * Ideal.div (scale (line x0 (i 0).val)) (shifted (line x0 (i 0).val)))) len +
        Ideal.div ((∑ k : Fin 1024, line x0 (i 0).val k * grad x1 x2 x3 (i 0).val k) * (half * Ideal.div (scale (line x0 (i 0).val)) (shifted (line x0 (i 0).val)))) len *
          line x0 (i 0).val ⟨(i 1).val, (i 1).isLt⟩ := by
    rintro a b p q s x w rfl rfl rfl rfl rfl
    rfl
  exact e _ _ _ _ _ _ _ (cell_of x4 i rfl rfl) (v21_eq x1 x2 x3 i) (v7_eq x0 _) (cell_of x0 i rfl rfl) (v32_eq x0 x1 x2 x3 i)

/-- The gradient of the norm's weights. -/
theorem v19_eq (i : S1x1024.Idx) : (val_main_v19 (F := Ideal) x0 x2 x3 i : EReal) = ∑ k ∈ Finset.range 4096, part x0 x2 x3 k (i 1).val := by
  have h0 : (i 0).val < 1 := (i 0).isLt
  rw [val_main_v19_apply, val_main_v18_apply, val_main_cst_3_apply, zero_word, Finset.sum_range (fun k => part x0 x2 x3 k (i 1).val)]
  refine (zero_add _).trans (Finset.sum_congr rfl fun k _ => ?_)
  rw [val_main_v17_apply, val_main_v12_apply, val_main_v11_apply]
  refine (congrArg₂ (· * ·) (congrArg₂ (· * ·) (cell_of x0 _ rfl rfl) (v7_eq x0 _)) (v16_eq x2 x3 _)).trans ?_
  show cell x0 k.val ((i 0).val * 1024 + (i 1).val) * scale (line x0 k.val) * back x2 x3 4616 k.val ((i 0).val * 1024 + (i 1).val) = _
  rw [show (i 0).val * 1024 + (i 1).val = (i 1).val by omega, mul_comm]

end Cert.Proof.Inproj.Ref

end
-- ==== Proof.Projection.lean ====
/- The backward pass of the norm and the input projection, 1024 rows of a block at a time: the kernel goes through the projection's columns 1152 at
   a time, starting from the eight gate columns, and at a block's last point turns the sum into the activations' derivative and into the block's part
   of the gradient of the norm's weights. -/
module

public import proofs.«01_k».proof.Proof.InprojBody
public import proofs.«01_k».proof.Proof.InprojPoint
public import proofs.«01_k».proof.Proof.InprojLoad
public import proofs.«01_k».proof.Proof.InprojRef

@[expose] public section

noncomputable section

namespace Cert.Proof.Inproj

open Idealize.ShloMosaic Idealize.ShloMosaic.TcCoe Idealize.SL Idealize.SL.Sem Cert.Kernel5Ideal Cert.Kernel5Ideal.Gen Cert.Kernel5Ideal.Value Cert.Proof.Norm
open scoped BigOperators

variable (m : (ℓ : Loc nD τ sig) → Buf (Elt Ideal) ℓ) (c : Dev nD)

/-- The gate columns' part of the sum. -/
def gates (r j : ℕ) : EReal := ∑ k : Fin 8, cell (outer m c) r (4608 + k.val) * cell (weights m c) j (4608 + k.val)

/-- The part of the first `n` columns. -/
abbrev sofar (n r j : ℕ) : EReal := Ref.back (weights m c) (outer m c) n r j

theorem whole (r j : ℕ) : gates m c r j + sofar m c 4608 r j = sofar m c 4616 r j :=
  (add_comm _ _).trans (cross_add (fun k i => cell (outer m c) i k) (fun k i => cell (weights m c) i k) 4608 8 r j)

theorem gates_sum (t : Fin cfg0.N) (j : S1024x1024.Idx) : (k0_pay1 (iblk m c 1 t) (iblk m c 3 t) : FVec Ideal S1024x1024 .f32) j =
    gates m c (1024 * (t.val / 4) + (j 0).val) (j 1).val := by
  have h0 : (j 0).val < 1024 := (j 0).isLt
  have h1 : (j 1).val < 1024 := (j 1).isLt
  let f : ℕ → EReal := fun k => cell (n := 1024) (m := 128) (iblk m c 1 t : FVec Ideal S1024x128 .bf16) (j 0).val k *
    cell (n := 128) (m := 1024) (iblk m c 3 t : FVec Ideal S128x1024 .bf16) k (j 1).val
  refine (pay1_at _ _ j).trans (((Finset.sum_range f).symm.trans (Finset.sum_range_add f 8 120)).trans ?_)
  have rest : ∑ k ∈ Finset.range 120, f (8 + k) = 0 := Finset.sum_eq_zero fun k hk => by
    have hk' : k < 120 := Finset.mem_range.mp hk
    exact (congrArg (· * _) (load_zeros m c t _ (8 + k) h0 (by omega) (by omega))).trans (zero_mul _)
  refine ((congrArg (_ + ·) rest).trans (add_zero _)).trans ((Finset.sum_range f).trans ?_)
  exact Finset.sum_congr rfl fun k _ => congrArg₂ (· * ·) (load_gates m c t _ k.val h0 k.isLt) (load_rows m c t k.val _ k.isLt h1)

theorem columns_sum (t : Fin cfg0.N) (j : S1024x1024.Idx) (o : FVec Ideal S1024x1024 .f32) : (k0_pay2 o (iblk m c 0 t) (X0_2 m c t) : FVec Ideal S1024x1024 .f32) j =
    o j + ∑ k : Fin 1152, cell (outer m c) (1024 * (t.val / 4) + (j 0).val) (1152 * (t.val % 4) + k.val) * cell (weights m c) (j 1).val (1152 * (t.val % 4) + k.val) :=
  (pay2_at _ _ _ j).trans (congrArg (o j + ·) (Finset.sum_congr rfl fun k _ =>
    congrArg₂ (· * ·) (load_outer m c t _ k.val (j 0).isLt k.isLt) (load_weights m c t k.val _ k.isLt (j 1).isLt)))

/-- The sum a point leaves. -/
abbrev sum (t : Fin cfg0.N) : FVec Ideal S1024x1024 .f32 := (outsAt0 m c t.val t.isLt).2.2

/-- After a point the sum holds the gates and the columns so far. -/
def Holds (t : Fin cfg0.N) : Prop := ∀ j : S1024x1024.Idx, sum m c t j =
  gates m c (1024 * (t.val / 4) + (j 0).val) (j 1).val + sofar m c (1152 * (t.val % 4) + 1152) (1024 * (t.val / 4) + (j 0).val) (j 1).val

theorem holds_first (t : Fin cfg0.N) (h : t.val % 4 = 0) : Holds m c t := fun j => by
  unfold sum
  rw [outsAt0_A m c t h (by omega)]
  dsimp only
  rw [sum_first]
  refine (columns_sum m c t j _).trans (congrArg₂ (· + ·) (gates_sum m c t j) ?_)
  rw [h]
  refine (zero_add _).symm.trans (Eq.trans ?_ (cross_add (fun k i => cell (outer m c) i k) (fun k i => cell (weights m c) i k) (1152 * 0) 1152 _ _))
  rw [Nat.mul_zero, cross_zero]

theorem sum_later (t : Fin cfg0.N) (h : ¬ t.val % 4 = 0) : sum m c t =
    k0_pay2 (outsAt0 m c (t.val - 1) (Nat.lt_of_le_of_lt (Nat.sub_le _ _) t.isLt)).2.2 (iblk m c 0 t) (X0_2 m c t) := by
  unfold sum
  by_cases h3 : t.val % 4 = 3
  · by_cases h4 : t.val < 4
    · rw [outsAt0_C m c t h h3 h4 (by omega)]
      dsimp only
      rw [sum_C]
    · rw [outsAt0_D m c t h h3 h4 (by omega)]
      dsimp only
      rw [sum_D]
  · rw [outsAt0_B m c t h h3]
    dsimp only
    rw [sum_B]

theorem holds_next (t s : Fin cfg0.N) (h : t.val = s.val + 1) (h4 : ¬ t.val % 4 = 0) (hs : Holds m c s) : Holds m c t := fun j => by
  obtain ⟨sv, hsv⟩ := s
  obtain rfl : sv = t.val - 1 := by dsimp only at h; omega
  rw [sum_later m c t h4]
  refine (columns_sum m c t j _).trans ((congrArg (· + _) (hs j)).trans ((add_assoc _ _ _).trans ?_))
  show gates m c (1024 * ((t.val - 1) / 4) + (j 0).val) (j 1).val + (sofar m c (1152 * ((t.val - 1) % 4) + 1152) (1024 * ((t.val - 1) / 4) + (j 0).val) (j 1).val + _) = _
  rw [show (t.val - 1) / 4 = t.val / 4 by omega, show 1152 * ((t.val - 1) % 4) + 1152 = 1152 * (t.val % 4) by omega]
  exact congrArg (_ + ·) (cross_add (fun k i => cell (outer m c) i k) (fun k i => cell (weights m c) i k) _ 1152 _ _)

theorem holds (n : ℕ) (hn : n < cfg0.N) : Holds m c ⟨n, hn⟩ := by
  induction n with
  | zero => exact holds_first m c _ rfl
  | succ n ih =>
    by_cases h4 : (n + 1) % 4 = 0
    · exact holds_first m c _ h4
    · exact holds_next m c _ ⟨n, Nat.lt_of_succ_lt hn⟩ rfl h4 (ih _)

/-- At a block's last point the sum is whole. -/
theorem sum_last (t : Fin cfg0.N) (h : t.val % 4 = 3) (r k : Fin 1024) : row (sum m c t) r k = sofar m c 4616 (1024 * (t.val / 4) + r.val) k.val := by
  refine (holds m c t.val t.isLt (ix2 r k)).trans ?_
  show gates m c (1024 * (t.val / 4) + r.val) k.val + sofar m c (1152 * (t.val % 4) + 1152) (1024 * (t.val / 4) + r.val) k.val = _
  rw [show 1152 * (t.val % 4) + 1152 = 4608 by omega]
  exact whole m c _ _

theorem acts_row (t : Fin cfg0.N) (r : Fin 1024) : row (iblk m c 4 t : FVec Ideal S1024x1024 .f32) r = Ref.line (acts m c) (1024 * (t.val / 4) + r.val) :=
  funext fun k => load_acts m c t r k

/-- The activations' derivative at a row and a column. -/
def slope (r : ℕ) (j : Fin 1024) : EReal :=
  cell (past m c) r j.val + scale (Ref.line (acts m c) r) * (Ref.grad (norms m c) (weights m c) (outer m c) r j
    - Ref.line (acts m c) r j * scale (Ref.line (acts m c) r)
      * Ideal.div (∑ k : Fin 1024, Ref.grad (norms m c) (weights m c) (outer m c) r k * (Ref.line (acts m c) r k * scale (Ref.line (acts m c) r))) len)

theorem same {t t' : EReal} {x x' a a' p p' : Fin 1024 → EReal} (j : Fin 1024) (ht : t = t') (hx : x = x') (ha : a = a') (hp : p = p') :
    t + scale x * (a j * p j - x j * scale x * Ideal.div (∑ k : Fin 1024, a k * p k * (x k * scale x)) len) =
      t' + scale x' * (a' j * p' j - x' j * scale x' * Ideal.div (∑ k : Fin 1024, a' k * p' k * (x' k * scale x')) len) := by
  subst ht hx ha hp
  rfl

theorem grad_last (t : Fin cfg0.N) (h : t.val % 4 = 3) : (outsAt0 m c t.val t.isLt).1 = k0_pay5 (iblk m c 4 t) (sum m c t) (iblk m c 5 t) (iblk m c 6 t) := by
  rw [sum_later m c t (by omega)]
  by_cases h4 : t.val < 4
  · rw [outsAt0_C m c t (by omega) h h4 (by omega)]
    dsimp only
    rw [grad_C]
  · rw [outsAt0_D m c t (by omega) h h4 (by omega)]
    dsimp only
    rw [grad_D]

theorem slope_at (t : Fin cfg0.N) (h : t.val % 4 = 3) (r j : Fin 1024) :
    ((outsAt0 m c t.val t.isLt).1 : FVec Ideal S1024x1024 .f32) (ix2 r j) = slope m c (1024 * (t.val / 4) + r.val) j := by
  rw [grad_last m c t h]
  refine (pay5_at _ _ _ _ r j).trans ?_
  exact same (p := fun k => (iblk m c 5 t : FVec Ideal S1x1024 .f32) (ix2 (0 : Fin 1) k)) (p' := fun k => cell (norms m c) 0 k.val) (a' := fun k => sofar m c 4616 (1024 * (t.val / 4) + r.val) k.val)
    j (load_past m c t r j) (acts_row m c t r) (funext fun k => sum_last m c t h r k) (funext fun k => load_norms m c t k)

/-- A row's part of the gradient of the norm's weights. -/
abbrev share (r j : ℕ) : EReal := Ref.part (acts m c) (weights m c) (outer m c) r j

theorem share_at (t : Fin cfg0.N) (h : t.val % 4 = 3) (j : Fin 1024) :
    ∑ k : Fin 1024, row (sum m c t) k j * (row (iblk m c 4 t : FVec Ideal S1024x1024 .f32) k j * scale (row (iblk m c 4 t : FVec Ideal S1024x1024 .f32) k)) =
      ∑ k ∈ Finset.range 1024, share m c (1024 * (t.val / 4) + k) j.val := by
  rw [Finset.sum_range (fun k => share m c (1024 * (t.val / 4) + k) j.val)]
  exact Finset.sum_congr rfl fun k _ => congrArg₂ (· * ·) (sum_last m c t h k j) (congrArg (fun f : Fin 1024 → EReal => f j * scale f) (acts_row m c t k))

/-- What a point leaves of that gradient. -/
abbrev kept (n : ℕ) (hn : n < cfg0.N) : FVec Ideal S1x1024 .f32 := (outsAt0 m c n hn).2.1

/-- From the first block's last point on, it holds the parts of the blocks so far. -/
def Keeps (n : ℕ) (hn : n < cfg0.N) : Prop := ∀ j : Fin 1024, kept m c n hn (ix2 (0 : Fin 1) j) =
  ∑ k ∈ Finset.range (1024 * ((n + 1) / 4)), share m c k j.val

theorem keeps_first (t : Fin cfg0.N) (h : t.val = 3) : Keeps m c t.val t.isLt := fun j => by
  have e : kept m c t.val t.isLt = k0_pay6 (iblk m c 4 t) (sum m c t) := by
    rw [sum_later m c t (by omega)]
    unfold kept
    rw [outsAt0_C m c t (by omega) (by omega) (by omega) (by omega)]
    dsimp only
    rw [part_C]
  rw [e]
  refine (pay6_at _ _ j).trans ((share_at m c t (by omega) j).trans ?_)
  rw [h]
  exact Finset.sum_congr rfl fun k _ => congrArg (fun n => share m c n j.val) (by omega)

theorem keeps_same (t : Fin cfg0.N) (h : ¬ t.val % 4 = 3) (hp : 0 < t.val) (hs : Keeps m c (t.val - 1) (Nat.lt_of_le_of_lt (Nat.sub_le _ _) t.isLt)) :
    Keeps m c t.val t.isLt := fun j => by
  have e : kept m c t.val t.isLt = kept m c (t.val - 1) (Nat.lt_of_le_of_lt (Nat.sub_le _ _) t.isLt) := by
    unfold kept
    by_cases h0 : t.val % 4 = 0
    · rw [outsAt0_A m c t h0 h]
      rfl
    · rw [outsAt0_B m c t h0 h]
      rfl
  rw [e, hs j, show (t.val - 1 + 1) / 4 = (t.val + 1) / 4 by omega]

theorem keeps_next (t : Fin cfg0.N) (h : t.val % 4 = 3) (h4 : ¬ t.val < 4) (hs : Keeps m c (t.val - 1) (Nat.lt_of_le_of_lt (Nat.sub_le _ _) t.isLt)) :
    Keeps m c t.val t.isLt := fun j => by
  have e : kept m c t.val t.isLt = k0_pay7 (iblk m c 4 t) (sum m c t) (kept m c (t.val - 1) (Nat.lt_of_le_of_lt (Nat.sub_le _ _) t.isLt)) := by
    rw [sum_later m c t (by omega)]
    unfold kept
    rw [outsAt0_D m c t (by omega) h h4 (by omega)]
    dsimp only
    rw [part_D]
  rw [e]
  refine (pay7_at _ _ _ j).trans ((congrArg₂ (· + ·) (hs j) (share_at m c t h j)).trans ?_)
  rw [show (t.val - 1 + 1) / 4 = t.val / 4 by omega, show 1024 * ((t.val + 1) / 4) = 1024 * (t.val / 4) + 1024 by omega, Finset.sum_range_add]

theorem keeps (n : ℕ) (hn : n < cfg0.N) (h : 3 ≤ n) : Keeps m c n hn := by
  induction n with
  | zero => omega
  | succ n ih =>
    by_cases h3 : n + 1 = 3
    · exact keeps_first m c ⟨n + 1, hn⟩ h3
    · by_cases h4 : (n + 1) % 4 = 3
      · exact keeps_next m c ⟨n + 1, hn⟩ h4 (by show ¬ n + 1 < 4; omega) (ih (Nat.lt_of_succ_lt hn) (by omega))
      · exact keeps_same m c ⟨n + 1, hn⟩ h4 (Nat.succ_pos n) (ih (Nat.lt_of_succ_lt hn) (by omega))

/-- The reference's two results. -/
abbrev derivativeRef : FVec Ideal ⟨2, ![4096, 1024]⟩ .f32 :=
  Cert.Reference5Ideal.Read.val_main_v36 (F := Ideal) (acts m c) (norms m c) (weights m c) (outer m c) (past m c)
abbrev weightsRef : FVec Ideal ⟨2, ![1, 1024]⟩ .f32 :=
  Cert.Reference5Ideal.Read.val_main_v19 (F := Ideal) (acts m c) (weights m c) (outer m c)

/-- The kernel's array of the activations' derivative is the reference's. -/
theorem result_slope : (dats m 0 c).arrAt 7 cfg0.N = derivativeRef m c := by
  refine (dats m 0 c).arrAt_eq_of_cover 7 (derivativeRef m c) (fun t hf => ?_) (fun i => ?_)
  · have ht : t.val % 4 = 3 := (flush0_7 t).mp hf
    rw [flushed7]
    funext j
    have e0 : (((cfg0.win 7).blk t).view.emb j 0).val = win0_7.index t (0 : Fin 2) * 1024 + 1 * (j 0).val := rfl
    have e1 : (((cfg0.win 7).blk t).view.emb j 1).val = win0_7.index t (1 : Fin 2) * 1024 + 1 * (j 1).val := rfl
    rw [(at7 t).1] at e0
    rw [(at7 t).2] at e1
    have hj : (j : S1024x1024.Idx) = ix2 ⟨(j 0).val, (j 0).isLt⟩ ⟨(j 1).val, (j 1).isLt⟩ := funext fun a => match a with | ⟨0, _⟩ => rfl | ⟨1, _⟩ => rfl
    refine (congrArg ((outsAt0 m c t.val t.isLt).1 : FVec Ideal S1024x1024 .f32) hj).trans ((slope_at m c t ht _ _).trans ?_)
    refine Eq.trans ?_ (Ref.v36_eq (acts m c) (norms m c) (weights m c) (outer m c) (past m c) (((cfg0.win 7).blk t).view.emb j)).symm
    exact congrArg₂ (slope m c) (by rw [e0]; show 1024 * (t.val / 4) + (j 0).val = _; omega) (Fin.ext (by rw [e1]; show (j 1).val = _; omega))
  · have h0 : (i 0).val < 4096 := (i 0).isLt
    have h1 : (i 1).val < 1024 := (i 1).isLt
    let t : Fin cfg0.N := ⟨4 * ((i 0).val / 1024) + 3, lt_of_lt_of_eq (by omega) N_0.symm⟩
    have ht : t.val / 4 = (i 0).val / 1024 := by show (4 * ((i 0).val / 1024) + 3) / 4 = _; omega
    have hr : (i 0).val % 1024 < 1024 := Nat.mod_lt _ (by decide)
    refine ⟨t, (flush0_7 _).mpr (by show (4 * ((i 0).val / 1024) + 3) % 4 = 3; omega), ?_⟩
    have e0 : (((cfg0.win 7).blk t).view.emb (ValueIdx.ix2 ⟨(i 0).val % 1024, hr⟩ ⟨(i 1).val, h1⟩) 0).val = win0_7.index t (0 : Fin 2) * 1024 + 1 * ((i 0).val % 1024) := rfl
    have e1 : (((cfg0.win 7).blk t).view.emb (ValueIdx.ix2 ⟨(i 0).val % 1024, hr⟩ ⟨(i 1).val, h1⟩) 1).val = win0_7.index t (1 : Fin 2) * 1024 + 1 * (i 1).val := rfl
    rw [(at7 t).1, ht] at e0
    rw [(at7 t).2] at e1
    have e : ((cfg0.win 7).blk t).view.emb (ValueIdx.ix2 ⟨(i 0).val % 1024, hr⟩ ⟨(i 1).val, h1⟩) = i := funext fun a => Fin.ext (match a with
      | ⟨0, _⟩ => e0.trans (show (i 0).val / 1024 * 1024 + 1 * ((i 0).val % 1024) = (i 0).val by omega)
      | ⟨1, _⟩ => e1.trans (show 0 * 1024 + 1 * (i 1).val = (i 1).val by omega))
    exact Finset.mem_map.mpr ⟨_, Finset.mem_univ _, e⟩

/-- … and so is its gradient of the norm's weights. -/
theorem result_weights : (dats m 0 c).arrAt 8 cfg0.N = weightsRef m c := by
  refine (dats m 0 c).arrAt_eq_of_cover 8 (weightsRef m c) (fun t hf => ?_) (fun i => ?_)
  · have hN : t.val < 16 := lt_of_lt_of_eq t.isLt N_0
    have ht : t.val = 15 := by have := (flush0_8 t).mp hf; omega
    rw [flushed8]
    funext j
    have h0 : (j 0).val < 1 := (j 0).isLt
    have e1 : (((cfg0.win 8).blk t).view.emb j 1).val = win0_8.index t (1 : Fin 2) * 1024 + 1 * (j 1).val := rfl
    rw [(at8 t).2] at e1
    have hj : (j : S1x1024.Idx) = ix2 (0 : Fin 1) ⟨(j 1).val, (j 1).isLt⟩ := funext fun a => match a with
      | ⟨0, _⟩ => Fin.ext (show (j 0).val = 0 by omega)
      | ⟨1, _⟩ => rfl
    refine (congrArg (kept m c t.val t.isLt) hj).trans ((keeps m c t.val t.isLt (by omega) _).trans ?_)
    refine Eq.trans ?_ (Ref.v19_eq (acts m c) (weights m c) (outer m c) (((cfg0.win 8).blk t).view.emb j)).symm
    rw [e1, show 1024 * ((t.val + 1) / 4) = 4096 by omega]
    exact Finset.sum_congr rfl fun k _ => congrArg (share m c k) (show (j 1).val = 0 * 1024 + 1 * (j 1).val by omega)
  · have h0 : (i 0).val < 1 := (i 0).isLt
    have h1 : (i 1).val < 1024 := (i 1).isLt
    let t : Fin cfg0.N := ⟨15, lt_of_lt_of_eq (by omega) N_0.symm⟩
    refine ⟨t, (flush0_8 _).mpr (by show 15 % 16 = 15; omega), ?_⟩
    have e0 : (((cfg0.win 8).blk t).view.emb (ValueIdx.ix2 ⟨(i 0).val, h0⟩ ⟨(i 1).val, h1⟩) 0).val = win0_8.index t (0 : Fin 2) * 1 + 1 * (i 0).val := rfl
    have e1 : (((cfg0.win 8).blk t).view.emb (ValueIdx.ix2 ⟨(i 0).val, h0⟩ ⟨(i 1).val, h1⟩) 1).val = win0_8.index t (1 : Fin 2) * 1024 + 1 * (i 1).val := rfl
    rw [(at8 t).1] at e0
    rw [(at8 t).2] at e1
    have e : ((cfg0.win 8).blk t).view.emb (ValueIdx.ix2 ⟨(i 0).val, h0⟩ ⟨(i 1).val, h1⟩) = i := funext fun a => Fin.ext (match a with
      | ⟨0, _⟩ => e0.trans (show 0 * 1 + 1 * (i 0).val = (i 0).val by omega)
      | ⟨1, _⟩ => e1.trans (show 0 * 1024 + 1 * (i 1).val = (i 1).val by omega))
    exact Finset.mem_map.mpr ⟨_, Finset.mem_univ _, e⟩

end Cert.Proof.Inproj

end
-- ==== Proof.Step.lean ====
/- One element's step of the optimiser: the two moments and the change of the weight. -/
module

public import proofs.«01_k».proof.Proof.Products

@[expose] public section

noncomputable section

namespace Cert.Proof.Step

open Idealize.ShloMosaic

/-- The new first moment, 0.9 of the old one and 0.1 of the gradient. -/
def first (g m : Ideal .f32) : Ideal .f32 :=
  FloatOps.addf (FloatOps.mulf (FloatOps.ofBits .f32 0x3F666666#32) m) (FloatOps.mulf (FloatOps.ofBits .f32 0x3DCCCCCD#32) g)

/-- The new second moment, 0.999 of the old one and 0.001 of the gradient's square. -/
def second (g v : Ideal .f32) : Ideal .f32 :=
  FloatOps.addf (FloatOps.mulf (FloatOps.ofBits .f32 0x3F7FBE77#32) v) (FloatOps.mulf (FloatOps.ofBits .f32 0x3A83126F#32) (FloatOps.mulf g g))

/-- The change of the weight `w`, from the new moments `a` and `b`. -/
def change (w a b : Ideal .f32) : Ideal .f32 :=
  FloatOps.mulf (FloatOps.ofBits .f32 0xBA83126F#32)
    (FloatOps.addf
      (FloatOps.divf (FloatOps.divf a (FloatOps.ofBits .f32 0x3F26BD02#32))
        (FloatOps.addf (FloatOps.sqrt (FloatOps.divf b (FloatOps.ofBits .f32 0x3C231ACC#32))) (FloatOps.ofBits .f32 0x322BCC77#32)))
      (FloatOps.mulf (FloatOps.ofBits .f32 0x3C23D70A#32) w))

end Cert.Proof.Step

end
-- ==== Proof.Adam.lean ====
/- The optimiser's step of the packed weights, 224 rows at a time: the four chips' parts of the gradient are added and each element takes its step. -/
module

public import proofs.«01_k».proof.Proof.RealVec
public import proofs.«01_k».proof.Proof.Step
public import proofs.«01_k».proof.Proof.Gen.Kernel6Ideal.Value
public import proofs.«01_k».proof.Proof.Gen.Reference6Ideal.Read

@[expose] public section

noncomputable section

namespace Cert.Proof.Adam

open Idealize.ShloMosaic Idealize.ShloMosaic.TcCoe Idealize.SL Idealize.SL.Sem Cert.Kernel6Ideal Cert.Kernel6Ideal.Gen Cert.Kernel6Ideal.Value Cert.Proof.Step
open scoped BigOperators

theorem origin : (![0, 0] : Fin 2 → Nat) = fun _ => 0 := by decide

theorem zero_word : FloatOps.ofBits (F := Ideal) .f32 0x00000000#32 = (0 : EReal) := bits_zero.trans EReal.coe_zero

/-- An element of a block as one of a single part. -/
def lift (x : S224x1024.Idx) : S1x224x1024.Idx := fun a => match a with
  | ⟨0, _⟩ => ⟨0, Nat.zero_lt_one⟩
  | ⟨1, _⟩ => ⟨(x 0).val, (x 0).isLt⟩
  | ⟨2, _⟩ => ⟨(x 1).val, (x 1).isLt⟩

theorem flat (p : Vec Ideal S1x224x1024 .bf16) (x : S224x1024.Idx) : shapeCast S224x1024 p shapeCasts_S1x224x1024_S224x1024 x = p (lift x) := by
  refine shapeCast_apply _ shapeCasts_S1x224x1024_S224x1024 x (lift x) ?_
  rw [Shape.rowMajor_val_three, Shape.rowMajor_val_two]
  show (0 * 224 + (x 0).val) * 1024 + (x 1).val = (x 0).val * 1024 + (x 1).val
  omega

theorem pay2_at (p q r s : Vec Ideal S1x224x1024 .bf16) (x : S224x1024.Idx) :
    (k0_pay2 p q r s x : EReal) = (p (lift x) : EReal) + (q (lift x) : EReal) + (r (lift x) : EReal) + (s (lift x) : EReal) := by
  refine Eq.trans (b := ((shapeCast S224x1024 p shapeCasts_S1x224x1024_S224x1024 x : EReal) + (shapeCast S224x1024 q shapeCasts_S1x224x1024_S224x1024 x : EReal)
    + (shapeCast S224x1024 r shapeCasts_S1x224x1024_S224x1024 x : EReal) + (shapeCast S224x1024 s shapeCasts_S1x224x1024_S224x1024 x : EReal))) rfl ?_
  rw [flat, flat, flat, flat]

theorem pay3_at (p q r s : Vec Ideal S1x224x1024 .bf16) (u : Vec Ideal S224x1024 .f32) (x : S224x1024.Idx) :
    k0_pay3 p q r s u x = first (k0_pay2 p q r s x) (u x) := rfl

theorem pay4_at (p q r s : Vec Ideal S1x224x1024 .bf16) (u : Vec Ideal S224x1024 .f32) (x : S224x1024.Idx) :
    k0_pay4 p q r s u x = second (k0_pay2 p q r s x) (u x) := rfl

theorem pay1_at (p q r s : Vec Ideal S1x224x1024 .bf16) (w u v : Vec Ideal S224x1024 .f32) (x : S224x1024.Idx) :
    k0_pay1 w (k0_pay4 p q r s v) (k0_pay5 p q r s u) (Scalar.ofBits .f32 0x3C231ACC#32) x =
      change (w x) (first (k0_pay2 p q r s x) (u x)) (second (k0_pay2 p q r s x) (v x)) := rfl

variable (m : (ℓ : Loc nD τ sig) → Buf (Elt Ideal) ℓ) (c : Dev nD)

abbrev parts : FVec Ideal S4x896x1024 .bf16 := m ((c.tc : Thread nD τ).loc main_arg0)
abbrev weights : FVec Ideal S896x1024 .f32 := m ((c.tc : Thread nD τ).loc main_arg1)
abbrev firsts : FVec Ideal S896x1024 .f32 := m ((c.tc : Thread nD τ).loc main_arg2)
abbrev seconds : FVec Ideal S896x1024 .f32 := m ((c.tc : Thread nD τ).loc main_arg3)

theorem V_parts : (V m c main_arg0 : FVec Ideal S4x896x1024 .bf16) = parts m c := rfl
theorem V_weights : (V m c main_arg1 : FVec Ideal S896x1024 .f32) = weights m c := rfl
theorem V_firsts : (V m c main_arg2 : FVec Ideal S896x1024 .f32) = firsts m c := rfl
theorem V_seconds : (V m c main_arg3 : FVec Ideal S896x1024 .f32) = seconds m c := rfl

/-- Where a point's blocks lie: the parts' block, … -/
theorem at0 : ∀ t : Fin cfg0.N, win0_0.index t (0 : Fin 3) = 0 ∧ win0_0.index t (1 : Fin 3) = t.val ∧ win0_0.index t (2 : Fin 3) = 0 :=
  (by decide +kernel : ∀ t : Fin grid0.N, win0_0.index t (0 : Fin 3) = 0 ∧ win0_0.index t (1 : Fin 3) = t.val ∧ win0_0.index t (2 : Fin 3) = 0)
theorem at1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
theorem at2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)
theorem at3 : ∀ t : Fin cfg0.N, win0_3.index t (0 : Fin 2) = t.val ∧ win0_3.index t (1 : Fin 2) = 0 :=
  (by decide +kernel : ∀ t : Fin grid0.N, win0_3.index t (0 : Fin 2) = t.val ∧ win0_3.index t (1 : Fin 2) = 0)
theorem at4 : ∀ t : Fin cfg0.N, win0_4.index t (0 : Fin 2) = t.val ∧ win0_4.index t (1 : Fin 2) = 0 :=
  (by decide +kernel : ∀ t : Fin grid0.N, win0_4.index t (0 : Fin 2) = t.val ∧ win0_4.index t (1 : Fin 2) = 0)
theorem at5 : ∀ t : Fin cfg0.N, win0_5.index t (0 : Fin 2) = t.val ∧ win0_5.index t (1 : Fin 2) = 0 :=
  (by decide +kernel : ∀ t : Fin grid0.N, win0_5.index t (0 : Fin 2) = t.val ∧ win0_5.index t (1 : Fin 2) = 0)
theorem at6 : ∀ t : Fin cfg0.N, win0_6.index t (0 : Fin 2) = t.val ∧ win0_6.index t (1 : Fin 2) = 0 :=
  (by decide +kernel : ∀ t : Fin grid0.N, win0_6.index t (0 : Fin 2) = t.val ∧ win0_6.index t (1 : Fin 2) = 0)
theorem at7 : ∀ t : Fin cfg0.N, win0_7.index t (0 : Fin 2) = t.val ∧ win0_7.index t (1 : Fin 2) = 0 :=
  (by decide +kernel : ∀ t : Fin grid0.N, win0_7.index t (0 : Fin 2) = t.val ∧ win0_7.index t (1 : Fin 2) = 0)

/-- The array's element under a block's element. -/
def under (t : Fin cfg0.N) (x : S224x1024.Idx) : S896x1024.Idx := fun a => match a with
  | ⟨0, _⟩ => ⟨224 * t.val + (x 0).val, by have := lt_of_lt_of_eq t.isLt N_0; have h : (x 0).val < 224 := (x 0).isLt; show 224 * t.val + (x 0).val < 896; omega⟩
  | ⟨1, _⟩ => ⟨(x 1).val, (x 1).isLt⟩

theorem load_weights (t : Fin cfg0.N) (x : S224x1024.Idx) : (iblk m c 1 t : FVec Ideal S224x1024 .f32) x = weights m c (under t x) := by
  have e0 : (((cfg0.win 1).blk t).view.emb x 0).val = win0_1.index t (0 : Fin 2) * 224 + 1 * (x 0).val := rfl
  have e1 : (((cfg0.win 1).blk t).view.emb x 1).val = win0_1.index t (1 : Fin 2) * 1024 + 1 * (x 1).val := rfl
  rw [(at1 t).1] at e0
  rw [(at1 t).2] at e1
  exact (congrFun (V_weights m c) _).trans (congrArg (weights m c) (funext fun a => Fin.ext (match a with
    | ⟨0, _⟩ => e0.trans (show t.val * 224 + 1 * (x 0).val = 224 * t.val + (x 0).val by omega)
    | ⟨1, _⟩ => e1.trans (show 0 * 1024 + 1 * (x 1).val = (x 1).val by omega))))

theorem load_firsts (t : Fin cfg0.N) (x : S224x1024.Idx) : (iblk m c 2 t : FVec Ideal S224x1024 .f32) x = firsts m c (under t x) := by
  have e0 : (((cfg0.win 2).blk t).view.emb x 0).val = win0_2.index t (0 : Fin 2) * 224 + 1 * (x 0).val := rfl
  have e1 : (((cfg0.win 2).blk t).view.emb x 1).val = win0_2.index t (1 : Fin 2) * 1024 + 1 * (x 1).val := rfl
  rw [(at2 t).1] at e0
  rw [(at2 t).2] at e1
  exact (congrFun (V_firsts m c) _).trans (congrArg (firsts m c) (funext fun a => Fin.ext (match a with
    | ⟨0, _⟩ => e0.trans (show t.val * 224 + 1 * (x 0).val = 224 * t.val + (x 0).val by omega)
    | ⟨1, _⟩ => e1.trans (show 0 * 1024 + 1 * (x 1).val = (x 1).val by omega))))

theorem load_seconds (t : Fin cfg0.N) (x : S224x1024.Idx) : (iblk m c 3 t : FVec Ideal S224x1024 .f32) x = seconds m c (under t x) := by
  have e0 : (((cfg0.win 3).blk t).view.emb x 0).val = win0_3.index t (0 : Fin 2) * 224 + 1 * (x 0).val := rfl
  have e1 : (((cfg0.win 3).blk t).view.emb x 1).val = win0_3.index t (1 : Fin 2) * 1024 + 1 * (x 1).val := rfl
  rw [(at3 t).1] at e0
  rw [(at3 t).2] at e1
  exact (congrFun (V_seconds m c) _).trans (congrArg (seconds m c) (funext fun a => Fin.ext (match a with
    | ⟨0, _⟩ => e0.trans (show t.val * 224 + 1 * (x 0).val = 224 * t.val + (x 0).val by omega)
    | ⟨1, _⟩ => e1.trans (show 0 * 1024 + 1 * (x 1).val = (x 1).val by omega))))

/-- An element of one chip's part. -/
theorem load_part (t : Fin cfg0.N) (y : S4x224x1024.Idx) (x : S224x1024.Idx) (k : Fin 4) (h0 : (y 0).val = k.val) (h1 : (y 1).val = (x 0).val) (h2 : (y 2).val = (x 1).val) :
    (iblk m c 0 t : FVec Ideal S4x224x1024 .bf16) y = parts m c (Cert.Reference6Ideal.Read.idx_main_v1 (under t x) k) := by
  have e0 : (((cfg0.win 0).blk t).view.emb y 0).val = win0_0.index t (0 : Fin 3) * 4 + 1 * (y 0).val := rfl
  have e1 : (((cfg0.win 0).blk t).view.emb y 1).val = win0_0.index t (1 : Fin 3) * 224 + 1 * (y 1).val := rfl
  have e2 : (((cfg0.win 0).blk t).view.emb y 2).val = win0_0.index t (2 : Fin 3) * 1024 + 1 * (y 2).val := rfl
  rw [(at0 t).1] at e0
  rw [(at0 t).2.1] at e1
  rw [(at0 t).2.2] at e2
  exact (congrFun (V_parts m c) _).trans (congrArg (parts m c) (funext fun a => Fin.ext (match a with
    | ⟨0, _⟩ => e0.trans (show 0 * 4 + 1 * (y 0).val = k.val by omega)
    | ⟨1, _⟩ => e1.trans (show t.val * 224 + 1 * (y 1).val = 224 * t.val + (x 0).val by omega)
    | ⟨2, _⟩ => e2.trans (show 0 * 1024 + 1 * (y 2).val = (x 1).val by omega))))

/-- The reference's gradient: the sum of the parts. -/
abbrev gradient : FVec Ideal S896x1024 .f32 := Cert.Reference6Ideal.Read.val_main_v1 (F := Ideal) (parts m c)

/-- The kernel's, a point's block of it. -/
abbrev total (t : Fin cfg0.N) : FVec Ideal S224x1024 .f32 :=
  k0_pay2 (View.ld (iblk m c 0 t) r0_0) (View.ld (iblk m c 0 t) r0_1) (View.ld (iblk m c 0 t) r0_2) (View.ld (iblk m c 0 t) r0_3)

theorem total_at (t : Fin cfg0.N) (x : S224x1024.Idx) : total m c t x = gradient m c (under t x) := by
  refine (pay2_at _ _ _ _ x).trans (Eq.symm ?_)
  refine (Cert.Reference6Ideal.Read.val_main_v1_apply (parts m c) (under t x)).trans ?_
  refine ((congrArg (fun a : EReal => a + _) zero_word).trans (zero_add _)).trans ((Fin.sum_univ_four _).trans ?_)
  exact (congrArg₂ (fun a b : EReal => a + b) (congrArg₂ (fun a b : EReal => a + b) (congrArg₂ (fun a b : EReal => a + b)
    (load_part m c t (r0_0.idx (lift x)) x 0 rfl (show 0 + 1 * (x 0).val = (x 0).val by omega) (show 0 + 1 * (x 1).val = (x 1).val by omega))
    (load_part m c t (r0_1.idx (lift x)) x 1 rfl (show 0 + 1 * (x 0).val = (x 0).val by omega) (show 0 + 1 * (x 1).val = (x 1).val by omega)))
    (load_part m c t (r0_2.idx (lift x)) x 2 rfl (show 0 + 1 * (x 0).val = (x 0).val by omega) (show 0 + 1 * (x 1).val = (x 1).val by omega)))
    (load_part m c t (r0_3.idx (lift x)) x 3 rfl (show 0 + 1 * (x 0).val = (x 0).val by omega) (show 0 + 1 * (x 1).val = (x 1).val by omega))).symm

theorem ref_first (p : FVec Ideal S4x896x1024 .bf16) (u : FVec Ideal S896x1024 .f32) (i : S896x1024.Idx) :
    Cert.Reference6Ideal.Read.val_main_v6 (F := Ideal) p u i = first (Cert.Reference6Ideal.Read.val_main_v1 (F := Ideal) p i) (u i) := rfl

theorem ref_second (p : FVec Ideal S4x896x1024 .bf16) (u : FVec Ideal S896x1024 .f32) (i : S896x1024.Idx) :
    Cert.Reference6Ideal.Read.val_main_v12 (F := Ideal) p u i = second (Cert.Reference6Ideal.Read.val_main_v1 (F := Ideal) p i) (u i) := rfl

theorem ref_change (p : FVec Ideal S4x896x1024 .bf16) (w u v : FVec Ideal S896x1024 .f32) (i : S896x1024.Idx) :
    Cert.Reference6Ideal.Read.val_main_v25 (F := Ideal) p w u v i =
      change (w i) (first (Cert.Reference6Ideal.Read.val_main_v1 (F := Ideal) p i) (u i)) (second (Cert.Reference6Ideal.Read.val_main_v1 (F := Ideal) p i) (v i)) := rfl

/-- What a point leaves in its four blocks. -/
theorem out4_at (t : Fin cfg0.N) (x : S224x1024.Idx) : (out0_4 (iblk m c 0 t) (iblk m c 1 t) (iblk m c 2 t) (iblk m c 3 t) : FVec Ideal S224x1024 .f32) x = gradient m c (under t x) := by
  unfold out0_4
  rw [View.canon_unit_zero origin]
  exact total_at m c t x

theorem out6_at (t : Fin cfg0.N) (x : S224x1024.Idx) : (out0_6 (iblk m c 0 t) (iblk m c 1 t) (iblk m c 2 t) (iblk m c 3 t) : FVec Ideal S224x1024 .f32) x =
    first (gradient m c (under t x)) (firsts m c (under t x)) := by
  unfold out0_6
  rw [View.canon_unit_zero origin, View.ld_unit_zero (S := S224x1024) origin]
  exact (pay3_at _ _ _ _ _ x).trans (congrArg₂ first (total_at m c t x) (load_firsts m c t x))

theorem out7_at (t : Fin cfg0.N) (x : S224x1024.Idx) : (out0_7 (iblk m c 0 t) (iblk m c 1 t) (iblk m c 2 t) (iblk m c 3 t) : FVec Ideal S224x1024 .f32) x =
    second (gradient m c (under t x)) (seconds m c (under t x)) := by
  unfold out0_7 k0_pay6
  rw [View.canon_unit_zero origin, View.ld_unit_zero (S := S224x1024) origin]
  exact (pay4_at _ _ _ _ _ x).trans (congrArg₂ second (total_at m c t x) (load_seconds m c t x))

theorem same {w w' g g' u u' v v' : Ideal .f32} (hw : w = w') (hg : g = g') (hu : u = u') (hv : v = v') :
    change w (first g u) (second g v) = change w' (first g' u') (second g' v') := by
  subst hw hg hu hv
  rfl

theorem out5_at (t : Fin cfg0.N) (x : S224x1024.Idx) : (out0_5 (iblk m c 0 t) (iblk m c 1 t) (iblk m c 2 t) (iblk m c 3 t) : FVec Ideal S224x1024 .f32) x =
    change (weights m c (under t x)) (first (gradient m c (under t x)) (firsts m c (under t x))) (second (gradient m c (under t x)) (seconds m c (under t x))) := by
  unfold out0_5 k0_pay6
  rw [View.canon_unit_zero origin, View.ld_unit_zero (S := S224x1024) origin, View.ld_unit_zero (S := S224x1024) origin, View.ld_unit_zero (S := S224x1024) origin]
  refine (pay1_at _ _ _ _ _ _ _ x).trans ?_
  exact same (load_weights m c t x) (total_at m c t x) (load_firsts m c t x) (load_seconds m c t x)

/-- The point whose blocks hold an element. -/
def point (i : S896x1024.Idx) : Fin cfg0.N := ⟨(i 0).val / 224, lt_of_lt_of_eq (by have h : (i 0).val < 896 := (i 0).isLt; omega) N_0.symm⟩

/-- … and the element's place in them. -/
def place (i : S896x1024.Idx) : S224x1024.Idx := fun a => match a with
  | ⟨0, _⟩ => ⟨(i 0).val % 224, Nat.mod_lt _ (Nat.zero_lt_succ 223)⟩
  | ⟨1, _⟩ => ⟨(i 1).val, (i 1).isLt⟩

theorem under_place (i : S896x1024.Idx) : under (point i) (place i) = i := funext fun a => Fin.ext (match a with
  | ⟨0, _⟩ => show 224 * ((i 0).val / 224) + (i 0).val % 224 = (i 0).val by omega
  | ⟨1, _⟩ => rfl)

theorem emb4 (t : Fin cfg0.N) (x : S224x1024.Idx) : ((cfg0.win 4).blk t).view.emb x = under t x := by
  have e0 : (((cfg0.win 4).blk t).view.emb x 0).val = win0_4.index t (0 : Fin 2) * 224 + 1 * (x 0).val := rfl
  have e1 : (((cfg0.win 4).blk t).view.emb x 1).val = win0_4.index t (1 : Fin 2) * 1024 + 1 * (x 1).val := rfl
  rw [(at4 t).1] at e0
  rw [(at4 t).2] at e1
  exact funext fun a => Fin.ext (match a with
    | ⟨0, _⟩ => e0.trans (show t.val * 224 + 1 * (x 0).val = 224 * t.val + (x 0).val by omega)
    | ⟨1, _⟩ => e1.trans (show 0 * 1024 + 1 * (x 1).val = (x 1).val by omega))

/-- The kernel's array of the gradient is the reference's. -/
theorem result4 : (dats m 0 c).arrAt 4 cfg0.N = (gradient m c) := by
  refine (dats m 0 c).arrAt_eq_of_cover 4 (gradient m c) (fun t hf => ?_) (fun i => ?_)
  · rw [flushed4]
    funext x
    exact (out4_at m c t x).trans (congrArg (gradient m c) (emb4 t x)).symm
  · exact ⟨point i, flush0_4 _, Finset.mem_map.mpr ⟨place i, Finset.mem_univ _, (emb4 _ _).trans (under_place i)⟩⟩

theorem emb5 (t : Fin cfg0.N) (x : S224x1024.Idx) : ((cfg0.win 5).blk t).view.emb x = under t x := by
  have e0 : (((cfg0.win 5).blk t).view.emb x 0).val = win0_5.index t (0 : Fin 2) * 224 + 1 * (x 0).val := rfl
  have e1 : (((cfg0.win 5).blk t).view.emb x 1).val = win0_5.index t (1 : Fin 2) * 1024 + 1 * (x 1).val := rfl
  rw [(at5 t).1] at e0
  rw [(at5 t).2] at e1
  exact funext fun a => Fin.ext (match a with
    | ⟨0, _⟩ => e0.trans (show t.val * 224 + 1 * (x 0).val = 224 * t.val + (x 0).val by omega)
    | ⟨1, _⟩ => e1.trans (show 0 * 1024 + 1 * (x 1).val = (x 1).val by omega))

/-- The kernel's array of the weights' change is the reference's. -/
theorem result5 : (dats m 0 c).arrAt 5 cfg0.N = (Cert.Reference6Ideal.Read.val_main_v25 (F := Ideal) (parts m c) (weights m c) (firsts m c) (seconds m c)) := by
  refine (dats m 0 c).arrAt_eq_of_cover 5 (Cert.Reference6Ideal.Read.val_main_v25 (F := Ideal) (parts m c) (weights m c) (firsts m c) (seconds m c)) (fun t hf => ?_) (fun i => ?_)
  · rw [flushed5]
    funext x
    exact (out5_at m c t x).trans (congrArg (Cert.Reference6Ideal.Read.val_main_v25 (F := Ideal) (parts m c) (weights m c) (firsts m c) (seconds m c)) (emb5 t x)).symm
  · exact ⟨point i, flush0_5 _, Finset.mem_map.mpr ⟨place i, Finset.mem_univ _, (emb5 _ _).trans (under_place i)⟩⟩

theorem emb6 (t : Fin cfg0.N) (x : S224x1024.Idx) : ((cfg0.win 6).blk t).view.emb x = under t x := by
  have e0 : (((cfg0.win 6).blk t).view.emb x 0).val = win0_6.index t (0 : Fin 2) * 224 + 1 * (x 0).val := rfl
  have e1 : (((cfg0.win 6).blk t).view.emb x 1).val = win0_6.index t (1 : Fin 2) * 1024 + 1 * (x 1).val := rfl
  rw [(at6 t).1] at e0
  rw [(at6 t).2] at e1
  exact funext fun a => Fin.ext (match a with
    | ⟨0, _⟩ => e0.trans (show t.val * 224 + 1 * (x 0).val = 224 * t.val + (x 0).val by omega)
    | ⟨1, _⟩ => e1.trans (show 0 * 1024 + 1 * (x 1).val = (x 1).val by omega))

/-- The kernel's array of the first moment is the reference's. -/
theorem result6 : (dats m 0 c).arrAt 6 cfg0.N = (Cert.Reference6Ideal.Read.val_main_v6 (F := Ideal) (parts m c) (firsts m c)) := by
  refine (dats m 0 c).arrAt_eq_of_cover 6 (Cert.Reference6Ideal.Read.val_main_v6 (F := Ideal) (parts m c) (firsts m c)) (fun t hf => ?_) (fun i => ?_)
  · rw [flushed6]
    funext x
    exact (out6_at m c t x).trans (congrArg (Cert.Reference6Ideal.Read.val_main_v6 (F := Ideal) (parts m c) (firsts m c)) (emb6 t x)).symm
  · exact ⟨point i, flush0_6 _, Finset.mem_map.mpr ⟨place i, Finset.mem_univ _, (emb6 _ _).trans (under_place i)⟩⟩

theorem emb7 (t : Fin cfg0.N) (x : S224x1024.Idx) : ((cfg0.win 7).blk t).view.emb x = under t x := by
  have e0 : (((cfg0.win 7).blk t).view.emb x 0).val = win0_7.index t (0 : Fin 2) * 224 + 1 * (x 0).val := rfl
  have e1 : (((cfg0.win 7).blk t).view.emb x 1).val = win0_7.index t (1 : Fin 2) * 1024 + 1 * (x 1).val := rfl
  rw [(at7 t).1] at e0
  rw [(at7 t).2] at e1
  exact funext fun a => Fin.ext (match a with
    | ⟨0, _⟩ => e0.trans (show t.val * 224 + 1 * (x 0).val = 224 * t.val + (x 0).val by omega)
    | ⟨1, _⟩ => e1.trans (show 0 * 1024 + 1 * (x 1).val = (x 1).val by omega))

/-- The kernel's array of the second moment is the reference's. -/
theorem result7 : (dats m 0 c).arrAt 7 cfg0.N = (Cert.Reference6Ideal.Read.val_main_v12 (F := Ideal) (parts m c) (seconds m c)) := by
  refine (dats m 0 c).arrAt_eq_of_cover 7 (Cert.Reference6Ideal.Read.val_main_v12 (F := Ideal) (parts m c) (seconds m c)) (fun t hf => ?_) (fun i => ?_)
  · rw [flushed7]
    funext x
    exact (out7_at m c t x).trans (congrArg (Cert.Reference6Ideal.Read.val_main_v12 (F := Ideal) (parts m c) (seconds m c)) (emb7 t x)).symm
  · exact ⟨point i, flush0_7 _, Finset.mem_map.mpr ⟨place i, Finset.mem_univ _, (emb7 _ _).trans (under_place i)⟩⟩

end Cert.Proof.Adam

end
-- ==== Proof.GateCols.lean ====
/- The gradient of the input projection's weights for the gates, the last eight columns of the projection: the kernel goes down the rows 1024 at
   a time and adds each block's product to a sum it carries, of which it writes the first eight rows below the 4608 rows that are there; the
   reference contracts all 4096 rows at once. -/
module

public import proofs.«01_k».proof.Proof.Products
public import proofs.«01_k».proof.Proof.RealVec
public import proofs.«01_k».proof.Proof.Gen.Kernel7Ideal.Value
public import proofs.«01_k».proof.Proof.Gen.Reference7Ideal.Read
public import Idealize.ShloMosaic.Lib.KernelVsHost

@[expose] public section

noncomputable section

namespace Cert.Proof.GateCols

open Idealize.ShloMosaic Idealize.ShloMosaic.TcCoe Idealize.SL Idealize.SL.Sem Cert.Kernel7Ideal Cert.Kernel7Ideal.Gen Cert.Kernel7Ideal.Value
open scoped BigOperators

section
variable (c : Dev nD) (i : grid0.Coords) (a1 : Memref sig .tc .vmem S1024x128 .bf16) (h1 : a1.IsWhole) (a2 : Memref sig .tc .vmem S1024x1024 .bf16)
  (h2 : a2.IsWhole) (a4 : Memref sig .tc .vmem S8x1024 .f32) (h4 : a4.IsWhole) (a5 : Memref sig .tc .vmem S128x1024 .f32) (h5 : a5.IsWhole)
  (x : Vec Ideal S1024x128 .bf16) (y : Vec Ideal S1024x1024 .bf16) (s : Vec Ideal S128x1024 .f32)

/-- The origin of a whole block. -/
theorem origin : (![0, 0] : Fin 2 → Nat) = fun _ => 0 := by decide

/-- The word of a zero. -/
theorem zero_word : FloatOps.ofBits (F := Ideal) .f32 0x00000000#32 = (0 : EReal) := bits_zero.trans EReal.coe_zero

/-- The first point leaves its product. -/
theorem sum_first (g0 : cond0_0 i) (g1 : ¬ cond0_1 i) (g2 : ¬ cond0_2 i) : sout0_A_0 c i a1 h1 a2 h2 a4 h4 a5 h5 g0 g1 g2 x y = k0_pay1 x y := by
  unfold sout0_A_0
  rw [View.read_writes_eq_canon _ _ _ (scover0_A_0 c i a1 h1 a2 h2 a4 h4 a5 h5 g0 g1 g2 x y)]
  unfold kernelRun0_A
  dsimp only
  rw [View.canon_unit_zero origin]
  simp only [k0_pay2, shapeCast_self, View.readAt_eq_ld, h1.read_unread, h2.read_unread, View.ld_unit_zero (S := S1024x1024) origin, View.ld_unit_zero (S := S1024x128) origin]

/-- A later point adds its product to what was there. -/
theorem sum_B (g0 : ¬ cond0_0 i) (g1 : cond0_1 i) (g2 : ¬ cond0_2 i) : sout0_B_0 c i a1 h1 a2 h2 a4 h4 a5 h5 g0 g1 g2 x y s = k0_pay3 x y s := by
  unfold sout0_B_0
  rw [View.read_writes_eq_canon _ _ _ (scover0_B_0 c i a1 h1 a2 h2 a4 h4 a5 h5 g0 g1 g2 x y s)]
  unfold kernelRun0_B
  dsimp only
  rw [View.canon_unit_zero origin]
  simp only [View.readAt_eq_ld, h1.read_unread, h2.read_unread, h5.read_unread, View.ld_unit_zero (S := S1024x1024) origin, View.ld_unit_zero (S := S1024x128) origin, View.ld_unit_zero (S := S128x1024) origin]

/-- The last point writes the first eight rows of the sum. -/
theorem rows_last (g0 : ¬ cond0_0 i) (g1 : cond0_1 i) (g2 : cond0_2 i) (j : S8x1024.Idx) (k : S128x1024.Idx) (e0 : (k 0).val = (j 0).val)
    (e1 : (k 1).val = (j 1).val) : out0_C_2 c i a1 h1 a2 h2 a4 h4 a5 h5 g0 g1 g2 x y s j = k0_pay3 x y s k := by
  unfold out0_C_2
  rw [View.read_writes_eq_canon _ _ _ (cover0_C_2 c i a1 h1 a2 h2 a4 h4 a5 h5 g0 g1 g2 x y s)]
  unfold kernelRun0_C
  dsimp only
  rw [View.canon_unit_zero origin]
  unfold kernelRun0_C.sl.v14
  simp only [kernelRun0_C.sl.HS0_1, View.readCov_eq_canon', View.canon_unit_zero (S := S128x1024) origin, View.readAt_eq_ld, h1.read_unread, h2.read_unread, h5.read_unread, View.ld_unit_zero (S := S1024x1024) origin, View.ld_unit_zero (S := S1024x128) origin, View.ld_unit_zero (S := S128x1024) origin]
  refine congrArg (k0_pay3 x y s) (funext fun a => Fin.ext ?_)
  match a with
  | ⟨0, _⟩ => exact (show 0 + 1 * (j 0).val = (k 0).val by omega)
  | ⟨1, _⟩ => exact (show 0 + 1 * (j 1).val = (k 1).val by omega)

theorem pay1_apply (j : S128x1024.Idx) :
    (k0_pay1 x y : FVec Ideal S128x1024 .f32) j = ∑ k : Fin 1024, cell (x : FVec Ideal S1024x128 .bf16) k.val (j 0).val * cell (y : FVec Ideal S1024x1024 .bf16) k.val (j 1).val := by
  unfold k0_pay1
  simp only [shapeCast_self]
  refine (Ideal.matmul_apply₁ _ rfl rfl _ _ _ j).trans ?_
  refine (congrArg₂ (· + ·) zero_word (Finset.sum_congr rfl fun k _ => congrArg₂ (· * ·) (cell_of _ _ rfl rfl) (cell_of _ _ rfl rfl))).trans (zero_add _)

theorem pay3_apply (j : S128x1024.Idx) :
    (k0_pay3 x y s : FVec Ideal S128x1024 .f32) j = (s : FVec Ideal S128x1024 .f32) j + (k0_pay1 x y : FVec Ideal S128x1024 .f32) j := by
  unfold k0_pay3
  simp only [shapeCast_self]
  rfl

end

section
variable (m : (ℓ : Loc nD τ sig) → Buf (Elt Ideal) ℓ) (c : Dev nD)

/-- The gate columns' derivative, the activations, the norm's weights, and the rows already there. -/
abbrev left : FVec Ideal ⟨2, ![4096, 8]⟩ .f32 := m ((c : Thread nD τ).loc main_arg3)
abbrev acts : FVec Ideal ⟨2, ![4096, 1024]⟩ .f32 := m ((c : Thread nD τ).loc main_arg0)
abbrev norms : FVec Ideal ⟨2, ![1, 1024]⟩ .f32 := m ((c : Thread nD τ).loc main_arg1)
abbrev above : FVec Ideal ⟨2, ![4616, 1024]⟩ .f32 := m ((c : Thread nD τ).loc main_arg4)

/-- The normalised activations, as the reference computes them. -/
abbrev right : FVec Ideal ⟨2, ![4096, 1024]⟩ .f32 := Cert.Reference7Ideal.Read.val_main_v12 (F := Ideal) (acts m c) (norms m c)

theorem V_left : (V m c main_v14 : FVec Ideal S4096x128 .bf16) = truncf (F := Ideal) .bf16 (pad S4096x128 ![0, 0] ![0, 120] ![0, 0]
    (left m c) (sitofp (F := Ideal) .f32 (constantI S_ 32 0#32)) pads_S4096x8_S4096x128_000_01200 h_S_) bitsLt_bf16_f32 := by
  simp only [V, hostOps0, hostOps0_1, hostOps0_2, List.flatten_cons, List.flatten_nil, List.append_nil, List.cons_append, List.nil_append]
  after_results_simp <;> rfl

theorem V_right : (V m c main_v12 : FVec Ideal ⟨2, ![4096, 1024]⟩ .bf16) = right m c := by
  simp only [V, hostOps0, hostOps0_1, hostOps0_2, List.flatten_cons, List.flatten_nil, List.append_nil, List.cons_append, List.nil_append]
  after_results_simp <;> rfl

theorem V_above : (V m c main_v15 : FVec Ideal ⟨2, ![4616, 1024]⟩ .f32) = above m c := by
  simp only [V, hostOps0, hostOps0_1, hostOps0_2, List.flatten_cons, List.flatten_nil, List.append_nil, List.cons_append, List.nil_append]
  after_results_simp <;> rfl

theorem left_at (i : S4096x128.Idx) (h : (i 1).val < 8) : (V m c main_v14 : FVec Ideal S4096x128 .bf16) i = cell (left m c) (i 0).val (i 1).val := by
  rw [V_left]
  have h0 : (i 0).val < 4096 := (i 0).isLt
  exact (pad_apply_of_inside _ _ _ _ _ pads_S4096x8_S4096x128_000_01200 h_S_ i (ValueIdx.ix2 ⟨(i 0).val, h0⟩ ⟨(i 1).val, h⟩ : S4096x8.Idx)
    (fun a => match a with
      | ⟨0, _⟩ => (show (i 0).val = 0 + (i 0).val * (0 + 1) by omega)
      | ⟨1, _⟩ => (show (i 1).val = 0 + (i 1).val * (0 + 1) by omega))).trans (cell_of (left m c) _ rfl rfl)

theorem at0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem at1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
theorem at2 : ∀ t : Fin cfg0.N, win0_2.index t (0 : Fin 2) = 576 ∧ win0_2.index t (1 : Fin 2) = 0 :=
  (by decide +kernel : ∀ t : Fin grid0.N, win0_2.index t (0 : Fin 2) = 576 ∧ win0_2.index t (1 : Fin 2) = 0)

/-- Point `t` holds rows `1024 t` to `1024 t + 1023` of the left array; its first eight columns are the gates'. -/
theorem load_left (t : Fin cfg0.N) (r l : ℕ) (hr : r < 1024) (hl : l < 8) :
    cell (n := 1024) (m := 128) (iblk m c 0 t : FVec Ideal S1024x128 .bf16) r l = cell (left m c) (1024 * t.val + r) l := by
  have hl' : l < 128 := by omega
  unfold cell
  rw [dif_pos ⟨hr, hl'⟩]
  have e0 : (((cfg0.win 0).blk t).view.emb (ValueIdx.ix2 ⟨r, hr⟩ ⟨l, hl'⟩) 0).val = win0_0.index t (0 : Fin 2) * 1024 + 1 * r := rfl
  have e1 : (((cfg0.win 0).blk t).view.emb (ValueIdx.ix2 ⟨r, hr⟩ ⟨l, hl'⟩) 1).val = win0_0.index t (1 : Fin 2) * 128 + 1 * l := rfl
  rw [(at0 t).1] at e0
  rw [(at0 t).2] at e1
  refine (left_at m c _ (by rw [e1]; omega)).trans ?_
  rw [e0, e1, show t.val * 1024 + 1 * r = 1024 * t.val + r by omega, show 0 * 128 + 1 * l = l by omega]
  rfl

/-- … and the same rows of the right array. -/
theorem load_right (t : Fin cfg0.N) (r l : ℕ) (hr : r < 1024) (hl : l < 1024) :
    cell (n := 1024) (m := 1024) (iblk m c 1 t : FVec Ideal S1024x1024 .bf16) r l = cell (right m c) (1024 * t.val + r) l := by
  unfold cell
  rw [dif_pos ⟨hr, hl⟩]
  have e0 : (((cfg0.win 1).blk t).view.emb (ValueIdx.ix2 ⟨r, hr⟩ ⟨l, hl⟩) 0).val = win0_1.index t (0 : Fin 2) * 1024 + 1 * r := rfl
  have e1 : (((cfg0.win 1).blk t).view.emb (ValueIdx.ix2 ⟨r, hr⟩ ⟨l, hl⟩) 1).val = win0_1.index t (1 : Fin 2) * 1024 + 1 * l := rfl
  rw [(at1 t).1] at e0
  rw [(at1 t).2] at e1
  exact (congrFun (V_right m c) _).trans (cell_of (right m c) _ (by rw [e0]; omega) (by rw [e1]; omega))

theorem pay_at (t : Fin cfg0.N) (j : S128x1024.Idx) (h : (j 0).val < 8) : (k0_pay1 (iblk m c 0 t) (iblk m c 1 t) : FVec Ideal S128x1024 .f32) j =
    ∑ k : Fin 1024, cell (left m c) (1024 * t.val + k.val) (j 0).val * cell (right m c) (1024 * t.val + k.val) (j 1).val :=
  (pay1_apply _ _ j).trans (Finset.sum_congr rfl fun k _ =>
    congrArg₂ (· * ·) (load_left m c t k.val (j 0).val k.isLt h) (load_right m c t k.val (j 1).val k.isLt (j 1).isLt))

/-- The sum a point leaves. -/
abbrev sum (n : ℕ) (hn : n < cfg0.N) : FVec Ideal S128x1024 .f32 := (outsAt0 m c n hn).2

/-- After a point its first eight rows hold the products of the rows so far. -/
def Holds (n : ℕ) (hn : n < cfg0.N) : Prop := ∀ j : S128x1024.Idx, (j 0).val < 8 → sum m c n hn j =
  cross (cell (left m c)) (cell (right m c)) (1024 * n + 1024) (j 0).val (j 1).val

theorem holds_first (t : Fin cfg0.N) (h : t.val = 0) : Holds m c t.val t.isLt := fun j hj => by
  unfold sum
  rw [outsAt0_A m c t (by omega) (by omega) (by omega)]
  dsimp only
  rw [sum_first]
  refine (pay_at m c t j hj).trans ?_
  rw [← cross_add, h, Nat.mul_zero, cross_zero, zero_add]

/-- Adding a point's product to the sum of the points before. -/
theorem step (t : Fin cfg0.N) (h : 1 ≤ t.val) (hs : Holds m c (t.val - 1) (Nat.lt_of_le_of_lt (Nat.sub_le _ _) t.isLt)) (j : S128x1024.Idx) (hj : (j 0).val < 8) :
    (k0_pay3 (iblk m c 0 t) (iblk m c 1 t) (sum m c (t.val - 1) (Nat.lt_of_le_of_lt (Nat.sub_le _ _) t.isLt)) : FVec Ideal S128x1024 .f32) j =
      cross (cell (left m c)) (cell (right m c)) (1024 * t.val + 1024) (j 0).val (j 1).val := by
  refine (pay3_apply _ _ _ j).trans ?_
  rw [pay_at m c t j hj]
  exact (congrArg (· + _) ((hs j hj).trans (congrArg (fun n => cross _ _ n _ _) (show 1024 * (t.val - 1) + 1024 = 1024 * t.val by omega)))).trans
    (cross_add _ _ _ _ _ _)

theorem holds_next (t : Fin cfg0.N) (h : 1 ≤ t.val) (h3 : t.val < 3) (hs : Holds m c (t.val - 1) (Nat.lt_of_le_of_lt (Nat.sub_le _ _) t.isLt)) :
    Holds m c t.val t.isLt := fun j hj => by
  refine Eq.trans ?_ (step m c t h hs j hj)
  unfold sum
  rw [outsAt0_B m c t (by omega) h (by omega)]
  dsimp only
  rw [sum_B]

theorem holds (n : ℕ) (hn : n < cfg0.N) (h3 : n < 3) : Holds m c n hn := by
  induction n with
  | zero => exact holds_first m c ⟨0, hn⟩ rfl
  | succ n ih => exact holds_next m c ⟨n + 1, hn⟩ (by show 1 ≤ n + 1; omega) h3 (ih (Nat.lt_of_succ_lt hn) (by omega))

/-- Two indices with the same coordinates are the same. -/
theorem same_place {n m : ℕ} (i k : (⟨2, ![n, m]⟩ : Shape).Idx) (h0 : (i 0).val = (k 0).val) (h1 : (i 1).val = (k 1).val) : i = k := by
  funext a
  match a with
  | ⟨0, _⟩ => exact Fin.ext h0
  | ⟨1, _⟩ => exact Fin.ext h1

/-- The result's array: the rows already there, then the gates'. -/
def G : FVec Ideal ⟨2, ![4616, 1024]⟩ .f32 := fun i =>
  if (i 0).val < 4608 then above m c i else cross (cell (left m c)) (cell (right m c)) 4096 ((i 0).val - 4608) (i 1).val

theorem flushed_eq (t : Fin cfg0.N) (hf : (cfg0.win 2).flush t = true) : (dats m 0 c).flushed 2 t = ((cfg0.win 2).blk t).view.read (Elt Ideal) (G m c) := by
  have hN : t.val < 4 := lt_of_lt_of_eq t.isLt N_0
  have ht : t.val = 3 := by have := (flush0_2 t).mp hf; omega
  rw [flushed2_C m c t (by omega) (by omega) (by omega)]
  funext j
  have h0 : (j 0).val < 8 := (j 0).isLt
  have h1 : (j 1).val < 1024 := (j 1).isLt
  have e0 : (((cfg0.win 2).blk t).view.emb j 0).val = win0_2.index t (0 : Fin 2) * 8 + 1 * (j 0).val := rfl
  have e1 : (((cfg0.win 2).blk t).view.emb j 1).val = win0_2.index t (1 : Fin 2) * 1024 + 1 * (j 1).val := rfl
  rw [(at2 t).1] at e0
  rw [(at2 t).2] at e1
  refine (rows_last c (grid0.coords t) (ms0_0 t) (hs0_0 t) (ms0_1 t) (hs0_1 t) (ms0_2 t) (hs0_2 t) scM0_0 (Memref.isWhole_whole _) (iblk m c 0 t) (iblk m c 1 t) _ _ _ _
    j (ValueIdx.ix2 ⟨(j 0).val, by omega⟩ ⟨(j 1).val, h1⟩) rfl rfl).trans ?_
  refine (step m c t (by omega) (holds m c _ _ (by omega)) _ h0).trans ?_
  show cross _ _ (1024 * t.val + 1024) (j 0).val (j 1).val = G m c (((cfg0.win 2).blk t).view.emb j)
  unfold G
  rw [if_neg (by rw [e0]; omega), e0, e1, show 1024 * t.val + 1024 = 4096 by omega, show 576 * 8 + 1 * (j 0).val - 4608 = (j 0).val by omega,
    show 0 * 1024 + 1 * (j 1).val = (j 1).val by omega]

theorem final : (dats m 0 c).arrAt 2 cfg0.N = G m c := by
  funext i
  have h0 : (i 0).val < 4616 := (i 0).isLt
  have h1 : (i 1).val < 1024 := (i 1).isLt
  by_cases h : (i 0).val < 4608
  · refine (entry2 m c i fun t _ hi => ?_).trans ((congrFun (V_above m c) i).trans (if_pos h).symm)
    obtain ⟨j, -, rfl⟩ := Finset.mem_map.mp hi
    have e0 : (((cfg0.win 2).blk t).view.emb j 0).val = win0_2.index t (0 : Fin 2) * 8 + 1 * (j 0).val := rfl
    rw [(at2 t).1] at e0
    omega
  · let t : Fin cfg0.N := ⟨3, lt_of_lt_of_eq (by decide) N_0.symm⟩
    have hr : (i 0).val - 4608 < 8 := by omega
    have hf : (cfg0.win 2).flush t = true := (flush0_2 t).mpr (show 3 % 4 = 3 by decide)
    refine (dats m 0 c).arrAt_apply_of_mem 2 (G m c) (flushed_eq m c) cfg0.N t i t.isLt hf ?_
    have e0 : (((cfg0.win 2).blk t).view.emb (ValueIdx.ix2 ⟨(i 0).val - 4608, hr⟩ ⟨(i 1).val, h1⟩) 0).val = win0_2.index t (0 : Fin 2) * 8 + 1 * ((i 0).val - 4608) := rfl
    have e1 : (((cfg0.win 2).blk t).view.emb (ValueIdx.ix2 ⟨(i 0).val - 4608, hr⟩ ⟨(i 1).val, h1⟩) 1).val = win0_2.index t (1 : Fin 2) * 1024 + 1 * (i 1).val := rfl
    rw [(at2 t).1] at e0
    rw [(at2 t).2] at e1
    have f0 : (((cfg0.win 2).blk t).view.emb (ValueIdx.ix2 ⟨(i 0).val - 4608, hr⟩ ⟨(i 1).val, h1⟩) 0).val = (i 0).val := by rw [e0]; omega
    have f1 : (((cfg0.win 2).blk t).view.emb (ValueIdx.ix2 ⟨(i 0).val - 4608, hr⟩ ⟨(i 1).val, h1⟩) 1).val = (i 1).val := by rw [e1]; omega
    have e : ((cfg0.win 2).blk t).view.emb (ValueIdx.ix2 ⟨(i 0).val - 4608, hr⟩ ⟨(i 1).val, h1⟩) = i :=
      same_place (n := 4616) (m := 1024) _ i f0 f1
    exact Finset.mem_map.mpr ⟨_, Finset.mem_univ _, e⟩

end

/-- The reference's entry in the gates' rows: all rows of the arrays at once. -/
theorem gates_eq (x0 : FVec Ideal ⟨2, ![4096, 1024]⟩ .f32) (x1 : FVec Ideal ⟨2, ![1, 1024]⟩ .f32) (x3 : FVec Ideal ⟨2, ![4096, 8]⟩ .f32)
    (i : (⟨2, ![8, 1024]⟩ : Shape).Idx) : (Cert.Reference7Ideal.Read.val_main_v16 (F := Ideal) x0 x1 x3 : FVec Ideal ⟨2, ![8, 1024]⟩ .f32) i =
      cross (cell x3) (cell (n := 4096) (m := 1024) (Cert.Reference7Ideal.Read.val_main_v12 (F := Ideal) x0 x1)) 4096 (i 0).val (i 1).val := by
  rw [Cert.Reference7Ideal.Read.val_main_v16_apply, Cert.Reference7Ideal.Read.val_main_v15_apply, Cert.Reference7Ideal.Read.val_main_v14_apply]
  unfold cross
  rw [Finset.sum_range (fun k => cell x3 k (i 0).val * cell (n := 4096) (m := 1024) (Cert.Reference7Ideal.Read.val_main_v12 (F := Ideal) x0 x1) k (i 1).val)]
  exact Finset.sum_congr rfl fun k _ => congrArg₂ (· * ·) (cell_of x3 _ rfl rfl) (cell_of (n := 4096) (m := 1024) _ _ rfl rfl)

/-- The reference's array, entry by entry. -/
theorem ref_eq (x0 : FVec Ideal ⟨2, ![4096, 1024]⟩ .f32) (x1 : FVec Ideal ⟨2, ![1, 1024]⟩ .f32) (x3 : FVec Ideal ⟨2, ![4096, 8]⟩ .f32)
    (x4 : FVec Ideal ⟨2, ![4616, 1024]⟩ .f32) (i : (⟨2, ![4616, 1024]⟩ : Shape).Idx) :
    (Cert.Reference7Ideal.Read.val_main_v17 (F := Ideal) x0 x1 x3 x4 : FVec Ideal ⟨2, ![4616, 1024]⟩ .f32) i =
      if (i 0).val < 4608 then x4 i else
        cross (cell x3) (cell (n := 4096) (m := 1024) (Cert.Reference7Ideal.Read.val_main_v12 (F := Ideal) x0 x1)) 4096 ((i 0).val - 4608) (i 1).val := by
  have h0 : (i 0).val < 4616 := (i 0).isLt
  have h1 : (i 1).val < 1024 := (i 1).isLt
  unfold Cert.Reference7Ideal.Read.val_main_v17
  by_cases h : (i 0).val < 4608
  · rw [if_pos h]
    refine (concatenate_pair_apply_left (s₁ := Cert.Reference7Ideal.S4608x1024) (s₂ := Cert.Reference7Ideal.S8x1024) (t := Cert.Reference7Ideal.S4616x1024) 0 _ _ _ i rfl
      (ValueIdx.ix2 ⟨(i 0).val, h⟩ ⟨(i 1).val, h1⟩) (fun b => match b with | ⟨0, _⟩ => rfl | ⟨1, _⟩ => rfl)).trans ?_
    unfold Cert.Reference7Ideal.Read.val_main_v0
    exact extractStridedSlice_apply _ _ _ _ i (fun a => match a with
      | ⟨0, _⟩ => (show (i 0).val = 0 + (i 0).val by omega)
      | ⟨1, _⟩ => (show (i 1).val = 0 + (i 1).val by omega))
  · rw [if_neg h]
    refine (concatenate_pair_apply_right (s₁ := Cert.Reference7Ideal.S4608x1024) (s₂ := Cert.Reference7Ideal.S8x1024) (t := Cert.Reference7Ideal.S4616x1024) 0 _ _ _ i rfl rfl
      (ValueIdx.ix2 ⟨(i 0).val - 4608, by omega⟩ ⟨(i 1).val, h1⟩) (fun b hb => match b with | ⟨0, _⟩ => absurd rfl hb | ⟨1, _⟩ => rfl)
      (show (i 0).val - 4608 + 4608 = (i 0).val by omega)).trans ?_
    exact gates_eq x0 x1 x3 _

/-- What the kernel leaves is what the reference computes. -/
theorem result (m : (ℓ : Loc nD τ sig) → Buf (Elt Ideal) ℓ) (c : Dev nD) : (dats m 0 c).arrAt 2 cfg0.N =
    Cert.Reference7Ideal.Read.val_main_v17 (F := Ideal) (acts m c) (norms m c) (left m c) (above m c) :=
  (final m c).trans (funext fun i => (ref_eq (acts m c) (norms m c) (left m c) (above m c) i).symm)

end Cert.Proof.GateCols

end
-- ==== Proof.Forms.lean ====
/- The real numbers one block of the backward pass computes. `Data` holds one pair of heads: the rows of q, k, v and of the
   output's derivative (128 lanes, 64 of each head) and each row's sum `T` of log(1 - beta). A block covers the query rows
   `t0 + r` and the keys `s0 + c`; the lemmas below say what each of its operations leaves, in terms of the row and the
   key alone. `full` blocks lie wholly before the diagonal, `diag` blocks start on it. -/
module

public import proofs.«01_k».proof.Proof.RealVec

@[expose] public section

noncomputable section

namespace Cert.Proof

open Idealize.ShloMosaic
open scoped BigOperators

/-- One pair of heads: rows of q, k, v and dy by lane, and each row's sum of log(1 - beta) by head and row. -/
structure Data where
  Q : ℕ → ℕ → ℝ
  K : ℕ → ℕ → ℝ
  V : ℕ → ℕ → ℝ
  DY : ℕ → ℕ → ℝ
  T : ℕ → ℕ → ℝ

/-- The lanes of head `h` of the pair: lanes below 64 are head 0's. -/
def pick (h l : ℕ) (x : ℝ) : ℝ := if h = 0 then (if l < 64 then x else 0) else (if l < 64 then 0 else x)

namespace Data
variable (D : Data)

/-- Minus the scaled query, the other head's lanes zero. -/
def qh (h t l : ℕ) : ℝ := pick h l (0 - D.Q t l * 0.125)
/-- The output's derivative, the other head's lanes zero. -/
def dyh (h t l : ℕ) : ℝ := pick h l (D.DY t l)
/-- Minus the score. -/
def nz (h t s : ℕ) : ℝ := ∑ l ∈ Finset.range 128, D.qh h t l * D.K s l
/-- Minus the score, clamped at 80. -/
def mn (h t s : ℕ) : ℝ := min (D.nz h t s) 80
/-- Minus the logarithm of beta. -/
def sp (h t s : ℕ) : ℝ := Real.log (1 + Real.exp (D.mn h t s))
/-- log(1 - beta) below the diagonal, zero on it and above. -/
def lk (h t s : ℕ) : ℝ := if s < t then D.mn h t s - D.sp h t s else 0
/-- The sum of log(1 - beta) over the first `n` keys. -/
def pre (h t n : ℕ) : ℝ := ∑ s ∈ Finset.range n, D.lk h t s
/-- The attention weight. -/
def a (h t s : ℕ) : ℝ := if s < t then Real.exp (D.T h t - D.pre h t (s + 1) - D.sp h t s) else 0
/-- The derivative of the weight. -/
def dyv (h t s : ℕ) : ℝ := ∑ l ∈ Finset.range 128, D.dyh h t l * D.V s l
/-- The derivative of the weight's logarithm. -/
def g (h t s : ℕ) : ℝ := D.dyv h t s * D.a h t s
/-- Its sum over the first `n` keys. -/
def gs (h t n : ℕ) : ℝ := ∑ s ∈ Finset.range n, D.g h t s
/-- The derivative of the score. -/
def dz (h t s : ℕ) : ℝ := if s < t then D.g h t s - Real.exp (0 - D.sp h t s) * (D.g h t s + D.gs h t s) else 0
/-- The query's derivative before scaling, from the first `n` keys. -/
def dqa (h t n l : ℕ) : ℝ := ∑ s ∈ Finset.range n, D.dz h t s * D.K s l
/-- What head `h` adds to (minus) the derivative of key `s` from the `n` rows from `t0` on. -/
def dkh (h t0 n l s : ℕ) : ℝ := ∑ r ∈ Finset.range n, D.qh h (t0 + r) l * D.dz h (t0 + r) s
/-- What head `h` adds to the derivative of value `s` from the `n` rows from `t0` on. -/
def dvh (h t0 n l s : ℕ) : ℝ := ∑ r ∈ Finset.range n, D.dyh h (t0 + r) l * D.a h (t0 + r) s

theorem g_ge {h t s : ℕ} (hs : t ≤ s) : D.g h t s = 0 := by
  unfold g a; rw [if_neg (by omega), mul_zero]

end Data

/-- The 512-row matrix of ones on and above the diagonal, twice. -/
def upInc (k c : ℕ) : ℝ := if k < 256 then (if decide (k ≤ c) then 1 else 0) else (if decide (k - 256 ≤ c) then 1 else 0)
/-- The matrix of ones above the diagonal. -/
def upExc (k c : ℕ) : ℝ := if decide (k < c) then 1 else 0

theorem sum_upto (f : ℕ → ℝ) {N c : ℕ} (hc : c ≤ N) :
    ∑ k ∈ Finset.range N, (if k < c then f k else 0) = ∑ k ∈ Finset.range c, f k := by
  rw [← Finset.sum_filter]
  congr 1
  ext k
  simp only [Finset.mem_filter, Finset.mem_range]
  omega

section
variable (D : Data) {n h t0 s0 : ℕ} {φ ψ : FTy}

section scores
variable {x y z : FVec Ideal ⟨2, ![n, 256]⟩ .f32} {o : FVec Ideal ⟨2, ![n, 256]⟩ .f32} {m : IVec ⟨2, ![n, 256]⟩ 1}

theorem t_nz {q : FVec Ideal ⟨2, ![n, 128]⟩ φ} {k : FVec Ideal ⟨2, ![256, 128]⟩ ψ} (hq : R2 q (fun r l => D.qh h (t0 + r) l)) (hk : R2 k (fun c l => D.K (s0 + c) l)) (ho : R2 o (fun _ _ => 0)) :
    R2 (matmul (DotDims.transposedRhs n 128 256) none q k o) (fun r c => D.nz h (t0 + r) (s0 + c)) :=
  (R2.matmulT none hq hk ho).congr fun r _ c _ => by simp only [Data.nz, zero_add]

theorem t_min (hx : R2 x (fun r c => D.nz h (t0 + r) (s0 + c))) (hy : R2 y (fun _ _ => 80)) :
    R2 (minimumf x y) (fun r c => D.mn h (t0 + r) (s0 + c)) := hx.minimumf hy

theorem t_sp (hx : R2 x (fun r c => 1 + Real.exp (D.mn h (t0 + r) (s0 + c)))) : R2 (log x) (fun r c => D.sp h (t0 + r) (s0 + c)) :=
  hx.log fun r c => by positivity

theorem t_lkFull (hf : s0 + 256 ≤ t0) (hx : R2 x (fun r c => D.mn h (t0 + r) (s0 + c))) (hy : R2 y (fun r c => D.sp h (t0 + r) (s0 + c))) :
    R2 (subf x y) (fun r c => D.lk h (t0 + r) (s0 + c)) :=
  (hx.subf hy).congr fun r _ c _ => by rw [Data.lk, if_pos (by omega)]

theorem t_lkDiag (hm : M2 m (fun r c => decide (c < r))) (hx : R2 x (fun r c => D.mn h (t0 + r) (t0 + c) - D.sp h (t0 + r) (t0 + c)))
    (hy : R2 y (fun _ _ => 0)) : R2 (select m x y) (fun r c => D.lk h (t0 + r) (t0 + c)) :=
  (R2.select hm hx hy).congr fun r _ c _ => by
    simp only [Data.lk, decide_eq_true_eq, Nat.add_lt_add_iff_left]

theorem t_pp {u : FVec Ideal ⟨2, ![512, 256]⟩ ψ} {w : FVec Ideal ⟨2, ![n, 512]⟩ φ} (hu : R2 u upInc)
    (hw : R2 w (fun r k => if k < 256 then D.lk h (t0 + r) (s0 + k) else D.lk h (t0 + r) (s0 + (k - 256)) - D.lk h (t0 + r) (s0 + (k - 256))))
    (ho : R2 o (fun _ _ => 0)) :
    R2 (matmul (DotDims.plain n 512 256) none w u o) (fun r c => D.pre h (t0 + r) (s0 + c + 1) - D.pre h (t0 + r) s0) :=
  (R2.matmul none hw hu ho).congr fun r _ c hc => by
    simp only [sub_self]
    rw [show (512 : ℕ) = 256 + 256 from rfl, Finset.sum_range_add]
    rw [show s0 + c + 1 = s0 + (c + 1) from rfl, Data.pre, Data.pre, Finset.sum_range_add, add_sub_cancel_left, zero_add]
    rw [Finset.sum_eq_zero (s := Finset.range 256) (f := fun k => _ * upInc (256 + k) c), add_zero]
    · rw [← sum_upto (fun k => D.lk h (t0 + r) (s0 + k)) (N := 256) (by omega)]
      refine Finset.sum_congr rfl fun k hk => ?_
      rw [if_pos (Finset.mem_range.1 hk), upInc, if_pos (Finset.mem_range.1 hk)]
      by_cases h' : k ≤ c
      · rw [if_pos (by simpa using h'), if_pos (by omega), mul_one]
      · rw [if_neg (by simpa using h'), if_neg (by omega), mul_zero]
    · intro k _
      rw [if_neg (by omega), zero_mul]

/-- Two copies side by side of a value that does not depend on the lane. -/
theorem t_twice {f : ℕ → ℝ} {p : FVec Ideal ⟨2, ![n, 128]⟩ .f32} (hp : R2 p (fun r _ => f r))
    (hc : Shape.Concatenates [⟨2, ![n, 128]⟩, ⟨2, ![n, 128]⟩] ⟨2, ![n, 256]⟩ 1) :
    R2 (concatenate ⟨2, ![n, 256]⟩ 1 [⟨⟨2, ![n, 128]⟩, p⟩, ⟨⟨2, ![n, 128]⟩, p⟩] hc) (fun r _ => f r) :=
  (R2.beside hp hp hc).congr fun r _ c _ => by simp

theorem t_rp (hx : R2 x (fun r _ => D.T h (t0 + r) - D.pre h (t0 + r) s0))
    (hy : R2 y (fun r c => D.pre h (t0 + r) (s0 + c + 1) - D.pre h (t0 + r) s0)) :
    R2 (subf x y) (fun r c => D.T h (t0 + r) - D.pre h (t0 + r) (s0 + c + 1)) :=
  (hx.subf hy).congr fun r _ c _ => by ring

theorem t_aFull (hf : s0 + 256 ≤ t0) (hx : R2 x (fun r c => D.T h (t0 + r) - D.pre h (t0 + r) (s0 + c + 1) - D.sp h (t0 + r) (s0 + c))) :
    R2 (exp x) (fun r c => D.a h (t0 + r) (s0 + c)) :=
  hx.exp.congr fun r _ c _ => by rw [Data.a, if_pos (by omega)]

theorem t_aDiag (hm : M2 m (fun r c => decide (c < r)))
    (hx : R2 x (fun r c => Real.exp (D.T h (t0 + r) - D.pre h (t0 + r) (t0 + c + 1) - D.sp h (t0 + r) (t0 + c)))) (hy : R2 y (fun _ _ => 0)) :
    R2 (select m x y) (fun r c => D.a h (t0 + r) (t0 + c)) :=
  (R2.select hm hx hy).congr fun r _ c _ => by
    simp only [Data.a, decide_eq_true_eq, Nat.add_lt_add_iff_left]

theorem t_dyv {q : FVec Ideal ⟨2, ![n, 128]⟩ φ} {k : FVec Ideal ⟨2, ![256, 128]⟩ ψ} (hq : R2 q (fun r l => D.dyh h (t0 + r) l)) (hk : R2 k (fun c l => D.V (s0 + c) l)) (ho : R2 o (fun _ _ => 0)) :
    R2 (matmul (DotDims.transposedRhs n 128 256) none q k o) (fun r c => D.dyv h (t0 + r) (s0 + c)) :=
  (R2.matmulT none hq hk ho).congr fun r _ c _ => by simp only [Data.dyv, zero_add]

theorem t_g (hx : R2 x (fun r c => D.dyv h (t0 + r) (s0 + c))) (hy : R2 y (fun r c => D.a h (t0 + r) (s0 + c))) :
    R2 (mulf x y) (fun r c => D.g h (t0 + r) (s0 + c)) := hx.mulf hy

theorem t_gg {u : FVec Ideal ⟨2, ![256, 256]⟩ ψ} {w : FVec Ideal ⟨2, ![n, 256]⟩ φ} (hu : R2 u upExc)
    (hw : R2 w (fun r c => D.g h (t0 + r) (s0 + c))) (ho : R2 o (fun _ _ => 0)) :
    R2 (matmul (DotDims.plain n 256 256) none w u o) (fun r c => D.gs h (t0 + r) (s0 + c) - D.gs h (t0 + r) s0) :=
  (R2.matmul none hw hu ho).congr fun r _ c hc => by
    rw [Data.gs, Data.gs, Finset.sum_range_add, add_sub_cancel_left, zero_add,
      ← sum_upto (fun k => D.g h (t0 + r) (s0 + k)) (N := 256) (by omega)]
    refine Finset.sum_congr rfl fun k _ => ?_
    rw [upExc]
    by_cases h' : k < c
    · rw [if_pos (by simpa using h'), if_pos h', mul_one]
    · rw [if_neg (by simpa using h'), if_neg h', mul_zero]

theorem t_sum (hx : R2 x (fun r _ => D.gs h (t0 + r) s0)) (hy : R2 y (fun r c => D.gs h (t0 + r) (s0 + c) - D.gs h (t0 + r) s0)) :
    R2 (addf x y) (fun r c => D.gs h (t0 + r) (s0 + c)) := (hx.addf hy).congr fun r _ c _ => by ring

theorem t_dzFull (hf : s0 + 256 ≤ t0) (hx : R2 x (fun r c => D.g h (t0 + r) (s0 + c)))
    (hy : R2 y (fun r c => Real.exp (0 - D.sp h (t0 + r) (s0 + c)) * (D.g h (t0 + r) (s0 + c) + D.gs h (t0 + r) (s0 + c)))) :
    R2 (subf x y) (fun r c => D.dz h (t0 + r) (s0 + c)) :=
  (hx.subf hy).congr fun r _ c _ => by rw [Data.dz, if_pos (by omega)]

theorem t_dzDiag (hm : M2 m (fun r c => decide (c < r)))
    (hx : R2 x (fun r c => D.g h (t0 + r) (t0 + c) - Real.exp (0 - D.sp h (t0 + r) (t0 + c)) * (D.g h (t0 + r) (t0 + c) + D.gs h (t0 + r) (t0 + c))))
    (hy : R2 y (fun _ _ => 0)) : R2 (select m x y) (fun r c => D.dz h (t0 + r) (t0 + c)) :=
  (R2.select hm hx hy).congr fun r _ c _ => by
    simp only [Data.dz, decide_eq_true_eq, Nat.add_lt_add_iff_left]

end scores

section products
variable {d : FVec Ideal ⟨2, ![n, 256]⟩ φ} {k : FVec Ideal ⟨2, ![256, 128]⟩ ψ} {q : FVec Ideal ⟨2, ![128, n]⟩ ψ}
  {o p : FVec Ideal ⟨2, ![n, 128]⟩ .f32} {z : FVec Ideal ⟨2, ![128, 256]⟩ .f32}

theorem t_dqd (hd : R2 d (fun r c => D.dz h (t0 + r) (s0 + c))) (hk : R2 k (fun c l => D.K (s0 + c) l)) (ho : R2 o (fun _ _ => 0)) :
    R2 (matmul (DotDims.plain n 256 128) none d k o) (fun r l => D.dqa h (t0 + r) (s0 + 256) l - D.dqa h (t0 + r) s0 l) :=
  (R2.matmul none hd hk ho).congr fun r _ l _ => by
    simp only [Data.dqa, zero_add, Finset.sum_range_add, add_sub_cancel_left]

theorem t_dqa (ho : R2 o (fun r l => D.dqa h (t0 + r) s0 l)) (hp : R2 p (fun r l => D.dqa h (t0 + r) (s0 + 256) l - D.dqa h (t0 + r) s0 l)) :
    R2 (addf o p) (fun r l => D.dqa h (t0 + r) (s0 + 256) l) := (ho.addf hp).congr fun r _ l _ => by ring

theorem t_dkh (hq : R2 q (fun l r => D.qh h (t0 + r) l)) (hd : R2 d (fun r c => D.dz h (t0 + r) (s0 + c))) (hz : R2 z (fun _ _ => 0)) :
    R2 (matmul (DotDims.plain 128 n 256) none q d z) (fun l c => D.dkh h t0 n l (s0 + c)) :=
  (R2.matmul none hq hd hz).congr fun l _ c _ => by simp only [Data.dkh, zero_add]

theorem t_dvh (hq : R2 q (fun l r => D.dyh h (t0 + r) l)) (hd : R2 d (fun r c => D.a h (t0 + r) (s0 + c))) (hz : R2 z (fun _ _ => 0)) :
    R2 (matmul (DotDims.plain 128 n 256) none q d z) (fun l c => D.dvh h t0 n l (s0 + c)) :=
  (R2.matmul none hq hd hz).congr fun l _ c _ => by simp only [Data.dvh, zero_add]

theorem t_cp (ho : R2 o (fun r _ => D.pre h (t0 + r) s0)) (hp : R2 p (fun r _ => D.pre h (t0 + r) (s0 + 256) - D.pre h (t0 + r) s0)) :
    R2 (addf o p) (fun r _ => D.pre h (t0 + r) (s0 + 256)) := (ho.addf hp).congr fun r _ l _ => by ring

theorem t_cg (ho : R2 o (fun r _ => D.gs h (t0 + r) s0)) (hp : R2 p (fun r _ => D.gs h (t0 + r) (s0 + 256) - D.gs h (t0 + r) s0)) :
    R2 (addf o p) (fun r _ => D.gs h (t0 + r) (s0 + 256)) := (ho.addf hp).congr fun r _ l _ => by ring

variable {x y : FVec Ideal ⟨2, ![n, 256]⟩ .f32}

theorem t_ppLast (hx : R2 x (fun r c => D.pre h (t0 + r) (s0 + c + 1) - D.pre h (t0 + r) s0))
    (hs : (⟨2, ![n, 256]⟩ : Shape).Slices ![0, 255] ⟨2, ![n, 1]⟩) :
    R2 (φ := .f32) (extractStridedSlice ⟨2, ![n, 1]⟩ ![0, 255] x hs) (fun r _ => D.pre h (t0 + r) (s0 + 256) - D.pre h (t0 + r) s0) :=
  (hx.slice hs (r0 := 0) (c0 := 255) rfl rfl).congr fun r _ c hc => by
    obtain rfl : c = 0 := by omega
    simp only [zero_add, add_zero]

theorem t_ggLast (hx : R2 x (fun r c => D.gs h (t0 + r) (s0 + c) - D.gs h (t0 + r) s0))
    (hs : (⟨2, ![n, 256]⟩ : Shape).Slices ![0, 255] ⟨2, ![n, 1]⟩) :
    R2 (φ := .f32) (extractStridedSlice ⟨2, ![n, 1]⟩ ![0, 255] x hs) (fun r _ => D.gs h (t0 + r) (s0 + 255) - D.gs h (t0 + r) s0) :=
  (hx.slice hs (r0 := 0) (c0 := 255) rfl rfl).congr fun r _ c hc => by
    obtain rfl : c = 0 := by omega
    simp only [zero_add, add_zero]

theorem t_gLast (hx : R2 x (fun r c => D.g h (t0 + r) (s0 + c)))
    (hs : (⟨2, ![n, 256]⟩ : Shape).Slices ![0, 255] ⟨2, ![n, 1]⟩) :
    R2 (φ := .f32) (extractStridedSlice ⟨2, ![n, 1]⟩ ![0, 255] x hs) (fun r _ => D.g h (t0 + r) (s0 + 255)) :=
  (hx.slice hs (r0 := 0) (c0 := 255) rfl rfl).congr fun r _ c hc => by
    obtain rfl : c = 0 := by omega
    simp only [zero_add, add_zero]

theorem t_cgStep {v w : FVec Ideal ⟨2, ![n, 1]⟩ .f32} (hv : R2 v (fun r _ => D.gs h (t0 + r) (s0 + 255) - D.gs h (t0 + r) s0))
    (hw : R2 w (fun r _ => D.g h (t0 + r) (s0 + 255))) :
    R2 (addf v w) (fun r _ => D.gs h (t0 + r) (s0 + 256) - D.gs h (t0 + r) s0) :=
  (hv.addf hw).congr fun r _ c _ => by
    have e : D.gs h (t0 + r) (s0 + 256) = D.gs h (t0 + r) (s0 + 255) + D.g h (t0 + r) (s0 + 255) := Finset.sum_range_succ _ _
    rw [e]; ring

end products

/-- The rows of a matrix from `r0` on. -/
theorem t_rows {n' m : ℕ} {v : FVec Ideal ⟨2, ![n, m]⟩ φ} {F : ℕ → ℕ → ℝ} {off : Fin 2 → ℕ} (r0 : ℕ) (hv : R2 v (fun r c => F (t0 + r) c))
    (hs : (⟨2, ![n, m]⟩ : Shape).Slices off ⟨2, ![n', m]⟩) (h0 : off 0 = r0) (h1 : off 1 = 0) :
    R2 (φ := φ) (extractStridedSlice ⟨2, ![n', m]⟩ off v hs) (fun r c => F (t0 + r0 + r) c) :=
  (hv.slice hs h0 h1).congr fun r _ c _ => by simp only [zero_add, add_assoc]

/-- The columns of a matrix from `r0` on. -/
theorem t_cols {n' m : ℕ} {v : FVec Ideal ⟨2, ![m, n]⟩ φ} {F : ℕ → ℕ → ℝ} {off : Fin 2 → ℕ} (r0 : ℕ) (hv : R2 v (fun c r => F (t0 + r) c))
    (hs : (⟨2, ![m, n]⟩ : Shape).Slices off ⟨2, ![m, n']⟩) (h0 : off 0 = 0) (h1 : off 1 = r0) :
    R2 (φ := φ) (extractStridedSlice ⟨2, ![m, n']⟩ off v hs) (fun c r => F (t0 + r0 + r) c) :=
  (hv.slice hs h0 h1).congr fun r _ c _ => by simp only [zero_add, add_assoc]

end

end Cert.Proof
-- ==== Proof.Buffers.lean ====
/- The buffers the kernel accumulates in. Three of them hold, per head of the pair and per query row, a sum over the keys
   met so far; `St F t m0 m1` says how many keys each head has met. The two of the keys' and values' derivatives are
   written 256 columns at a time; `upTo n F f` is `F` in the columns written and `f` in the others. Each lemma reads a
   rectangle of such a buffer, or says what it holds after one more store. -/
module

public import proofs.«01_k».proof.Proof.Forms
public import Idealize.ShloMosaic.Lib.WritesUnit
public import Idealize.ShloMosaic.Lib.Pipeline.ValueKit

@[expose] public section

noncomputable section

namespace Cert.Proof

open Idealize.ShloMosaic

/-- A sum over keys by head, row, number of keys met, lane. -/
abbrev Acc := ℕ → ℕ → ℕ → ℕ → ℝ

/-- Keys from the row's own on add nothing. -/
def Stops (F : Acc) : Prop := ∀ h t n m l, t ≤ n → t ≤ m → F h t n l = F h t m l

/-- Head 0 has met `m0` keys and head 1 `m1`; the first row is `t`. -/
def St (F : Acc) (t m0 m1 : ℕ) : ℕ → ℕ → ℕ → ℝ := fun h r l => F h (t + r) (if h = 0 then m0 else m1) l

/-- `F` in the first `n` columns, `f` in the others. -/
def upTo (n : ℕ) (F f : ℕ → ℕ → ℝ) : ℕ → ℕ → ℝ := fun l s => if s < n then F l s else f l s

theorem upTo_zero (F f : ℕ → ℕ → ℝ) : upTo 0 F f = f := by
  funext l s; rw [upTo, if_neg (Nat.not_lt_zero s)]

namespace Data
variable (D : Data)

theorem sum_stop (f : ℕ → ℝ) {t n m : ℕ} (hf : ∀ s, t ≤ s → f s = 0) (hn : t ≤ n) (hm : t ≤ m) :
    ∑ s ∈ Finset.range n, f s = ∑ s ∈ Finset.range m, f s := by
  have e : ∀ n, t ≤ n → ∑ s ∈ Finset.range n, f s = ∑ s ∈ Finset.range t, f s := fun n hn => by
    symm
    refine Finset.sum_subset (Finset.range_subset_range.2 hn) fun s _ hs => hf s ?_
    rw [Finset.mem_range] at hs
    omega
  rw [e n hn, e m hm]

theorem dz_ge {h t s : ℕ} (hs : t ≤ s) : D.dz h t s = 0 := by
  unfold dz; rw [if_neg (by omega)]
theorem lk_ge {h t s : ℕ} (hs : t ≤ s) : D.lk h t s = 0 := by
  unfold lk; rw [if_neg (by omega)]
theorem a_ge {h t s : ℕ} (hs : t ≤ s) : D.a h t s = 0 := by
  unfold a; rw [if_neg (by omega)]

theorem pre_stops : Stops (fun h t n _ => D.pre h t n) := fun _ _ _ _ _ hn hm =>
  sum_stop _ (fun _ hs => D.lk_ge hs) hn hm
theorem gs_stops : Stops (fun h t n _ => D.gs h t n) := fun _ _ _ _ _ hn hm =>
  sum_stop _ (fun _ hs => D.g_ge hs) hn hm
theorem dqa_stops : Stops (fun h t n l => D.dqa h t n l) := fun _ _ _ _ _ hn hm =>
  sum_stop _ (fun _ hs => by rw [D.dz_ge hs, zero_mul]) hn hm

/-- Rows before a key add nothing to its derivative. -/
theorem dkh_shift (h t d n l s : ℕ) (hs : t + d ≤ s) : D.dkh h (t + d) n l s = D.dkh h t (d + n) l s := by
  unfold dkh
  rw [Finset.sum_range_add (n := d), Finset.sum_eq_zero (s := Finset.range d), zero_add]
  · exact Finset.sum_congr rfl fun r _ => by rw [Nat.add_assoc]
  · intro r hr
    have := Finset.mem_range.1 hr
    rw [D.dz_ge (by omega), mul_zero]
theorem dvh_shift (h t d n l s : ℕ) (hs : t + d ≤ s) : D.dvh h (t + d) n l s = D.dvh h t (d + n) l s := by
  unfold dvh
  rw [Finset.sum_range_add (n := d), Finset.sum_eq_zero (s := Finset.range d), zero_add]
  · exact Finset.sum_congr rfl fun r _ => by rw [Nat.add_assoc]
  · intro r hr
    have := Finset.mem_range.1 hr
    rw [D.a_ge (by omega), mul_zero]

/-- Minus the key's derivative `f` after a tile of 1024 rows from `t` on. -/
def dkN (t : ℕ) (f : ℕ → ℕ → ℝ) (l s : ℕ) : ℝ := f l s - (0 + D.dkh 0 t 1024 l s + D.dkh 1 t 1024 l s)
/-- The value's derivative `f` after a tile of 1024 rows from `t` on. -/
def dvN (t : ℕ) (f : ℕ → ℕ → ℝ) (l s : ℕ) : ℝ := f l s + (0 + D.dvh 0 t 1024 l s + D.dvh 1 t 1024 l s)

theorem dkN_rows {t d n : ℕ} (hd : d + n = 1024) {f : ℕ → ℕ → ℝ} {p : FVec Ideal ⟨2, ![128, 256]⟩ .f32}
    (hp : R2 p (fun l c => f l (t + d + c) - (0 + D.dkh 0 (t + d) n l (t + d + c) + D.dkh 1 (t + d) n l (t + d + c)))) :
    R2 p (fun l c => D.dkN t f l (t + d + c)) := hp.congr fun l _ c _ => by
  rw [dkN, D.dkh_shift _ _ _ _ _ _ (by omega), D.dkh_shift _ _ _ _ _ _ (by omega), hd]

theorem dvN_rows {t d n : ℕ} (hd : d + n = 1024) {f : ℕ → ℕ → ℝ} {p : FVec Ideal ⟨2, ![128, 256]⟩ .f32}
    (hp : R2 p (fun l c => f l (t + d + c) + (0 + D.dvh 0 (t + d) n l (t + d + c) + D.dvh 1 (t + d) n l (t + d + c)))) :
    R2 p (fun l c => D.dvN t f l (t + d + c)) := hp.congr fun l _ c _ => by
  rw [dvN, D.dvh_shift _ _ _ _ _ _ (by omega), D.dvh_shift _ _ _ _ _ _ (by omega), hd]

/-- The sums over keys the three per-row buffers hold. -/
abbrev preA : Acc := fun h t n _ => D.pre h t n
abbrev gsA : Acc := fun h t n _ => D.gs h t n
abbrev dqaA : Acc := fun h t n l => D.dqa h t n l

end Data

section three
variable {sig : RefSig} {κ : Kind} {sp : Space} {v : View sig κ sp ⟨3, ![2, 1024, 128]⟩ .f32}
  {c : v.ty.Contents (Elt Ideal)} {L : List (View.Piece (Elt Ideal) ⟨3, ![2, 1024, 128]⟩ .f32)}
  {F : Acc} {t m0 m1 m0' m1' r0 n S : ℕ}

theorem load3 {f : ℕ → ℕ → ℕ → ℝ} {h : ℕ} (hst : R3 (φ := .f32) (v.read (Elt Ideal) c) f)
    (inb : ∀ a, (![h, r0, 0] : Fin 3 → ℕ) a + (![1, n, 128] : Fin 3 → ℕ) a ≤ (![2, 1024, 128] : Fin 3 → ℕ) a) :
    R3 (a := 1) (n := n) (m := 128) (φ := .f32)
      (View.readAt (Elt Ideal) v (Rect.unit (s := ⟨3, ![2, 1024, 128]⟩) ![h, r0, 0] ![1, n, 128] inb).toLoadRect c)
      (fun _ r l => f h (r0 + r) l) := fun i => by
  refine (hst _).trans ?_
  have h0 : (i 0).val = 0 := by have : (i 0).val < 1 := (i 0).isLt; omega
  have e0 := Rect.idx_unit_val (s := ⟨3, ![2, 1024, 128]⟩) (off := ![h, r0, 0]) (size := ![1, n, 128]) inb i (0 : Fin 3)
  have e1 := Rect.idx_unit_val (s := ⟨3, ![2, 1024, 128]⟩) (off := ![h, r0, 0]) (size := ![1, n, 128]) inb i (1 : Fin 3)
  have e2 := Rect.idx_unit_val (s := ⟨3, ![2, 1024, 128]⟩) (off := ![h, r0, 0]) (size := ![1, n, 128]) inb i (2 : Fin 3)
  simp only [Matrix.cons_val_zero, Matrix.cons_val_one, Matrix.cons_val, h0, Nat.add_zero, Nat.zero_add] at e0 e1 e2
  refine congrArg (fun x : ℝ => (x : EReal)) ?_
  show f (((Rect.unit (s := ⟨3, ![2, 1024, 128]⟩) ![h, r0, 0] ![1, n, 128] inb).idx i (0 : Fin 3)).val) _ _ = _
  rw [e0]
  show f _ (((Rect.unit (s := ⟨3, ![2, 1024, 128]⟩) ![h, r0, 0] ![1, n, 128] inb).idx i (1 : Fin 3)).val) _ = _
  rw [e1]
  show f _ _ (((Rect.unit (s := ⟨3, ![2, 1024, 128]⟩) ![h, r0, 0] ![1, n, 128] inb).idx i (2 : Fin 3)).val) = _
  rw [e2]

/-- One head's rows from `r0` on, the head having met `S` keys. -/
theorem loadSt {h : ℕ} (hst : R3 (φ := .f32) (v.read (Elt Ideal) c) (St F t m0 m1))
    (inb : ∀ a, (![h, r0, 0] : Fin 3 → ℕ) a + (![1, n, 128] : Fin 3 → ℕ) a ≤ (![2, 1024, 128] : Fin 3 → ℕ) a)
    (hS : S = if h = 0 then m0 else m1) :
    R3 (a := 1) (n := n) (m := 128) (φ := .f32)
      (View.readAt (Elt Ideal) v (Rect.unit (s := ⟨3, ![2, 1024, 128]⟩) ![h, r0, 0] ![1, n, 128] inb).toLoadRect c)
      (fun _ r l => F h (t + r0 + r) S l) :=
  (load3 hst inb).congr fun _ _ r _ l _ => by
    show F h (t + (r0 + r)) (if h = 0 then m0 else m1) l = _
    rw [← hS, Nat.add_assoc]

/-- One head's rows from `r0` on stored after 256 more keys. -/
theorem store3 {h : ℕ} (hF : Stops F) (hst : R3 (φ := .f32) (v.read (Elt Ideal) (v.writes (Elt Ideal) c L)) (St F t m0 m1))
    (inb : ∀ a, (![h, r0, 0] : Fin 3 → ℕ) a + (![1, n, 128] : Fin 3 → ℕ) a ≤ (![2, 1024, 128] : Fin 3 → ℕ) a)
    {p : FVec Ideal ⟨3, ![1, n, 128]⟩ .f32} (hp : R3 p (fun _ r l => F h (t + r0 + r) S l)) (hn : r0 + n = 1024)
    (hold : ∀ r < r0, t + r ≤ S ∧ t + r ≤ (if h = 0 then m0 else m1))
    (h0 : m0' = if h = 0 then S else m0) (h1 : m1' = if h = 0 then m1 else S) (hh : h < 2) :
    R3 (φ := .f32) (v.read (Elt Ideal) (v.writes (Elt Ideal) c
      (⟨Rect.unit (s := ⟨3, ![2, 1024, 128]⟩) ![h, r0, 0] ![1, n, 128] inb, p⟩ :: L))) (St F t m0' m1') := fun i => by
  have b0 : (i 0).val < 2 := (i 0).isLt
  have b1 : (i 1).val < 1024 := (i 1).isLt
  have b2 : (i 2).val < 128 := (i 2).isLt
  by_cases hh0 : (i 0).val = h
  · by_cases hr : r0 ≤ (i 1).val
    · rw [View.read_writes_cons_unit_of_mem v c inb p L i
        (fun a => ⟨(i a).val - (![h, r0, 0] : Fin 3 → ℕ) a, by
          revert a
          refine Fin.forall_fin_succ.2 ⟨?_, Fin.forall_fin_two.2 ⟨?_, ?_⟩⟩
          · show (i 0).val - h < 1; omega
          · show (i 1).val - r0 < n; omega
          · show (i 2).val - 0 < 128; omega⟩) rfl
        (by
          refine Fin.forall_fin_succ.2 ⟨?_, Fin.forall_fin_two.2 ⟨?_, ?_⟩⟩
          · show (i 0).val = h + ((i 0).val - h); omega
          · show (i 1).val = r0 + ((i 1).val - r0); omega
          · show (i 2).val = 0 + ((i 2).val - 0); omega)]
      refine (hp _).trans (congrArg (fun x : ℝ => (x : EReal)) ?_)
      show F h (t + r0 + ((i 1).val - r0)) S ((i 2).val - 0) = F (i 0).val (t + (i 1).val) _ (i 2).val
      rw [show t + r0 + ((i 1).val - r0) = t + (i 1).val from by omega, hh0]
      congr 1
      subst h0 h1
      split_ifs <;> rfl
    · rw [View.read_writes_cons_unit_of_not_mem v c inb p L i rfl (1 : Fin 3) (Or.inl (by show (i 1).val < r0; omega)), hst i]
      refine congrArg (fun x : ℝ => (x : EReal)) ?_
      have := hold (i 1).val (by omega)
      refine hF _ _ _ _ _ ?_ ?_
      · rw [hh0]; exact this.2
      · rw [hh0, h0, h1]; split_ifs <;> exact this.1
  · rw [View.read_writes_cons_unit_of_not_mem v c inb p L i rfl (0 : Fin 3) (by show (i 0).val < h ∨ h + 1 ≤ (i 0).val; omega), hst i]
    refine congrArg (fun x : ℝ => (x : EReal)) ?_
    show F _ _ _ _ = F _ _ _ _
    congr 1
    subst h0 h1
    split_ifs <;> omega

theorem store_head0 (hF : Stops F) (hst : R3 (φ := .f32) (v.read (Elt Ideal) (v.writes (Elt Ideal) c L)) (St F t m0 m1))
    (inb : ∀ a, (![0, r0, 0] : Fin 3 → ℕ) a + (![1, n, 128] : Fin 3 → ℕ) a ≤ (![2, 1024, 128] : Fin 3 → ℕ) a)
    {p : FVec Ideal ⟨3, ![1, n, 128]⟩ .f32} (hp : R3 p (fun _ r l => F 0 (t + r0 + r) S l)) (hn : r0 + n = 1024)
    (h0 : t + r0 ≤ m0) (hS : t + r0 ≤ S) (hm : m0' = S) :
    R3 (φ := .f32) (v.read (Elt Ideal) (v.writes (Elt Ideal) c
      (⟨Rect.unit (s := ⟨3, ![2, 1024, 128]⟩) ![0, r0, 0] ![1, n, 128] inb, p⟩ :: L))) (St F t m0' m1) :=
  store3 hF hst inb hp hn (fun r hr => ⟨by omega, by rw [if_pos rfl]; omega⟩) hm rfl (by omega)

theorem store_head1 (hF : Stops F) (hst : R3 (φ := .f32) (v.read (Elt Ideal) (v.writes (Elt Ideal) c L)) (St F t m0 m1))
    (inb : ∀ a, (![1, r0, 0] : Fin 3 → ℕ) a + (![1, n, 128] : Fin 3 → ℕ) a ≤ (![2, 1024, 128] : Fin 3 → ℕ) a)
    {p : FVec Ideal ⟨3, ![1, n, 128]⟩ .f32} (hp : R3 p (fun _ r l => F 1 (t + r0 + r) S l)) (hn : r0 + n = 1024)
    (h0 : t + r0 ≤ m1) (hS : t + r0 ≤ S) (hm : m1' = S) :
    R3 (φ := .f32) (v.read (Elt Ideal) (v.writes (Elt Ideal) c
      (⟨Rect.unit (s := ⟨3, ![2, 1024, 128]⟩) ![1, r0, 0] ![1, n, 128] inb, p⟩ :: L))) (St F t m0 m1') :=
  store3 hF hst inb hp hn (fun r hr => ⟨by omega, by rw [if_neg (by omega)]; omega⟩) rfl hm (by omega)

end three

section two
variable {sig : RefSig} {κ : Kind} {sp : Space} {v : View sig κ sp ⟨2, ![128, 4096]⟩ .f32}
  {c : v.ty.Contents (Elt Ideal)} {L : List (View.Piece (Elt Ideal) ⟨2, ![128, 4096]⟩ .f32)}
  {F f : ℕ → ℕ → ℝ} {n n' : ℕ}

theorem load2 (hst : R2 (φ := .f32) (v.read (Elt Ideal) c) (upTo n F f)) {off : Fin 2 → ℕ} (ho : off = ![0, n])
    (inb : ∀ a, off a + (![128, 256] : Fin 2 → ℕ) a ≤ (![128, 4096] : Fin 2 → ℕ) a) :
    R2 (n := 128) (m := 256) (φ := .f32)
      (View.readAt (Elt Ideal) v (Rect.unit (s := ⟨2, ![128, 4096]⟩) off ![128, 256] inb).toLoadRect c)
      (fun l s => f l (n + s)) := fun i => by
  subst ho
  refine (hst _).trans (congrArg (fun x : ℝ => (x : EReal)) ?_)
  have e0 := Rect.idx_unit_val (s := ⟨2, ![128, 4096]⟩) (off := ![0, n]) (size := ![128, 256]) inb i (0 : Fin 2)
  have e1 := Rect.idx_unit_val (s := ⟨2, ![128, 4096]⟩) (off := ![0, n]) (size := ![128, 256]) inb i (1 : Fin 2)
  simp only [Matrix.cons_val_zero, Matrix.cons_val_one, Matrix.cons_val, Nat.zero_add] at e0 e1
  show upTo n F f (((Rect.unit (s := ⟨2, ![128, 4096]⟩) ![0, n] ![128, 256] inb).idx i (0 : Fin 2)).val)
    (((Rect.unit (s := ⟨2, ![128, 4096]⟩) ![0, n] ![128, 256] inb).idx i (1 : Fin 2)).val) = _
  rw [e0, e1, upTo, if_neg (by omega)]

theorem store2 (hst : R2 (φ := .f32) (v.read (Elt Ideal) (v.writes (Elt Ideal) c L)) (upTo n F f)) {off : Fin 2 → ℕ} (ho : off = ![0, n])
    (inb : ∀ a, off a + (![128, 256] : Fin 2 → ℕ) a ≤ (![128, 4096] : Fin 2 → ℕ) a)
    {p : FVec Ideal ⟨2, ![128, 256]⟩ .f32} (hp : R2 p (fun l s => F l (n + s))) (hn : n' = n + 256) :
    R2 (φ := .f32) (v.read (Elt Ideal) (v.writes (Elt Ideal) c
      (⟨Rect.unit (s := ⟨2, ![128, 4096]⟩) off ![128, 256] inb, p⟩ :: L))) (upTo n' F f) := fun i => by
  have b0 : (i 0).val < 128 := (i 0).isLt
  by_cases hm : n ≤ (i 1).val ∧ (i 1).val < n + 256
  · rw [View.read_writes_cons_unit_of_mem v c inb p L i
      (fun a => ⟨(i a).val - (![0, n] : Fin 2 → ℕ) a, by
        revert a
        refine Fin.forall_fin_two.2 ⟨?_, ?_⟩
        · show (i 0).val - 0 < 128; omega
        · show (i 1).val - n < 256; omega⟩) ho
      (by
        refine Fin.forall_fin_two.2 ⟨?_, ?_⟩
        · show (i 0).val = 0 + ((i 0).val - 0); omega
        · show (i 1).val = n + ((i 1).val - n); omega)]
    refine (hp _).trans (congrArg (fun x : ℝ => (x : EReal)) ?_)
    show F ((i 0).val - 0) (n + ((i 1).val - n)) = _
    rw [upTo, if_pos (by omega), Nat.sub_zero, show n + ((i 1).val - n) = (i 1).val from by omega]
  · rw [View.read_writes_cons_unit_of_not_mem v c inb p L i ho (1 : Fin 2) (by show (i 1).val < n ∨ n + 256 ≤ (i 1).val; omega), hst i]
    refine congrArg (fun x : ℝ => (x : EReal)) ?_
    unfold upTo
    by_cases h : (i 1).val < n
    · rw [if_pos h, if_pos (by omega)]
    · rw [if_neg h, if_neg (by omega)]

end two

/-- 256 rows of the keys or values. -/
theorem loadRows {sig : RefSig} {κ : Kind} {sp : Space} {v : View sig κ sp ⟨2, ![4096, 128]⟩ .f32}
    {c : v.ty.Contents (Elt Ideal)} {f : ℕ → ℕ → ℝ} {n : ℕ} (hst : R2 (φ := .f32) (v.read (Elt Ideal) c) f) {off : Fin 2 → ℕ} (ho : off = ![n, 0])
    (inb : ∀ a, off a + (![256, 128] : Fin 2 → ℕ) a ≤ (![4096, 128] : Fin 2 → ℕ) a) :
    R2 (n := 256) (m := 128) (φ := .f32)
      (View.readAt (Elt Ideal) v (Rect.unit (s := ⟨2, ![4096, 128]⟩) off ![256, 128] inb).toLoadRect c)
      (fun s l => f (n + s) l) := fun i => by
  subst ho
  refine (hst _).trans (congrArg (fun x : ℝ => (x : EReal)) ?_)
  have e0 := Rect.idx_unit_val (s := ⟨2, ![4096, 128]⟩) (off := ![n, 0]) (size := ![256, 128]) inb i (0 : Fin 2)
  have e1 := Rect.idx_unit_val (s := ⟨2, ![4096, 128]⟩) (off := ![n, 0]) (size := ![256, 128]) inb i (1 : Fin 2)
  simp only [Matrix.cons_val_zero, Matrix.cons_val_one, Matrix.cons_val, Nat.zero_add] at e0 e1
  show f (((Rect.unit (s := ⟨2, ![4096, 128]⟩) ![n, 0] ![256, 128] inb).idx i (0 : Fin 2)).val)
    (((Rect.unit (s := ⟨2, ![4096, 128]⟩) ![n, 0] ![256, 128] inb).idx i (1 : Fin 2)).val) = _
  rw [e0, e1]

/-- A whole buffer read through the rectangle of its own shape. -/
theorem loadAll {sig : RefSig} {κ : Kind} {sp : Space} {n m : ℕ} {v : View sig κ sp ⟨2, ![n, m]⟩ .f32}
    {c : v.ty.Contents (Elt Ideal)} {f : ℕ → ℕ → ℝ} (hst : R2 (φ := .f32) (v.read (Elt Ideal) c) f)
    (inb : ∀ a, (![0, 0] : Fin 2 → ℕ) a + (![n, m] : Fin 2 → ℕ) a ≤ (![n, m] : Fin 2 → ℕ) a) :
    R2 (n := n) (m := m) (φ := .f32)
      (View.readAt (Elt Ideal) v (Rect.unit (s := ⟨2, ![n, m]⟩) ![0, 0] ![n, m] inb).toLoadRect c) f := fun i => by
  refine (hst _).trans (congrArg (fun x : ℝ => (x : EReal)) ?_)
  have e0 := Rect.idx_unit_val (s := ⟨2, ![n, m]⟩) (off := ![0, 0]) (size := ![n, m]) inb i (0 : Fin 2)
  have e1 := Rect.idx_unit_val (s := ⟨2, ![n, m]⟩) (off := ![0, 0]) (size := ![n, m]) inb i (1 : Fin 2)
  simp only [Matrix.cons_val_zero, Matrix.cons_val_one, Matrix.cons_val, Nat.zero_add] at e0 e1
  show f (((Rect.unit (s := ⟨2, ![n, m]⟩) ![0, 0] ![n, m] inb).idx i (0 : Fin 2)).val)
    (((Rect.unit (s := ⟨2, ![n, m]⟩) ![0, 0] ![n, m] inb).idx i (1 : Fin 2)).val) = _
  rw [e0, e1]

/-- A whole matrix stored in one piece. -/
theorem storeAll {sig : RefSig} {κ : Kind} {sp : Space} {n m : ℕ} {e : EltTy} {v : View sig κ sp ⟨2, ![n, m]⟩ e}
    {c : v.ty.Contents (Elt Ideal)} {L : List (View.Piece (Elt Ideal) ⟨2, ![n, m]⟩ e)}
    (inb : ∀ a, (![0, 0] : Fin 2 → ℕ) a + (![n, m] : Fin 2 → ℕ) a ≤ (![n, m] : Fin 2 → ℕ) a)
    (p : (⟨2, ![n, m]⟩ : Shape).Idx → Elt Ideal e) (i : (⟨2, ![n, m]⟩ : Shape).Idx) :
    v.read (Elt Ideal) (v.writes (Elt Ideal) c (⟨Rect.unit (s := ⟨2, ![n, m]⟩) ![0, 0] ![n, m] inb, p⟩ :: L)) i = p i :=
  View.read_writes_cons_unit_of_mem v c inb p L i i rfl
    (Fin.forall_fin_two.2 ⟨(Nat.zero_add _).symm, (Nat.zero_add _).symm⟩)

/-- The whole of a three-axis buffer stored in one piece. -/
theorem storeAll3 {sig : RefSig} {κ : Kind} {sp : Space} {v : View sig κ sp ⟨3, ![2, 1024, 128]⟩ .f32}
    {c : v.ty.Contents (Elt Ideal)} {L : List (View.Piece (Elt Ideal) ⟨3, ![2, 1024, 128]⟩ .f32)} {f : ℕ → ℕ → ℕ → ℝ}
    (inb : ∀ a, (![0, 0, 0] : Fin 3 → ℕ) a + (![2, 1024, 128] : Fin 3 → ℕ) a ≤ (![2, 1024, 128] : Fin 3 → ℕ) a)
    {p : FVec Ideal ⟨3, ![2, 1024, 128]⟩ .f32} (hp : R3 p f) :
    R3 (φ := .f32) (v.read (Elt Ideal) (v.writes (Elt Ideal) c
      (⟨Rect.unit (s := ⟨3, ![2, 1024, 128]⟩) ![0, 0, 0] ![2, 1024, 128] inb, p⟩ :: L))) f := fun i => by
  rw [View.read_writes_cons_unit_of_mem v c inb p L i i rfl
    (Fin.forall_fin_succ.2 ⟨(Nat.zero_add _).symm, Fin.forall_fin_two.2 ⟨(Nat.zero_add _).symm, (Nat.zero_add _).symm⟩⟩)]
  exact hp i

end Cert.Proof
-- ==== Proof.Full.lean ====
/- A block wholly before the diagonal: what each of its values holds, the query rows being `t0 + r` and the keys `s0 + c`. -/
module

public import proofs.«01_k».proof.Proof.Forms
public import proofs.«01_k».proof.Proof.Gen.KernelIdeal.Skeleton

@[expose] public section

noncomputable section

namespace Cert.Proof

open Idealize.ShloMosaic Cert.KernelIdeal Cert.KernelIdeal.Gen

variable (D : Data)

theorem pay4_spec {s0 : ℕ} {v785 : FVec Ideal S256x128 .f32}
    (h785 : R2 v785 (fun c l => D.K (s0 + c) l)) :
    R2 (k0_pay4 v785) (fun c l => D.K (s0 + c) l) :=
  (R2.truncf h785 bitsLt_bf16_f32)

theorem pay5_spec {s0 : ℕ} {v788 : FVec Ideal S256x128 .f32}
    (h788 : R2 v788 (fun c l => D.V (s0 + c) l)) :
    R2 (k0_pay5 v788) (fun c l => D.V (s0 + c) l) :=
  (R2.truncf h788 bitsLt_bf16_f32)

theorem pay6_spec :
    R2 (k0_pay6 (F := Ideal)) (fun _ _ => 0) :=
  (R2.splat bits_zero)

theorem pay7_spec :
    R2 (k0_pay7 (F := Ideal)) (fun _ _ => 0) :=
  (R2.splat bits_zero)

theorem pay8_spec {t0 s0 : ℕ} {v21 : FVec Ideal S1024x128 .bf16} {v785 : FVec Ideal S256x128 .f32}
    (h21 : R2 v21 (fun r l => D.qh 0 (t0 + r) l))
    (h785 : R2 v785 (fun c l => D.K (s0 + c) l)) :
    R2 (k0_pay8 v21 v785) (fun r c => D.mn 0 (t0 + r) (s0 + c)) :=
  (t_min D (t_nz D h21 (pay4_spec D h785) (R2.const bits_zero)) (R2.splat bits_eighty))

theorem pay9_spec {t0 s0 : ℕ} {v21 : FVec Ideal S1024x128 .bf16} {v785 : FVec Ideal S256x128 .f32}
    (h21 : R2 v21 (fun r l => D.qh 0 (t0 + r) l))
    (h785 : R2 v785 (fun c l => D.K (s0 + c) l)) :
    R2 (k0_pay9 v21 v785) (fun r c => D.sp 0 (t0 + r) (s0 + c)) :=
  (t_sp D (R2.addf (R2.splat bits_one) (R2.exp (pay8_spec D h21 h785))))

theorem pay10_spec {t0 s0 : ℕ} (hf : s0 + 256 ≤ t0) {v9 : FVec Ideal S512x256 .bf16} {v21 : FVec Ideal S1024x128 .bf16} {v785 : FVec Ideal S256x128 .f32}
    (h9 : R2 v9 upInc)
    (h21 : R2 v21 (fun r l => D.qh 0 (t0 + r) l))
    (h785 : R2 v785 (fun c l => D.K (s0 + c) l)) :
    R2 (k0_pay10 v9 v21 v785) (fun r c => D.pre 0 (t0 + r) (s0 + c + 1) - D.pre 0 (t0 + r) s0) :=
  (t_pp D h9 (R2.beside (R2.truncf (t_lkFull D hf (pay8_spec D h21 h785) (pay9_spec D h21 h785)) bitsLt_bf16_f32) (R2.truncf (R2.subf (t_lkFull D hf (pay8_spec D h21 h785) (pay9_spec D h21 h785)) (R2.extf (R2.truncf (t_lkFull D hf (pay8_spec D h21 h785) (pay9_spec D h21 h785)) bitsLt_bf16_f32) bitsLt_bf16_f32)) bitsLt_bf16_f32) concatenates_S1024x256_S1024x256_S1024x512_d1) (R2.const bits_zero))

theorem pay11_spec {t0 s0 : ℕ} {v806 : FVec Ideal S1x1024x128 .f32}
    (h806 : R3 v806 (fun _ r _ => D.pre 0 (t0 + r) s0)) :
    R2 (k0_pay11 v806) (fun r _ => D.pre 0 (t0 + r) s0) :=
  (R3.drop h806 shapeCasts_S1x1024x128_S1024x128)

theorem pay12_spec {t0 s0 : ℕ} {v808 : FVec Ideal S1x1024x128 .f32}
    (h808 : R3 v808 (fun _ r _ => D.gs 0 (t0 + r) s0)) :
    R2 (k0_pay12 v808) (fun r _ => D.gs 0 (t0 + r) s0) :=
  (R3.drop h808 shapeCasts_S1x1024x128_S1024x128)

theorem pay13_spec {t0 s0 : ℕ} (hf : s0 + 256 ≤ t0) {v9 : FVec Ideal S512x256 .bf16} {v21 : FVec Ideal S1024x128 .bf16} {v41 : FVec Ideal S1024x128 .f32} {v785 : FVec Ideal S256x128 .f32} {v806 : FVec Ideal S1x1024x128 .f32}
    (h9 : R2 v9 upInc)
    (h21 : R2 v21 (fun r l => D.qh 0 (t0 + r) l))
    (h41 : R2 v41 (fun r _ => D.T 0 (t0 + r)))
    (h785 : R2 v785 (fun c l => D.K (s0 + c) l))
    (h806 : R3 v806 (fun _ r _ => D.pre 0 (t0 + r) s0)) :
    R2 (k0_pay13 v9 v21 v41 v785 v806) (fun r c => D.a 0 (t0 + r) (s0 + c)) :=
  (t_aFull D hf (R2.subf (t_rp D (t_twice (f := fun r => D.T 0 (t0 + r) - D.pre 0 (t0 + r) s0) (R2.subf h41 (pay11_spec D h806)) concatenates_S1024x128_S1024x128_S1024x256_d1) (pay10_spec D hf h9 h21 h785)) (pay9_spec D h21 h785)))

theorem pay14_spec {t0 s0 : ℕ} (hf : s0 + 256 ≤ t0) {v9 : FVec Ideal S512x256 .bf16} {v21 : FVec Ideal S1024x128 .bf16} {v30 : FVec Ideal S1024x128 .bf16} {v41 : FVec Ideal S1024x128 .f32} {v785 : FVec Ideal S256x128 .f32} {v788 : FVec Ideal S256x128 .f32} {v806 : FVec Ideal S1x1024x128 .f32}
    (h9 : R2 v9 upInc)
    (h21 : R2 v21 (fun r l => D.qh 0 (t0 + r) l))
    (h30 : R2 v30 (fun r l => D.dyh 0 (t0 + r) l))
    (h41 : R2 v41 (fun r _ => D.T 0 (t0 + r)))
    (h785 : R2 v785 (fun c l => D.K (s0 + c) l))
    (h788 : R2 v788 (fun c l => D.V (s0 + c) l))
    (h806 : R3 v806 (fun _ r _ => D.pre 0 (t0 + r) s0)) :
    R2 (k0_pay14 v9 v21 v30 v41 v785 v788 v806) (fun r c => D.g 0 (t0 + r) (s0 + c)) :=
  (t_g D (t_dyv D h30 (pay5_spec D h788) (R2.const bits_zero)) (pay13_spec D hf h9 h21 h41 h785 h806))

theorem pay15_spec {t0 s0 : ℕ} (hf : s0 + 256 ≤ t0) {v9 : FVec Ideal S512x256 .bf16} {v13 : FVec Ideal S256x256 .bf16} {v21 : FVec Ideal S1024x128 .bf16} {v30 : FVec Ideal S1024x128 .bf16} {v41 : FVec Ideal S1024x128 .f32} {v785 : FVec Ideal S256x128 .f32} {v788 : FVec Ideal S256x128 .f32} {v806 : FVec Ideal S1x1024x128 .f32}
    (h9 : R2 v9 upInc)
    (h13 : R2 v13 upExc)
    (h21 : R2 v21 (fun r l => D.qh 0 (t0 + r) l))
    (h30 : R2 v30 (fun r l => D.dyh 0 (t0 + r) l))
    (h41 : R2 v41 (fun r _ => D.T 0 (t0 + r)))
    (h785 : R2 v785 (fun c l => D.K (s0 + c) l))
    (h788 : R2 v788 (fun c l => D.V (s0 + c) l))
    (h806 : R3 v806 (fun _ r _ => D.pre 0 (t0 + r) s0)) :
    R2 (k0_pay15 v9 v13 v21 v30 v41 v785 v788 v806) (fun r c => D.gs 0 (t0 + r) (s0 + c) - D.gs 0 (t0 + r) s0) :=
  (t_gg D h13 (R2.truncf (pay14_spec D hf h9 h21 h30 h41 h785 h788 h806) bitsLt_bf16_f32) (R2.const bits_zero))

theorem pay16_spec {t0 s0 : ℕ} {v21 : FVec Ideal S1024x128 .bf16} {v785 : FVec Ideal S256x128 .f32}
    (h21 : R2 v21 (fun r l => D.qh 0 (t0 + r) l))
    (h785 : R2 v785 (fun c l => D.K (s0 + c) l)) :
    R2 (k0_pay16 v21 v785) (fun r c => Real.exp (0 - D.sp 0 (t0 + r) (s0 + c))) :=
  (R2.exp (R2.subf (R2.splat bits_zero) (pay9_spec D h21 h785)))

theorem pay17_spec {t0 s0 : ℕ} {v808 : FVec Ideal S1x1024x128 .f32}
    (h808 : R3 v808 (fun _ r _ => D.gs 0 (t0 + r) s0)) :
    R2 (k0_pay17 v808) (fun r _ => D.gs 0 (t0 + r) s0) :=
  (t_twice (f := fun r => D.gs 0 (t0 + r) s0) (pay12_spec D h808) concatenates_S1024x128_S1024x128_S1024x256_d1)

theorem pay18_spec {t0 s0 : ℕ} (hf : s0 + 256 ≤ t0) {v816 : FVec Ideal S1024x256 .f32} {v818 : FVec Ideal S1024x256 .f32} {v821 : FVec Ideal S1024x256 .f32} {v822 : FVec Ideal S1024x256 .f32}
    (h816 : R2 v816 (fun r c => D.g 0 (t0 + r) (s0 + c)))
    (h818 : R2 v818 (fun r c => D.gs 0 (t0 + r) (s0 + c) - D.gs 0 (t0 + r) s0))
    (h821 : R2 v821 (fun r c => Real.exp (0 - D.sp 0 (t0 + r) (s0 + c))))
    (h822 : R2 v822 (fun r _ => D.gs 0 (t0 + r) s0)) :
    R2 (k0_pay18 v816 v818 v821 v822) (fun r c => D.dz 0 (t0 + r) (s0 + c)) :=
  (R2.truncf (t_dzFull D hf h816 (R2.mulf h821 (R2.addf h816 (t_sum D h822 h818)))) bitsLt_bf16_f32)

theorem pay19_spec {t0 s0 : ℕ} (hf : s0 + 256 ≤ t0) {v786 : FVec Ideal S256x128 .bf16} {v816 : FVec Ideal S1024x256 .f32} {v818 : FVec Ideal S1024x256 .f32} {v821 : FVec Ideal S1024x256 .f32} {v822 : FVec Ideal S1024x256 .f32} {v828 : FVec Ideal S1x1024x128 .f32}
    (h786 : R2 v786 (fun c l => D.K (s0 + c) l))
    (h816 : R2 v816 (fun r c => D.g 0 (t0 + r) (s0 + c)))
    (h818 : R2 v818 (fun r c => D.gs 0 (t0 + r) (s0 + c) - D.gs 0 (t0 + r) s0))
    (h821 : R2 v821 (fun r c => Real.exp (0 - D.sp 0 (t0 + r) (s0 + c))))
    (h822 : R2 v822 (fun r _ => D.gs 0 (t0 + r) s0))
    (h828 : R3 v828 (fun _ r l => D.dqa 0 (t0 + r) s0 l)) :
    R3 (k0_pay19 v786 v816 v818 v821 v822 v828) (fun _ r l => D.dqa 0 (t0 + r) (s0 + 256) l) :=
  (R2.lift (t_dqa D (R3.drop h828 shapeCasts_S1x1024x128_S1024x128) (t_dqd D (pay18_spec D hf h816 h818 h821 h822) h786 (R2.const bits_zero))) shapeCasts_S1024x128_S1x1024x128)

theorem pay20_spec {t0 s0 : ℕ} (hf : s0 + 256 ≤ t0) {v34 : FVec Ideal S128x1024 .bf16} {v790 : FVec Ideal S128x256 .f32} {v816 : FVec Ideal S1024x256 .f32} {v818 : FVec Ideal S1024x256 .f32} {v821 : FVec Ideal S1024x256 .f32} {v822 : FVec Ideal S1024x256 .f32}
    (h34 : R2 v34 (fun l r => D.qh 0 (t0 + r) l))
    (h790 : R2 v790 (fun _ _ => 0))
    (h816 : R2 v816 (fun r c => D.g 0 (t0 + r) (s0 + c)))
    (h818 : R2 v818 (fun r c => D.gs 0 (t0 + r) (s0 + c) - D.gs 0 (t0 + r) s0))
    (h821 : R2 v821 (fun r c => Real.exp (0 - D.sp 0 (t0 + r) (s0 + c))))
    (h822 : R2 v822 (fun r _ => D.gs 0 (t0 + r) s0)) :
    R2 (k0_pay20 v34 v790 v816 v818 v821 v822) (fun l c => 0 + (D.dkh 0 t0 1024 l (s0 + c))) :=
  (R2.addf h790 (t_dkh D h34 (pay18_spec D hf h816 h818 h821 h822) (R2.const bits_zero)))

theorem pay21_spec {t0 s0 : ℕ} {v36 : FVec Ideal S128x1024 .bf16} {v791 : FVec Ideal S128x256 .f32} {v814 : FVec Ideal S1024x256 .f32}
    (h36 : R2 v36 (fun l r => D.dyh 0 (t0 + r) l))
    (h791 : R2 v791 (fun _ _ => 0))
    (h814 : R2 v814 (fun r c => D.a 0 (t0 + r) (s0 + c))) :
    R2 (k0_pay21 v36 v791 v814) (fun l c => 0 + (D.dvh 0 t0 1024 l (s0 + c))) :=
  (R2.addf h791 (t_dvh D h36 (R2.truncf h814 bitsLt_bf16_f32) (R2.const bits_zero)))

theorem pay22_spec {t0 s0 : ℕ} {v805 : FVec Ideal S1024x256 .f32} {v807 : FVec Ideal S1024x128 .f32}
    (h805 : R2 v805 (fun r c => D.pre 0 (t0 + r) (s0 + c + 1) - D.pre 0 (t0 + r) s0))
    (h807 : R2 v807 (fun r _ => D.pre 0 (t0 + r) s0)) :
    R3 (k0_pay22 v805 v807) (fun _ r _ => D.pre 0 (t0 + r) (s0 + 256)) :=
  (R2.lift (t_cp D h807 (R2.column (R2.castSelf (t_ppLast D h805 slices_S1024x256_o0_255_S1024x1) shapeCasts_S1024x1_S1024x1) broadcasts_S1024x1_S1024x128)) shapeCasts_S1024x128_S1x1024x128)

theorem pay23_spec {t0 s0 : ℕ} {v809 : FVec Ideal S1024x128 .f32} {v816 : FVec Ideal S1024x256 .f32} {v818 : FVec Ideal S1024x256 .f32}
    (h809 : R2 v809 (fun r _ => D.gs 0 (t0 + r) s0))
    (h816 : R2 v816 (fun r c => D.g 0 (t0 + r) (s0 + c)))
    (h818 : R2 v818 (fun r c => D.gs 0 (t0 + r) (s0 + c) - D.gs 0 (t0 + r) s0)) :
    R3 (k0_pay23 v809 v816 v818) (fun _ r _ => D.gs 0 (t0 + r) (s0 + 256)) :=
  (R2.lift (t_cg D h809 (R2.column (R2.castSelf (t_cgStep D (t_ggLast D h818 slices_S1024x256_o0_255_S1024x1) (t_gLast D h816 slices_S1024x256_o0_255_S1024x1)) shapeCasts_S1024x1_S1024x1) broadcasts_S1024x1_S1024x128)) shapeCasts_S1024x128_S1x1024x128)

theorem pay24_spec {t0 s0 : ℕ} {v26 : FVec Ideal S1024x128 .bf16} {v786 : FVec Ideal S256x128 .bf16}
    (h26 : R2 v26 (fun r l => D.qh 1 (t0 + r) l))
    (h786 : R2 v786 (fun c l => D.K (s0 + c) l)) :
    R2 (k0_pay24 v26 v786) (fun r c => D.mn 1 (t0 + r) (s0 + c)) :=
  (t_min D (t_nz D h26 h786 (R2.const bits_zero)) (R2.splat bits_eighty))

theorem pay25_spec {t0 s0 : ℕ} {v26 : FVec Ideal S1024x128 .bf16} {v786 : FVec Ideal S256x128 .bf16}
    (h26 : R2 v26 (fun r l => D.qh 1 (t0 + r) l))
    (h786 : R2 v786 (fun c l => D.K (s0 + c) l)) :
    R2 (k0_pay25 v26 v786) (fun r c => 1 + Real.exp (D.mn 1 (t0 + r) (s0 + c))) :=
  (R2.addf (R2.splat bits_one) (R2.exp (pay24_spec D h26 h786)))

theorem pay26_spec {t0 s0 : ℕ} {v861 : FVec Ideal S1024x256 .f32}
    (h861 : R2 v861 (fun r c => 1 + Real.exp (D.mn 1 (t0 + r) (s0 + c)))) :
    R2 (k0_pay26 v861) (fun r c => D.sp 1 (t0 + r) (s0 + c)) :=
  (t_sp D h861)

theorem pay27_spec {t0 s0 : ℕ} (hf : s0 + 256 ≤ t0) {v9 : FVec Ideal S512x256 .bf16} {v858 : FVec Ideal S1024x256 .f32} {v861 : FVec Ideal S1024x256 .f32}
    (h9 : R2 v9 upInc)
    (h858 : R2 v858 (fun r c => D.mn 1 (t0 + r) (s0 + c)))
    (h861 : R2 v861 (fun r c => 1 + Real.exp (D.mn 1 (t0 + r) (s0 + c)))) :
    R2 (k0_pay27 v9 v858 v861) (fun r c => D.pre 1 (t0 + r) (s0 + c + 1) - D.pre 1 (t0 + r) s0) :=
  (t_pp D h9 (R2.beside (R2.truncf (t_lkFull D hf h858 (pay26_spec D h861)) bitsLt_bf16_f32) (R2.truncf (R2.subf (t_lkFull D hf h858 (pay26_spec D h861)) (R2.extf (R2.truncf (t_lkFull D hf h858 (pay26_spec D h861)) bitsLt_bf16_f32) bitsLt_bf16_f32)) bitsLt_bf16_f32) concatenates_S1024x256_S1024x256_S1024x512_d1) (R2.const bits_zero))

theorem pay28_spec {t0 s0 : ℕ} {v870 : FVec Ideal S1x1024x128 .f32}
    (h870 : R3 v870 (fun _ r _ => D.pre 1 (t0 + r) s0)) :
    R2 (k0_pay28 v870) (fun r _ => D.pre 1 (t0 + r) s0) :=
  (R3.drop h870 shapeCasts_S1x1024x128_S1024x128)

theorem pay29_spec {t0 s0 : ℕ} {v872 : FVec Ideal S1x1024x128 .f32}
    (h872 : R3 v872 (fun _ r _ => D.gs 1 (t0 + r) s0)) :
    R2 (k0_pay29 v872) (fun r _ => D.gs 1 (t0 + r) s0) :=
  (R3.drop h872 shapeCasts_S1x1024x128_S1024x128)

theorem pay30_spec {t0 s0 : ℕ} (hf : s0 + 256 ≤ t0) {v9 : FVec Ideal S512x256 .bf16} {v42 : FVec Ideal S1024x128 .f32} {v858 : FVec Ideal S1024x256 .f32} {v861 : FVec Ideal S1024x256 .f32} {v870 : FVec Ideal S1x1024x128 .f32}
    (h9 : R2 v9 upInc)
    (h42 : R2 v42 (fun r _ => D.T 1 (t0 + r)))
    (h858 : R2 v858 (fun r c => D.mn 1 (t0 + r) (s0 + c)))
    (h861 : R2 v861 (fun r c => 1 + Real.exp (D.mn 1 (t0 + r) (s0 + c))))
    (h870 : R3 v870 (fun _ r _ => D.pre 1 (t0 + r) s0)) :
    R2 (k0_pay30 v9 v42 v858 v861 v870) (fun r c => D.a 1 (t0 + r) (s0 + c)) :=
  (t_aFull D hf (R2.subf (t_rp D (t_twice (f := fun r => D.T 1 (t0 + r) - D.pre 1 (t0 + r) s0) (R2.subf h42 (pay28_spec D h870)) concatenates_S1024x128_S1024x128_S1024x256_d1) (pay27_spec D hf h9 h858 h861)) (pay26_spec D h861)))

theorem pay31_spec {t0 s0 : ℕ} (hf : s0 + 256 ≤ t0) {v9 : FVec Ideal S512x256 .bf16} {v33 : FVec Ideal S1024x128 .bf16} {v42 : FVec Ideal S1024x128 .f32} {v789 : FVec Ideal S256x128 .bf16} {v858 : FVec Ideal S1024x256 .f32} {v861 : FVec Ideal S1024x256 .f32} {v870 : FVec Ideal S1x1024x128 .f32}
    (h9 : R2 v9 upInc)
    (h33 : R2 v33 (fun r l => D.dyh 1 (t0 + r) l))
    (h42 : R2 v42 (fun r _ => D.T 1 (t0 + r)))
    (h789 : R2 v789 (fun c l => D.V (s0 + c) l))
    (h858 : R2 v858 (fun r c => D.mn 1 (t0 + r) (s0 + c)))
    (h861 : R2 v861 (fun r c => 1 + Real.exp (D.mn 1 (t0 + r) (s0 + c))))
    (h870 : R3 v870 (fun _ r _ => D.pre 1 (t0 + r) s0)) :
    R2 (k0_pay31 v9 v33 v42 v789 v858 v861 v870) (fun r c => D.g 1 (t0 + r) (s0 + c)) :=
  (t_g D (t_dyv D h33 h789 (R2.const bits_zero)) (pay30_spec D hf h9 h42 h858 h861 h870))

theorem pay32_spec {t0 s0 : ℕ} (hf : s0 + 256 ≤ t0) {v9 : FVec Ideal S512x256 .bf16} {v13 : FVec Ideal S256x256 .bf16} {v33 : FVec Ideal S1024x128 .bf16} {v42 : FVec Ideal S1024x128 .f32} {v789 : FVec Ideal S256x128 .bf16} {v858 : FVec Ideal S1024x256 .f32} {v861 : FVec Ideal S1024x256 .f32} {v870 : FVec Ideal S1x1024x128 .f32}
    (h9 : R2 v9 upInc)
    (h13 : R2 v13 upExc)
    (h33 : R2 v33 (fun r l => D.dyh 1 (t0 + r) l))
    (h42 : R2 v42 (fun r _ => D.T 1 (t0 + r)))
    (h789 : R2 v789 (fun c l => D.V (s0 + c) l))
    (h858 : R2 v858 (fun r c => D.mn 1 (t0 + r) (s0 + c)))
    (h861 : R2 v861 (fun r c => 1 + Real.exp (D.mn 1 (t0 + r) (s0 + c))))
    (h870 : R3 v870 (fun _ r _ => D.pre 1 (t0 + r) s0)) :
    R2 (k0_pay32 v9 v13 v33 v42 v789 v858 v861 v870) (fun r c => D.gs 1 (t0 + r) (s0 + c) - D.gs 1 (t0 + r) s0) :=
  (t_gg D h13 (R2.truncf (pay31_spec D hf h9 h33 h42 h789 h858 h861 h870) bitsLt_bf16_f32) (R2.const bits_zero))

theorem pay33_spec {t0 s0 : ℕ} (hf : s0 + 256 ≤ t0) {v9 : FVec Ideal S512x256 .bf16} {v13 : FVec Ideal S256x256 .bf16} {v33 : FVec Ideal S1024x128 .bf16} {v42 : FVec Ideal S1024x128 .f32} {v789 : FVec Ideal S256x128 .bf16} {v858 : FVec Ideal S1024x256 .f32} {v861 : FVec Ideal S1024x256 .f32} {v870 : FVec Ideal S1x1024x128 .f32} {v872 : FVec Ideal S1x1024x128 .f32}
    (h9 : R2 v9 upInc)
    (h13 : R2 v13 upExc)
    (h33 : R2 v33 (fun r l => D.dyh 1 (t0 + r) l))
    (h42 : R2 v42 (fun r _ => D.T 1 (t0 + r)))
    (h789 : R2 v789 (fun c l => D.V (s0 + c) l))
    (h858 : R2 v858 (fun r c => D.mn 1 (t0 + r) (s0 + c)))
    (h861 : R2 v861 (fun r c => 1 + Real.exp (D.mn 1 (t0 + r) (s0 + c))))
    (h870 : R3 v870 (fun _ r _ => D.pre 1 (t0 + r) s0))
    (h872 : R3 v872 (fun _ r _ => D.gs 1 (t0 + r) s0)) :
    R2 (k0_pay33 v9 v13 v33 v42 v789 v858 v861 v870 v872) (fun r c => D.dz 1 (t0 + r) (s0 + c)) :=
  (R2.truncf (t_dzFull D hf (pay31_spec D hf h9 h33 h42 h789 h858 h861 h870) (R2.mulf (R2.exp (R2.subf (R2.splat bits_zero) (pay26_spec D h861))) (R2.addf (pay31_spec D hf h9 h33 h42 h789 h858 h861 h870) (t_sum D (t_twice (f := fun r => D.gs 1 (t0 + r) s0) (pay29_spec D h872) concatenates_S1024x128_S1024x128_S1024x256_d1) (pay32_spec D hf h9 h13 h33 h42 h789 h858 h861 h870))))) bitsLt_bf16_f32)

theorem pay34_spec {t0 s0 : ℕ} (hf : s0 + 256 ≤ t0) {v9 : FVec Ideal S512x256 .bf16} {v13 : FVec Ideal S256x256 .bf16} {v33 : FVec Ideal S1024x128 .bf16} {v42 : FVec Ideal S1024x128 .f32} {v786 : FVec Ideal S256x128 .bf16} {v789 : FVec Ideal S256x128 .bf16} {v858 : FVec Ideal S1024x256 .f32} {v861 : FVec Ideal S1024x256 .f32} {v870 : FVec Ideal S1x1024x128 .f32} {v872 : FVec Ideal S1x1024x128 .f32} {v892 : FVec Ideal S1x1024x128 .f32}
    (h9 : R2 v9 upInc)
    (h13 : R2 v13 upExc)
    (h33 : R2 v33 (fun r l => D.dyh 1 (t0 + r) l))
    (h42 : R2 v42 (fun r _ => D.T 1 (t0 + r)))
    (h786 : R2 v786 (fun c l => D.K (s0 + c) l))
    (h789 : R2 v789 (fun c l => D.V (s0 + c) l))
    (h858 : R2 v858 (fun r c => D.mn 1 (t0 + r) (s0 + c)))
    (h861 : R2 v861 (fun r c => 1 + Real.exp (D.mn 1 (t0 + r) (s0 + c))))
    (h870 : R3 v870 (fun _ r _ => D.pre 1 (t0 + r) s0))
    (h872 : R3 v872 (fun _ r _ => D.gs 1 (t0 + r) s0))
    (h892 : R3 v892 (fun _ r l => D.dqa 1 (t0 + r) s0 l)) :
    R3 (k0_pay34 v9 v13 v33 v42 v786 v789 v858 v861 v870 v872 v892) (fun _ r l => D.dqa 1 (t0 + r) (s0 + 256) l) :=
  (R2.lift (t_dqa D (R3.drop h892 shapeCasts_S1x1024x128_S1024x128) (t_dqd D (pay33_spec D hf h9 h13 h33 h42 h789 h858 h861 h870 h872) h786 (R2.const bits_zero))) shapeCasts_S1024x128_S1x1024x128)

theorem pay35_spec {t0 s0 : ℕ} (hf : s0 + 256 ≤ t0) {v9 : FVec Ideal S512x256 .bf16} {v13 : FVec Ideal S256x256 .bf16} {v33 : FVec Ideal S1024x128 .bf16} {v35 : FVec Ideal S128x1024 .bf16} {v42 : FVec Ideal S1024x128 .f32} {v789 : FVec Ideal S256x128 .bf16} {v836 : FVec Ideal S128x256 .f32} {v858 : FVec Ideal S1024x256 .f32} {v861 : FVec Ideal S1024x256 .f32} {v870 : FVec Ideal S1x1024x128 .f32} {v872 : FVec Ideal S1x1024x128 .f32}
    (h9 : R2 v9 upInc)
    (h13 : R2 v13 upExc)
    (h33 : R2 v33 (fun r l => D.dyh 1 (t0 + r) l))
    (h35 : R2 v35 (fun l r => D.qh 1 (t0 + r) l))
    (h42 : R2 v42 (fun r _ => D.T 1 (t0 + r)))
    (h789 : R2 v789 (fun c l => D.V (s0 + c) l))
    (h836 : R2 v836 (fun l c => 0 + (D.dkh 0 t0 1024 l (s0 + c))))
    (h858 : R2 v858 (fun r c => D.mn 1 (t0 + r) (s0 + c)))
    (h861 : R2 v861 (fun r c => 1 + Real.exp (D.mn 1 (t0 + r) (s0 + c))))
    (h870 : R3 v870 (fun _ r _ => D.pre 1 (t0 + r) s0))
    (h872 : R3 v872 (fun _ r _ => D.gs 1 (t0 + r) s0)) :
    R2 (k0_pay35 v9 v13 v33 v35 v42 v789 v836 v858 v861 v870 v872) (fun l c => 0 + (D.dkh 0 t0 1024 l (s0 + c)) + (D.dkh 1 t0 1024 l (s0 + c))) :=
  (R2.addf h836 (t_dkh D h35 (pay33_spec D hf h9 h13 h33 h42 h789 h858 h861 h870 h872) (R2.const bits_zero)))

theorem pay36_spec {t0 s0 : ℕ} (hf : s0 + 256 ≤ t0) {v9 : FVec Ideal S512x256 .bf16} {v42 : FVec Ideal S1024x128 .f32} {v858 : FVec Ideal S1024x256 .f32} {v861 : FVec Ideal S1024x256 .f32} {v870 : FVec Ideal S1x1024x128 .f32}
    (h9 : R2 v9 upInc)
    (h42 : R2 v42 (fun r _ => D.T 1 (t0 + r)))
    (h858 : R2 v858 (fun r c => D.mn 1 (t0 + r) (s0 + c)))
    (h861 : R2 v861 (fun r c => 1 + Real.exp (D.mn 1 (t0 + r) (s0 + c))))
    (h870 : R3 v870 (fun _ r _ => D.pre 1 (t0 + r) s0)) :
    R2 (k0_pay36 v9 v42 v858 v861 v870) (fun r c => D.a 1 (t0 + r) (s0 + c)) :=
  (R2.truncf (pay30_spec D hf h9 h42 h858 h861 h870) bitsLt_bf16_f32)

theorem pay91_spec {t0 s0 : ℕ} {v869 : FVec Ideal S1024x256 .f32} {v871 : FVec Ideal S1024x128 .f32}
    (h869 : R2 v869 (fun r c => D.pre 1 (t0 + r) (s0 + c + 1) - D.pre 1 (t0 + r) s0))
    (h871 : R2 v871 (fun r _ => D.pre 1 (t0 + r) s0)) :
    R3 (k0_pay91 v869 v871) (fun _ r _ => D.pre 1 (t0 + r) (s0 + 256)) :=
  (R2.lift (t_cp D h871 (R2.column (R2.castSelf (t_ppLast D h869 slices_S1024x256_o0_255_S1024x1) shapeCasts_S1024x1_S1024x1) broadcasts_S1024x1_S1024x128)) shapeCasts_S1024x128_S1x1024x128)

theorem pay92_spec {t0 s0 : ℕ} {v873 : FVec Ideal S1024x128 .f32} {v880 : FVec Ideal S1024x256 .f32} {v882 : FVec Ideal S1024x256 .f32}
    (h873 : R2 v873 (fun r _ => D.gs 1 (t0 + r) s0))
    (h880 : R2 v880 (fun r c => D.g 1 (t0 + r) (s0 + c)))
    (h882 : R2 v882 (fun r c => D.gs 1 (t0 + r) (s0 + c) - D.gs 1 (t0 + r) s0)) :
    R3 (k0_pay92 v873 v880 v882) (fun _ r _ => D.gs 1 (t0 + r) (s0 + 256)) :=
  (R2.lift (t_cg D h873 (R2.column (R2.castSelf (t_cgStep D (t_ggLast D h882 slices_S1024x256_o0_255_S1024x1) (t_gLast D h880 slices_S1024x256_o0_255_S1024x1)) shapeCasts_S1024x1_S1024x1) broadcasts_S1024x1_S1024x128)) shapeCasts_S1024x128_S1x1024x128)

theorem pay93_spec {t0 s0 : ℕ} {f : ℕ → ℕ → ℝ} {v900 : FVec Ideal S128x256 .f32} {v921 : FVec Ideal S128x256 .f32}
    (h900 : R2 v900 (fun l c => 0 + (D.dkh 0 t0 1024 l (s0 + c)) + (D.dkh 1 t0 1024 l (s0 + c))))
    (h921 : R2 v921 (fun l c => f l c)) :
    R2 (k0_pay93 v900 v921) (fun l c => f l c - (0 + (D.dkh 0 t0 1024 l (s0 + c)) + (D.dkh 1 t0 1024 l (s0 + c)))) :=
  (R2.castSelf (R2.subf h921 h900) shapeCasts_S128x256_S128x256)

theorem pay94_spec {t0 s0 : ℕ} {f : ℕ → ℕ → ℝ} {v37 : FVec Ideal S128x1024 .bf16} {v839 : FVec Ideal S128x256 .f32} {v901 : FVec Ideal S1024x256 .bf16} {cst_379 : FVec Ideal S128x256 .f32} {v928 : FVec Ideal S128x256 .f32}
    (h37 : R2 v37 (fun l r => D.dyh 1 (t0 + r) l))
    (h839 : R2 v839 (fun l c => 0 + (D.dvh 0 t0 1024 l (s0 + c))))
    (h901 : R2 v901 (fun r c => D.a 1 (t0 + r) (s0 + c)))
    (hcst_379 : R2 cst_379 (fun _ _ => 0))
    (h928 : R2 v928 (fun l c => f l c)) :
    R2 (k0_pay94 v37 v839 v901 cst_379 v928) (fun l c => f l c + (0 + (D.dvh 0 t0 1024 l (s0 + c)) + (D.dvh 1 t0 1024 l (s0 + c)))) :=
  (R2.castSelf (R2.addf h928 (R2.addf h839 (t_dvh D h37 h901 hcst_379))) shapeCasts_S128x256_S128x256)

end Cert.Proof
-- ==== Proof.Trip.lean ====
/- One trip of the loop over the key blocks wholly before the query tile, and the loop: the sums the buffers hold after
   `n` blocks are those over the first `256 * n` keys. -/
module

public import proofs.«01_k».proof.Proof.Buffers
public import proofs.«01_k».proof.Proof.Full
public import proofs.«01_k».proof.Proof.Gen.KernelIdeal.Loops

@[expose] public section

noncomputable section

namespace Cert.Proof

open Idealize.ShloMosaic Idealize.SL Idealize.SL.Sem Cert.KernelIdeal Cert.KernelIdeal.Gen

/-- What the kernel prepares of a tile before its loop: the two triangles of ones, and by head the tile's scaled queries,
    output derivatives, both transposed, and row sums. -/
structure Base (D : Data) (t : ℕ)
    (v9 : FVec Ideal S512x256 .bf16)
    (v13 : FVec Ideal S256x256 .bf16)
    (v21 : FVec Ideal S1024x128 .bf16)
    (v26 : FVec Ideal S1024x128 .bf16)
    (v30 : FVec Ideal S1024x128 .bf16)
    (v33 : FVec Ideal S1024x128 .bf16)
    (v34 : FVec Ideal S128x1024 .bf16)
    (v35 : FVec Ideal S128x1024 .bf16)
    (v36 : FVec Ideal S128x1024 .bf16)
    (v37 : FVec Ideal S128x1024 .bf16)
    (v41 : FVec Ideal S1024x128 .f32)
    (v42 : FVec Ideal S1024x128 .f32) : Prop where
  v9 : R2 v9 upInc
  v13 : R2 v13 upExc
  v21 : R2 v21 (fun r l => D.qh 0 (t + r) l)
  v26 : R2 v26 (fun r l => D.qh 1 (t + r) l)
  v30 : R2 v30 (fun r l => D.dyh 0 (t + r) l)
  v33 : R2 v33 (fun r l => D.dyh 1 (t + r) l)
  v34 : R2 v34 (fun l r => D.qh 0 (t + r) l)
  v35 : R2 v35 (fun l r => D.qh 1 (t + r) l)
  v36 : R2 v36 (fun l r => D.dyh 0 (t + r) l)
  v37 : R2 v37 (fun l r => D.dyh 1 (t + r) l)
  v41 : R2 v41 (fun r _ => D.T 0 (t + r))
  v42 : R2 v42 (fun r _ => D.T 1 (t + r))

/-- What the five buffers hold after the first `n` keys. -/
structure After (D : Data) (t : ℕ) (f g : ℕ → ℕ → ℝ) (n : ℕ) (x10 x11 x12 : FVec Ideal S2x1024x128 .f32)
    (x13 x14 : FVec Ideal S128x4096 .f32) : Prop where
  dq : R3 x10 (St D.dqaA t n n)
  pre : R3 x11 (St D.preA t n n)
  gs : R3 x12 (St D.gsA t n n)
  dk : R2 x13 (upTo n (D.dkN t f) f)
  dv : R2 x14 (upTo n (D.dvN t g) g)

theorem trips1 : ∀ i : grid0.Coords, (k0_t1_loop i).trips = 4 * (i 1).val := by decide +kernel
theorem trips2 (i : grid0.Coords) : (k0_t2_loop i).trips = 0 := Nat.le_zero.1 (k0_t2_abs i).2.1

section
variable {D : Data} {t : ℕ} {f g : ℕ → ℕ → ℝ} {𝒱 : Variants} {c : Dev nD} {bd : Option 𝒱.V} {i : grid0.Coords}
  {arg2 : Memref sig .tc .vmem S1024x128 .f32} {harg2 : arg2.IsWhole} {arg3 : Memref sig .tc .vmem S4096x128 .f32}
  {harg3 : arg3.IsWhole} {arg4 : Memref sig .tc .vmem S4096x128 .f32} {harg4 : arg4.IsWhole}
  {arg5 : Memref sig .tc .vmem S1024x128 .f32} {harg5 : arg5.IsWhole} {arg6 : Memref sig .tc .vmem S1024x128 .f32}
  {harg6 : arg6.IsWhole} {arg7 : Memref sig .tc .vmem S1024x128 .bf16} {harg7 : arg7.IsWhole}
  {arg8 : Memref sig .tc .vmem S4096x128 .bf16} {harg8 : arg8.IsWhole} {arg9 : Memref sig .tc .vmem S4096x128 .bf16}
  {harg9 : arg9.IsWhole} {arg10 : Memref sig .tc .vmem S2x1024x128 .f32} {harg10 : arg10.IsWhole}
  {arg11 : Memref sig .tc .vmem S2x1024x128 .f32} {harg11 : arg11.IsWhole}
  {arg12 : Memref sig .tc .vmem S2x1024x128 .f32} {harg12 : arg12.IsWhole}
  {arg13 : Memref sig .tc .vmem S128x4096 .f32} {harg13 : arg13.IsWhole}
  {arg14 : Memref sig .tc .vmem S128x4096 .f32} {harg14 : arg14.IsWhole} {arg1 : BitVec 32}
  {v9 : FVec Ideal S512x256 .bf16} {v13 : FVec Ideal S256x256 .bf16} {v21 : FVec Ideal S1024x128 .bf16}
  {v26 : FVec Ideal S1024x128 .bf16} {v30 : FVec Ideal S1024x128 .bf16} {v33 : FVec Ideal S1024x128 .bf16}
  {v34 : FVec Ideal S128x1024 .bf16} {v35 : FVec Ideal S128x1024 .bf16} {v36 : FVec Ideal S128x1024 .bf16}
  {v37 : FVec Ideal S128x1024 .bf16} {v41 : FVec Ideal S1024x128 .f32} {v42 : FVec Ideal S1024x128 .f32}
  {X_arg3 : BufTy.Contents (Elt Ideal) arg3.view.ty} {X_arg4 : BufTy.Contents (Elt Ideal) arg4.view.ty}
  (b : Base D t v9 v13 v21 v26 v30 v33 v34 v35 v36 v37 v41 v42)
  (hx : R2 (φ := .f32) (arg3.view.read (Elt Ideal) X_arg3) D.K) (hy : R2 (φ := .f32) (arg4.view.read (Elt Ideal) X_arg4) D.V)
include b hx hy

theorem trip_after (k : Fin (k0_t1_loop i).trips) (hf : 256 * k.val + 256 ≤ t)
    (F10 : BufTy.Contents (Elt Ideal) arg10.view.ty)
    (F11 : BufTy.Contents (Elt Ideal) arg11.view.ty)
    (F12 : BufTy.Contents (Elt Ideal) arg12.view.ty)
    (F13 : BufTy.Contents (Elt Ideal) arg13.view.ty)
    (F14 : BufTy.Contents (Elt Ideal) arg14.view.ty)
    (h : After D t f g (256 * k.val) (arg10.view.read (Elt Ideal) F10) (arg11.view.read (Elt Ideal) F11)
      (arg12.view.read (Elt Ideal) F12) (arg13.view.read (Elt Ideal) F13) (arg14.view.read (Elt Ideal) F14)) :
    let p := tripL_k0_t1 (F := Ideal)
      𝒱 c bd i arg2 harg2 arg3 harg3 arg4 harg4 arg5 harg5 arg6 harg6 arg7 harg7 arg8 harg8 arg9 harg9 arg10 harg10
      arg11 harg11 arg12 harg12 arg13 harg13 arg14 harg14 arg1 v9 v13 v21 v26 v30 v33 v34 v35 v36 v37 v41 v42 X_arg3
      X_arg4 k F10 F11 F12 F13 F14
    After D t f g (256 * k.val + 256) (arg10.view.read (Elt Ideal) (arg10.view.writes (Elt Ideal) F10 p.1))
      (arg11.view.read (Elt Ideal) (arg11.view.writes (Elt Ideal) F11 p.2.1))
      (arg12.view.read (Elt Ideal) (arg12.view.writes (Elt Ideal) F12 p.2.2.1))
      (arg13.view.read (Elt Ideal) (arg13.view.writes (Elt Ideal) F13 p.2.2.2.1))
      (arg14.view.read (Elt Ideal) (arg14.view.writes (Elt Ideal) F14 p.2.2.2.2)) := by
    have hK := loadRows hx (k0_off1_eq i k) (k0_off1_inb i k)
    have hV := loadRows hy (k0_off1_eq i k) (k0_off1_inb i k)
    have hq0 := loadSt h.dq inb_S2x1024x128_S1x1024x128_0_0_0 rfl
    have hq1 := loadSt h.dq inb_S2x1024x128_S1x1024x128_1_0_0 rfl
    have hp0 := loadSt h.pre inb_S2x1024x128_S1x1024x128_0_0_0 rfl
    have hp1 := loadSt h.pre inb_S2x1024x128_S1x1024x128_1_0_0 rfl
    have hg0 := loadSt h.gs inb_S2x1024x128_S1x1024x128_0_0_0 rfl
    have hg1 := loadSt h.gs inb_S2x1024x128_S1x1024x128_1_0_0 rfl
    have hk := load2 h.dk (k0_off2_eq i k) (k0_off2_inb i k)
    have hv := load2 h.dv (k0_off2_eq i k) (k0_off2_inb i k)
    have hr := pay4_spec D hK
    have hr_1 := pay5_spec D hV
    have hr_2 := pay10_spec D hf b.v9 b.v21 hK
    have hr_3 := pay11_spec D hp0
    have hr_4 := pay12_spec D hg0
    have hr_5 := pay13_spec D hf b.v9 b.v21 b.v41 hK hp0
    have hr_6 := pay14_spec D hf b.v9 b.v21 b.v30 b.v41 hK hV hp0
    have hr_7 := pay15_spec D hf b.v9 b.v13 b.v21 b.v30 b.v41 hK hV hp0
    have hr_8 := pay16_spec D b.v21 hK
    have hr_9 := pay17_spec D hg0
    have hr_10 := pay20_spec D hf b.v34 (pay6_spec) hr_6 hr_7 hr_8 hr_9
    have hr_11 := pay21_spec D b.v36 (pay7_spec) hr_5
    have hr_12 := pay24_spec D b.v26 hr
    have hr_13 := pay25_spec D b.v26 hr
    have hr_14 := pay27_spec D hf b.v9 hr_12 hr_13
    have hv870 := hp1
    have hr_15 := pay28_spec D hv870
    have hv872 := hg1
    have hr_16 := pay29_spec D hv872
    have hr_17 := pay31_spec D hf b.v9 b.v33 b.v42 hr_1 hr_12 hr_13 hv870
    have hr_18 := pay32_spec D hf b.v9 b.v13 b.v33 b.v42 hr_1 hr_12 hr_13 hv870
    have hr_19 := pay35_spec D hf b.v9 b.v13 b.v33 b.v35 b.v42 hr_1 hr_10 hr_12 hr_13 hv870 hv872
    have hr_20 := pay36_spec D hf b.v9 b.v42 hr_12 hr_13 hv870
    have hv892 := hq1
    unfold tripL_k0_t1 trip_k0_t1
    intro p
    refine ⟨?_, ?_, ?_, ?_, ?_⟩
    · exact store3 D.dqa_stops (m1 := 256 * k.val) (store3 D.dqa_stops (L := []) h.dq inb_S2x1024x128_S1x1024x128_0_0_0 (S := 256 * k.val + 256)
        (pay19_spec D hf hr hr_6 hr_7 hr_8 hr_9 hq0) rfl (fun r hr => absurd hr (Nat.not_lt_zero r)) rfl rfl (by omega))
        inb_S2x1024x128_S1x1024x128_1_0_0 (pay34_spec D hf b.v9 b.v13 b.v33 b.v42 hr hr_1 hr_12 hr_13 hv870 hv872 hv892) rfl (fun r hr => absurd hr (Nat.not_lt_zero r)) rfl rfl (by omega)
    · exact store3 D.pre_stops (m1 := 256 * k.val) (store3 D.pre_stops (L := []) h.pre inb_S2x1024x128_S1x1024x128_0_0_0 (S := 256 * k.val + 256)
        (pay22_spec D hr_2 hr_3) rfl (fun r hr => absurd hr (Nat.not_lt_zero r)) rfl rfl (by omega))
        inb_S2x1024x128_S1x1024x128_1_0_0 (pay91_spec D hr_14 hr_15) rfl (fun r hr => absurd hr (Nat.not_lt_zero r)) rfl rfl (by omega)
    · exact store3 D.gs_stops (m1 := 256 * k.val) (store3 D.gs_stops (L := []) h.gs inb_S2x1024x128_S1x1024x128_0_0_0 (S := 256 * k.val + 256)
        (pay23_spec D hr_4 hr_6 hr_7) rfl (fun r hr => absurd hr (Nat.not_lt_zero r)) rfl rfl (by omega))
        inb_S2x1024x128_S1x1024x128_1_0_0 (pay92_spec D hr_16 hr_17 hr_18) rfl (fun r hr => absurd hr (Nat.not_lt_zero r)) rfl rfl (by omega)
    · exact store2 (L := []) h.dk (k0_off2_eq i k) (k0_off2_inb i k) (pay93_spec D hr_19 hk) rfl
    · exact store2 (L := []) h.dv (k0_off2_eq i k) (k0_off2_inb i k) (pay94_spec D b.v37 hr_11 hr_20 (R2.const bits_zero) hv) rfl

theorem loop_after
    (G10 : BufTy.Contents (Elt Ideal) arg10.view.ty)
    (G11 : BufTy.Contents (Elt Ideal) arg11.view.ty)
    (G12 : BufTy.Contents (Elt Ideal) arg12.view.ty)
    (G13 : BufTy.Contents (Elt Ideal) arg13.view.ty)
    (G14 : BufTy.Contents (Elt Ideal) arg14.view.ty)
    (h : After D t f g 0 (arg10.view.read (Elt Ideal) G10) (arg11.view.read (Elt Ideal) G11) (arg12.view.read (Elt Ideal) G12) (arg13.view.read (Elt Ideal) G13) (arg14.view.read (Elt Ideal) G14))
    (n : ℕ) (hn : n ≤ (k0_t1_loop i).trips) (hf : 256 * n ≤ t) :
    let p := pb_k0_t1 (F := Ideal)
      𝒱 c bd i arg2 harg2 arg3 harg3 arg4 harg4 arg5 harg5 arg6 harg6 arg7 harg7 arg8 harg8 arg9 harg9 arg10 harg10
      arg11 harg11 arg12 harg12 arg13 harg13 arg14 harg14 arg1 v9 v13 v21 v26 v30 v33 v34 v35 v36 v37 v41 v42 X_arg3
      X_arg4 G10 G11 G12 G13 G14 n
    After D t f g (256 * n)
      (arg10.view.read (Elt Ideal) (arg10.view.writes (Elt Ideal) G10 p.1))
      (arg11.view.read (Elt Ideal) (arg11.view.writes (Elt Ideal) G11 p.2.1))
      (arg12.view.read (Elt Ideal) (arg12.view.writes (Elt Ideal) G12 p.2.2.1))
      (arg13.view.read (Elt Ideal) (arg13.view.writes (Elt Ideal) G13 p.2.2.2.1))
      (arg14.view.read (Elt Ideal) (arg14.view.writes (Elt Ideal) G14 p.2.2.2.2)) := by
  induction n with
  | zero => exact h
  | succ n ih =>
    have e := trip_after b hx hy (𝒱 := 𝒱) (c := c) (bd := bd) (harg2 := harg2) (harg3 := harg3) (harg4 := harg4) (harg5 := harg5)
      (harg6 := harg6) (harg7 := harg7) (harg8 := harg8) (harg9 := harg9) (harg10 := harg10) (harg11 := harg11)
      (harg12 := harg12) (harg13 := harg13) (harg14 := harg14) (arg1 := arg1) ⟨n, hn⟩ (by show 256 * n + 256 ≤ t; omega) _ _ _ _ _
      (ih (by omega) (by omega))
    have es := pb_k0_t1_succ (F := Ideal)
      𝒱 c bd i arg2 harg2 arg3 harg3 arg4 harg4 arg5 harg5 arg6 harg6 arg7 harg7 arg8 harg8 arg9 harg9 arg10 harg10
      arg11 harg11 arg12 harg12 arg13 harg13 arg14 harg14 arg1 v9 v13 v21 v26 v30 v33 v34 v35 v36 v37 v41 v42 X_arg3
      X_arg4 G10 G11 G12 G13 G14 ⟨n, hn⟩
    intro p
    rw [show p = _ from es]
    simp only [View.writes_append]
    exact e

/-- Both loops, every buffer starting from stores: the second makes no trip. -/
theorem loops_from_lists (ht : t = 1024 * (i 1).val) (v63 : BitVec 32)
    (c10 : BufTy.Contents (Elt Ideal) arg10.view.ty)
    (c11 : BufTy.Contents (Elt Ideal) arg11.view.ty)
    (c12 : BufTy.Contents (Elt Ideal) arg12.view.ty)
    (c13 : BufTy.Contents (Elt Ideal) arg13.view.ty)
    (c14 : BufTy.Contents (Elt Ideal) arg14.view.ty)
    (L10 : List (View.Piece (Elt Ideal) S2x1024x128 .f32))
    (L11 : List (View.Piece (Elt Ideal) S2x1024x128 .f32))
    (L12 : List (View.Piece (Elt Ideal) S2x1024x128 .f32))
    (L13 : List (View.Piece (Elt Ideal) S128x4096 .f32))
    (L14 : List (View.Piece (Elt Ideal) S128x4096 .f32))
    (h : After D t f g 0
      (arg10.view.read (Elt Ideal) (arg10.view.writes (Elt Ideal) c10 L10))
      (arg11.view.read (Elt Ideal) (arg11.view.writes (Elt Ideal) c11 L11))
      (arg12.view.read (Elt Ideal) (arg12.view.writes (Elt Ideal) c12 L12))
      (arg13.view.read (Elt Ideal) (arg13.view.writes (Elt Ideal) c13 L13))
      (arg14.view.read (Elt Ideal) (arg14.view.writes (Elt Ideal) c14 L14))) :
    let P1 := pb_k0_t1 (F := Ideal)
      𝒱 c bd i arg2 harg2 arg3 harg3 arg4 harg4 arg5 harg5 arg6 harg6 arg7 harg7 arg8 harg8 arg9 harg9 arg10 harg10
      arg11 harg11 arg12 harg12 arg13 harg13 arg14 harg14 arg1 v9 v13 v21 v26 v30 v33 v34 v35 v36 v37 v41 v42 X_arg3
      X_arg4 (arg10.view.writes (Elt Ideal) c10 L10) (arg11.view.writes (Elt Ideal) c11 L11)
      (arg12.view.writes (Elt Ideal) c12 L12) (arg13.view.writes (Elt Ideal) c13 L13)
      (arg14.view.writes (Elt Ideal) c14 L14) (Scf.trips (k0_t1_loop i).lb (k0_t1_loop i).ub (k0_t1_loop i).st)
    let P2 := pb_k0_t2 (F := Ideal)
      𝒱 c bd i arg2 harg2 arg3 harg3 arg4 harg4 arg5 harg5 arg6 harg6 arg7 harg7 arg8 harg8 arg9 harg9 arg10 harg10
      arg11 harg11 arg12 harg12 arg13 harg13 arg14 harg14 arg1 v9 v13 v21 v26 v30 v33 v34 v35 v36 v37 v41 v42 v63
      X_arg3 X_arg4 (arg10.view.writes (Elt Ideal) c10 (P1.1 ++ L10))
      (arg11.view.writes (Elt Ideal) c11 (P1.2.1 ++ L11)) (arg12.view.writes (Elt Ideal) c12 (P1.2.2.1 ++ L12))
      (arg13.view.writes (Elt Ideal) c13 (P1.2.2.2.1 ++ L13)) (arg14.view.writes (Elt Ideal) c14 (P1.2.2.2.2 ++ L14))
      (Scf.trips (k0_t2_loop i).lb (k0_t2_loop i).ub (k0_t2_loop i).st)
    After D t f g t
      (arg10.view.read (Elt Ideal) (arg10.view.writes (Elt Ideal) c10 (P2.1 ++ (P1.1 ++ L10))))
      (arg11.view.read (Elt Ideal) (arg11.view.writes (Elt Ideal) c11 (P2.2.1 ++ (P1.2.1 ++ L11))))
      (arg12.view.read (Elt Ideal) (arg12.view.writes (Elt Ideal) c12 (P2.2.2.1 ++ (P1.2.2.1 ++ L12))))
      (arg13.view.read (Elt Ideal) (arg13.view.writes (Elt Ideal) c13 (P2.2.2.2.1 ++ (P1.2.2.2.1 ++ L13))))
      (arg14.view.read (Elt Ideal) (arg14.view.writes (Elt Ideal) c14 (P2.2.2.2.2 ++ (P1.2.2.2.2 ++ L14)))) := by
  intro P1 P2
  have e2 : P2 = ([], [], [], [], []) := by
    show pb_k0_t2 (F := Ideal)
      𝒱 c bd i arg2 harg2 arg3 harg3 arg4 harg4 arg5 harg5 arg6 harg6 arg7 harg7 arg8 harg8 arg9 harg9 arg10 harg10
      arg11 harg11 arg12 harg12 arg13 harg13 arg14 harg14 arg1 v9 v13 v21 v26 v30 v33 v34 v35 v36 v37 v41 v42 v63
      X_arg3 X_arg4 (arg10.view.writes (Elt Ideal) c10 (P1.1 ++ L10))
      (arg11.view.writes (Elt Ideal) c11 (P1.2.1 ++ L11)) (arg12.view.writes (Elt Ideal) c12 (P1.2.2.1 ++ L12))
      (arg13.view.writes (Elt Ideal) c13 (P1.2.2.2.1 ++ L13)) (arg14.view.writes (Elt Ideal) c14 (P1.2.2.2.2 ++ L14))
      (Scf.trips (k0_t2_loop i).lb (k0_t2_loop i).ub (k0_t2_loop i).st) = _
    rw [show (Scf.trips (k0_t2_loop i).lb (k0_t2_loop i).ub (k0_t2_loop i).st) = 0 from trips2 i]
    rfl
  have e := loop_after b hx hy (𝒱 := 𝒱) (c := c) (bd := bd) (harg2 := harg2) (harg3 := harg3) (harg4 := harg4) (harg5 := harg5)
    (harg6 := harg6) (harg7 := harg7) (harg8 := harg8) (harg9 := harg9) (harg10 := harg10) (harg11 := harg11)
    (harg12 := harg12) (harg13 := harg13) (harg14 := harg14) (arg1 := arg1) _ _ _ _ _ h (Scf.trips (k0_t1_loop i).lb (k0_t1_loop i).ub (k0_t1_loop i).st) (le_refl _)
    (by rw [show (Scf.trips (k0_t1_loop i).lb (k0_t1_loop i).ub (k0_t1_loop i).st) = 4 * (i 1).val from trips1 i]; omega)
  rw [show 256 * (Scf.trips (k0_t1_loop i).lb (k0_t1_loop i).ub (k0_t1_loop i).st) = t from by rw [show (Scf.trips (k0_t1_loop i).lb (k0_t1_loop i).ub (k0_t1_loop i).st) = 4 * (i 1).val from trips1 i]; omega] at e
  rw [e2]
  simp only [List.nil_append, View.writes_append]
  exact e

/-- Both loops, the keys' and values' buffers starting from given contents. -/
theorem loops_from_contents (ht : t = 1024 * (i 1).val) (v63 : BitVec 32)
    (c10 : BufTy.Contents (Elt Ideal) arg10.view.ty)
    (c11 : BufTy.Contents (Elt Ideal) arg11.view.ty)
    (c12 : BufTy.Contents (Elt Ideal) arg12.view.ty)
    (c13 : BufTy.Contents (Elt Ideal) arg13.view.ty)
    (c14 : BufTy.Contents (Elt Ideal) arg14.view.ty)
    (L10 : List (View.Piece (Elt Ideal) S2x1024x128 .f32))
    (L11 : List (View.Piece (Elt Ideal) S2x1024x128 .f32))
    (L12 : List (View.Piece (Elt Ideal) S2x1024x128 .f32))
    (h : After D t f g 0
      (arg10.view.read (Elt Ideal) (arg10.view.writes (Elt Ideal) c10 L10))
      (arg11.view.read (Elt Ideal) (arg11.view.writes (Elt Ideal) c11 L11))
      (arg12.view.read (Elt Ideal) (arg12.view.writes (Elt Ideal) c12 L12))
      (arg13.view.read (Elt Ideal) c13)
      (arg14.view.read (Elt Ideal) c14)) :
    let P1 := pb_k0_t1 (F := Ideal)
      𝒱 c bd i arg2 harg2 arg3 harg3 arg4 harg4 arg5 harg5 arg6 harg6 arg7 harg7 arg8 harg8 arg9 harg9 arg10 harg10
      arg11 harg11 arg12 harg12 arg13 harg13 arg14 harg14 arg1 v9 v13 v21 v26 v30 v33 v34 v35 v36 v37 v41 v42 X_arg3
      X_arg4 (arg10.view.writes (Elt Ideal) c10 L10) (arg11.view.writes (Elt Ideal) c11 L11)
      (arg12.view.writes (Elt Ideal) c12 L12) c13 c14
      (Scf.trips (k0_t1_loop i).lb (k0_t1_loop i).ub (k0_t1_loop i).st)
    let P2 := pb_k0_t2 (F := Ideal)
      𝒱 c bd i arg2 harg2 arg3 harg3 arg4 harg4 arg5 harg5 arg6 harg6 arg7 harg7 arg8 harg8 arg9 harg9 arg10 harg10
      arg11 harg11 arg12 harg12 arg13 harg13 arg14 harg14 arg1 v9 v13 v21 v26 v30 v33 v34 v35 v36 v37 v41 v42 v63
      X_arg3 X_arg4 (arg10.view.writes (Elt Ideal) c10 (P1.1 ++ L10))
      (arg11.view.writes (Elt Ideal) c11 (P1.2.1 ++ L11)) (arg12.view.writes (Elt Ideal) c12 (P1.2.2.1 ++ L12))
      (arg13.view.writes (Elt Ideal) c13 P1.2.2.2.1) (arg14.view.writes (Elt Ideal) c14 P1.2.2.2.2)
      (Scf.trips (k0_t2_loop i).lb (k0_t2_loop i).ub (k0_t2_loop i).st)
    After D t f g t
      (arg10.view.read (Elt Ideal) (arg10.view.writes (Elt Ideal) c10 (P2.1 ++ (P1.1 ++ L10))))
      (arg11.view.read (Elt Ideal) (arg11.view.writes (Elt Ideal) c11 (P2.2.1 ++ (P1.2.1 ++ L11))))
      (arg12.view.read (Elt Ideal) (arg12.view.writes (Elt Ideal) c12 (P2.2.2.1 ++ (P1.2.2.1 ++ L12))))
      (arg13.view.read (Elt Ideal) (arg13.view.writes (Elt Ideal) c13 (P2.2.2.2.1 ++ P1.2.2.2.1)))
      (arg14.view.read (Elt Ideal) (arg14.view.writes (Elt Ideal) c14 (P2.2.2.2.2 ++ P1.2.2.2.2))) := by
  intro P1 P2
  have e2 : P2 = ([], [], [], [], []) := by
    show pb_k0_t2 (F := Ideal)
      𝒱 c bd i arg2 harg2 arg3 harg3 arg4 harg4 arg5 harg5 arg6 harg6 arg7 harg7 arg8 harg8 arg9 harg9 arg10 harg10
      arg11 harg11 arg12 harg12 arg13 harg13 arg14 harg14 arg1 v9 v13 v21 v26 v30 v33 v34 v35 v36 v37 v41 v42 v63
      X_arg3 X_arg4 (arg10.view.writes (Elt Ideal) c10 (P1.1 ++ L10))
      (arg11.view.writes (Elt Ideal) c11 (P1.2.1 ++ L11)) (arg12.view.writes (Elt Ideal) c12 (P1.2.2.1 ++ L12))
      (arg13.view.writes (Elt Ideal) c13 P1.2.2.2.1) (arg14.view.writes (Elt Ideal) c14 P1.2.2.2.2)
      (Scf.trips (k0_t2_loop i).lb (k0_t2_loop i).ub (k0_t2_loop i).st) = _
    rw [show (Scf.trips (k0_t2_loop i).lb (k0_t2_loop i).ub (k0_t2_loop i).st) = 0 from trips2 i]
    rfl
  have e := loop_after b hx hy (𝒱 := 𝒱) (c := c) (bd := bd) (harg2 := harg2) (harg3 := harg3) (harg4 := harg4) (harg5 := harg5)
    (harg6 := harg6) (harg7 := harg7) (harg8 := harg8) (harg9 := harg9) (harg10 := harg10) (harg11 := harg11)
    (harg12 := harg12) (harg13 := harg13) (harg14 := harg14) (arg1 := arg1) _ _ _ _ _ h (Scf.trips (k0_t1_loop i).lb (k0_t1_loop i).ub (k0_t1_loop i).st) (le_refl _)
    (by rw [show (Scf.trips (k0_t1_loop i).lb (k0_t1_loop i).ub (k0_t1_loop i).st) = 4 * (i 1).val from trips1 i]; omega)
  rw [show 256 * (Scf.trips (k0_t1_loop i).lb (k0_t1_loop i).ub (k0_t1_loop i).st) = t from by rw [show (Scf.trips (k0_t1_loop i).lb (k0_t1_loop i).ub (k0_t1_loop i).st) = 4 * (i 1).val from trips1 i]; omega] at e
  rw [e2]
  simp only [List.nil_append, View.writes_append]
  exact e

end

end Cert.Proof
-- ==== Proof.Setup.lean ====
/- What the kernel prepares before its blocks: the two halves of the queries and of the output's derivative, their
   transposes, the rows' sums of log(1 - beta) spread over the lanes, and the triangular matrices of ones. The tile's rows
   start at `t`. Last, the query's derivative from the two halves' sums. -/
module

public import proofs.«01_k».proof.Proof.Forms
public import proofs.«01_k».proof.Proof.Gen.KernelIdeal.Skeleton

@[expose] public section

noncomputable section

namespace Cert.Proof

open Idealize.ShloMosaic Cert.KernelIdeal Cert.KernelIdeal.Gen

variable (D : Data)

theorem pay70_spec : M2 k0_pay70 (fun _ c => decide (c < 64)) := M2.low (by norm_num) (by norm_num) _

theorem pay71_spec : R2 (k0_pay71 (F := Ideal)) upInc :=
  R2.above (((M2.rowColLe (by norm_num) (by norm_num) _ _).toReal _).truncf bitsLt_bf16_f32)
    (((M2.rowColLe (by norm_num) (by norm_num) _ _).toReal _).truncf bitsLt_bf16_f32) concatenates_S256x256_S256x256_S512x256_d0

theorem pay72_spec : R2 (k0_pay72 (F := Ideal)) upExc :=
  ((M2.rowCol (by norm_num) (by norm_num) _ _).toReal _).truncf _

variable {t : ℕ}

section
variable {v14 : FVec Ideal S1024x128 .f32} (h : R2 v14 (fun r l => D.Q (t + r) l))
include h

theorem pay73_spec : R2 (k0_pay73 v14) (fun r l => D.Q (t + r) l * 0.125) := h.mulf (R2.splat bits_eighth)

theorem pay74_spec : R2 (k0_pay74 v14) (fun r l => D.qh 0 (t + r) l) :=
  R2.congr ((R2.select pay70_spec ((R2.splat bits_zero).subf (pay73_spec D h)) (R2.splat bits_zero)).truncf _) fun r _ l _ => by
    simp [Data.qh, pick]

theorem pay75_spec : R2 (k0_pay75 v14) (fun r l => D.qh 1 (t + r) l) :=
  R2.congr ((R2.select pay70_spec (R2.splat bits_zero) ((R2.splat bits_zero).subf (pay73_spec D h))).truncf _) fun r _ l _ => by
    simp [Data.qh, pick]

theorem pay78_spec : R2 (k0_pay78 v14) (fun l r => D.qh 0 (t + r) l) := (pay74_spec D h).transpose _
theorem pay79_spec : R2 (k0_pay79 v14) (fun l r => D.qh 1 (t + r) l) := (pay75_spec D h).transpose _
end

section
variable {v27 : FVec Ideal S1024x128 .f32} (h : R2 v27 (fun r l => D.DY (t + r) l))
include h

theorem pay76_spec : R2 (k0_pay76 v27) (fun r l => D.dyh 0 (t + r) l) :=
  R2.congr ((R2.select pay70_spec h (R2.splat bits_zero)).truncf _) fun r _ l _ => by
    simp [Data.dyh, pick]

theorem pay77_spec : R2 (k0_pay77 v27) (fun r l => D.dyh 1 (t + r) l) :=
  R2.congr ((R2.select pay70_spec (R2.splat bits_zero) h).truncf _) fun r _ l _ => by
    simp [Data.dyh, pick]

theorem pay80_spec : R2 (k0_pay80 v27) (fun l r => D.dyh 0 (t + r) l) := (pay76_spec D h).transpose _
theorem pay81_spec : R2 (k0_pay81 v27) (fun l r => D.dyh 1 (t + r) l) := (pay77_spec D h).transpose _
end

section
variable {v38 : FVec Ideal S1024x128 .f32} (h : R2 v38 (fun r l => D.T (l / 64) (t + r)))
include h

theorem pay82_spec : R2 (k0_pay82 v38) (fun r l => D.T (l / 64) (t + r)) := h.castSelf _

theorem pay83_spec : R2 (k0_pay83 v38) (fun r l => D.T ((l + 128 - 64) % 128 / 64) (t + r)) :=
  (pay82_spec D h).rotate 64#32 rotates_S1024x128_d1

theorem pay84_spec : R2 (k0_pay84 v38) (fun r _ => D.T 0 (t + r)) :=
  R2.congr (R2.select pay70_spec (pay82_spec D h) (pay83_spec D h)) fun r _ l hl => by
    by_cases h' : l < 64
    · rw [if_pos (by simpa using h'), Nat.div_eq_of_lt h']
    · rw [if_neg (by simpa using h'), show (l + 128 - 64) % 128 / 64 = 0 by omega]

theorem pay85_spec : R2 (k0_pay85 v38) (fun r _ => D.T 1 (t + r)) :=
  R2.congr (R2.select pay70_spec (pay83_spec D h) (pay82_spec D h)) fun r _ l hl => by
    by_cases h' : l < 64
    · rw [if_pos (by simpa using h'), show (l + 128 - 64) % 128 / 64 = 1 by omega]
    · rw [if_neg (by simpa using h'), show l / 64 = 1 by omega]
end

theorem R3.zero {a n m : ℕ} {φ : FTy} {x : Ideal φ} (h : x = ((0 : ℝ) : EReal))
    (hs : (⟨3, ![a, n, m]⟩ : Shape).ShapeCasts ⟨3, ![a, n, m]⟩) :
    R3 (φ := φ) (shapeCast ⟨3, ![a, n, m]⟩ (broadcast ⟨3, ![a, n, m]⟩ x) hs) (fun _ _ _ => 0) := fun _ => h

theorem pay86_spec : R3 (k0_pay86 (F := Ideal)) (fun _ _ _ => 0) := R3.zero bits_zero _
theorem pay87_spec : R3 (k0_pay87 (F := Ideal)) (fun _ _ _ => 0) := R3.zero bits_zero _
theorem pay88_spec : R3 (k0_pay88 (F := Ideal)) (fun _ _ _ => 0) := R3.zero bits_zero _
theorem pay89_spec : R2 (k0_pay89 (F := Ideal)) (fun _ _ => 0) := (R2.splat bits_zero).castSelf _
theorem pay90_spec : R2 (k0_pay90 (F := Ideal)) (fun _ _ => 0) := (R2.splat bits_zero).castSelf _

theorem pay1_spec {f g : ℕ → ℕ → ℕ → ℝ} {x y : FVec Ideal S1x1024x128 .f32} (hx : R3 x f) (hy : R3 y g) :
    R2 (k0_pay1 k0_pay70 x y) (fun r l => (if l < 64 then f 0 r l else g 0 r l) * 0.125) :=
  R2.congr (((R2.select pay70_spec (hx.drop _) (hy.drop _)).mulf (R2.splat bits_eighth)).truncf bitsLt_bf16_f32) fun r _ l _ => by
    simp only [decide_eq_true_eq]

theorem pay2_spec {f : ℕ → ℕ → ℝ} {x : FVec Ideal S128x4096 .f32} (hx : R2 x f) : R2 (k0_pay2 x) (fun s l => f l s) :=
  (hx.transpose _).truncf _
theorem pay3_spec {f : ℕ → ℕ → ℝ} {x : FVec Ideal S128x4096 .f32} (hx : R2 x f) : R2 (k0_pay3 x) (fun s l => f l s) :=
  (hx.transpose _).truncf _

end Cert.Proof
-- ==== Proof.Diag0.lean ====
/- The first block on the diagonal of a tile: what each of its values holds. The tile's rows start at `t`, and so do the block's keys. -/
module

public import proofs.«01_k».proof.Proof.Forms
public import proofs.«01_k».proof.Proof.Gen.KernelIdeal.Skeleton

@[expose] public section

noncomputable section

namespace Cert.Proof

open Idealize.ShloMosaic Cert.KernelIdeal Cert.KernelIdeal.Gen

variable (D : Data)

theorem pay99_spec :
    M2 k0_pay99 (fun r c => decide (c < r)) :=
  (M2.colRow (by norm_num) (by norm_num) _ _)

theorem pay100_spec {t : ℕ} {v72 : FVec Ideal S256x128 .f32}
    (h72 : R2 v72 (fun c l => D.K (t + c) l)) :
    R2 (k0_pay100 v72) (fun c l => D.K (t + c) l) :=
  (R2.truncf h72 bitsLt_bf16_f32)

theorem pay101_spec {t : ℕ} {v75 : FVec Ideal S256x128 .f32}
    (h75 : R2 v75 (fun c l => D.V (t + c) l)) :
    R2 (k0_pay101 v75) (fun c l => D.V (t + c) l) :=
  (R2.truncf h75 bitsLt_bf16_f32)

theorem pay102_spec :
    R2 (k0_pay102 (F := Ideal)) (fun _ _ => 0) :=
  (R2.splat bits_zero)

theorem pay103_spec :
    R2 (k0_pay103 (F := Ideal)) (fun _ _ => 0) :=
  (R2.splat bits_zero)

theorem pay104_spec {t : ℕ} {v21 : FVec Ideal S1024x128 .bf16} {v72 : FVec Ideal S256x128 .f32}
    (h21 : R2 v21 (fun r l => D.qh 0 (t + r) l))
    (h72 : R2 v72 (fun c l => D.K (t + c) l)) :
    R2 (k0_pay104 v21 v72) (fun r c => D.mn 0 (t + r) (t + c)) :=
  (t_min D (t_nz D h21 (pay100_spec D h72) (R2.const bits_zero)) (R2.splat bits_eighty))

theorem pay105_spec {t : ℕ} {v21 : FVec Ideal S1024x128 .bf16} {v72 : FVec Ideal S256x128 .f32}
    (h21 : R2 v21 (fun r l => D.qh 0 (t + r) l))
    (h72 : R2 v72 (fun c l => D.K (t + c) l)) :
    R2 (k0_pay105 v21 v72) (fun r c => D.sp 0 (t + r) (t + c)) :=
  (t_sp D (R2.addf (R2.splat bits_one) (R2.exp (pay104_spec D h21 h72))))

theorem pay106_spec {t : ℕ} {v9 : FVec Ideal S512x256 .bf16} {v21 : FVec Ideal S1024x128 .bf16} {v68 : IVec S1024x256 1} {v72 : FVec Ideal S256x128 .f32}
    (h9 : R2 v9 upInc)
    (h21 : R2 v21 (fun r l => D.qh 0 (t + r) l))
    (h68 : M2 v68 (fun r c => decide (c < r)))
    (h72 : R2 v72 (fun c l => D.K (t + c) l)) :
    R2 (k0_pay106 v9 v21 v68 v72) (fun r c => D.pre 0 (t + r) (t + c + 1) - D.pre 0 (t + r) t) :=
  (t_pp D h9 (R2.beside (R2.truncf (t_lkDiag D h68 (R2.subf (pay104_spec D h21 h72) (pay105_spec D h21 h72)) (R2.splat bits_zero)) bitsLt_bf16_f32) (R2.truncf (R2.subf (t_lkDiag D h68 (R2.subf (pay104_spec D h21 h72) (pay105_spec D h21 h72)) (R2.splat bits_zero)) (R2.extf (R2.truncf (t_lkDiag D h68 (R2.subf (pay104_spec D h21 h72) (pay105_spec D h21 h72)) (R2.splat bits_zero)) bitsLt_bf16_f32) bitsLt_bf16_f32)) bitsLt_bf16_f32) concatenates_S1024x256_S1024x256_S1024x512_d1) (R2.const bits_zero))

theorem pay107_spec {t : ℕ} {v95 : FVec Ideal S1x1024x128 .f32}
    (h95 : R3 v95 (fun _ r _ => D.pre 0 (t + r) t)) :
    R2 (k0_pay107 v95) (fun r _ => D.pre 0 (t + r) t) :=
  (R3.drop h95 shapeCasts_S1x1024x128_S1024x128)

theorem pay108_spec {t : ℕ} {v97 : FVec Ideal S1x1024x128 .f32}
    (h97 : R3 v97 (fun _ r _ => D.gs 0 (t + r) t)) :
    R2 (k0_pay108 v97) (fun r _ => D.gs 0 (t + r) t) :=
  (R3.drop h97 shapeCasts_S1x1024x128_S1024x128)

theorem pay109_spec {t : ℕ} {v9 : FVec Ideal S512x256 .bf16} {v21 : FVec Ideal S1024x128 .bf16} {v41 : FVec Ideal S1024x128 .f32} {v68 : IVec S1024x256 1} {v72 : FVec Ideal S256x128 .f32} {v95 : FVec Ideal S1x1024x128 .f32}
    (h9 : R2 v9 upInc)
    (h21 : R2 v21 (fun r l => D.qh 0 (t + r) l))
    (h41 : R2 v41 (fun r _ => D.T 0 (t + r)))
    (h68 : M2 v68 (fun r c => decide (c < r)))
    (h72 : R2 v72 (fun c l => D.K (t + c) l))
    (h95 : R3 v95 (fun _ r _ => D.pre 0 (t + r) t)) :
    R2 (k0_pay109 v9 v21 v41 v68 v72 v95) (fun r c => D.a 0 (t + r) (t + c)) :=
  (t_aDiag D h68 (R2.exp (R2.subf (t_rp D (t_twice (f := fun r => D.T 0 (t + r) - D.pre 0 (t + r) t) (R2.subf h41 (pay107_spec D h95)) concatenates_S1024x128_S1024x128_S1024x256_d1) (pay106_spec D h9 h21 h68 h72)) (pay105_spec D h21 h72))) (R2.splat bits_zero))

theorem pay110_spec {t : ℕ} {v9 : FVec Ideal S512x256 .bf16} {v21 : FVec Ideal S1024x128 .bf16} {v30 : FVec Ideal S1024x128 .bf16} {v41 : FVec Ideal S1024x128 .f32} {v68 : IVec S1024x256 1} {v72 : FVec Ideal S256x128 .f32} {v75 : FVec Ideal S256x128 .f32} {v95 : FVec Ideal S1x1024x128 .f32}
    (h9 : R2 v9 upInc)
    (h21 : R2 v21 (fun r l => D.qh 0 (t + r) l))
    (h30 : R2 v30 (fun r l => D.dyh 0 (t + r) l))
    (h41 : R2 v41 (fun r _ => D.T 0 (t + r)))
    (h68 : M2 v68 (fun r c => decide (c < r)))
    (h72 : R2 v72 (fun c l => D.K (t + c) l))
    (h75 : R2 v75 (fun c l => D.V (t + c) l))
    (h95 : R3 v95 (fun _ r _ => D.pre 0 (t + r) t)) :
    R2 (k0_pay110 v9 v21 v30 v41 v68 v72 v75 v95) (fun r c => D.g 0 (t + r) (t + c)) :=
  (t_g D (t_dyv D h30 (pay101_spec D h75) (R2.const bits_zero)) (pay109_spec D h9 h21 h41 h68 h72 h95))

theorem pay111_spec {t : ℕ} {v9 : FVec Ideal S512x256 .bf16} {v13 : FVec Ideal S256x256 .bf16} {v21 : FVec Ideal S1024x128 .bf16} {v30 : FVec Ideal S1024x128 .bf16} {v41 : FVec Ideal S1024x128 .f32} {v68 : IVec S1024x256 1} {v72 : FVec Ideal S256x128 .f32} {v75 : FVec Ideal S256x128 .f32} {v95 : FVec Ideal S1x1024x128 .f32}
    (h9 : R2 v9 upInc)
    (h13 : R2 v13 upExc)
    (h21 : R2 v21 (fun r l => D.qh 0 (t + r) l))
    (h30 : R2 v30 (fun r l => D.dyh 0 (t + r) l))
    (h41 : R2 v41 (fun r _ => D.T 0 (t + r)))
    (h68 : M2 v68 (fun r c => decide (c < r)))
    (h72 : R2 v72 (fun c l => D.K (t + c) l))
    (h75 : R2 v75 (fun c l => D.V (t + c) l))
    (h95 : R3 v95 (fun _ r _ => D.pre 0 (t + r) t)) :
    R2 (k0_pay111 v9 v13 v21 v30 v41 v68 v72 v75 v95) (fun r c => D.gs 0 (t + r) (t + c) - D.gs 0 (t + r) t) :=
  (t_gg D h13 (R2.truncf (pay110_spec D h9 h21 h30 h41 h68 h72 h75 h95) bitsLt_bf16_f32) (R2.const bits_zero))

theorem pay112_spec {t : ℕ} {v21 : FVec Ideal S1024x128 .bf16} {v72 : FVec Ideal S256x128 .f32}
    (h21 : R2 v21 (fun r l => D.qh 0 (t + r) l))
    (h72 : R2 v72 (fun c l => D.K (t + c) l)) :
    R2 (k0_pay112 v21 v72) (fun r c => Real.exp (0 - D.sp 0 (t + r) (t + c))) :=
  (R2.exp (R2.subf (R2.splat bits_zero) (pay105_spec D h21 h72)))

theorem pay113_spec {t : ℕ} {v9 : FVec Ideal S512x256 .bf16} {v13 : FVec Ideal S256x256 .bf16} {v21 : FVec Ideal S1024x128 .bf16} {v30 : FVec Ideal S1024x128 .bf16} {v41 : FVec Ideal S1024x128 .f32} {v68 : IVec S1024x256 1} {v72 : FVec Ideal S256x128 .f32} {v75 : FVec Ideal S256x128 .f32} {v95 : FVec Ideal S1x1024x128 .f32} {v97 : FVec Ideal S1x1024x128 .f32}
    (h9 : R2 v9 upInc)
    (h13 : R2 v13 upExc)
    (h21 : R2 v21 (fun r l => D.qh 0 (t + r) l))
    (h30 : R2 v30 (fun r l => D.dyh 0 (t + r) l))
    (h41 : R2 v41 (fun r _ => D.T 0 (t + r)))
    (h68 : M2 v68 (fun r c => decide (c < r)))
    (h72 : R2 v72 (fun c l => D.K (t + c) l))
    (h75 : R2 v75 (fun c l => D.V (t + c) l))
    (h95 : R3 v95 (fun _ r _ => D.pre 0 (t + r) t))
    (h97 : R3 v97 (fun _ r _ => D.gs 0 (t + r) t)) :
    R2 (k0_pay113 v9 v13 v21 v30 v41 v68 v72 v75 v95 v97) (fun r c => D.gs 0 (t + r) (t + c)) :=
  (t_sum D (t_twice (f := fun r => D.gs 0 (t + r) t) (pay108_spec D h97) concatenates_S1024x128_S1024x128_S1024x256_d1) (pay111_spec D h9 h13 h21 h30 h41 h68 h72 h75 h95))

theorem pay114_spec {t : ℕ} {v68 : IVec S1024x256 1} {v107 : FVec Ideal S1024x256 .f32} {v112 : FVec Ideal S1024x256 .f32} {v114 : FVec Ideal S1024x256 .f32}
    (h68 : M2 v68 (fun r c => decide (c < r)))
    (h107 : R2 v107 (fun r c => D.g 0 (t + r) (t + c)))
    (h112 : R2 v112 (fun r c => Real.exp (0 - D.sp 0 (t + r) (t + c))))
    (h114 : R2 v114 (fun r c => D.gs 0 (t + r) (t + c))) :
    R2 (k0_pay114 v68 v107 v112 v114) (fun r c => D.dz 0 (t + r) (t + c)) :=
  (R2.truncf (t_dzDiag D h68 (R2.subf h107 (R2.mulf h112 (R2.addf h107 h114))) (R2.splat bits_zero)) bitsLt_bf16_f32)

theorem pay115_spec {t : ℕ} {v68 : IVec S1024x256 1} {v73 : FVec Ideal S256x128 .bf16} {v107 : FVec Ideal S1024x256 .f32} {v112 : FVec Ideal S1024x256 .f32} {v114 : FVec Ideal S1024x256 .f32} {v121 : FVec Ideal S1x1024x128 .f32}
    (h68 : M2 v68 (fun r c => decide (c < r)))
    (h73 : R2 v73 (fun c l => D.K (t + c) l))
    (h107 : R2 v107 (fun r c => D.g 0 (t + r) (t + c)))
    (h112 : R2 v112 (fun r c => Real.exp (0 - D.sp 0 (t + r) (t + c))))
    (h114 : R2 v114 (fun r c => D.gs 0 (t + r) (t + c)))
    (h121 : R3 v121 (fun _ r l => D.dqa 0 (t + r) t l)) :
    R3 (k0_pay115 v68 v73 v107 v112 v114 v121) (fun _ r l => D.dqa 0 (t + r) (t + 256) l) :=
  (R2.lift (t_dqa D (R3.drop h121 shapeCasts_S1x1024x128_S1024x128) (t_dqd D (pay114_spec D h68 h107 h112 h114) h73 (R2.const bits_zero))) shapeCasts_S1024x128_S1x1024x128)

theorem pay116_spec {t : ℕ} {v34 : FVec Ideal S128x1024 .bf16} {v68 : IVec S1024x256 1} {v77 : FVec Ideal S128x256 .f32} {v107 : FVec Ideal S1024x256 .f32} {v112 : FVec Ideal S1024x256 .f32} {v114 : FVec Ideal S1024x256 .f32}
    (h34 : R2 v34 (fun l r => D.qh 0 (t + r) l))
    (h68 : M2 v68 (fun r c => decide (c < r)))
    (h77 : R2 v77 (fun _ _ => 0))
    (h107 : R2 v107 (fun r c => D.g 0 (t + r) (t + c)))
    (h112 : R2 v112 (fun r c => Real.exp (0 - D.sp 0 (t + r) (t + c))))
    (h114 : R2 v114 (fun r c => D.gs 0 (t + r) (t + c))) :
    R2 (k0_pay116 v34 v68 v77 v107 v112 v114) (fun l c => 0 + (D.dkh 0 t 1024 l (t + c))) :=
  (R2.addf h77 (t_dkh D h34 (pay114_spec D h68 h107 h112 h114) (R2.const bits_zero)))

theorem pay117_spec {t : ℕ} {v36 : FVec Ideal S128x1024 .bf16} {v78 : FVec Ideal S128x256 .f32} {v105 : FVec Ideal S1024x256 .f32}
    (h36 : R2 v36 (fun l r => D.dyh 0 (t + r) l))
    (h78 : R2 v78 (fun _ _ => 0))
    (h105 : R2 v105 (fun r c => D.a 0 (t + r) (t + c))) :
    R2 (k0_pay117 v36 v78 v105) (fun l c => 0 + (D.dvh 0 t 1024 l (t + c))) :=
  (R2.addf h78 (t_dvh D h36 (R2.truncf h105 bitsLt_bf16_f32) (R2.const bits_zero)))

theorem pay118_spec {t : ℕ} {v94 : FVec Ideal S1024x256 .f32} {v96 : FVec Ideal S1024x128 .f32}
    (h94 : R2 v94 (fun r c => D.pre 0 (t + r) (t + c + 1) - D.pre 0 (t + r) t))
    (h96 : R2 v96 (fun r _ => D.pre 0 (t + r) t)) :
    R3 (k0_pay118 v94 v96) (fun _ r _ => D.pre 0 (t + r) (t + 256)) :=
  (R2.lift (t_cp D h96 (R2.column (R2.castSelf (t_ppLast D h94 slices_S1024x256_o0_255_S1024x1) shapeCasts_S1024x1_S1024x1) broadcasts_S1024x1_S1024x128)) shapeCasts_S1024x128_S1x1024x128)

theorem pay119_spec {t : ℕ} {v98 : FVec Ideal S1024x128 .f32} {v107 : FVec Ideal S1024x256 .f32} {v109 : FVec Ideal S1024x256 .f32}
    (h98 : R2 v98 (fun r _ => D.gs 0 (t + r) t))
    (h107 : R2 v107 (fun r c => D.g 0 (t + r) (t + c)))
    (h109 : R2 v109 (fun r c => D.gs 0 (t + r) (t + c) - D.gs 0 (t + r) t)) :
    R3 (k0_pay119 v98 v107 v109) (fun _ r _ => D.gs 0 (t + r) (t + 256)) :=
  (R2.lift (t_cg D h98 (R2.column (R2.castSelf (t_cgStep D (t_ggLast D h109 slices_S1024x256_o0_255_S1024x1) (t_gLast D h107 slices_S1024x256_o0_255_S1024x1)) shapeCasts_S1024x1_S1024x1) broadcasts_S1024x1_S1024x128)) shapeCasts_S1024x128_S1x1024x128)

theorem pay120_spec {t : ℕ} {v26 : FVec Ideal S1024x128 .bf16} {v73 : FVec Ideal S256x128 .bf16}
    (h26 : R2 v26 (fun r l => D.qh 1 (t + r) l))
    (h73 : R2 v73 (fun c l => D.K (t + c) l)) :
    R2 (k0_pay120 v26 v73) (fun r c => D.mn 1 (t + r) (t + c)) :=
  (t_min D (t_nz D h26 h73 (R2.const bits_zero)) (R2.splat bits_eighty))

theorem pay121_spec {t : ℕ} {v26 : FVec Ideal S1024x128 .bf16} {v73 : FVec Ideal S256x128 .bf16}
    (h26 : R2 v26 (fun r l => D.qh 1 (t + r) l))
    (h73 : R2 v73 (fun c l => D.K (t + c) l)) :
    R2 (k0_pay121 v26 v73) (fun r c => Real.exp (D.mn 1 (t + r) (t + c))) :=
  (R2.exp (pay120_spec D h26 h73))

theorem pay122_spec {t : ℕ} {v152 : FVec Ideal S1024x256 .f32} {cst_68 : Ideal .f32}
    (h152 : R2 v152 (fun r c => Real.exp (D.mn 1 (t + r) (t + c))))
    (hcst_68 : cst_68 = ((1 : ℝ) : EReal)) :
    R2 (k0_pay122 v152 cst_68) (fun r c => D.sp 1 (t + r) (t + c)) :=
  (t_sp D (R2.addf (R2.splat hcst_68) h152))

theorem pay123_spec {t : ℕ} {v9 : FVec Ideal S512x256 .bf16} {v68 : IVec S1024x256 1} {v151 : FVec Ideal S1024x256 .f32} {v152 : FVec Ideal S1024x256 .f32} {cst_68 : Ideal .f32}
    (h9 : R2 v9 upInc)
    (h68 : M2 v68 (fun r c => decide (c < r)))
    (h151 : R2 v151 (fun r c => D.mn 1 (t + r) (t + c)))
    (h152 : R2 v152 (fun r c => Real.exp (D.mn 1 (t + r) (t + c))))
    (hcst_68 : cst_68 = ((1 : ℝ) : EReal)) :
    R2 (k0_pay123 v9 v68 v151 v152 cst_68) (fun r c => D.pre 1 (t + r) (t + c + 1) - D.pre 1 (t + r) t) :=
  (t_pp D h9 (R2.beside (R2.truncf (t_lkDiag D h68 (R2.subf h151 (pay122_spec D h152 hcst_68)) (R2.splat bits_zero)) bitsLt_bf16_f32) (R2.truncf (R2.subf (t_lkDiag D h68 (R2.subf h151 (pay122_spec D h152 hcst_68)) (R2.splat bits_zero)) (R2.extf (R2.truncf (t_lkDiag D h68 (R2.subf h151 (pay122_spec D h152 hcst_68)) (R2.splat bits_zero)) bitsLt_bf16_f32) bitsLt_bf16_f32)) bitsLt_bf16_f32) concatenates_S1024x256_S1024x256_S1024x512_d1) (R2.const bits_zero))

theorem pay124_spec {t : ℕ} {v165 : FVec Ideal S1x1024x128 .f32}
    (h165 : R3 v165 (fun _ r _ => D.pre 1 (t + r) t)) :
    R2 (k0_pay124 v165) (fun r _ => D.pre 1 (t + r) t) :=
  (R3.drop h165 shapeCasts_S1x1024x128_S1024x128)

theorem pay125_spec {t : ℕ} {v167 : FVec Ideal S1x1024x128 .f32}
    (h167 : R3 v167 (fun _ r _ => D.gs 1 (t + r) t)) :
    R2 (k0_pay125 v167) (fun r _ => D.gs 1 (t + r) t) :=
  (R3.drop h167 shapeCasts_S1x1024x128_S1024x128)

theorem pay126_spec {t : ℕ} {v9 : FVec Ideal S512x256 .bf16} {v42 : FVec Ideal S1024x128 .f32} {v68 : IVec S1024x256 1} {v151 : FVec Ideal S1024x256 .f32} {v152 : FVec Ideal S1024x256 .f32} {cst_68 : Ideal .f32} {v165 : FVec Ideal S1x1024x128 .f32}
    (h9 : R2 v9 upInc)
    (h42 : R2 v42 (fun r _ => D.T 1 (t + r)))
    (h68 : M2 v68 (fun r c => decide (c < r)))
    (h151 : R2 v151 (fun r c => D.mn 1 (t + r) (t + c)))
    (h152 : R2 v152 (fun r c => Real.exp (D.mn 1 (t + r) (t + c))))
    (hcst_68 : cst_68 = ((1 : ℝ) : EReal))
    (h165 : R3 v165 (fun _ r _ => D.pre 1 (t + r) t)) :
    R2 (k0_pay126 v9 v42 v68 v151 v152 cst_68 v165) (fun r c => D.a 1 (t + r) (t + c)) :=
  (t_aDiag D h68 (R2.exp (R2.subf (t_rp D (t_twice (f := fun r => D.T 1 (t + r) - D.pre 1 (t + r) t) (R2.subf h42 (pay124_spec D h165)) concatenates_S1024x128_S1024x128_S1024x256_d1) (pay123_spec D h9 h68 h151 h152 hcst_68)) (pay122_spec D h152 hcst_68))) (R2.splat bits_zero))

theorem pay127_spec {t : ℕ} {v9 : FVec Ideal S512x256 .bf16} {v33 : FVec Ideal S1024x128 .bf16} {v42 : FVec Ideal S1024x128 .f32} {v68 : IVec S1024x256 1} {v76 : FVec Ideal S256x128 .bf16} {v151 : FVec Ideal S1024x256 .f32} {v152 : FVec Ideal S1024x256 .f32} {cst_68 : Ideal .f32} {v165 : FVec Ideal S1x1024x128 .f32}
    (h9 : R2 v9 upInc)
    (h33 : R2 v33 (fun r l => D.dyh 1 (t + r) l))
    (h42 : R2 v42 (fun r _ => D.T 1 (t + r)))
    (h68 : M2 v68 (fun r c => decide (c < r)))
    (h76 : R2 v76 (fun c l => D.V (t + c) l))
    (h151 : R2 v151 (fun r c => D.mn 1 (t + r) (t + c)))
    (h152 : R2 v152 (fun r c => Real.exp (D.mn 1 (t + r) (t + c))))
    (hcst_68 : cst_68 = ((1 : ℝ) : EReal))
    (h165 : R3 v165 (fun _ r _ => D.pre 1 (t + r) t)) :
    R2 (k0_pay127 v9 v33 v42 v68 v76 v151 v152 cst_68 v165) (fun r c => D.g 1 (t + r) (t + c)) :=
  (t_g D (t_dyv D h33 h76 (R2.const bits_zero)) (pay126_spec D h9 h42 h68 h151 h152 hcst_68 h165))

theorem pay128_spec {t : ℕ} {v9 : FVec Ideal S512x256 .bf16} {v13 : FVec Ideal S256x256 .bf16} {v33 : FVec Ideal S1024x128 .bf16} {v42 : FVec Ideal S1024x128 .f32} {v68 : IVec S1024x256 1} {v76 : FVec Ideal S256x128 .bf16} {v151 : FVec Ideal S1024x256 .f32} {v152 : FVec Ideal S1024x256 .f32} {cst_68 : Ideal .f32} {v165 : FVec Ideal S1x1024x128 .f32}
    (h9 : R2 v9 upInc)
    (h13 : R2 v13 upExc)
    (h33 : R2 v33 (fun r l => D.dyh 1 (t + r) l))
    (h42 : R2 v42 (fun r _ => D.T 1 (t + r)))
    (h68 : M2 v68 (fun r c => decide (c < r)))
    (h76 : R2 v76 (fun c l => D.V (t + c) l))
    (h151 : R2 v151 (fun r c => D.mn 1 (t + r) (t + c)))
    (h152 : R2 v152 (fun r c => Real.exp (D.mn 1 (t + r) (t + c))))
    (hcst_68 : cst_68 = ((1 : ℝ) : EReal))
    (h165 : R3 v165 (fun _ r _ => D.pre 1 (t + r) t)) :
    R2 (k0_pay128 v9 v13 v33 v42 v68 v76 v151 v152 cst_68 v165) (fun r c => D.gs 1 (t + r) (t + c) - D.gs 1 (t + r) t) :=
  (t_gg D h13 (R2.truncf (pay127_spec D h9 h33 h42 h68 h76 h151 h152 hcst_68 h165) bitsLt_bf16_f32) (R2.const bits_zero))

theorem pay129_spec {t : ℕ} {v9 : FVec Ideal S512x256 .bf16} {v13 : FVec Ideal S256x256 .bf16} {v33 : FVec Ideal S1024x128 .bf16} {v42 : FVec Ideal S1024x128 .f32} {v68 : IVec S1024x256 1} {v76 : FVec Ideal S256x128 .bf16} {v151 : FVec Ideal S1024x256 .f32} {v152 : FVec Ideal S1024x256 .f32} {cst_68 : Ideal .f32} {v165 : FVec Ideal S1x1024x128 .f32} {v167 : FVec Ideal S1x1024x128 .f32}
    (h9 : R2 v9 upInc)
    (h13 : R2 v13 upExc)
    (h33 : R2 v33 (fun r l => D.dyh 1 (t + r) l))
    (h42 : R2 v42 (fun r _ => D.T 1 (t + r)))
    (h68 : M2 v68 (fun r c => decide (c < r)))
    (h76 : R2 v76 (fun c l => D.V (t + c) l))
    (h151 : R2 v151 (fun r c => D.mn 1 (t + r) (t + c)))
    (h152 : R2 v152 (fun r c => Real.exp (D.mn 1 (t + r) (t + c))))
    (hcst_68 : cst_68 = ((1 : ℝ) : EReal))
    (h165 : R3 v165 (fun _ r _ => D.pre 1 (t + r) t))
    (h167 : R3 v167 (fun _ r _ => D.gs 1 (t + r) t)) :
    R2 (k0_pay129 v9 v13 v33 v42 v68 v76 v151 v152 cst_68 v165 v167) (fun r c => D.dz 1 (t + r) (t + c)) :=
  (R2.truncf (t_dzDiag D h68 (R2.subf (pay127_spec D h9 h33 h42 h68 h76 h151 h152 hcst_68 h165) (R2.mulf (R2.exp (R2.subf (R2.splat bits_zero) (pay122_spec D h152 hcst_68))) (R2.addf (pay127_spec D h9 h33 h42 h68 h76 h151 h152 hcst_68 h165) (t_sum D (t_twice (f := fun r => D.gs 1 (t + r) t) (pay125_spec D h167) concatenates_S1024x128_S1024x128_S1024x256_d1) (pay128_spec D h9 h13 h33 h42 h68 h76 h151 h152 hcst_68 h165))))) (R2.splat bits_zero)) bitsLt_bf16_f32)

theorem pay130_spec {t : ℕ} {v9 : FVec Ideal S512x256 .bf16} {v13 : FVec Ideal S256x256 .bf16} {v33 : FVec Ideal S1024x128 .bf16} {v42 : FVec Ideal S1024x128 .f32} {v68 : IVec S1024x256 1} {v73 : FVec Ideal S256x128 .bf16} {v76 : FVec Ideal S256x128 .bf16} {v151 : FVec Ideal S1024x256 .f32} {v152 : FVec Ideal S1024x256 .f32} {cst_68 : Ideal .f32} {v165 : FVec Ideal S1x1024x128 .f32} {v167 : FVec Ideal S1x1024x128 .f32} {v191 : FVec Ideal S1x1024x128 .f32}
    (h9 : R2 v9 upInc)
    (h13 : R2 v13 upExc)
    (h33 : R2 v33 (fun r l => D.dyh 1 (t + r) l))
    (h42 : R2 v42 (fun r _ => D.T 1 (t + r)))
    (h68 : M2 v68 (fun r c => decide (c < r)))
    (h73 : R2 v73 (fun c l => D.K (t + c) l))
    (h76 : R2 v76 (fun c l => D.V (t + c) l))
    (h151 : R2 v151 (fun r c => D.mn 1 (t + r) (t + c)))
    (h152 : R2 v152 (fun r c => Real.exp (D.mn 1 (t + r) (t + c))))
    (hcst_68 : cst_68 = ((1 : ℝ) : EReal))
    (h165 : R3 v165 (fun _ r _ => D.pre 1 (t + r) t))
    (h167 : R3 v167 (fun _ r _ => D.gs 1 (t + r) t))
    (h191 : R3 v191 (fun _ r l => D.dqa 1 (t + r) t l)) :
    R2 (k0_pay130 v9 v13 v33 v42 v68 v73 v76 v151 v152 cst_68 v165 v167 v191) (fun r l => D.dqa 1 (t + r) (t + 256) l) :=
  (t_dqa D (R3.drop h191 shapeCasts_S1x1024x128_S1024x128) (t_dqd D (pay129_spec D h9 h13 h33 h42 h68 h76 h151 h152 hcst_68 h165 h167) h73 (R2.const bits_zero)))

theorem pay131_spec {t : ℕ} {v194 : FVec Ideal S1024x128 .f32}
    (h194 : R2 v194 (fun r l => D.dqa 1 (t + r) (t + 256) l)) :
    R3 (k0_pay131 v194) (fun _ r l => D.dqa 1 (t + r) (t + 256) l) :=
  (R2.lift h194 shapeCasts_S1024x128_S1x1024x128)

theorem pay132_spec {t : ℕ} {v164 : FVec Ideal S1024x256 .f32} {v166 : FVec Ideal S1024x128 .f32}
    (h164 : R2 v164 (fun r c => D.pre 1 (t + r) (t + c + 1) - D.pre 1 (t + r) t))
    (h166 : R2 v166 (fun r _ => D.pre 1 (t + r) t)) :
    R3 (k0_pay132 v164 v166) (fun _ r _ => D.pre 1 (t + r) (t + 256)) :=
  (R2.lift (t_cp D h166 (R2.column (R2.castSelf (t_ppLast D h164 slices_S1024x256_o0_255_S1024x1) shapeCasts_S1024x1_S1024x1) broadcasts_S1024x1_S1024x128)) shapeCasts_S1024x128_S1x1024x128)

theorem pay133_spec {t : ℕ} {v168 : FVec Ideal S1024x128 .f32} {v177 : FVec Ideal S1024x256 .f32} {v179 : FVec Ideal S1024x256 .f32}
    (h168 : R2 v168 (fun r _ => D.gs 1 (t + r) t))
    (h177 : R2 v177 (fun r c => D.g 1 (t + r) (t + c)))
    (h179 : R2 v179 (fun r c => D.gs 1 (t + r) (t + c) - D.gs 1 (t + r) t)) :
    R3 (k0_pay133 v168 v177 v179) (fun _ r _ => D.gs 1 (t + r) (t + 256)) :=
  (R2.lift (t_cg D h168 (R2.column (R2.castSelf (t_cgStep D (t_ggLast D h179 slices_S1024x256_o0_255_S1024x1) (t_gLast D h177 slices_S1024x256_o0_255_S1024x1)) shapeCasts_S1024x1_S1024x1) broadcasts_S1024x1_S1024x128)) shapeCasts_S1024x128_S1x1024x128)

theorem pay134_spec {t : ℕ} {f : ℕ → ℕ → ℝ} {v35 : FVec Ideal S128x1024 .bf16} {v129 : FVec Ideal S128x256 .f32} {v190 : FVec Ideal S1024x256 .bf16} {v220 : FVec Ideal S128x256 .f32}
    (h35 : R2 v35 (fun l r => D.qh 1 (t + r) l))
    (h129 : R2 v129 (fun l c => 0 + (D.dkh 0 t 1024 l (t + c))))
    (h190 : R2 v190 (fun r c => D.dz 1 (t + r) (t + c)))
    (h220 : R2 v220 (fun l c => f l c)) :
    R2 (k0_pay134 v35 v129 v190 v220) (fun l c => f l c - (0 + (D.dkh 0 t 1024 l (t + c)) + (D.dkh 1 t 1024 l (t + c)))) :=
  (R2.castSelf (R2.subf h220 (R2.addf h129 (t_dkh D h35 h190 (R2.const bits_zero)))) shapeCasts_S128x256_S128x256)

theorem pay135_spec {t : ℕ} {f : ℕ → ℕ → ℝ} {v37 : FVec Ideal S128x1024 .bf16} {v132 : FVec Ideal S128x256 .f32} {v175 : FVec Ideal S1024x256 .f32} {v227 : FVec Ideal S128x256 .f32}
    (h37 : R2 v37 (fun l r => D.dyh 1 (t + r) l))
    (h132 : R2 v132 (fun l c => 0 + (D.dvh 0 t 1024 l (t + c))))
    (h175 : R2 v175 (fun r c => D.a 1 (t + r) (t + c)))
    (h227 : R2 v227 (fun l c => f l c)) :
    R2 (k0_pay135 v37 v132 v175 v227) (fun l c => f l c + (0 + (D.dvh 0 t 1024 l (t + c)) + (D.dvh 1 t 1024 l (t + c)))) :=
  (R2.castSelf (R2.addf h227 (R2.addf h132 (t_dvh D h37 (R2.truncf h175 bitsLt_bf16_f32) (R2.const bits_zero)))) shapeCasts_S128x256_S128x256)

end Cert.Proof
-- ==== Proof.Diag1.lean ====
/- The block on the diagonal of the tile's keys 256 to 511: what each of its values holds. The tile's rows start at `t`; the block's rows and its
   keys both start 256 further on. -/
module

public import proofs.«01_k».proof.Proof.Forms
public import proofs.«01_k».proof.Proof.Gen.KernelIdeal.Skeleton

@[expose] public section

noncomputable section

namespace Cert.Proof

open Idealize.ShloMosaic Cert.KernelIdeal Cert.KernelIdeal.Gen

variable (D : Data)

theorem pay136_spec :
    M2 k0_pay136 (fun r c => decide (c < r)) :=
  (M2.colRow (by norm_num) (by norm_num) _ _)

theorem pay137_spec {t : ℕ} {v241 : FVec Ideal S256x128 .f32}
    (h241 : R2 v241 (fun c l => D.K ((t + 256) + c) l)) :
    R2 (k0_pay137 v241) (fun c l => D.K ((t + 256) + c) l) :=
  (R2.truncf h241 bitsLt_bf16_f32)

theorem pay138_spec {t : ℕ} {v244 : FVec Ideal S256x128 .f32}
    (h244 : R2 v244 (fun c l => D.V ((t + 256) + c) l)) :
    R2 (k0_pay138 v244) (fun c l => D.V ((t + 256) + c) l) :=
  (R2.truncf h244 bitsLt_bf16_f32)

theorem pay139_spec :
    R2 (k0_pay139 (F := Ideal)) (fun _ _ => 0) :=
  (R2.splat bits_zero)

theorem pay140_spec :
    R2 (k0_pay140 (F := Ideal)) (fun _ _ => 0) :=
  (R2.splat bits_zero)

theorem pay141_spec {t : ℕ} {v30 : FVec Ideal S1024x128 .bf16}
    (h30 : R2 v30 (fun r l => D.dyh 0 (t + r) l)) :
    R2 (k0_pay141 v30) (fun r l => D.dyh 0 ((t + 256) + r) l) :=
  (t_rows (F := fun r l => D.dyh 0 r l) 256 h30 slices_S1024x128_o256_0_S768x128 rfl rfl)

theorem pay142_spec {t : ℕ} {v21 : FVec Ideal S1024x128 .bf16} {v241 : FVec Ideal S256x128 .f32}
    (h21 : R2 v21 (fun r l => D.qh 0 (t + r) l))
    (h241 : R2 v241 (fun c l => D.K ((t + 256) + c) l)) :
    R2 (k0_pay142 v21 v241) (fun r c => D.mn 0 ((t + 256) + r) ((t + 256) + c)) :=
  (t_min D (t_nz D (t_rows (F := fun r l => D.qh 0 r l) 256 h21 slices_S1024x128_o256_0_S768x128 rfl rfl) (pay137_spec D h241) (R2.const bits_zero)) (R2.splat bits_eighty))

theorem pay143_spec {t : ℕ} {v21 : FVec Ideal S1024x128 .bf16} {v241 : FVec Ideal S256x128 .f32}
    (h21 : R2 v21 (fun r l => D.qh 0 (t + r) l))
    (h241 : R2 v241 (fun c l => D.K ((t + 256) + c) l)) :
    R2 (k0_pay143 v21 v241) (fun r c => D.sp 0 ((t + 256) + r) ((t + 256) + c)) :=
  (t_sp D (R2.addf (R2.splat bits_one) (R2.exp (pay142_spec D h21 h241))))

theorem pay144_spec {t : ℕ} {v9 : FVec Ideal S512x256 .bf16} {v21 : FVec Ideal S1024x128 .bf16} {v241 : FVec Ideal S256x128 .f32}
    (h9 : R2 v9 upInc)
    (h21 : R2 v21 (fun r l => D.qh 0 (t + r) l))
    (h241 : R2 v241 (fun c l => D.K ((t + 256) + c) l)) :
    R2 (k0_pay144 v9 v21 v241) (fun r c => D.pre 0 ((t + 256) + r) ((t + 256) + c + 1) - D.pre 0 ((t + 256) + r) (t + 256)) :=
  (t_pp D h9 (R2.beside (R2.truncf (t_lkDiag D (pay136_spec  ) (R2.subf (pay142_spec D h21 h241) (pay143_spec D h21 h241)) (R2.splat bits_zero)) bitsLt_bf16_f32) (R2.truncf (R2.subf (t_lkDiag D (pay136_spec  ) (R2.subf (pay142_spec D h21 h241) (pay143_spec D h21 h241)) (R2.splat bits_zero)) (R2.extf (R2.truncf (t_lkDiag D (pay136_spec  ) (R2.subf (pay142_spec D h21 h241) (pay143_spec D h21 h241)) (R2.splat bits_zero)) bitsLt_bf16_f32) bitsLt_bf16_f32)) bitsLt_bf16_f32) concatenates_S768x256_S768x256_S768x512_d1) (R2.const bits_zero))

theorem pay145_spec {t : ℕ} {v266 : FVec Ideal S1x768x128 .f32}
    (h266 : R3 v266 (fun _ r _ => D.pre 0 ((t + 256) + r) (t + 256))) :
    R2 (k0_pay145 v266) (fun r _ => D.pre 0 ((t + 256) + r) (t + 256)) :=
  (R3.drop h266 shapeCasts_S1x768x128_S768x128)

theorem pay146_spec {t : ℕ} {v268 : FVec Ideal S1x768x128 .f32}
    (h268 : R3 v268 (fun _ r _ => D.gs 0 ((t + 256) + r) (t + 256))) :
    R2 (k0_pay146 v268) (fun r _ => D.gs 0 ((t + 256) + r) (t + 256)) :=
  (R3.drop h268 shapeCasts_S1x768x128_S768x128)

theorem pay147_spec {t : ℕ} {v9 : FVec Ideal S512x256 .bf16} {v21 : FVec Ideal S1024x128 .bf16} {v41 : FVec Ideal S1024x128 .f32} {v241 : FVec Ideal S256x128 .f32} {v266 : FVec Ideal S1x768x128 .f32}
    (h9 : R2 v9 upInc)
    (h21 : R2 v21 (fun r l => D.qh 0 (t + r) l))
    (h41 : R2 v41 (fun r _ => D.T 0 (t + r)))
    (h241 : R2 v241 (fun c l => D.K ((t + 256) + c) l))
    (h266 : R3 v266 (fun _ r _ => D.pre 0 ((t + 256) + r) (t + 256))) :
    R2 (k0_pay147 v9 v21 v41 v241 v266) (fun r c => Real.exp (D.T 0 ((t + 256) + r) - D.pre 0 ((t + 256) + r) ((t + 256) + c + 1) - D.sp 0 ((t + 256) + r) ((t + 256) + c))) :=
  (R2.exp (R2.subf (t_rp D (t_twice (f := fun r => D.T 0 ((t + 256) + r) - D.pre 0 ((t + 256) + r) (t + 256)) (R2.subf (t_rows (F := fun r _ => D.T 0 r) 256 h41 slices_S1024x128_o256_0_S768x128 rfl rfl) (pay145_spec D h266)) concatenates_S768x128_S768x128_S768x256_d1) (pay144_spec D h9 h21 h241)) (pay143_spec D h21 h241)))

theorem pay148_spec :
    R2 (k0_pay148 (F := Ideal)) (fun _ _ => 0) :=
  (R2.splat bits_zero)

theorem pay149_spec {t : ℕ} {v237 : IVec S768x256 1} {v275 : FVec Ideal S768x256 .f32} {v276 : FVec Ideal S768x256 .f32}
    (h237 : M2 v237 (fun r c => decide (c < r)))
    (h275 : R2 v275 (fun r c => Real.exp (D.T 0 ((t + 256) + r) - D.pre 0 ((t + 256) + r) ((t + 256) + c + 1) - D.sp 0 ((t + 256) + r) ((t + 256) + c))))
    (h276 : R2 v276 (fun _ _ => 0)) :
    R2 (k0_pay149 v237 v275 v276) (fun r c => D.a 0 ((t + 256) + r) ((t + 256) + c)) :=
  (t_aDiag D h237 h275 h276)

theorem pay150_spec {t : ℕ} {v237 : IVec S768x256 1} {v245 : FVec Ideal S256x128 .bf16} {v249 : FVec Ideal S768x128 .bf16} {v275 : FVec Ideal S768x256 .f32} {v276 : FVec Ideal S768x256 .f32}
    (h237 : M2 v237 (fun r c => decide (c < r)))
    (h245 : R2 v245 (fun c l => D.V ((t + 256) + c) l))
    (h249 : R2 v249 (fun r l => D.dyh 0 ((t + 256) + r) l))
    (h275 : R2 v275 (fun r c => Real.exp (D.T 0 ((t + 256) + r) - D.pre 0 ((t + 256) + r) ((t + 256) + c + 1) - D.sp 0 ((t + 256) + r) ((t + 256) + c))))
    (h276 : R2 v276 (fun _ _ => 0)) :
    R2 (k0_pay150 v237 v245 v249 v275 v276) (fun r c => D.g 0 ((t + 256) + r) ((t + 256) + c)) :=
  (t_g D (t_dyv D h249 h245 (R2.const bits_zero)) (pay149_spec D h237 h275 h276))

theorem pay151_spec {t : ℕ} {v13 : FVec Ideal S256x256 .bf16} {v237 : IVec S768x256 1} {v245 : FVec Ideal S256x128 .bf16} {v249 : FVec Ideal S768x128 .bf16} {v275 : FVec Ideal S768x256 .f32} {v276 : FVec Ideal S768x256 .f32}
    (h13 : R2 v13 upExc)
    (h237 : M2 v237 (fun r c => decide (c < r)))
    (h245 : R2 v245 (fun c l => D.V ((t + 256) + c) l))
    (h249 : R2 v249 (fun r l => D.dyh 0 ((t + 256) + r) l))
    (h275 : R2 v275 (fun r c => Real.exp (D.T 0 ((t + 256) + r) - D.pre 0 ((t + 256) + r) ((t + 256) + c + 1) - D.sp 0 ((t + 256) + r) ((t + 256) + c))))
    (h276 : R2 v276 (fun _ _ => 0)) :
    R2 (k0_pay151 v13 v237 v245 v249 v275 v276) (fun r c => D.gs 0 ((t + 256) + r) ((t + 256) + c) - D.gs 0 ((t + 256) + r) (t + 256)) :=
  (t_gg D h13 (R2.truncf (pay150_spec D h237 h245 h249 h275 h276) bitsLt_bf16_f32) (R2.const bits_zero))

theorem pay152_spec {t : ℕ} {v13 : FVec Ideal S256x256 .bf16} {v237 : IVec S768x256 1} {v245 : FVec Ideal S256x128 .bf16} {v249 : FVec Ideal S768x128 .bf16} {v256 : FVec Ideal S768x256 .f32} {v269 : FVec Ideal S768x128 .f32} {v275 : FVec Ideal S768x256 .f32} {v276 : FVec Ideal S768x256 .f32}
    (h13 : R2 v13 upExc)
    (h237 : M2 v237 (fun r c => decide (c < r)))
    (h245 : R2 v245 (fun c l => D.V ((t + 256) + c) l))
    (h249 : R2 v249 (fun r l => D.dyh 0 ((t + 256) + r) l))
    (h256 : R2 v256 (fun r c => D.sp 0 ((t + 256) + r) ((t + 256) + c)))
    (h269 : R2 v269 (fun r _ => D.gs 0 ((t + 256) + r) (t + 256)))
    (h275 : R2 v275 (fun r c => Real.exp (D.T 0 ((t + 256) + r) - D.pre 0 ((t + 256) + r) ((t + 256) + c + 1) - D.sp 0 ((t + 256) + r) ((t + 256) + c))))
    (h276 : R2 v276 (fun _ _ => 0)) :
    R2 (k0_pay152 v13 v237 v245 v249 v256 v269 v275 v276) (fun r c => D.dz 0 ((t + 256) + r) ((t + 256) + c)) :=
  (R2.truncf (t_dzDiag D h237 (R2.subf (pay150_spec D h237 h245 h249 h275 h276) (R2.mulf (R2.exp (R2.subf (R2.splat bits_zero) h256)) (R2.addf (pay150_spec D h237 h245 h249 h275 h276) (t_sum D (t_twice (f := fun r => D.gs 0 ((t + 256) + r) (t + 256)) h269 concatenates_S768x128_S768x128_S768x256_d1) (pay151_spec D h13 h237 h245 h249 h275 h276))))) (R2.splat bits_zero)) bitsLt_bf16_f32)

theorem pay153_spec {t : ℕ} {v13 : FVec Ideal S256x256 .bf16} {v237 : IVec S768x256 1} {v242 : FVec Ideal S256x128 .bf16} {v245 : FVec Ideal S256x128 .bf16} {v249 : FVec Ideal S768x128 .bf16} {v256 : FVec Ideal S768x256 .f32} {v269 : FVec Ideal S768x128 .f32} {v275 : FVec Ideal S768x256 .f32} {v276 : FVec Ideal S768x256 .f32} {v293 : FVec Ideal S1x768x128 .f32}
    (h13 : R2 v13 upExc)
    (h237 : M2 v237 (fun r c => decide (c < r)))
    (h242 : R2 v242 (fun c l => D.K ((t + 256) + c) l))
    (h245 : R2 v245 (fun c l => D.V ((t + 256) + c) l))
    (h249 : R2 v249 (fun r l => D.dyh 0 ((t + 256) + r) l))
    (h256 : R2 v256 (fun r c => D.sp 0 ((t + 256) + r) ((t + 256) + c)))
    (h269 : R2 v269 (fun r _ => D.gs 0 ((t + 256) + r) (t + 256)))
    (h275 : R2 v275 (fun r c => Real.exp (D.T 0 ((t + 256) + r) - D.pre 0 ((t + 256) + r) ((t + 256) + c + 1) - D.sp 0 ((t + 256) + r) ((t + 256) + c))))
    (h276 : R2 v276 (fun _ _ => 0))
    (h293 : R3 v293 (fun _ r l => D.dqa 0 ((t + 256) + r) (t + 256) l)) :
    R3 (k0_pay153 v13 v237 v242 v245 v249 v256 v269 v275 v276 v293) (fun _ r l => D.dqa 0 ((t + 256) + r) ((t + 256) + 256) l) :=
  (R2.lift (t_dqa D (R3.drop h293 shapeCasts_S1x768x128_S768x128) (t_dqd D (pay152_spec D h13 h237 h245 h249 h256 h269 h275 h276) h242 (R2.const bits_zero))) shapeCasts_S768x128_S1x768x128)

theorem pay154_spec {t : ℕ} {v13 : FVec Ideal S256x256 .bf16} {v34 : FVec Ideal S128x1024 .bf16} {v237 : IVec S768x256 1} {v245 : FVec Ideal S256x128 .bf16} {v246 : FVec Ideal S128x256 .f32} {v249 : FVec Ideal S768x128 .bf16} {v256 : FVec Ideal S768x256 .f32} {v269 : FVec Ideal S768x128 .f32} {v275 : FVec Ideal S768x256 .f32} {v276 : FVec Ideal S768x256 .f32}
    (h13 : R2 v13 upExc)
    (h34 : R2 v34 (fun l r => D.qh 0 (t + r) l))
    (h237 : M2 v237 (fun r c => decide (c < r)))
    (h245 : R2 v245 (fun c l => D.V ((t + 256) + c) l))
    (h246 : R2 v246 (fun _ _ => 0))
    (h249 : R2 v249 (fun r l => D.dyh 0 ((t + 256) + r) l))
    (h256 : R2 v256 (fun r c => D.sp 0 ((t + 256) + r) ((t + 256) + c)))
    (h269 : R2 v269 (fun r _ => D.gs 0 ((t + 256) + r) (t + 256)))
    (h275 : R2 v275 (fun r c => Real.exp (D.T 0 ((t + 256) + r) - D.pre 0 ((t + 256) + r) ((t + 256) + c + 1) - D.sp 0 ((t + 256) + r) ((t + 256) + c))))
    (h276 : R2 v276 (fun _ _ => 0)) :
    R2 (k0_pay154 v13 v34 v237 v245 v246 v249 v256 v269 v275 v276) (fun l c => 0 + (D.dkh 0 (t + 256) 768 l ((t + 256) + c))) :=
  (R2.addf h246 (t_dkh D (t_cols (F := fun r l => D.qh 0 r l) 256 h34 slices_S128x1024_o0_256_S128x768 rfl rfl) (pay152_spec D h13 h237 h245 h249 h256 h269 h275 h276) (R2.const bits_zero)))

theorem pay155_spec {t : ℕ} {v36 : FVec Ideal S128x1024 .bf16} {v237 : IVec S768x256 1} {v247 : FVec Ideal S128x256 .f32} {v275 : FVec Ideal S768x256 .f32} {v276 : FVec Ideal S768x256 .f32}
    (h36 : R2 v36 (fun l r => D.dyh 0 (t + r) l))
    (h237 : M2 v237 (fun r c => decide (c < r)))
    (h247 : R2 v247 (fun _ _ => 0))
    (h275 : R2 v275 (fun r c => Real.exp (D.T 0 ((t + 256) + r) - D.pre 0 ((t + 256) + r) ((t + 256) + c + 1) - D.sp 0 ((t + 256) + r) ((t + 256) + c))))
    (h276 : R2 v276 (fun _ _ => 0)) :
    R2 (k0_pay155 v36 v237 v247 v275 v276) (fun l c => 0 + (D.dvh 0 (t + 256) 768 l ((t + 256) + c))) :=
  (R2.addf h247 (t_dvh D (t_cols (F := fun r l => D.dyh 0 r l) 256 h36 slices_S128x1024_o0_256_S128x768 rfl rfl) (R2.truncf (pay149_spec D h237 h275 h276) bitsLt_bf16_f32) (R2.const bits_zero)))

theorem pay156_spec {t : ℕ} {v265 : FVec Ideal S768x256 .f32} {v267 : FVec Ideal S768x128 .f32}
    (h265 : R2 v265 (fun r c => D.pre 0 ((t + 256) + r) ((t + 256) + c + 1) - D.pre 0 ((t + 256) + r) (t + 256)))
    (h267 : R2 v267 (fun r _ => D.pre 0 ((t + 256) + r) (t + 256))) :
    R3 (k0_pay156 v265 v267) (fun _ r _ => D.pre 0 ((t + 256) + r) ((t + 256) + 256)) :=
  (R2.lift (t_cp D h267 (R2.column (R2.castSelf (t_ppLast D h265 slices_S768x256_o0_255_S768x1) shapeCasts_S768x1_S768x1) broadcasts_S768x1_S768x128)) shapeCasts_S768x128_S1x768x128)

theorem pay157_spec {t : ℕ} {v13 : FVec Ideal S256x256 .bf16} {v237 : IVec S768x256 1} {v245 : FVec Ideal S256x128 .bf16} {v249 : FVec Ideal S768x128 .bf16} {v275 : FVec Ideal S768x256 .f32} {v276 : FVec Ideal S768x256 .f32}
    (h13 : R2 v13 upExc)
    (h237 : M2 v237 (fun r c => decide (c < r)))
    (h245 : R2 v245 (fun c l => D.V ((t + 256) + c) l))
    (h249 : R2 v249 (fun r l => D.dyh 0 ((t + 256) + r) l))
    (h275 : R2 v275 (fun r c => Real.exp (D.T 0 ((t + 256) + r) - D.pre 0 ((t + 256) + r) ((t + 256) + c + 1) - D.sp 0 ((t + 256) + r) ((t + 256) + c))))
    (h276 : R2 v276 (fun _ _ => 0)) :
    R2 (k0_pay157 v13 v237 v245 v249 v275 v276) (fun r _ => D.gs 0 ((t + 256) + r) ((t + 256) + 256) - D.gs 0 ((t + 256) + r) (t + 256)) :=
  (R2.column (R2.castSelf (t_cgStep D (t_ggLast D (pay151_spec D h13 h237 h245 h249 h275 h276) slices_S768x256_o0_255_S768x1) (t_gLast D (pay150_spec D h237 h245 h249 h275 h276) slices_S768x256_o0_255_S768x1)) shapeCasts_S768x1_S768x1) broadcasts_S768x1_S768x128)

theorem pay158_spec {t : ℕ} {v269 : FVec Ideal S768x128 .f32} {v318 : FVec Ideal S768x128 .f32}
    (h269 : R2 v269 (fun r _ => D.gs 0 ((t + 256) + r) (t + 256)))
    (h318 : R2 v318 (fun r _ => D.gs 0 ((t + 256) + r) ((t + 256) + 256) - D.gs 0 ((t + 256) + r) (t + 256))) :
    R3 (k0_pay158 v269 v318) (fun _ r _ => D.gs 0 ((t + 256) + r) ((t + 256) + 256)) :=
  (R2.lift (t_cg D h269 h318) shapeCasts_S768x128_S1x768x128)

theorem pay159_spec {t : ℕ} {v26 : FVec Ideal S1024x128 .bf16} {v242 : FVec Ideal S256x128 .bf16}
    (h26 : R2 v26 (fun r l => D.qh 1 (t + r) l))
    (h242 : R2 v242 (fun c l => D.K ((t + 256) + c) l)) :
    R2 (k0_pay159 v26 v242) (fun r c => D.mn 1 ((t + 256) + r) ((t + 256) + c)) :=
  (t_min D (t_nz D (t_rows (F := fun r l => D.qh 1 r l) 256 h26 slices_S1024x128_o256_0_S768x128 rfl rfl) h242 (R2.const bits_zero)) (R2.splat bits_eighty))

theorem pay160_spec {t : ℕ} {v26 : FVec Ideal S1024x128 .bf16} {v242 : FVec Ideal S256x128 .bf16}
    (h26 : R2 v26 (fun r l => D.qh 1 (t + r) l))
    (h242 : R2 v242 (fun c l => D.K ((t + 256) + c) l)) :
    R2 (k0_pay160 v26 v242) (fun r c => D.sp 1 ((t + 256) + r) ((t + 256) + c)) :=
  (t_sp D (R2.addf (R2.splat bits_one) (R2.exp (pay159_spec D h26 h242))))

theorem pay161_spec {t : ℕ} {v9 : FVec Ideal S512x256 .bf16} {v26 : FVec Ideal S1024x128 .bf16} {v237 : IVec S768x256 1} {v242 : FVec Ideal S256x128 .bf16}
    (h9 : R2 v9 upInc)
    (h26 : R2 v26 (fun r l => D.qh 1 (t + r) l))
    (h237 : M2 v237 (fun r c => decide (c < r)))
    (h242 : R2 v242 (fun c l => D.K ((t + 256) + c) l)) :
    R2 (k0_pay161 v9 v26 v237 v242) (fun r c => D.pre 1 ((t + 256) + r) ((t + 256) + c + 1) - D.pre 1 ((t + 256) + r) (t + 256)) :=
  (t_pp D h9 (R2.beside (R2.truncf (t_lkDiag D h237 (R2.subf (pay159_spec D h26 h242) (pay160_spec D h26 h242)) (R2.splat bits_zero)) bitsLt_bf16_f32) (R2.truncf (R2.subf (t_lkDiag D h237 (R2.subf (pay159_spec D h26 h242) (pay160_spec D h26 h242)) (R2.splat bits_zero)) (R2.extf (R2.truncf (t_lkDiag D h237 (R2.subf (pay159_spec D h26 h242) (pay160_spec D h26 h242)) (R2.splat bits_zero)) bitsLt_bf16_f32) bitsLt_bf16_f32)) bitsLt_bf16_f32) concatenates_S768x256_S768x256_S768x512_d1) (R2.const bits_zero))

theorem pay162_spec {t : ℕ} {v341 : FVec Ideal S1x768x128 .f32}
    (h341 : R3 v341 (fun _ r _ => D.pre 1 ((t + 256) + r) (t + 256))) :
    R2 (k0_pay162 v341) (fun r _ => D.pre 1 ((t + 256) + r) (t + 256)) :=
  (R3.drop h341 shapeCasts_S1x768x128_S768x128)

theorem pay163_spec {t : ℕ} {v343 : FVec Ideal S1x768x128 .f32}
    (h343 : R3 v343 (fun _ r _ => D.gs 1 ((t + 256) + r) (t + 256))) :
    R2 (k0_pay163 v343) (fun r _ => D.gs 1 ((t + 256) + r) (t + 256)) :=
  (R3.drop h343 shapeCasts_S1x768x128_S768x128)

theorem pay164_spec {t : ℕ} {v9 : FVec Ideal S512x256 .bf16} {v26 : FVec Ideal S1024x128 .bf16} {v42 : FVec Ideal S1024x128 .f32} {v237 : IVec S768x256 1} {v242 : FVec Ideal S256x128 .bf16} {v341 : FVec Ideal S1x768x128 .f32}
    (h9 : R2 v9 upInc)
    (h26 : R2 v26 (fun r l => D.qh 1 (t + r) l))
    (h42 : R2 v42 (fun r _ => D.T 1 (t + r)))
    (h237 : M2 v237 (fun r c => decide (c < r)))
    (h242 : R2 v242 (fun c l => D.K ((t + 256) + c) l))
    (h341 : R3 v341 (fun _ r _ => D.pre 1 ((t + 256) + r) (t + 256))) :
    R2 (k0_pay164 v9 v26 v42 v237 v242 v341) (fun r c => D.a 1 ((t + 256) + r) ((t + 256) + c)) :=
  (t_aDiag D h237 (R2.exp (R2.subf (t_rp D (t_twice (f := fun r => D.T 1 ((t + 256) + r) - D.pre 1 ((t + 256) + r) (t + 256)) (R2.subf (t_rows (F := fun r _ => D.T 1 r) 256 h42 slices_S1024x128_o256_0_S768x128 rfl rfl) (pay162_spec D h341)) concatenates_S768x128_S768x128_S768x256_d1) (pay161_spec D h9 h26 h237 h242)) (pay160_spec D h26 h242))) (R2.splat bits_zero))

theorem pay165_spec {t : ℕ} {v9 : FVec Ideal S512x256 .bf16} {v26 : FVec Ideal S1024x128 .bf16} {v33 : FVec Ideal S1024x128 .bf16} {v42 : FVec Ideal S1024x128 .f32} {v237 : IVec S768x256 1} {v242 : FVec Ideal S256x128 .bf16} {v245 : FVec Ideal S256x128 .bf16} {v341 : FVec Ideal S1x768x128 .f32}
    (h9 : R2 v9 upInc)
    (h26 : R2 v26 (fun r l => D.qh 1 (t + r) l))
    (h33 : R2 v33 (fun r l => D.dyh 1 (t + r) l))
    (h42 : R2 v42 (fun r _ => D.T 1 (t + r)))
    (h237 : M2 v237 (fun r c => decide (c < r)))
    (h242 : R2 v242 (fun c l => D.K ((t + 256) + c) l))
    (h245 : R2 v245 (fun c l => D.V ((t + 256) + c) l))
    (h341 : R3 v341 (fun _ r _ => D.pre 1 ((t + 256) + r) (t + 256))) :
    R2 (k0_pay165 v9 v26 v33 v42 v237 v242 v245 v341) (fun r c => D.g 1 ((t + 256) + r) ((t + 256) + c)) :=
  (t_g D (t_dyv D (t_rows (F := fun r l => D.dyh 1 r l) 256 h33 slices_S1024x128_o256_0_S768x128 rfl rfl) h245 (R2.const bits_zero)) (pay164_spec D h9 h26 h42 h237 h242 h341))

theorem pay166_spec {t : ℕ} {v9 : FVec Ideal S512x256 .bf16} {v13 : FVec Ideal S256x256 .bf16} {v26 : FVec Ideal S1024x128 .bf16} {v33 : FVec Ideal S1024x128 .bf16} {v42 : FVec Ideal S1024x128 .f32} {v237 : IVec S768x256 1} {v242 : FVec Ideal S256x128 .bf16} {v245 : FVec Ideal S256x128 .bf16} {v341 : FVec Ideal S1x768x128 .f32}
    (h9 : R2 v9 upInc)
    (h13 : R2 v13 upExc)
    (h26 : R2 v26 (fun r l => D.qh 1 (t + r) l))
    (h33 : R2 v33 (fun r l => D.dyh 1 (t + r) l))
    (h42 : R2 v42 (fun r _ => D.T 1 (t + r)))
    (h237 : M2 v237 (fun r c => decide (c < r)))
    (h242 : R2 v242 (fun c l => D.K ((t + 256) + c) l))
    (h245 : R2 v245 (fun c l => D.V ((t + 256) + c) l))
    (h341 : R3 v341 (fun _ r _ => D.pre 1 ((t + 256) + r) (t + 256))) :
    R2 (k0_pay166 v9 v13 v26 v33 v42 v237 v242 v245 v341) (fun r c => D.gs 1 ((t + 256) + r) ((t + 256) + c) - D.gs 1 ((t + 256) + r) (t + 256)) :=
  (t_gg D h13 (R2.truncf (pay165_spec D h9 h26 h33 h42 h237 h242 h245 h341) bitsLt_bf16_f32) (R2.const bits_zero))

theorem pay167_spec {t : ℕ} {v26 : FVec Ideal S1024x128 .bf16} {v242 : FVec Ideal S256x128 .bf16}
    (h26 : R2 v26 (fun r l => D.qh 1 (t + r) l))
    (h242 : R2 v242 (fun c l => D.K ((t + 256) + c) l)) :
    R2 (k0_pay167 v26 v242) (fun r c => Real.exp (0 - D.sp 1 ((t + 256) + r) ((t + 256) + c))) :=
  (R2.exp (R2.subf (R2.splat bits_zero) (pay160_spec D h26 h242)))

theorem pay168_spec {t : ℕ} {v237 : IVec S768x256 1} {v344 : FVec Ideal S768x128 .f32} {v354 : FVec Ideal S768x256 .f32} {v356 : FVec Ideal S768x256 .f32} {v359 : FVec Ideal S768x256 .f32}
    (h237 : M2 v237 (fun r c => decide (c < r)))
    (h344 : R2 v344 (fun r _ => D.gs 1 ((t + 256) + r) (t + 256)))
    (h354 : R2 v354 (fun r c => D.g 1 ((t + 256) + r) ((t + 256) + c)))
    (h356 : R2 v356 (fun r c => D.gs 1 ((t + 256) + r) ((t + 256) + c) - D.gs 1 ((t + 256) + r) (t + 256)))
    (h359 : R2 v359 (fun r c => Real.exp (0 - D.sp 1 ((t + 256) + r) ((t + 256) + c)))) :
    R2 (k0_pay168 v237 v344 v354 v356 v359) (fun r c => D.dz 1 ((t + 256) + r) ((t + 256) + c)) :=
  (R2.truncf (t_dzDiag D h237 (R2.subf h354 (R2.mulf h359 (R2.addf h354 (t_sum D (t_twice (f := fun r => D.gs 1 ((t + 256) + r) (t + 256)) h344 concatenates_S768x128_S768x128_S768x256_d1) h356)))) (R2.splat bits_zero)) bitsLt_bf16_f32)

theorem pay169_spec {t : ℕ} {v237 : IVec S768x256 1} {v242 : FVec Ideal S256x128 .bf16} {v344 : FVec Ideal S768x128 .f32} {v354 : FVec Ideal S768x256 .f32} {v356 : FVec Ideal S768x256 .f32} {v359 : FVec Ideal S768x256 .f32} {v368 : FVec Ideal S1x768x128 .f32}
    (h237 : M2 v237 (fun r c => decide (c < r)))
    (h242 : R2 v242 (fun c l => D.K ((t + 256) + c) l))
    (h344 : R2 v344 (fun r _ => D.gs 1 ((t + 256) + r) (t + 256)))
    (h354 : R2 v354 (fun r c => D.g 1 ((t + 256) + r) ((t + 256) + c)))
    (h356 : R2 v356 (fun r c => D.gs 1 ((t + 256) + r) ((t + 256) + c) - D.gs 1 ((t + 256) + r) (t + 256)))
    (h359 : R2 v359 (fun r c => Real.exp (0 - D.sp 1 ((t + 256) + r) ((t + 256) + c))))
    (h368 : R3 v368 (fun _ r l => D.dqa 1 ((t + 256) + r) (t + 256) l)) :
    R3 (k0_pay169 v237 v242 v344 v354 v356 v359 v368) (fun _ r l => D.dqa 1 ((t + 256) + r) ((t + 256) + 256) l) :=
  (R2.lift (t_dqa D (R3.drop h368 shapeCasts_S1x768x128_S768x128) (t_dqd D (pay168_spec D h237 h344 h354 h356 h359) h242 (R2.const bits_zero))) shapeCasts_S768x128_S1x768x128)

theorem pay170_spec {t : ℕ} {v35 : FVec Ideal S128x1024 .bf16} {v237 : IVec S768x256 1} {v302 : FVec Ideal S128x256 .f32} {v344 : FVec Ideal S768x128 .f32} {v354 : FVec Ideal S768x256 .f32} {v356 : FVec Ideal S768x256 .f32} {v359 : FVec Ideal S768x256 .f32}
    (h35 : R2 v35 (fun l r => D.qh 1 (t + r) l))
    (h237 : M2 v237 (fun r c => decide (c < r)))
    (h302 : R2 v302 (fun l c => 0 + (D.dkh 0 (t + 256) 768 l ((t + 256) + c))))
    (h344 : R2 v344 (fun r _ => D.gs 1 ((t + 256) + r) (t + 256)))
    (h354 : R2 v354 (fun r c => D.g 1 ((t + 256) + r) ((t + 256) + c)))
    (h356 : R2 v356 (fun r c => D.gs 1 ((t + 256) + r) ((t + 256) + c) - D.gs 1 ((t + 256) + r) (t + 256)))
    (h359 : R2 v359 (fun r c => Real.exp (0 - D.sp 1 ((t + 256) + r) ((t + 256) + c)))) :
    R2 (k0_pay170 v35 v237 v302 v344 v354 v356 v359) (fun l c => 0 + (D.dkh 0 (t + 256) 768 l ((t + 256) + c)) + (D.dkh 1 (t + 256) 768 l ((t + 256) + c))) :=
  (R2.addf h302 (t_dkh D (t_cols (F := fun r l => D.qh 1 r l) 256 h35 slices_S128x1024_o0_256_S128x768 rfl rfl) (pay168_spec D h237 h344 h354 h356 h359) (R2.const bits_zero)))

theorem pay171_spec {t : ℕ} {v37 : FVec Ideal S128x1024 .bf16} {v306 : FVec Ideal S128x256 .f32} {v352 : FVec Ideal S768x256 .f32}
    (h37 : R2 v37 (fun l r => D.dyh 1 (t + r) l))
    (h306 : R2 v306 (fun l c => 0 + (D.dvh 0 (t + 256) 768 l ((t + 256) + c))))
    (h352 : R2 v352 (fun r c => D.a 1 ((t + 256) + r) ((t + 256) + c))) :
    R2 (k0_pay171 v37 v306 v352) (fun l c => 0 + (D.dvh 0 (t + 256) 768 l ((t + 256) + c)) + (D.dvh 1 (t + 256) 768 l ((t + 256) + c))) :=
  (R2.addf h306 (t_dvh D (t_cols (F := fun r l => D.dyh 1 r l) 256 h37 slices_S128x1024_o0_256_S128x768 rfl rfl) (R2.truncf h352 bitsLt_bf16_f32) (R2.const bits_zero)))

theorem pay172_spec {t : ℕ} {v340 : FVec Ideal S768x256 .f32} {v342 : FVec Ideal S768x128 .f32}
    (h340 : R2 v340 (fun r c => D.pre 1 ((t + 256) + r) ((t + 256) + c + 1) - D.pre 1 ((t + 256) + r) (t + 256)))
    (h342 : R2 v342 (fun r _ => D.pre 1 ((t + 256) + r) (t + 256))) :
    R3 (k0_pay172 v340 v342) (fun _ r _ => D.pre 1 ((t + 256) + r) ((t + 256) + 256)) :=
  (R2.lift (t_cp D h342 (R2.column (R2.castSelf (t_ppLast D h340 slices_S768x256_o0_255_S768x1) shapeCasts_S768x1_S768x1) broadcasts_S768x1_S768x128)) shapeCasts_S768x128_S1x768x128)

theorem pay173_spec {t : ℕ} {v344 : FVec Ideal S768x128 .f32} {v354 : FVec Ideal S768x256 .f32} {v356 : FVec Ideal S768x256 .f32}
    (h344 : R2 v344 (fun r _ => D.gs 1 ((t + 256) + r) (t + 256)))
    (h354 : R2 v354 (fun r c => D.g 1 ((t + 256) + r) ((t + 256) + c)))
    (h356 : R2 v356 (fun r c => D.gs 1 ((t + 256) + r) ((t + 256) + c) - D.gs 1 ((t + 256) + r) (t + 256))) :
    R3 (k0_pay173 v344 v354 v356) (fun _ r _ => D.gs 1 ((t + 256) + r) ((t + 256) + 256)) :=
  (R2.lift (t_cg D h344 (R2.column (R2.castSelf (t_cgStep D (t_ggLast D h356 slices_S768x256_o0_255_S768x1) (t_gLast D h354 slices_S768x256_o0_255_S768x1)) shapeCasts_S768x1_S768x1) broadcasts_S768x1_S768x128)) shapeCasts_S768x128_S1x768x128)

theorem pay174_spec {t : ℕ} {f : ℕ → ℕ → ℝ} {v377 : FVec Ideal S128x256 .f32} {v399 : FVec Ideal S128x256 .f32}
    (h377 : R2 v377 (fun l c => 0 + (D.dkh 0 (t + 256) 768 l ((t + 256) + c)) + (D.dkh 1 (t + 256) 768 l ((t + 256) + c))))
    (h399 : R2 v399 (fun l c => f l c)) :
    R2 (k0_pay174 v377 v399) (fun l c => f l c - (0 + (D.dkh 0 (t + 256) 768 l ((t + 256) + c)) + (D.dkh 1 (t + 256) 768 l ((t + 256) + c)))) :=
  (R2.castSelf (R2.subf h399 h377) shapeCasts_S128x256_S128x256)

theorem pay175_spec {t : ℕ} {f : ℕ → ℕ → ℝ} {v381 : FVec Ideal S128x256 .f32} {v406 : FVec Ideal S128x256 .f32}
    (h381 : R2 v381 (fun l c => 0 + (D.dvh 0 (t + 256) 768 l ((t + 256) + c)) + (D.dvh 1 (t + 256) 768 l ((t + 256) + c))))
    (h406 : R2 v406 (fun l c => f l c)) :
    R2 (k0_pay175 v381 v406) (fun l c => f l c + (0 + (D.dvh 0 (t + 256) 768 l ((t + 256) + c)) + (D.dvh 1 (t + 256) 768 l ((t + 256) + c)))) :=
  (R2.castSelf (R2.addf h406 h381) shapeCasts_S128x256_S128x256)

end Cert.Proof
-- ==== Proof.Diag2.lean ====
/- The block on the diagonal of the tile's keys 512 to 767: what each of its values holds. The tile's rows start at `t`; the block's rows and its
   keys both start 512 further on. -/
module

public import proofs.«01_k».proof.Proof.Forms
public import proofs.«01_k».proof.Proof.Gen.KernelIdeal.Skeleton

@[expose] public section

noncomputable section

namespace Cert.Proof

open Idealize.ShloMosaic Cert.KernelIdeal Cert.KernelIdeal.Gen

variable (D : Data)

theorem pay176_spec :
    M2 k0_pay176 (fun r c => decide (c < r)) :=
  (M2.colRow (by norm_num) (by norm_num) _ _)

theorem pay177_spec {t : ℕ} {v420 : FVec Ideal S256x128 .f32}
    (h420 : R2 v420 (fun c l => D.K ((t + 512) + c) l)) :
    R2 (k0_pay177 v420) (fun c l => D.K ((t + 512) + c) l) :=
  (R2.truncf h420 bitsLt_bf16_f32)

theorem pay178_spec {t : ℕ} {v423 : FVec Ideal S256x128 .f32}
    (h423 : R2 v423 (fun c l => D.V ((t + 512) + c) l)) :
    R2 (k0_pay178 v423) (fun c l => D.V ((t + 512) + c) l) :=
  (R2.truncf h423 bitsLt_bf16_f32)

theorem pay179_spec :
    R2 (k0_pay179 (F := Ideal)) (fun _ _ => 0) :=
  (R2.splat bits_zero)

theorem pay180_spec :
    R2 (k0_pay180 (F := Ideal)) (fun _ _ => 0) :=
  (R2.splat bits_zero)

theorem pay181_spec {t : ℕ} {v30 : FVec Ideal S1024x128 .bf16}
    (h30 : R2 v30 (fun r l => D.dyh 0 (t + r) l)) :
    R2 (k0_pay181 v30) (fun r l => D.dyh 0 ((t + 512) + r) l) :=
  (t_rows (F := fun r l => D.dyh 0 r l) 512 h30 slices_S1024x128_o512_0_S512x128 rfl rfl)

theorem pay182_spec {t : ℕ} {v21 : FVec Ideal S1024x128 .bf16} {v420 : FVec Ideal S256x128 .f32}
    (h21 : R2 v21 (fun r l => D.qh 0 (t + r) l))
    (h420 : R2 v420 (fun c l => D.K ((t + 512) + c) l)) :
    R2 (k0_pay182 v21 v420) (fun r c => D.mn 0 ((t + 512) + r) ((t + 512) + c)) :=
  (t_min D (t_nz D (t_rows (F := fun r l => D.qh 0 r l) 512 h21 slices_S1024x128_o512_0_S512x128 rfl rfl) (pay177_spec D h420) (R2.const bits_zero)) (R2.splat bits_eighty))

theorem pay183_spec {t : ℕ} {v21 : FVec Ideal S1024x128 .bf16} {v420 : FVec Ideal S256x128 .f32}
    (h21 : R2 v21 (fun r l => D.qh 0 (t + r) l))
    (h420 : R2 v420 (fun c l => D.K ((t + 512) + c) l)) :
    R2 (k0_pay183 v21 v420) (fun r c => D.sp 0 ((t + 512) + r) ((t + 512) + c)) :=
  (t_sp D (R2.addf (R2.splat bits_one) (R2.exp (pay182_spec D h21 h420))))

theorem pay184_spec {t : ℕ} {v21 : FVec Ideal S1024x128 .bf16} {v420 : FVec Ideal S256x128 .f32}
    (h21 : R2 v21 (fun r l => D.qh 0 (t + r) l))
    (h420 : R2 v420 (fun c l => D.K ((t + 512) + c) l)) :
    R2 (k0_pay184 v21 v420) (fun r c => if c < 256 then D.lk 0 ((t + 512) + r) ((t + 512) + c) else D.lk 0 ((t + 512) + r) ((t + 512) + (c - 256)) - D.lk 0 ((t + 512) + r) ((t + 512) + (c - 256))) :=
  (R2.beside (R2.truncf (t_lkDiag D (pay176_spec  ) (R2.subf (pay182_spec D h21 h420) (pay183_spec D h21 h420)) (R2.splat bits_zero)) bitsLt_bf16_f32) (R2.truncf (R2.subf (t_lkDiag D (pay176_spec  ) (R2.subf (pay182_spec D h21 h420) (pay183_spec D h21 h420)) (R2.splat bits_zero)) (R2.extf (R2.truncf (t_lkDiag D (pay176_spec  ) (R2.subf (pay182_spec D h21 h420) (pay183_spec D h21 h420)) (R2.splat bits_zero)) bitsLt_bf16_f32) bitsLt_bf16_f32)) bitsLt_bf16_f32) concatenates_S512x256_S512x256_S512x512_d1)

theorem pay185_spec {t : ℕ} {v9 : FVec Ideal S512x256 .bf16} {v443 : FVec Ideal S512x512 .bf16}
    (h9 : R2 v9 upInc)
    (h443 : R2 v443 (fun r c => if c < 256 then D.lk 0 ((t + 512) + r) ((t + 512) + c) else D.lk 0 ((t + 512) + r) ((t + 512) + (c - 256)) - D.lk 0 ((t + 512) + r) ((t + 512) + (c - 256)))) :
    R2 (k0_pay185 v9 v443) (fun r c => D.pre 0 ((t + 512) + r) ((t + 512) + c + 1) - D.pre 0 ((t + 512) + r) (t + 512)) :=
  (t_pp D h9 h443 (R2.const bits_zero))

theorem pay186_spec {t : ℕ} {v445 : FVec Ideal S1x512x128 .f32}
    (h445 : R3 v445 (fun _ r _ => D.pre 0 ((t + 512) + r) (t + 512))) :
    R2 (k0_pay186 v445) (fun r _ => D.pre 0 ((t + 512) + r) (t + 512)) :=
  (R3.drop h445 shapeCasts_S1x512x128_S512x128)

theorem pay187_spec {t : ℕ} {v447 : FVec Ideal S1x512x128 .f32}
    (h447 : R3 v447 (fun _ r _ => D.gs 0 ((t + 512) + r) (t + 512))) :
    R2 (k0_pay187 v447) (fun r _ => D.gs 0 ((t + 512) + r) (t + 512)) :=
  (R3.drop h447 shapeCasts_S1x512x128_S512x128)

theorem pay188_spec {t : ℕ} {v9 : FVec Ideal S512x256 .bf16} {v41 : FVec Ideal S1024x128 .f32} {v416 : IVec S512x256 1} {v435 : FVec Ideal S512x256 .f32} {v443 : FVec Ideal S512x512 .bf16} {v445 : FVec Ideal S1x512x128 .f32}
    (h9 : R2 v9 upInc)
    (h41 : R2 v41 (fun r _ => D.T 0 (t + r)))
    (h416 : M2 v416 (fun r c => decide (c < r)))
    (h435 : R2 v435 (fun r c => D.sp 0 ((t + 512) + r) ((t + 512) + c)))
    (h443 : R2 v443 (fun r c => if c < 256 then D.lk 0 ((t + 512) + r) ((t + 512) + c) else D.lk 0 ((t + 512) + r) ((t + 512) + (c - 256)) - D.lk 0 ((t + 512) + r) ((t + 512) + (c - 256))))
    (h445 : R3 v445 (fun _ r _ => D.pre 0 ((t + 512) + r) (t + 512))) :
    R2 (k0_pay188 v9 v41 v416 v435 v443 v445) (fun r c => D.a 0 ((t + 512) + r) ((t + 512) + c)) :=
  (t_aDiag D h416 (R2.exp (R2.subf (t_rp D (t_twice (f := fun r => D.T 0 ((t + 512) + r) - D.pre 0 ((t + 512) + r) (t + 512)) (R2.subf (t_rows (F := fun r _ => D.T 0 r) 512 h41 slices_S1024x128_o512_0_S512x128 rfl rfl) (pay186_spec D h445)) concatenates_S512x128_S512x128_S512x256_d1) (pay185_spec D h9 h443)) h435)) (R2.splat bits_zero))

theorem pay189_spec {t : ℕ} {v9 : FVec Ideal S512x256 .bf16} {v41 : FVec Ideal S1024x128 .f32} {v416 : IVec S512x256 1} {v424 : FVec Ideal S256x128 .bf16} {v428 : FVec Ideal S512x128 .bf16} {v435 : FVec Ideal S512x256 .f32} {v443 : FVec Ideal S512x512 .bf16} {v445 : FVec Ideal S1x512x128 .f32}
    (h9 : R2 v9 upInc)
    (h41 : R2 v41 (fun r _ => D.T 0 (t + r)))
    (h416 : M2 v416 (fun r c => decide (c < r)))
    (h424 : R2 v424 (fun c l => D.V ((t + 512) + c) l))
    (h428 : R2 v428 (fun r l => D.dyh 0 ((t + 512) + r) l))
    (h435 : R2 v435 (fun r c => D.sp 0 ((t + 512) + r) ((t + 512) + c)))
    (h443 : R2 v443 (fun r c => if c < 256 then D.lk 0 ((t + 512) + r) ((t + 512) + c) else D.lk 0 ((t + 512) + r) ((t + 512) + (c - 256)) - D.lk 0 ((t + 512) + r) ((t + 512) + (c - 256))))
    (h445 : R3 v445 (fun _ r _ => D.pre 0 ((t + 512) + r) (t + 512))) :
    R2 (k0_pay189 v9 v41 v416 v424 v428 v435 v443 v445) (fun r c => D.g 0 ((t + 512) + r) ((t + 512) + c)) :=
  (t_g D (t_dyv D h428 h424 (R2.const bits_zero)) (pay188_spec D h9 h41 h416 h435 h443 h445))

theorem pay190_spec {t : ℕ} {v9 : FVec Ideal S512x256 .bf16} {v13 : FVec Ideal S256x256 .bf16} {v41 : FVec Ideal S1024x128 .f32} {v416 : IVec S512x256 1} {v424 : FVec Ideal S256x128 .bf16} {v428 : FVec Ideal S512x128 .bf16} {v435 : FVec Ideal S512x256 .f32} {v443 : FVec Ideal S512x512 .bf16} {v445 : FVec Ideal S1x512x128 .f32}
    (h9 : R2 v9 upInc)
    (h13 : R2 v13 upExc)
    (h41 : R2 v41 (fun r _ => D.T 0 (t + r)))
    (h416 : M2 v416 (fun r c => decide (c < r)))
    (h424 : R2 v424 (fun c l => D.V ((t + 512) + c) l))
    (h428 : R2 v428 (fun r l => D.dyh 0 ((t + 512) + r) l))
    (h435 : R2 v435 (fun r c => D.sp 0 ((t + 512) + r) ((t + 512) + c)))
    (h443 : R2 v443 (fun r c => if c < 256 then D.lk 0 ((t + 512) + r) ((t + 512) + c) else D.lk 0 ((t + 512) + r) ((t + 512) + (c - 256)) - D.lk 0 ((t + 512) + r) ((t + 512) + (c - 256))))
    (h445 : R3 v445 (fun _ r _ => D.pre 0 ((t + 512) + r) (t + 512))) :
    R2 (k0_pay190 v9 v13 v41 v416 v424 v428 v435 v443 v445) (fun r c => D.gs 0 ((t + 512) + r) ((t + 512) + c) - D.gs 0 ((t + 512) + r) (t + 512)) :=
  (t_gg D h13 (R2.truncf (pay189_spec D h9 h41 h416 h424 h428 h435 h443 h445) bitsLt_bf16_f32) (R2.const bits_zero))

theorem pay191_spec {t : ℕ} {v9 : FVec Ideal S512x256 .bf16} {v13 : FVec Ideal S256x256 .bf16} {v41 : FVec Ideal S1024x128 .f32} {v416 : IVec S512x256 1} {v424 : FVec Ideal S256x128 .bf16} {v428 : FVec Ideal S512x128 .bf16} {v435 : FVec Ideal S512x256 .f32} {v443 : FVec Ideal S512x512 .bf16} {v445 : FVec Ideal S1x512x128 .f32} {v447 : FVec Ideal S1x512x128 .f32}
    (h9 : R2 v9 upInc)
    (h13 : R2 v13 upExc)
    (h41 : R2 v41 (fun r _ => D.T 0 (t + r)))
    (h416 : M2 v416 (fun r c => decide (c < r)))
    (h424 : R2 v424 (fun c l => D.V ((t + 512) + c) l))
    (h428 : R2 v428 (fun r l => D.dyh 0 ((t + 512) + r) l))
    (h435 : R2 v435 (fun r c => D.sp 0 ((t + 512) + r) ((t + 512) + c)))
    (h443 : R2 v443 (fun r c => if c < 256 then D.lk 0 ((t + 512) + r) ((t + 512) + c) else D.lk 0 ((t + 512) + r) ((t + 512) + (c - 256)) - D.lk 0 ((t + 512) + r) ((t + 512) + (c - 256))))
    (h445 : R3 v445 (fun _ r _ => D.pre 0 ((t + 512) + r) (t + 512)))
    (h447 : R3 v447 (fun _ r _ => D.gs 0 ((t + 512) + r) (t + 512))) :
    R2 (k0_pay191 v9 v13 v41 v416 v424 v428 v435 v443 v445 v447) (fun r c => D.dz 0 ((t + 512) + r) ((t + 512) + c)) :=
  (R2.truncf (t_dzDiag D h416 (R2.subf (pay189_spec D h9 h41 h416 h424 h428 h435 h443 h445) (R2.mulf (R2.exp (R2.subf (R2.splat bits_zero) h435)) (R2.addf (pay189_spec D h9 h41 h416 h424 h428 h435 h443 h445) (t_sum D (t_twice (f := fun r => D.gs 0 ((t + 512) + r) (t + 512)) (pay187_spec D h447) concatenates_S512x128_S512x128_S512x256_d1) (pay190_spec D h9 h13 h41 h416 h424 h428 h435 h443 h445))))) (R2.splat bits_zero)) bitsLt_bf16_f32)

theorem pay192_spec {t : ℕ} {v9 : FVec Ideal S512x256 .bf16} {v13 : FVec Ideal S256x256 .bf16} {v41 : FVec Ideal S1024x128 .f32} {v416 : IVec S512x256 1} {v421 : FVec Ideal S256x128 .bf16} {v424 : FVec Ideal S256x128 .bf16} {v428 : FVec Ideal S512x128 .bf16} {v435 : FVec Ideal S512x256 .f32} {v443 : FVec Ideal S512x512 .bf16} {v445 : FVec Ideal S1x512x128 .f32} {v447 : FVec Ideal S1x512x128 .f32} {v472 : FVec Ideal S1x512x128 .f32}
    (h9 : R2 v9 upInc)
    (h13 : R2 v13 upExc)
    (h41 : R2 v41 (fun r _ => D.T 0 (t + r)))
    (h416 : M2 v416 (fun r c => decide (c < r)))
    (h421 : R2 v421 (fun c l => D.K ((t + 512) + c) l))
    (h424 : R2 v424 (fun c l => D.V ((t + 512) + c) l))
    (h428 : R2 v428 (fun r l => D.dyh 0 ((t + 512) + r) l))
    (h435 : R2 v435 (fun r c => D.sp 0 ((t + 512) + r) ((t + 512) + c)))
    (h443 : R2 v443 (fun r c => if c < 256 then D.lk 0 ((t + 512) + r) ((t + 512) + c) else D.lk 0 ((t + 512) + r) ((t + 512) + (c - 256)) - D.lk 0 ((t + 512) + r) ((t + 512) + (c - 256))))
    (h445 : R3 v445 (fun _ r _ => D.pre 0 ((t + 512) + r) (t + 512)))
    (h447 : R3 v447 (fun _ r _ => D.gs 0 ((t + 512) + r) (t + 512)))
    (h472 : R3 v472 (fun _ r l => D.dqa 0 ((t + 512) + r) (t + 512) l)) :
    R3 (k0_pay192 v9 v13 v41 v416 v421 v424 v428 v435 v443 v445 v447 v472) (fun _ r l => D.dqa 0 ((t + 512) + r) ((t + 512) + 256) l) :=
  (R2.lift (t_dqa D (R3.drop h472 shapeCasts_S1x512x128_S512x128) (t_dqd D (pay191_spec D h9 h13 h41 h416 h424 h428 h435 h443 h445 h447) h421 (R2.const bits_zero))) shapeCasts_S512x128_S1x512x128)

theorem pay193_spec {t : ℕ} {v9 : FVec Ideal S512x256 .bf16} {v13 : FVec Ideal S256x256 .bf16} {v34 : FVec Ideal S128x1024 .bf16} {v41 : FVec Ideal S1024x128 .f32} {v416 : IVec S512x256 1} {v424 : FVec Ideal S256x128 .bf16} {v425 : FVec Ideal S128x256 .f32} {v428 : FVec Ideal S512x128 .bf16} {v435 : FVec Ideal S512x256 .f32} {v443 : FVec Ideal S512x512 .bf16} {v445 : FVec Ideal S1x512x128 .f32} {v447 : FVec Ideal S1x512x128 .f32}
    (h9 : R2 v9 upInc)
    (h13 : R2 v13 upExc)
    (h34 : R2 v34 (fun l r => D.qh 0 (t + r) l))
    (h41 : R2 v41 (fun r _ => D.T 0 (t + r)))
    (h416 : M2 v416 (fun r c => decide (c < r)))
    (h424 : R2 v424 (fun c l => D.V ((t + 512) + c) l))
    (h425 : R2 v425 (fun _ _ => 0))
    (h428 : R2 v428 (fun r l => D.dyh 0 ((t + 512) + r) l))
    (h435 : R2 v435 (fun r c => D.sp 0 ((t + 512) + r) ((t + 512) + c)))
    (h443 : R2 v443 (fun r c => if c < 256 then D.lk 0 ((t + 512) + r) ((t + 512) + c) else D.lk 0 ((t + 512) + r) ((t + 512) + (c - 256)) - D.lk 0 ((t + 512) + r) ((t + 512) + (c - 256))))
    (h445 : R3 v445 (fun _ r _ => D.pre 0 ((t + 512) + r) (t + 512)))
    (h447 : R3 v447 (fun _ r _ => D.gs 0 ((t + 512) + r) (t + 512))) :
    R2 (k0_pay193 v9 v13 v34 v41 v416 v424 v425 v428 v435 v443 v445 v447) (fun l c => 0 + (D.dkh 0 (t + 512) 512 l ((t + 512) + c))) :=
  (R2.addf h425 (t_dkh D (t_cols (F := fun r l => D.qh 0 r l) 512 h34 slices_S128x1024_o0_512_S128x512 rfl rfl) (pay191_spec D h9 h13 h41 h416 h424 h428 h435 h443 h445 h447) (R2.const bits_zero)))

theorem pay194_spec {t : ℕ} {v36 : FVec Ideal S128x1024 .bf16}
    (h36 : R2 v36 (fun l r => D.dyh 0 (t + r) l)) :
    R2 (k0_pay194 v36) (fun l r => D.dyh 0 ((t + 512) + r) l) :=
  (t_cols (F := fun r l => D.dyh 0 r l) 512 h36 slices_S128x1024_o0_512_S128x512 rfl rfl)

theorem pay195_spec {t : ℕ} {v426 : FVec Ideal S128x256 .f32} {v456 : FVec Ideal S512x256 .f32} {v482 : FVec Ideal S128x512 .bf16}
    (h426 : R2 v426 (fun _ _ => 0))
    (h456 : R2 v456 (fun r c => D.a 0 ((t + 512) + r) ((t + 512) + c)))
    (h482 : R2 v482 (fun l r => D.dyh 0 ((t + 512) + r) l)) :
    R2 (k0_pay195 v426 v456 v482) (fun l c => 0 + (D.dvh 0 (t + 512) 512 l ((t + 512) + c))) :=
  (R2.addf h426 (t_dvh D h482 (R2.truncf h456 bitsLt_bf16_f32) (R2.const bits_zero)))

theorem pay196_spec {t : ℕ} {v444 : FVec Ideal S512x256 .f32} {v446 : FVec Ideal S512x128 .f32}
    (h444 : R2 v444 (fun r c => D.pre 0 ((t + 512) + r) ((t + 512) + c + 1) - D.pre 0 ((t + 512) + r) (t + 512)))
    (h446 : R2 v446 (fun r _ => D.pre 0 ((t + 512) + r) (t + 512))) :
    R3 (k0_pay196 v444 v446) (fun _ r _ => D.pre 0 ((t + 512) + r) ((t + 512) + 256)) :=
  (R2.lift (t_cp D h446 (R2.column (R2.castSelf (t_ppLast D h444 slices_S512x256_o0_255_S512x1) shapeCasts_S512x1_S512x1) broadcasts_S512x1_S512x128)) shapeCasts_S512x128_S1x512x128)

theorem pay197_spec {t : ℕ} {v448 : FVec Ideal S512x128 .f32} {v458 : FVec Ideal S512x256 .f32} {v460 : FVec Ideal S512x256 .f32}
    (h448 : R2 v448 (fun r _ => D.gs 0 ((t + 512) + r) (t + 512)))
    (h458 : R2 v458 (fun r c => D.g 0 ((t + 512) + r) ((t + 512) + c)))
    (h460 : R2 v460 (fun r c => D.gs 0 ((t + 512) + r) ((t + 512) + c) - D.gs 0 ((t + 512) + r) (t + 512))) :
    R3 (k0_pay197 v448 v458 v460) (fun _ r _ => D.gs 0 ((t + 512) + r) ((t + 512) + 256)) :=
  (R2.lift (t_cg D h448 (R2.column (R2.castSelf (t_cgStep D (t_ggLast D h460 slices_S512x256_o0_255_S512x1) (t_gLast D h458 slices_S512x256_o0_255_S512x1)) shapeCasts_S512x1_S512x1) broadcasts_S512x1_S512x128)) shapeCasts_S512x128_S1x512x128)

theorem pay198_spec {t : ℕ} {v33 : FVec Ideal S1024x128 .bf16}
    (h33 : R2 v33 (fun r l => D.dyh 1 (t + r) l)) :
    R2 (k0_pay198 v33) (fun r l => D.dyh 1 ((t + 512) + r) l) :=
  (t_rows (F := fun r l => D.dyh 1 r l) 512 h33 slices_S1024x128_o512_0_S512x128 rfl rfl)

theorem pay199_spec {t : ℕ} {v26 : FVec Ideal S1024x128 .bf16} {v421 : FVec Ideal S256x128 .bf16}
    (h26 : R2 v26 (fun r l => D.qh 1 (t + r) l))
    (h421 : R2 v421 (fun c l => D.K ((t + 512) + c) l)) :
    R2 (k0_pay199 v26 v421) (fun r c => D.mn 1 ((t + 512) + r) ((t + 512) + c)) :=
  (t_min D (t_nz D (t_rows (F := fun r l => D.qh 1 r l) 512 h26 slices_S1024x128_o512_0_S512x128 rfl rfl) h421 (R2.const bits_zero)) (R2.splat bits_eighty))

theorem pay200_spec {t : ℕ} {v26 : FVec Ideal S1024x128 .bf16} {v421 : FVec Ideal S256x128 .bf16}
    (h26 : R2 v26 (fun r l => D.qh 1 (t + r) l))
    (h421 : R2 v421 (fun c l => D.K ((t + 512) + c) l)) :
    R2 (k0_pay200 v26 v421) (fun r c => D.sp 1 ((t + 512) + r) ((t + 512) + c)) :=
  (t_sp D (R2.addf (R2.splat bits_one) (R2.exp (pay199_spec D h26 h421))))

theorem pay201_spec {t : ℕ} {v9 : FVec Ideal S512x256 .bf16} {v26 : FVec Ideal S1024x128 .bf16} {v416 : IVec S512x256 1} {v421 : FVec Ideal S256x128 .bf16}
    (h9 : R2 v9 upInc)
    (h26 : R2 v26 (fun r l => D.qh 1 (t + r) l))
    (h416 : M2 v416 (fun r c => decide (c < r)))
    (h421 : R2 v421 (fun c l => D.K ((t + 512) + c) l)) :
    R2 (k0_pay201 v9 v26 v416 v421) (fun r c => D.pre 1 ((t + 512) + r) ((t + 512) + c + 1) - D.pre 1 ((t + 512) + r) (t + 512)) :=
  (t_pp D h9 (R2.beside (R2.truncf (t_lkDiag D h416 (R2.subf (pay199_spec D h26 h421) (pay200_spec D h26 h421)) (R2.splat bits_zero)) bitsLt_bf16_f32) (R2.truncf (R2.subf (t_lkDiag D h416 (R2.subf (pay199_spec D h26 h421) (pay200_spec D h26 h421)) (R2.splat bits_zero)) (R2.extf (R2.truncf (t_lkDiag D h416 (R2.subf (pay199_spec D h26 h421) (pay200_spec D h26 h421)) (R2.splat bits_zero)) bitsLt_bf16_f32) bitsLt_bf16_f32)) bitsLt_bf16_f32) concatenates_S512x256_S512x256_S512x512_d1) (R2.const bits_zero))

theorem pay202_spec {t : ℕ} {v520 : FVec Ideal S1x512x128 .f32}
    (h520 : R3 v520 (fun _ r _ => D.pre 1 ((t + 512) + r) (t + 512))) :
    R2 (k0_pay202 v520) (fun r _ => D.pre 1 ((t + 512) + r) (t + 512)) :=
  (R3.drop h520 shapeCasts_S1x512x128_S512x128)

theorem pay203_spec {t : ℕ} {v522 : FVec Ideal S1x512x128 .f32}
    (h522 : R3 v522 (fun _ r _ => D.gs 1 ((t + 512) + r) (t + 512))) :
    R2 (k0_pay203 v522) (fun r _ => D.gs 1 ((t + 512) + r) (t + 512)) :=
  (R3.drop h522 shapeCasts_S1x512x128_S512x128)

theorem pay204_spec {t : ℕ} {v42 : FVec Ideal S1024x128 .f32} {v416 : IVec S512x256 1} {v510 : FVec Ideal S512x256 .f32} {v519 : FVec Ideal S512x256 .f32} {v521 : FVec Ideal S512x128 .f32}
    (h42 : R2 v42 (fun r _ => D.T 1 (t + r)))
    (h416 : M2 v416 (fun r c => decide (c < r)))
    (h510 : R2 v510 (fun r c => D.sp 1 ((t + 512) + r) ((t + 512) + c)))
    (h519 : R2 v519 (fun r c => D.pre 1 ((t + 512) + r) ((t + 512) + c + 1) - D.pre 1 ((t + 512) + r) (t + 512)))
    (h521 : R2 v521 (fun r _ => D.pre 1 ((t + 512) + r) (t + 512))) :
    R2 (k0_pay204 v42 v416 v510 v519 v521) (fun r c => D.a 1 ((t + 512) + r) ((t + 512) + c)) :=
  (t_aDiag D h416 (R2.exp (R2.subf (t_rp D (t_twice (f := fun r => D.T 1 ((t + 512) + r) - D.pre 1 ((t + 512) + r) (t + 512)) (R2.subf (t_rows (F := fun r _ => D.T 1 r) 512 h42 slices_S1024x128_o512_0_S512x128 rfl rfl) h521) concatenates_S512x128_S512x128_S512x256_d1) h519) h510)) (R2.splat bits_zero))

theorem pay205_spec {t : ℕ} {v42 : FVec Ideal S1024x128 .f32} {v416 : IVec S512x256 1} {v424 : FVec Ideal S256x128 .bf16} {v503 : FVec Ideal S512x128 .bf16} {v510 : FVec Ideal S512x256 .f32} {v519 : FVec Ideal S512x256 .f32} {v521 : FVec Ideal S512x128 .f32}
    (h42 : R2 v42 (fun r _ => D.T 1 (t + r)))
    (h416 : M2 v416 (fun r c => decide (c < r)))
    (h424 : R2 v424 (fun c l => D.V ((t + 512) + c) l))
    (h503 : R2 v503 (fun r l => D.dyh 1 ((t + 512) + r) l))
    (h510 : R2 v510 (fun r c => D.sp 1 ((t + 512) + r) ((t + 512) + c)))
    (h519 : R2 v519 (fun r c => D.pre 1 ((t + 512) + r) ((t + 512) + c + 1) - D.pre 1 ((t + 512) + r) (t + 512)))
    (h521 : R2 v521 (fun r _ => D.pre 1 ((t + 512) + r) (t + 512))) :
    R2 (k0_pay205 v42 v416 v424 v503 v510 v519 v521) (fun r c => D.g 1 ((t + 512) + r) ((t + 512) + c)) :=
  (t_g D (t_dyv D h503 h424 (R2.const bits_zero)) (pay204_spec D h42 h416 h510 h519 h521))

theorem pay206_spec {t : ℕ} {v13 : FVec Ideal S256x256 .bf16} {v42 : FVec Ideal S1024x128 .f32} {v416 : IVec S512x256 1} {v424 : FVec Ideal S256x128 .bf16} {v503 : FVec Ideal S512x128 .bf16} {v510 : FVec Ideal S512x256 .f32} {v519 : FVec Ideal S512x256 .f32} {v521 : FVec Ideal S512x128 .f32}
    (h13 : R2 v13 upExc)
    (h42 : R2 v42 (fun r _ => D.T 1 (t + r)))
    (h416 : M2 v416 (fun r c => decide (c < r)))
    (h424 : R2 v424 (fun c l => D.V ((t + 512) + c) l))
    (h503 : R2 v503 (fun r l => D.dyh 1 ((t + 512) + r) l))
    (h510 : R2 v510 (fun r c => D.sp 1 ((t + 512) + r) ((t + 512) + c)))
    (h519 : R2 v519 (fun r c => D.pre 1 ((t + 512) + r) ((t + 512) + c + 1) - D.pre 1 ((t + 512) + r) (t + 512)))
    (h521 : R2 v521 (fun r _ => D.pre 1 ((t + 512) + r) (t + 512))) :
    R2 (k0_pay206 v13 v42 v416 v424 v503 v510 v519 v521) (fun r c => D.gs 1 ((t + 512) + r) ((t + 512) + c) - D.gs 1 ((t + 512) + r) (t + 512)) :=
  (t_gg D h13 (R2.truncf (pay205_spec D h42 h416 h424 h503 h510 h519 h521) bitsLt_bf16_f32) (R2.const bits_zero))

theorem pay207_spec {t : ℕ} {v13 : FVec Ideal S256x256 .bf16} {v42 : FVec Ideal S1024x128 .f32} {v416 : IVec S512x256 1} {v424 : FVec Ideal S256x128 .bf16} {v503 : FVec Ideal S512x128 .bf16} {v510 : FVec Ideal S512x256 .f32} {v519 : FVec Ideal S512x256 .f32} {v521 : FVec Ideal S512x128 .f32} {v522 : FVec Ideal S1x512x128 .f32}
    (h13 : R2 v13 upExc)
    (h42 : R2 v42 (fun r _ => D.T 1 (t + r)))
    (h416 : M2 v416 (fun r c => decide (c < r)))
    (h424 : R2 v424 (fun c l => D.V ((t + 512) + c) l))
    (h503 : R2 v503 (fun r l => D.dyh 1 ((t + 512) + r) l))
    (h510 : R2 v510 (fun r c => D.sp 1 ((t + 512) + r) ((t + 512) + c)))
    (h519 : R2 v519 (fun r c => D.pre 1 ((t + 512) + r) ((t + 512) + c + 1) - D.pre 1 ((t + 512) + r) (t + 512)))
    (h521 : R2 v521 (fun r _ => D.pre 1 ((t + 512) + r) (t + 512)))
    (h522 : R3 v522 (fun _ r _ => D.gs 1 ((t + 512) + r) (t + 512))) :
    R2 (k0_pay207 v13 v42 v416 v424 v503 v510 v519 v521 v522) (fun r c => D.dz 1 ((t + 512) + r) ((t + 512) + c)) :=
  (R2.truncf (t_dzDiag D h416 (R2.subf (pay205_spec D h42 h416 h424 h503 h510 h519 h521) (R2.mulf (R2.exp (R2.subf (R2.splat bits_zero) h510)) (R2.addf (pay205_spec D h42 h416 h424 h503 h510 h519 h521) (t_sum D (t_twice (f := fun r => D.gs 1 ((t + 512) + r) (t + 512)) (pay203_spec D h522) concatenates_S512x128_S512x128_S512x256_d1) (pay206_spec D h13 h42 h416 h424 h503 h510 h519 h521))))) (R2.splat bits_zero)) bitsLt_bf16_f32)

theorem pay208_spec {t : ℕ} {v13 : FVec Ideal S256x256 .bf16} {v42 : FVec Ideal S1024x128 .f32} {v416 : IVec S512x256 1} {v421 : FVec Ideal S256x128 .bf16} {v424 : FVec Ideal S256x128 .bf16} {v503 : FVec Ideal S512x128 .bf16} {v510 : FVec Ideal S512x256 .f32} {v519 : FVec Ideal S512x256 .f32} {v521 : FVec Ideal S512x128 .f32} {v522 : FVec Ideal S1x512x128 .f32} {v547 : FVec Ideal S1x512x128 .f32}
    (h13 : R2 v13 upExc)
    (h42 : R2 v42 (fun r _ => D.T 1 (t + r)))
    (h416 : M2 v416 (fun r c => decide (c < r)))
    (h421 : R2 v421 (fun c l => D.K ((t + 512) + c) l))
    (h424 : R2 v424 (fun c l => D.V ((t + 512) + c) l))
    (h503 : R2 v503 (fun r l => D.dyh 1 ((t + 512) + r) l))
    (h510 : R2 v510 (fun r c => D.sp 1 ((t + 512) + r) ((t + 512) + c)))
    (h519 : R2 v519 (fun r c => D.pre 1 ((t + 512) + r) ((t + 512) + c + 1) - D.pre 1 ((t + 512) + r) (t + 512)))
    (h521 : R2 v521 (fun r _ => D.pre 1 ((t + 512) + r) (t + 512)))
    (h522 : R3 v522 (fun _ r _ => D.gs 1 ((t + 512) + r) (t + 512)))
    (h547 : R3 v547 (fun _ r l => D.dqa 1 ((t + 512) + r) (t + 512) l)) :
    R3 (k0_pay208 v13 v42 v416 v421 v424 v503 v510 v519 v521 v522 v547) (fun _ r l => D.dqa 1 ((t + 512) + r) ((t + 512) + 256) l) :=
  (R2.lift (t_dqa D (R3.drop h547 shapeCasts_S1x512x128_S512x128) (t_dqd D (pay207_spec D h13 h42 h416 h424 h503 h510 h519 h521 h522) h421 (R2.const bits_zero))) shapeCasts_S512x128_S1x512x128)

theorem pay209_spec {t : ℕ} {v13 : FVec Ideal S256x256 .bf16} {v35 : FVec Ideal S128x1024 .bf16} {v42 : FVec Ideal S1024x128 .f32} {v416 : IVec S512x256 1} {v424 : FVec Ideal S256x128 .bf16} {v481 : FVec Ideal S128x256 .f32} {v503 : FVec Ideal S512x128 .bf16} {v510 : FVec Ideal S512x256 .f32} {v519 : FVec Ideal S512x256 .f32} {v521 : FVec Ideal S512x128 .f32} {v522 : FVec Ideal S1x512x128 .f32}
    (h13 : R2 v13 upExc)
    (h35 : R2 v35 (fun l r => D.qh 1 (t + r) l))
    (h42 : R2 v42 (fun r _ => D.T 1 (t + r)))
    (h416 : M2 v416 (fun r c => decide (c < r)))
    (h424 : R2 v424 (fun c l => D.V ((t + 512) + c) l))
    (h481 : R2 v481 (fun l c => 0 + (D.dkh 0 (t + 512) 512 l ((t + 512) + c))))
    (h503 : R2 v503 (fun r l => D.dyh 1 ((t + 512) + r) l))
    (h510 : R2 v510 (fun r c => D.sp 1 ((t + 512) + r) ((t + 512) + c)))
    (h519 : R2 v519 (fun r c => D.pre 1 ((t + 512) + r) ((t + 512) + c + 1) - D.pre 1 ((t + 512) + r) (t + 512)))
    (h521 : R2 v521 (fun r _ => D.pre 1 ((t + 512) + r) (t + 512)))
    (h522 : R3 v522 (fun _ r _ => D.gs 1 ((t + 512) + r) (t + 512))) :
    R2 (k0_pay209 v13 v35 v42 v416 v424 v481 v503 v510 v519 v521 v522) (fun l c => 0 + (D.dkh 0 (t + 512) 512 l ((t + 512) + c)) + (D.dkh 1 (t + 512) 512 l ((t + 512) + c))) :=
  (R2.addf h481 (t_dkh D (t_cols (F := fun r l => D.qh 1 r l) 512 h35 slices_S128x1024_o0_512_S128x512 rfl rfl) (pay207_spec D h13 h42 h416 h424 h503 h510 h519 h521 h522) (R2.const bits_zero)))

theorem pay210_spec {t : ℕ} {v37 : FVec Ideal S128x1024 .bf16} {v42 : FVec Ideal S1024x128 .f32} {v416 : IVec S512x256 1} {v485 : FVec Ideal S128x256 .f32} {v510 : FVec Ideal S512x256 .f32} {v519 : FVec Ideal S512x256 .f32} {v521 : FVec Ideal S512x128 .f32}
    (h37 : R2 v37 (fun l r => D.dyh 1 (t + r) l))
    (h42 : R2 v42 (fun r _ => D.T 1 (t + r)))
    (h416 : M2 v416 (fun r c => decide (c < r)))
    (h485 : R2 v485 (fun l c => 0 + (D.dvh 0 (t + 512) 512 l ((t + 512) + c))))
    (h510 : R2 v510 (fun r c => D.sp 1 ((t + 512) + r) ((t + 512) + c)))
    (h519 : R2 v519 (fun r c => D.pre 1 ((t + 512) + r) ((t + 512) + c + 1) - D.pre 1 ((t + 512) + r) (t + 512)))
    (h521 : R2 v521 (fun r _ => D.pre 1 ((t + 512) + r) (t + 512))) :
    R2 (k0_pay210 v37 v42 v416 v485 v510 v519 v521) (fun l c => 0 + (D.dvh 0 (t + 512) 512 l ((t + 512) + c)) + (D.dvh 1 (t + 512) 512 l ((t + 512) + c))) :=
  (R2.addf h485 (t_dvh D (t_cols (F := fun r l => D.dyh 1 r l) 512 h37 slices_S128x1024_o0_512_S128x512 rfl rfl) (R2.truncf (pay204_spec D h42 h416 h510 h519 h521) bitsLt_bf16_f32) (R2.const bits_zero)))

theorem pay211_spec {t : ℕ} {v519 : FVec Ideal S512x256 .f32} {v521 : FVec Ideal S512x128 .f32}
    (h519 : R2 v519 (fun r c => D.pre 1 ((t + 512) + r) ((t + 512) + c + 1) - D.pre 1 ((t + 512) + r) (t + 512)))
    (h521 : R2 v521 (fun r _ => D.pre 1 ((t + 512) + r) (t + 512))) :
    R2 (k0_pay211 v519 v521) (fun r _ => D.pre 1 ((t + 512) + r) ((t + 512) + 256)) :=
  (t_cp D h521 (R2.column (R2.castSelf (t_ppLast D h519 slices_S512x256_o0_255_S512x1) shapeCasts_S512x1_S512x1) broadcasts_S512x1_S512x128))

theorem pay212_spec {t : ℕ} {v564 : FVec Ideal S512x128 .f32}
    (h564 : R2 v564 (fun r _ => D.pre 1 ((t + 512) + r) ((t + 512) + 256))) :
    R3 (k0_pay212 v564) (fun _ r _ => D.pre 1 ((t + 512) + r) ((t + 512) + 256)) :=
  (R2.lift h564 shapeCasts_S512x128_S1x512x128)

theorem pay213_spec {t : ℕ} {v523 : FVec Ideal S512x128 .f32} {v533 : FVec Ideal S512x256 .f32} {v535 : FVec Ideal S512x256 .f32}
    (h523 : R2 v523 (fun r _ => D.gs 1 ((t + 512) + r) (t + 512)))
    (h533 : R2 v533 (fun r c => D.g 1 ((t + 512) + r) ((t + 512) + c)))
    (h535 : R2 v535 (fun r c => D.gs 1 ((t + 512) + r) ((t + 512) + c) - D.gs 1 ((t + 512) + r) (t + 512))) :
    R3 (k0_pay213 v523 v533 v535) (fun _ r _ => D.gs 1 ((t + 512) + r) ((t + 512) + 256)) :=
  (R2.lift (t_cg D h523 (R2.column (R2.castSelf (t_cgStep D (t_ggLast D h535 slices_S512x256_o0_255_S512x1) (t_gLast D h533 slices_S512x256_o0_255_S512x1)) shapeCasts_S512x1_S512x1) broadcasts_S512x1_S512x128)) shapeCasts_S512x128_S1x512x128)

theorem pay214_spec {t : ℕ} {f : ℕ → ℕ → ℝ} {v556 : FVec Ideal S128x256 .f32} {v578 : FVec Ideal S128x256 .f32}
    (h556 : R2 v556 (fun l c => 0 + (D.dkh 0 (t + 512) 512 l ((t + 512) + c)) + (D.dkh 1 (t + 512) 512 l ((t + 512) + c))))
    (h578 : R2 v578 (fun l c => f l c)) :
    R2 (k0_pay214 v556 v578) (fun l c => f l c - (0 + (D.dkh 0 (t + 512) 512 l ((t + 512) + c)) + (D.dkh 1 (t + 512) 512 l ((t + 512) + c)))) :=
  (R2.castSelf (R2.subf h578 h556) shapeCasts_S128x256_S128x256)

theorem pay215_spec {t : ℕ} {f : ℕ → ℕ → ℝ} {v560 : FVec Ideal S128x256 .f32} {v585 : FVec Ideal S128x256 .f32}
    (h560 : R2 v560 (fun l c => 0 + (D.dvh 0 (t + 512) 512 l ((t + 512) + c)) + (D.dvh 1 (t + 512) 512 l ((t + 512) + c))))
    (h585 : R2 v585 (fun l c => f l c)) :
    R2 (k0_pay215 v560 v585) (fun l c => f l c + (0 + (D.dvh 0 (t + 512) 512 l ((t + 512) + c)) + (D.dvh 1 (t + 512) 512 l ((t + 512) + c)))) :=
  (R2.castSelf (R2.addf h585 h560) shapeCasts_S128x256_S128x256)

end Cert.Proof
-- ==== Proof.Diag3.lean ====
/- The block on the diagonal of the tile's keys 768 to 1023: what each of its values holds. The tile's rows start at `t`; the block's rows and its
   keys both start 768 further on. -/
module

public import proofs.«01_k».proof.Proof.Forms
public import proofs.«01_k».proof.Proof.Gen.KernelIdeal.Skeleton

@[expose] public section

noncomputable section

namespace Cert.Proof

open Idealize.ShloMosaic Cert.KernelIdeal Cert.KernelIdeal.Gen

variable (D : Data)

theorem pay216_spec :
    M2 k0_pay216 (fun r c => decide (c < r)) :=
  (M2.colRow (by norm_num) (by norm_num) _ _)

theorem pay217_spec {t : ℕ} {v599 : FVec Ideal S256x128 .f32}
    (h599 : R2 v599 (fun c l => D.K ((t + 768) + c) l)) :
    R2 (k0_pay217 v599) (fun c l => D.K ((t + 768) + c) l) :=
  (R2.truncf h599 bitsLt_bf16_f32)

theorem pay218_spec {t : ℕ} {v602 : FVec Ideal S256x128 .f32}
    (h602 : R2 v602 (fun c l => D.V ((t + 768) + c) l)) :
    R2 (k0_pay218 v602) (fun c l => D.V ((t + 768) + c) l) :=
  (R2.truncf h602 bitsLt_bf16_f32)

theorem pay219_spec :
    R2 (k0_pay219 (F := Ideal)) (fun _ _ => 0) :=
  (R2.splat bits_zero)

theorem pay220_spec :
    R2 (k0_pay220 (F := Ideal)) (fun _ _ => 0) :=
  (R2.splat bits_zero)

theorem pay221_spec {t : ℕ} {v21 : FVec Ideal S1024x128 .bf16}
    (h21 : R2 v21 (fun r l => D.qh 0 (t + r) l)) :
    R2 (k0_pay221 v21) (fun r l => D.qh 0 ((t + 768) + r) l) :=
  (t_rows (F := fun r l => D.qh 0 r l) 768 h21 slices_S1024x128_o768_0_S256x128 rfl rfl)

theorem pay222_spec {t : ℕ} {v600 : FVec Ideal S256x128 .bf16} {v606 : FVec Ideal S256x128 .bf16}
    (h600 : R2 v600 (fun c l => D.K ((t + 768) + c) l))
    (h606 : R2 v606 (fun r l => D.qh 0 ((t + 768) + r) l)) :
    R2 (k0_pay222 v600 v606) (fun r c => D.mn 0 ((t + 768) + r) ((t + 768) + c)) :=
  (t_min D (t_nz D h606 h600 (R2.const bits_zero)) (R2.splat bits_eighty))

theorem pay223_spec {t : ℕ} {v600 : FVec Ideal S256x128 .bf16} {v606 : FVec Ideal S256x128 .bf16}
    (h600 : R2 v600 (fun c l => D.K ((t + 768) + c) l))
    (h606 : R2 v606 (fun r l => D.qh 0 ((t + 768) + r) l)) :
    R2 (k0_pay223 v600 v606) (fun r c => D.sp 0 ((t + 768) + r) ((t + 768) + c)) :=
  (t_sp D (R2.addf (R2.splat bits_one) (R2.exp (pay222_spec D h600 h606))))

theorem pay224_spec {t : ℕ} {v9 : FVec Ideal S512x256 .bf16} {v595 : IVec S256x256 1} {v600 : FVec Ideal S256x128 .bf16} {v606 : FVec Ideal S256x128 .bf16}
    (h9 : R2 v9 upInc)
    (h595 : M2 v595 (fun r c => decide (c < r)))
    (h600 : R2 v600 (fun c l => D.K ((t + 768) + c) l))
    (h606 : R2 v606 (fun r l => D.qh 0 ((t + 768) + r) l)) :
    R2 (k0_pay224 v9 v595 v600 v606) (fun r c => D.pre 0 ((t + 768) + r) ((t + 768) + c + 1) - D.pre 0 ((t + 768) + r) (t + 768)) :=
  (t_pp D h9 (R2.beside (R2.truncf (t_lkDiag D h595 (R2.subf (pay222_spec D h600 h606) (pay223_spec D h600 h606)) (R2.splat bits_zero)) bitsLt_bf16_f32) (R2.truncf (R2.subf (t_lkDiag D h595 (R2.subf (pay222_spec D h600 h606) (pay223_spec D h600 h606)) (R2.splat bits_zero)) (R2.extf (R2.truncf (t_lkDiag D h595 (R2.subf (pay222_spec D h600 h606) (pay223_spec D h600 h606)) (R2.splat bits_zero)) bitsLt_bf16_f32) bitsLt_bf16_f32)) bitsLt_bf16_f32) concatenates_S256x256_S256x256_S256x512_d1) (R2.const bits_zero))

theorem pay225_spec {t : ℕ} {v624 : FVec Ideal S1x256x128 .f32}
    (h624 : R3 v624 (fun _ r _ => D.pre 0 ((t + 768) + r) (t + 768))) :
    R2 (k0_pay225 v624) (fun r _ => D.pre 0 ((t + 768) + r) (t + 768)) :=
  (R3.drop h624 shapeCasts_S1x256x128_S256x128)

theorem pay226_spec {t : ℕ} {v626 : FVec Ideal S1x256x128 .f32}
    (h626 : R3 v626 (fun _ r _ => D.gs 0 ((t + 768) + r) (t + 768))) :
    R2 (k0_pay226 v626) (fun r _ => D.gs 0 ((t + 768) + r) (t + 768)) :=
  (R3.drop h626 shapeCasts_S1x256x128_S256x128)

theorem pay227_spec {t : ℕ} {v9 : FVec Ideal S512x256 .bf16} {v41 : FVec Ideal S1024x128 .f32} {v595 : IVec S256x256 1} {v600 : FVec Ideal S256x128 .bf16} {v606 : FVec Ideal S256x128 .bf16} {v624 : FVec Ideal S1x256x128 .f32}
    (h9 : R2 v9 upInc)
    (h41 : R2 v41 (fun r _ => D.T 0 (t + r)))
    (h595 : M2 v595 (fun r c => decide (c < r)))
    (h600 : R2 v600 (fun c l => D.K ((t + 768) + c) l))
    (h606 : R2 v606 (fun r l => D.qh 0 ((t + 768) + r) l))
    (h624 : R3 v624 (fun _ r _ => D.pre 0 ((t + 768) + r) (t + 768))) :
    R2 (k0_pay227 v9 v41 v595 v600 v606 v624) (fun r c => D.a 0 ((t + 768) + r) ((t + 768) + c)) :=
  (t_aDiag D h595 (R2.exp (R2.subf (t_rp D (t_twice (f := fun r => D.T 0 ((t + 768) + r) - D.pre 0 ((t + 768) + r) (t + 768)) (R2.subf (t_rows (F := fun r _ => D.T 0 r) 768 h41 slices_S1024x128_o768_0_S256x128 rfl rfl) (pay225_spec D h624)) concatenates_S256x128_S256x128_S256x256_d1) (pay224_spec D h9 h595 h600 h606)) (pay223_spec D h600 h606))) (R2.splat bits_zero))

theorem pay228_spec {t : ℕ} {v9 : FVec Ideal S512x256 .bf16} {v30 : FVec Ideal S1024x128 .bf16} {v41 : FVec Ideal S1024x128 .f32} {v595 : IVec S256x256 1} {v600 : FVec Ideal S256x128 .bf16} {v603 : FVec Ideal S256x128 .bf16} {v606 : FVec Ideal S256x128 .bf16} {v624 : FVec Ideal S1x256x128 .f32}
    (h9 : R2 v9 upInc)
    (h30 : R2 v30 (fun r l => D.dyh 0 (t + r) l))
    (h41 : R2 v41 (fun r _ => D.T 0 (t + r)))
    (h595 : M2 v595 (fun r c => decide (c < r)))
    (h600 : R2 v600 (fun c l => D.K ((t + 768) + c) l))
    (h603 : R2 v603 (fun c l => D.V ((t + 768) + c) l))
    (h606 : R2 v606 (fun r l => D.qh 0 ((t + 768) + r) l))
    (h624 : R3 v624 (fun _ r _ => D.pre 0 ((t + 768) + r) (t + 768))) :
    R2 (k0_pay228 v9 v30 v41 v595 v600 v603 v606 v624) (fun r c => D.g 0 ((t + 768) + r) ((t + 768) + c)) :=
  (t_g D (t_dyv D (t_rows (F := fun r l => D.dyh 0 r l) 768 h30 slices_S1024x128_o768_0_S256x128 rfl rfl) h603 (R2.const bits_zero)) (pay227_spec D h9 h41 h595 h600 h606 h624))

theorem pay229_spec {t : ℕ} {v9 : FVec Ideal S512x256 .bf16} {v13 : FVec Ideal S256x256 .bf16} {v30 : FVec Ideal S1024x128 .bf16} {v41 : FVec Ideal S1024x128 .f32} {v595 : IVec S256x256 1} {v600 : FVec Ideal S256x128 .bf16} {v603 : FVec Ideal S256x128 .bf16} {v606 : FVec Ideal S256x128 .bf16} {v624 : FVec Ideal S1x256x128 .f32}
    (h9 : R2 v9 upInc)
    (h13 : R2 v13 upExc)
    (h30 : R2 v30 (fun r l => D.dyh 0 (t + r) l))
    (h41 : R2 v41 (fun r _ => D.T 0 (t + r)))
    (h595 : M2 v595 (fun r c => decide (c < r)))
    (h600 : R2 v600 (fun c l => D.K ((t + 768) + c) l))
    (h603 : R2 v603 (fun c l => D.V ((t + 768) + c) l))
    (h606 : R2 v606 (fun r l => D.qh 0 ((t + 768) + r) l))
    (h624 : R3 v624 (fun _ r _ => D.pre 0 ((t + 768) + r) (t + 768))) :
    R2 (k0_pay229 v9 v13 v30 v41 v595 v600 v603 v606 v624) (fun r c => D.gs 0 ((t + 768) + r) ((t + 768) + c) - D.gs 0 ((t + 768) + r) (t + 768)) :=
  (t_gg D h13 (R2.truncf (pay228_spec D h9 h30 h41 h595 h600 h603 h606 h624) bitsLt_bf16_f32) (R2.const bits_zero))

theorem pay230_spec {t : ℕ} {v9 : FVec Ideal S512x256 .bf16} {v13 : FVec Ideal S256x256 .bf16} {v30 : FVec Ideal S1024x128 .bf16} {v41 : FVec Ideal S1024x128 .f32} {v595 : IVec S256x256 1} {v600 : FVec Ideal S256x128 .bf16} {v603 : FVec Ideal S256x128 .bf16} {v606 : FVec Ideal S256x128 .bf16} {v624 : FVec Ideal S1x256x128 .f32} {v626 : FVec Ideal S1x256x128 .f32}
    (h9 : R2 v9 upInc)
    (h13 : R2 v13 upExc)
    (h30 : R2 v30 (fun r l => D.dyh 0 (t + r) l))
    (h41 : R2 v41 (fun r _ => D.T 0 (t + r)))
    (h595 : M2 v595 (fun r c => decide (c < r)))
    (h600 : R2 v600 (fun c l => D.K ((t + 768) + c) l))
    (h603 : R2 v603 (fun c l => D.V ((t + 768) + c) l))
    (h606 : R2 v606 (fun r l => D.qh 0 ((t + 768) + r) l))
    (h624 : R3 v624 (fun _ r _ => D.pre 0 ((t + 768) + r) (t + 768)))
    (h626 : R3 v626 (fun _ r _ => D.gs 0 ((t + 768) + r) (t + 768))) :
    R2 (k0_pay230 v9 v13 v30 v41 v595 v600 v603 v606 v624 v626) (fun r c => D.dz 0 ((t + 768) + r) ((t + 768) + c)) :=
  (R2.truncf (t_dzDiag D h595 (R2.subf (pay228_spec D h9 h30 h41 h595 h600 h603 h606 h624) (R2.mulf (R2.exp (R2.subf (R2.splat bits_zero) (pay223_spec D h600 h606))) (R2.addf (pay228_spec D h9 h30 h41 h595 h600 h603 h606 h624) (t_sum D (t_twice (f := fun r => D.gs 0 ((t + 768) + r) (t + 768)) (pay226_spec D h626) concatenates_S256x128_S256x128_S256x256_d1) (pay229_spec D h9 h13 h30 h41 h595 h600 h603 h606 h624))))) (R2.splat bits_zero)) bitsLt_bf16_f32)

theorem pay231_spec {t : ℕ} {v600 : FVec Ideal S256x128 .bf16} {v650 : FVec Ideal S256x256 .bf16} {v651 : FVec Ideal S1x256x128 .f32}
    (h600 : R2 v600 (fun c l => D.K ((t + 768) + c) l))
    (h650 : R2 v650 (fun r c => D.dz 0 ((t + 768) + r) ((t + 768) + c)))
    (h651 : R3 v651 (fun _ r l => D.dqa 0 ((t + 768) + r) (t + 768) l)) :
    R3 (k0_pay231 v600 v650 v651) (fun _ r l => D.dqa 0 ((t + 768) + r) ((t + 768) + 256) l) :=
  (R2.lift (t_dqa D (R3.drop h651 shapeCasts_S1x256x128_S256x128) (t_dqd D h650 h600 (R2.const bits_zero))) shapeCasts_S256x128_S1x256x128)

theorem pay232_spec {t : ℕ} {v34 : FVec Ideal S128x1024 .bf16} {v604 : FVec Ideal S128x256 .f32} {v650 : FVec Ideal S256x256 .bf16}
    (h34 : R2 v34 (fun l r => D.qh 0 (t + r) l))
    (h604 : R2 v604 (fun _ _ => 0))
    (h650 : R2 v650 (fun r c => D.dz 0 ((t + 768) + r) ((t + 768) + c))) :
    R2 (k0_pay232 v34 v604 v650) (fun l c => 0 + (D.dkh 0 (t + 768) 256 l ((t + 768) + c))) :=
  (R2.addf h604 (t_dkh D (t_cols (F := fun r l => D.qh 0 r l) 768 h34 slices_S128x1024_o0_768_S128x256 rfl rfl) h650 (R2.const bits_zero)))

theorem pay233_spec {t : ℕ} {v36 : FVec Ideal S128x1024 .bf16} {v605 : FVec Ideal S128x256 .f32} {v635 : FVec Ideal S256x256 .f32}
    (h36 : R2 v36 (fun l r => D.dyh 0 (t + r) l))
    (h605 : R2 v605 (fun _ _ => 0))
    (h635 : R2 v635 (fun r c => D.a 0 ((t + 768) + r) ((t + 768) + c))) :
    R2 (k0_pay233 v36 v605 v635) (fun l c => 0 + (D.dvh 0 (t + 768) 256 l ((t + 768) + c))) :=
  (R2.addf h605 (t_dvh D (t_cols (F := fun r l => D.dyh 0 r l) 768 h36 slices_S128x1024_o0_768_S128x256 rfl rfl) (R2.truncf h635 bitsLt_bf16_f32) (R2.const bits_zero)))

theorem pay234_spec {t : ℕ} {v623 : FVec Ideal S256x256 .f32} {v625 : FVec Ideal S256x128 .f32}
    (h623 : R2 v623 (fun r c => D.pre 0 ((t + 768) + r) ((t + 768) + c + 1) - D.pre 0 ((t + 768) + r) (t + 768)))
    (h625 : R2 v625 (fun r _ => D.pre 0 ((t + 768) + r) (t + 768))) :
    R3 (k0_pay234 v623 v625) (fun _ r _ => D.pre 0 ((t + 768) + r) ((t + 768) + 256)) :=
  (R2.lift (t_cp D h625 (R2.column (R2.castSelf (t_ppLast D h623 slices_S256x256_o0_255_S256x1) shapeCasts_S256x1_S256x1) broadcasts_S256x1_S256x128)) shapeCasts_S256x128_S1x256x128)

theorem pay235_spec {t : ℕ} {v627 : FVec Ideal S256x128 .f32} {v637 : FVec Ideal S256x256 .f32} {v639 : FVec Ideal S256x256 .f32}
    (h627 : R2 v627 (fun r _ => D.gs 0 ((t + 768) + r) (t + 768)))
    (h637 : R2 v637 (fun r c => D.g 0 ((t + 768) + r) ((t + 768) + c)))
    (h639 : R2 v639 (fun r c => D.gs 0 ((t + 768) + r) ((t + 768) + c) - D.gs 0 ((t + 768) + r) (t + 768))) :
    R3 (k0_pay235 v627 v637 v639) (fun _ r _ => D.gs 0 ((t + 768) + r) ((t + 768) + 256)) :=
  (R2.lift (t_cg D h627 (R2.column (R2.castSelf (t_cgStep D (t_ggLast D h639 slices_S256x256_o0_255_S256x1) (t_gLast D h637 slices_S256x256_o0_255_S256x1)) shapeCasts_S256x1_S256x1) broadcasts_S256x1_S256x128)) shapeCasts_S256x128_S1x256x128)

theorem pay236_spec {t : ℕ} {v33 : FVec Ideal S1024x128 .bf16}
    (h33 : R2 v33 (fun r l => D.dyh 1 (t + r) l)) :
    R2 (k0_pay236 v33) (fun r l => D.dyh 1 ((t + 768) + r) l) :=
  (t_rows (F := fun r l => D.dyh 1 r l) 768 h33 slices_S1024x128_o768_0_S256x128 rfl rfl)

theorem pay237_spec {t : ℕ} {v26 : FVec Ideal S1024x128 .bf16} {v600 : FVec Ideal S256x128 .bf16}
    (h26 : R2 v26 (fun r l => D.qh 1 (t + r) l))
    (h600 : R2 v600 (fun c l => D.K ((t + 768) + c) l)) :
    R2 (k0_pay237 v26 v600) (fun r c => D.mn 1 ((t + 768) + r) ((t + 768) + c)) :=
  (t_min D (t_nz D (t_rows (F := fun r l => D.qh 1 r l) 768 h26 slices_S1024x128_o768_0_S256x128 rfl rfl) h600 (R2.const bits_zero)) (R2.splat bits_eighty))

theorem pay238_spec {t : ℕ} {v26 : FVec Ideal S1024x128 .bf16} {v600 : FVec Ideal S256x128 .bf16}
    (h26 : R2 v26 (fun r l => D.qh 1 (t + r) l))
    (h600 : R2 v600 (fun c l => D.K ((t + 768) + c) l)) :
    R2 (k0_pay238 v26 v600) (fun r c => D.sp 1 ((t + 768) + r) ((t + 768) + c)) :=
  (t_sp D (R2.addf (R2.splat bits_one) (R2.exp (pay237_spec D h26 h600))))

theorem pay239_spec {t : ℕ} {v9 : FVec Ideal S512x256 .bf16} {v595 : IVec S256x256 1} {v685 : FVec Ideal S256x256 .f32} {v689 : FVec Ideal S256x256 .f32}
    (h9 : R2 v9 upInc)
    (h595 : M2 v595 (fun r c => decide (c < r)))
    (h685 : R2 v685 (fun r c => D.mn 1 ((t + 768) + r) ((t + 768) + c)))
    (h689 : R2 v689 (fun r c => D.sp 1 ((t + 768) + r) ((t + 768) + c))) :
    R2 (k0_pay239 v9 v595 v685 v689) (fun r c => D.pre 1 ((t + 768) + r) ((t + 768) + c + 1) - D.pre 1 ((t + 768) + r) (t + 768)) :=
  (t_pp D h9 (R2.beside (R2.truncf (t_lkDiag D h595 (R2.subf h685 h689) (R2.splat bits_zero)) bitsLt_bf16_f32) (R2.truncf (R2.subf (t_lkDiag D h595 (R2.subf h685 h689) (R2.splat bits_zero)) (R2.extf (R2.truncf (t_lkDiag D h595 (R2.subf h685 h689) (R2.splat bits_zero)) bitsLt_bf16_f32) bitsLt_bf16_f32)) bitsLt_bf16_f32) concatenates_S256x256_S256x256_S256x512_d1) (R2.const bits_zero))

theorem pay240_spec {t : ℕ} {v699 : FVec Ideal S1x256x128 .f32}
    (h699 : R3 v699 (fun _ r _ => D.pre 1 ((t + 768) + r) (t + 768))) :
    R2 (k0_pay240 v699) (fun r _ => D.pre 1 ((t + 768) + r) (t + 768)) :=
  (R3.drop h699 shapeCasts_S1x256x128_S256x128)

theorem pay241_spec {t : ℕ} {v701 : FVec Ideal S1x256x128 .f32}
    (h701 : R3 v701 (fun _ r _ => D.gs 1 ((t + 768) + r) (t + 768))) :
    R2 (k0_pay241 v701) (fun r _ => D.gs 1 ((t + 768) + r) (t + 768)) :=
  (R3.drop h701 shapeCasts_S1x256x128_S256x128)

theorem pay242_spec {t : ℕ} {v9 : FVec Ideal S512x256 .bf16} {v42 : FVec Ideal S1024x128 .f32} {v595 : IVec S256x256 1} {v685 : FVec Ideal S256x256 .f32} {v689 : FVec Ideal S256x256 .f32} {v699 : FVec Ideal S1x256x128 .f32}
    (h9 : R2 v9 upInc)
    (h42 : R2 v42 (fun r _ => D.T 1 (t + r)))
    (h595 : M2 v595 (fun r c => decide (c < r)))
    (h685 : R2 v685 (fun r c => D.mn 1 ((t + 768) + r) ((t + 768) + c)))
    (h689 : R2 v689 (fun r c => D.sp 1 ((t + 768) + r) ((t + 768) + c)))
    (h699 : R3 v699 (fun _ r _ => D.pre 1 ((t + 768) + r) (t + 768))) :
    R2 (k0_pay242 v9 v42 v595 v685 v689 v699) (fun r c => D.a 1 ((t + 768) + r) ((t + 768) + c)) :=
  (t_aDiag D h595 (R2.exp (R2.subf (t_rp D (t_twice (f := fun r => D.T 1 ((t + 768) + r) - D.pre 1 ((t + 768) + r) (t + 768)) (R2.subf (t_rows (F := fun r _ => D.T 1 r) 768 h42 slices_S1024x128_o768_0_S256x128 rfl rfl) (pay240_spec D h699)) concatenates_S256x128_S256x128_S256x256_d1) (pay239_spec D h9 h595 h685 h689)) h689)) (R2.splat bits_zero))

theorem pay243_spec {t : ℕ} {v9 : FVec Ideal S512x256 .bf16} {v42 : FVec Ideal S1024x128 .f32} {v595 : IVec S256x256 1} {v603 : FVec Ideal S256x128 .bf16} {v682 : FVec Ideal S256x128 .bf16} {v685 : FVec Ideal S256x256 .f32} {v689 : FVec Ideal S256x256 .f32} {v699 : FVec Ideal S1x256x128 .f32}
    (h9 : R2 v9 upInc)
    (h42 : R2 v42 (fun r _ => D.T 1 (t + r)))
    (h595 : M2 v595 (fun r c => decide (c < r)))
    (h603 : R2 v603 (fun c l => D.V ((t + 768) + c) l))
    (h682 : R2 v682 (fun r l => D.dyh 1 ((t + 768) + r) l))
    (h685 : R2 v685 (fun r c => D.mn 1 ((t + 768) + r) ((t + 768) + c)))
    (h689 : R2 v689 (fun r c => D.sp 1 ((t + 768) + r) ((t + 768) + c)))
    (h699 : R3 v699 (fun _ r _ => D.pre 1 ((t + 768) + r) (t + 768))) :
    R2 (k0_pay243 v9 v42 v595 v603 v682 v685 v689 v699) (fun r c => D.g 1 ((t + 768) + r) ((t + 768) + c)) :=
  (t_g D (t_dyv D h682 h603 (R2.const bits_zero)) (pay242_spec D h9 h42 h595 h685 h689 h699))

theorem pay244_spec {t : ℕ} {v9 : FVec Ideal S512x256 .bf16} {v13 : FVec Ideal S256x256 .bf16} {v42 : FVec Ideal S1024x128 .f32} {v595 : IVec S256x256 1} {v603 : FVec Ideal S256x128 .bf16} {v682 : FVec Ideal S256x128 .bf16} {v685 : FVec Ideal S256x256 .f32} {v689 : FVec Ideal S256x256 .f32} {v699 : FVec Ideal S1x256x128 .f32}
    (h9 : R2 v9 upInc)
    (h13 : R2 v13 upExc)
    (h42 : R2 v42 (fun r _ => D.T 1 (t + r)))
    (h595 : M2 v595 (fun r c => decide (c < r)))
    (h603 : R2 v603 (fun c l => D.V ((t + 768) + c) l))
    (h682 : R2 v682 (fun r l => D.dyh 1 ((t + 768) + r) l))
    (h685 : R2 v685 (fun r c => D.mn 1 ((t + 768) + r) ((t + 768) + c)))
    (h689 : R2 v689 (fun r c => D.sp 1 ((t + 768) + r) ((t + 768) + c)))
    (h699 : R3 v699 (fun _ r _ => D.pre 1 ((t + 768) + r) (t + 768))) :
    R2 (k0_pay244 v9 v13 v42 v595 v603 v682 v685 v689 v699) (fun r c => D.gs 1 ((t + 768) + r) ((t + 768) + c) - D.gs 1 ((t + 768) + r) (t + 768)) :=
  (t_gg D h13 (R2.truncf (pay243_spec D h9 h42 h595 h603 h682 h685 h689 h699) bitsLt_bf16_f32) (R2.const bits_zero))

theorem pay245_spec {t : ℕ} {v9 : FVec Ideal S512x256 .bf16} {v13 : FVec Ideal S256x256 .bf16} {v42 : FVec Ideal S1024x128 .f32} {v595 : IVec S256x256 1} {v603 : FVec Ideal S256x128 .bf16} {v682 : FVec Ideal S256x128 .bf16} {v685 : FVec Ideal S256x256 .f32} {v689 : FVec Ideal S256x256 .f32} {v699 : FVec Ideal S1x256x128 .f32} {v701 : FVec Ideal S1x256x128 .f32}
    (h9 : R2 v9 upInc)
    (h13 : R2 v13 upExc)
    (h42 : R2 v42 (fun r _ => D.T 1 (t + r)))
    (h595 : M2 v595 (fun r c => decide (c < r)))
    (h603 : R2 v603 (fun c l => D.V ((t + 768) + c) l))
    (h682 : R2 v682 (fun r l => D.dyh 1 ((t + 768) + r) l))
    (h685 : R2 v685 (fun r c => D.mn 1 ((t + 768) + r) ((t + 768) + c)))
    (h689 : R2 v689 (fun r c => D.sp 1 ((t + 768) + r) ((t + 768) + c)))
    (h699 : R3 v699 (fun _ r _ => D.pre 1 ((t + 768) + r) (t + 768)))
    (h701 : R3 v701 (fun _ r _ => D.gs 1 ((t + 768) + r) (t + 768))) :
    R2 (k0_pay245 v9 v13 v42 v595 v603 v682 v685 v689 v699 v701) (fun r c => D.dz 1 ((t + 768) + r) ((t + 768) + c)) :=
  (R2.truncf (t_dzDiag D h595 (R2.subf (pay243_spec D h9 h42 h595 h603 h682 h685 h689 h699) (R2.mulf (R2.exp (R2.subf (R2.splat bits_zero) h689)) (R2.addf (pay243_spec D h9 h42 h595 h603 h682 h685 h689 h699) (t_sum D (t_twice (f := fun r => D.gs 1 ((t + 768) + r) (t + 768)) (pay241_spec D h701) concatenates_S256x128_S256x128_S256x256_d1) (pay244_spec D h9 h13 h42 h595 h603 h682 h685 h689 h699))))) (R2.splat bits_zero)) bitsLt_bf16_f32)

theorem pay246_spec {t : ℕ} {v9 : FVec Ideal S512x256 .bf16} {v13 : FVec Ideal S256x256 .bf16} {v42 : FVec Ideal S1024x128 .f32} {v595 : IVec S256x256 1} {v600 : FVec Ideal S256x128 .bf16} {v603 : FVec Ideal S256x128 .bf16} {v682 : FVec Ideal S256x128 .bf16} {v685 : FVec Ideal S256x256 .f32} {v689 : FVec Ideal S256x256 .f32} {v699 : FVec Ideal S1x256x128 .f32} {v701 : FVec Ideal S1x256x128 .f32} {v726 : FVec Ideal S1x256x128 .f32}
    (h9 : R2 v9 upInc)
    (h13 : R2 v13 upExc)
    (h42 : R2 v42 (fun r _ => D.T 1 (t + r)))
    (h595 : M2 v595 (fun r c => decide (c < r)))
    (h600 : R2 v600 (fun c l => D.K ((t + 768) + c) l))
    (h603 : R2 v603 (fun c l => D.V ((t + 768) + c) l))
    (h682 : R2 v682 (fun r l => D.dyh 1 ((t + 768) + r) l))
    (h685 : R2 v685 (fun r c => D.mn 1 ((t + 768) + r) ((t + 768) + c)))
    (h689 : R2 v689 (fun r c => D.sp 1 ((t + 768) + r) ((t + 768) + c)))
    (h699 : R3 v699 (fun _ r _ => D.pre 1 ((t + 768) + r) (t + 768)))
    (h701 : R3 v701 (fun _ r _ => D.gs 1 ((t + 768) + r) (t + 768)))
    (h726 : R3 v726 (fun _ r l => D.dqa 1 ((t + 768) + r) (t + 768) l)) :
    R2 (k0_pay246 v9 v13 v42 v595 v600 v603 v682 v685 v689 v699 v701 v726) (fun r l => D.dqa 1 ((t + 768) + r) ((t + 768) + 256) l) :=
  (t_dqa D (R3.drop h726 shapeCasts_S1x256x128_S256x128) (t_dqd D (pay245_spec D h9 h13 h42 h595 h603 h682 h685 h689 h699 h701) h600 (R2.const bits_zero)))

theorem pay247_spec {t : ℕ} {v729 : FVec Ideal S256x128 .f32}
    (h729 : R2 v729 (fun r l => D.dqa 1 ((t + 768) + r) ((t + 768) + 256) l)) :
    R3 (k0_pay247 v729) (fun _ r l => D.dqa 1 ((t + 768) + r) ((t + 768) + 256) l) :=
  (R2.lift h729 shapeCasts_S256x128_S1x256x128)

theorem pay248_spec {t : ℕ} {v698 : FVec Ideal S256x256 .f32} {v700 : FVec Ideal S256x128 .f32}
    (h698 : R2 v698 (fun r c => D.pre 1 ((t + 768) + r) ((t + 768) + c + 1) - D.pre 1 ((t + 768) + r) (t + 768)))
    (h700 : R2 v700 (fun r _ => D.pre 1 ((t + 768) + r) (t + 768))) :
    R3 (k0_pay248 v698 v700) (fun _ r _ => D.pre 1 ((t + 768) + r) ((t + 768) + 256)) :=
  (R2.lift (t_cp D h700 (R2.column (R2.castSelf (t_ppLast D h698 slices_S256x256_o0_255_S256x1) shapeCasts_S256x1_S256x1) broadcasts_S256x1_S256x128)) shapeCasts_S256x128_S1x256x128)

theorem pay249_spec {t : ℕ} {v702 : FVec Ideal S256x128 .f32} {v712 : FVec Ideal S256x256 .f32} {v714 : FVec Ideal S256x256 .f32}
    (h702 : R2 v702 (fun r _ => D.gs 1 ((t + 768) + r) (t + 768)))
    (h712 : R2 v712 (fun r c => D.g 1 ((t + 768) + r) ((t + 768) + c)))
    (h714 : R2 v714 (fun r c => D.gs 1 ((t + 768) + r) ((t + 768) + c) - D.gs 1 ((t + 768) + r) (t + 768))) :
    R3 (k0_pay249 v702 v712 v714) (fun _ r _ => D.gs 1 ((t + 768) + r) ((t + 768) + 256)) :=
  (R2.lift (t_cg D h702 (R2.column (R2.castSelf (t_cgStep D (t_ggLast D h714 slices_S256x256_o0_255_S256x1) (t_gLast D h712 slices_S256x256_o0_255_S256x1)) shapeCasts_S256x1_S256x1) broadcasts_S256x1_S256x128)) shapeCasts_S256x128_S1x256x128)

theorem pay250_spec {t : ℕ} {f : ℕ → ℕ → ℝ} {v35 : FVec Ideal S128x1024 .bf16} {v660 : FVec Ideal S128x256 .f32} {v725 : FVec Ideal S256x256 .bf16} {v757 : FVec Ideal S128x256 .f32}
    (h35 : R2 v35 (fun l r => D.qh 1 (t + r) l))
    (h660 : R2 v660 (fun l c => 0 + (D.dkh 0 (t + 768) 256 l ((t + 768) + c))))
    (h725 : R2 v725 (fun r c => D.dz 1 ((t + 768) + r) ((t + 768) + c)))
    (h757 : R2 v757 (fun l c => f l c)) :
    R2 (k0_pay250 v35 v660 v725 v757) (fun l c => f l c - (0 + (D.dkh 0 (t + 768) 256 l ((t + 768) + c)) + (D.dkh 1 (t + 768) 256 l ((t + 768) + c)))) :=
  (R2.castSelf (R2.subf h757 (R2.addf h660 (t_dkh D (t_cols (F := fun r l => D.qh 1 r l) 768 h35 slices_S128x1024_o0_768_S128x256 rfl rfl) h725 (R2.const bits_zero)))) shapeCasts_S128x256_S128x256)

theorem pay251_spec {t : ℕ} {f : ℕ → ℕ → ℝ} {v37 : FVec Ideal S128x1024 .bf16} {v664 : FVec Ideal S128x256 .f32} {v710 : FVec Ideal S256x256 .f32} {v764 : FVec Ideal S128x256 .f32}
    (h37 : R2 v37 (fun l r => D.dyh 1 (t + r) l))
    (h664 : R2 v664 (fun l c => 0 + (D.dvh 0 (t + 768) 256 l ((t + 768) + c))))
    (h710 : R2 v710 (fun r c => D.a 1 ((t + 768) + r) ((t + 768) + c)))
    (h764 : R2 v764 (fun l c => f l c)) :
    R2 (k0_pay251 v37 v664 v710 v764) (fun l c => f l c + (0 + (D.dvh 0 (t + 768) 256 l ((t + 768) + c)) + (D.dvh 1 (t + 768) 256 l ((t + 768) + c)))) :=
  (R2.castSelf (R2.addf h764 (R2.addf h664 (t_dvh D (t_cols (F := fun r l => D.dyh 1 r l) 768 h37 slices_S128x1024_o0_768_S128x256 rfl rfl) (R2.truncf h710 bitsLt_bf16_f32) (R2.const bits_zero)))) shapeCasts_S128x256_S128x256)

end Cert.Proof
-- ==== Proof.Point.lean ====
/- What the three cases of a grid point share: the offsets of the diagonal blocks, the buffers' first contents and the
   query derivative a point stores. -/
module

public import proofs.«01_k».proof.Proof.Trip
public import proofs.«01_k».proof.Proof.Setup
public import proofs.«01_k».proof.Proof.Diag0
public import proofs.«01_k».proof.Proof.Diag1
public import proofs.«01_k».proof.Proof.Diag2
public import proofs.«01_k».proof.Proof.Diag3

@[expose] public section

noncomputable section

namespace Cert.Proof

open Idealize.ShloMosaic Cert.KernelIdeal Cert.KernelIdeal.Gen

theorem off5_0 (i : grid0.Coords) {t : ℕ} (ht : t = 1024 * (i 1).val) : k0_off5 i 0#32 = ![t + 0, 0] := by
  subst ht; exact k0_off5_eq i 0
theorem off6_0 (i : grid0.Coords) {t : ℕ} (ht : t = 1024 * (i 1).val) : k0_off6 i 0#32 = ![0, t + 0] := by
  subst ht; exact k0_off6_eq i 0
theorem off5_1 (i : grid0.Coords) {t : ℕ} (ht : t = 1024 * (i 1).val) : k0_off5 i 1#32 = ![t + 256, 0] := by
  subst ht; exact k0_off5_eq i 1
theorem off6_1 (i : grid0.Coords) {t : ℕ} (ht : t = 1024 * (i 1).val) : k0_off6 i 1#32 = ![0, t + 256] := by
  subst ht; exact k0_off6_eq i 1
theorem off5_2 (i : grid0.Coords) {t : ℕ} (ht : t = 1024 * (i 1).val) : k0_off5 i 2#32 = ![t + 512, 0] := by
  subst ht; exact k0_off5_eq i 2
theorem off6_2 (i : grid0.Coords) {t : ℕ} (ht : t = 1024 * (i 1).val) : k0_off6 i 2#32 = ![0, t + 512] := by
  subst ht; exact k0_off6_eq i 2
theorem off5_3 (i : grid0.Coords) {t : ℕ} (ht : t = 1024 * (i 1).val) : k0_off5 i 3#32 = ![t + 768, 0] := by
  subst ht; exact k0_off5_eq i 3
theorem off6_3 (i : grid0.Coords) {t : ℕ} (ht : t = 1024 * (i 1).val) : k0_off6 i 3#32 = ![0, t + 768] := by
  subst ht; exact k0_off6_eq i 3

/-- Before any key every sum is zero. -/
theorem start_zero (F : Acc) {t : ℕ} (hF : ∀ h t l, F h t 0 l = 0) {p : FVec Ideal ⟨3, ![2, 1024, 128]⟩ .f32}
    (hp : R3 p (fun _ _ _ => 0)) : R3 p (St F t 0 0) := fun i => by
  rw [hp i, St, ite_self, hF]

/-- The query's derivative of the tile from row `t` on. -/
def Data.dqOut (D : Data) (t r l : ℕ) : ℝ := (if l < 64 then D.dqa 0 (t + r) (t + 1024) l else D.dqa 1 (t + r) (t + 1024) l) * 0.125

end Cert.Proof
-- ==== Proof.PointA.lean ====
/- What one grid point leaves at the first tile of a pair of heads: the query's derivative of the tile, and the accumulators of the keys' and
   values' derivatives after the tile's rows. -/
module

public import proofs.«01_k».proof.Proof.Point
public import proofs.«01_k».proof.Proof.Gen.KernelIdeal.Frame

@[expose] public section

noncomputable section

namespace Cert.Proof

open Idealize.ShloMosaic Idealize.SL Idealize.SL.Sem Cert.KernelIdeal Cert.KernelIdeal.Gen

set_option maxHeartbeats 1000000 in
theorem pointA {D : Data} {t : ℕ}
    (c : Dev nD) (i : grid0.Coords) (arg2 : Memref sig .tc .vmem S1024x128 .f32) (harg2 : arg2.IsWhole)
    (arg3 : Memref sig .tc .vmem S4096x128 .f32) (harg3 : arg3.IsWhole) (arg4 : Memref sig .tc .vmem S4096x128 .f32)
    (harg4 : arg4.IsWhole) (arg5 : Memref sig .tc .vmem S1024x128 .f32) (harg5 : arg5.IsWhole)
    (arg6 : Memref sig .tc .vmem S1024x128 .f32) (harg6 : arg6.IsWhole) (arg7 : Memref sig .tc .vmem S1024x128 .bf16)
    (harg7 : arg7.IsWhole) (arg8 : Memref sig .tc .vmem S4096x128 .bf16) (harg8 : arg8.IsWhole)
    (arg9 : Memref sig .tc .vmem S4096x128 .bf16) (harg9 : arg9.IsWhole)
    (arg10 : Memref sig .tc .vmem S2x1024x128 .f32) (harg10 : arg10.IsWhole)
    (arg11 : Memref sig .tc .vmem S2x1024x128 .f32) (harg11 : arg11.IsWhole)
    (arg12 : Memref sig .tc .vmem S2x1024x128 .f32) (harg12 : arg12.IsWhole)
    (arg13 : Memref sig .tc .vmem S128x4096 .f32) (harg13 : arg13.IsWhole)
    (arg14 : Memref sig .tc .vmem S128x4096 .f32) (harg14 : arg14.IsWhole) (hc0 : cond0_0 i) (hc1 : ¬cond0_1 i)
    (x0 : FVec Ideal S1024x128 .f32) (x1 : FVec Ideal S4096x128 .f32) (x2 : FVec Ideal S4096x128 .f32)
    (x3 : FVec Ideal S1024x128 .f32) (x4 : FVec Ideal S1024x128 .f32)
    (ht : t = 1024 * (i 1).val) (hx0 : R2 x0 (fun r l => D.Q (t + r) l)) (hx1 : R2 x1 D.K) (hx2 : R2 x2 D.V)
    (hx3 : R2 x3 (fun r l => D.T (l / 64) (t + r))) (hx4 : R2 x4 (fun r l => D.DY (t + r) l)) :
    R2 (φ := .bf16) (out0_A_5 (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4) (D.dqOut t)
    ∧ R2 (φ := .f32) (sout0_A_3 (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4) (upTo (t + 1024) (D.dkN t (fun _ _ => 0)) (fun _ _ => 0))
    ∧ R2 (φ := .f32) (sout0_A_4 (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4) (upTo (t + 1024) (D.dvN t (fun _ _ => 0)) (fun _ _ => 0)) := by
  have hw3 : ∀ {f : ℕ → ℕ → ℝ}, R2 x1 f → R2 (φ := .f32) (arg3.view.read (Elt Ideal) (harg3.unread x1)) f := fun h => by
    rw [harg3.read_unread]; exact h
  have hw4 : ∀ {f : ℕ → ℕ → ℝ}, R2 x2 f → R2 (φ := .f32) (arg4.view.read (Elt Ideal) (harg4.unread x2)) f := fun h => by
    rw [harg4.read_unread]; exact h
  have hQ := loadAll (v := arg2.view) (c := harg2.unread x0) (by rw [harg2.read_unread]; exact hx0) inb_S1024x128_S1024x128_0_0
  have hT := loadAll (v := arg5.view) (c := harg5.unread x3) (by rw [harg5.read_unread]; exact hx3) inb_S1024x128_S1024x128_0_0
  have hDY := loadAll (v := arg6.view) (c := harg6.unread x4) (by rw [harg6.read_unread]; exact hx4) inb_S1024x128_S1024x128_0_0
  have hr : R2 (kernelRun0_A.sl.r (F := Ideal) c arg2 harg2 x0) _ := pay74_spec D hQ
  have hr_1 : R2 (kernelRun0_A.sl.r_1 (F := Ideal) c arg2 harg2 x0) _ := pay75_spec D hQ
  have hr_2 : R2 (kernelRun0_A.sl.r_2 (F := Ideal) c arg6 harg6 x4) _ := pay76_spec D hDY
  have hr_3 : R2 (kernelRun0_A.sl.r_3 (F := Ideal) c arg6 harg6 x4) _ := pay77_spec D hDY
  have hr_4 : R2 (kernelRun0_A.sl.r_4 (F := Ideal) c arg2 harg2 x0) _ := pay78_spec D hQ
  have hr_5 : R2 (kernelRun0_A.sl.r_5 (F := Ideal) c arg2 harg2 x0) _ := pay79_spec D hQ
  have hr_6 : R2 (kernelRun0_A.sl.r_6 (F := Ideal) c arg6 harg6 x4) _ := pay80_spec D hDY
  have hr_7 : R2 (kernelRun0_A.sl.r_7 (F := Ideal) c arg6 harg6 x4) _ := pay81_spec D hDY
  have hr_8 : R2 (kernelRun0_A.sl.r_8 (F := Ideal) c arg5 harg5 x3) _ := pay84_spec D hT
  have hr_9 : R2 (kernelRun0_A.sl.r_9 (F := Ideal) c arg5 harg5 x3) _ := pay85_spec D hT
  have b : Base D t _ _ _ _ _ _ _ _ _ _ _ _ := ⟨pay71_spec, pay72_spec, hr, hr_1, hr_2, hr_3, hr_4, hr_5, hr_6, hr_7, hr_8, hr_9⟩
  have hA := loops_from_lists (𝒱 := Variants.none) (c := c) (bd := none) (i := i) (harg2 := harg2) (harg3 := harg3) (harg4 := harg4)
    (harg5 := harg5) (harg6 := harg6) (harg7 := harg7) (harg8 := harg8) (harg9 := harg9) (harg10 := harg10)
    (harg11 := harg11) (harg12 := harg12) (harg13 := harg13) (harg14 := harg14) (arg1 := BitVec.ofNat 32 (i 1).val)
    (f := (fun _ _ => 0)) (g := (fun _ _ => 0)) b (hw3 hx1) (hw4 hx2) ht (kernelRun0_A.sl.v63 i) arg10.view.junk arg11.view.junk arg12.view.junk
    arg13.view.junk arg14.view.junk kernelRun0_A.sl.HS0_1 kernelRun0_A.sl.HS1_1 kernelRun0_A.sl.HS2_1 kernelRun0_A.sl.HS3_1 kernelRun0_A.sl.HS4_1
    ⟨fun j => (storeAll3 inb_S2x1024x128_S2x1024x128_0_0_0 (start_zero D.dqaA (by simp [Data.dqa]) pay86_spec)) j,
     fun j => (storeAll3 inb_S2x1024x128_S2x1024x128_0_0_0 (start_zero D.preA (by simp [Data.pre]) pay87_spec)) j,
     fun j => (storeAll3 inb_S2x1024x128_S2x1024x128_0_0_0 (start_zero D.gsA (by simp [Data.gs]) pay88_spec)) j,
     (by rw [upTo_zero]; exact fun i => (storeAll inb_S128x4096_S128x4096_0_0 _ i).trans (pay89_spec i)),
     (by rw [upTo_zero]; exact fun i => (storeAll inb_S128x4096_S128x4096_0_0 _ i).trans (pay90_spec i))⟩
  have hK0 := loadRows (hw3 hx1) (off5_0 i ht) (k0_off5_inb i 0)
  have hV0 := loadRows (hw4 hx2) (off5_0 i ht) (k0_off5_inb i 0)
  have hr_10 : R2 (φ := .f32) (kernelRun0_A.sl.r_10 (F := Ideal) i arg3 harg3 x1) _ := hK0
  have hr_11 : R2 (kernelRun0_A.sl.r_11 (F := Ideal) i arg3 harg3 x1) _ := pay100_spec D hr_10
  have hv95 : R3 (φ := .f32) (kernelRun0_A.sl.v95 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4) _ := loadSt hA.pre inb_S2x1024x128_S1x1024x128_0_0_0 rfl
  have hr_17 : R2 (kernelRun0_A.sl.r_17 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4) _ := pay110_spec D pay71_spec hr hr_2 hr_8 pay99_spec hr_10 hV0 hv95
  have hr_19 : R2 (kernelRun0_A.sl.r_19 (F := Ideal) c i arg2 harg2 arg3 harg3 x0 x1) _ := pay112_spec D hr hr_10
  have hv97 : R3 (φ := .f32) (kernelRun0_A.sl.v97 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4) _ := loadSt hA.gs inb_S2x1024x128_S1x1024x128_0_0_0 rfl
  have hr_20 : R2 (kernelRun0_A.sl.r_20 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4) _ := pay113_spec D pay71_spec pay72_spec hr hr_2 hr_8 pay99_spec hr_10 hV0 hv95 hv97
  have hv121 : R3 (φ := .f32) (kernelRun0_A.sl.v121 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4) _ := loadSt hA.dq inb_S2x1024x128_S1x1024x128_0_0_0 rfl
  have sq00 : R3 (φ := .f32) (arg10.view.read (Elt Ideal) (arg10.view.writes (Elt Ideal) arg10.view.junk (kernelRun0_A.sl.HS0_1_1 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4))) _ := store_head0 D.dqa_stops hA.dq (r0 := 0) (m0' := t + 256) inb_S2x1024x128_S1x1024x128_0_0_0 (pay115_spec D pay99_spec hr_11 hr_17 hr_19 hr_20 hv121)
    (by omega) (by omega) (by omega) (by omega)
  have hr_13 : R2 (kernelRun0_A.sl.r_13 (F := Ideal) c i arg2 harg2 arg3 harg3 x0 x1) _ := pay106_spec D pay71_spec hr pay99_spec hr_10
  have hr_14 : R2 (kernelRun0_A.sl.r_14 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4) _ := pay107_spec D hv95
  have sp00 : R3 (φ := .f32) (arg11.view.read (Elt Ideal) (arg11.view.writes (Elt Ideal) arg11.view.junk (kernelRun0_A.sl.HS1_1_1 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4))) _ := store_head0 D.pre_stops hA.pre (r0 := 0) (m0' := t + 256) inb_S2x1024x128_S1x1024x128_0_0_0 (pay118_spec D hr_13 hr_14)
    (by omega) (by omega) (by omega) (by omega)
  have hr_15 : R2 (kernelRun0_A.sl.r_15 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4) _ := pay108_spec D hv97
  have hr_18 : R2 (kernelRun0_A.sl.r_18 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4) _ := pay111_spec D pay71_spec pay72_spec hr hr_2 hr_8 pay99_spec hr_10 hV0 hv95
  have sg00 : R3 (φ := .f32) (arg12.view.read (Elt Ideal) (arg12.view.writes (Elt Ideal) arg12.view.junk (kernelRun0_A.sl.HS2_1_1 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4))) _ := store_head0 D.gs_stops hA.gs (r0 := 0) (m0' := t + 256) inb_S2x1024x128_S1x1024x128_0_0_0 (pay119_spec D hr_15 hr_17 hr_18)
    (by omega) (by omega) (by omega) (by omega)
  have hr_12 : R2 (kernelRun0_A.sl.r_12 (F := Ideal) i arg4 harg4 x2) _ := pay101_spec D hV0
  have hr_23 : R2 (kernelRun0_A.sl.r_23 (F := Ideal) c i arg2 harg2 arg3 harg3 x0 x1) _ := pay120_spec D hr_1 hr_11
  have hr_24 : R2 (kernelRun0_A.sl.r_24 (F := Ideal) c i arg2 harg2 arg3 harg3 x0 x1) _ := pay121_spec D hr_1 hr_11
  have hv165 : R3 (φ := .f32) (kernelRun0_A.sl.v165 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4) _ := loadSt sp00 inb_S2x1024x128_S1x1024x128_1_0_0 rfl
  have hv167 : R3 (φ := .f32) (kernelRun0_A.sl.v167 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4) _ := loadSt sg00 inb_S2x1024x128_S1x1024x128_1_0_0 rfl
  have hv191 : R3 (φ := .f32) (kernelRun0_A.sl.v191 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4) _ := loadSt sq00 inb_S2x1024x128_S1x1024x128_1_0_0 rfl
  have hr_32 : R2 (kernelRun0_A.sl.r_32 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4) _ := pay130_spec D pay71_spec pay72_spec hr_3 hr_9 pay99_spec hr_11 hr_12 hr_23 hr_24 bits_one hv165 hv167 hv191
  have sq01 : R3 (φ := .f32) (arg10.view.read (Elt Ideal) (arg10.view.writes (Elt Ideal) arg10.view.junk (kernelRun0_A.sl.HS0_2 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4))) _ := store_head1 D.dqa_stops sq00 (r0 := 0) (m1' := t + 256) inb_S2x1024x128_S1x1024x128_1_0_0 (pay131_spec D hr_32)
    (by omega) (by omega) (by omega) (by omega)
  have hr_25 : R2 (kernelRun0_A.sl.r_25 (F := Ideal) c i arg2 harg2 arg3 harg3 x0 x1) _ := pay123_spec D pay71_spec pay99_spec hr_23 hr_24 bits_one
  have hr_26 : R2 (kernelRun0_A.sl.r_26 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4) _ := pay124_spec D hv165
  have sp01 : R3 (φ := .f32) (arg11.view.read (Elt Ideal) (arg11.view.writes (Elt Ideal) arg11.view.junk (kernelRun0_A.sl.HS1_2 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4))) _ := store_head1 D.pre_stops sp00 (r0 := 0) (m1' := t + 256) inb_S2x1024x128_S1x1024x128_1_0_0 (pay132_spec D hr_25 hr_26)
    (by omega) (by omega) (by omega) (by omega)
  have hr_27 : R2 (kernelRun0_A.sl.r_27 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4) _ := pay125_spec D hv167
  have hr_29 : R2 (kernelRun0_A.sl.r_29 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4) _ := pay127_spec D pay71_spec hr_3 hr_9 pay99_spec hr_12 hr_23 hr_24 bits_one hv165
  have hr_30 : R2 (kernelRun0_A.sl.r_30 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4) _ := pay128_spec D pay71_spec pay72_spec hr_3 hr_9 pay99_spec hr_12 hr_23 hr_24 bits_one hv165
  have sg01 : R3 (φ := .f32) (arg12.view.read (Elt Ideal) (arg12.view.writes (Elt Ideal) arg12.view.junk (kernelRun0_A.sl.HS2_2 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4))) _ := store_head1 D.gs_stops sg00 (r0 := 0) (m1' := t + 256) inb_S2x1024x128_S1x1024x128_1_0_0 (pay133_spec D hr_27 hr_29 hr_30)
    (by omega) (by omega) (by omega) (by omega)
  have hdk0 := load2 hA.dk (off6_0 i ht) (k0_off6_inb i 0)
  have hdv0 := load2 hA.dv (off6_0 i ht) (k0_off6_inb i 0)
  have hr_21 : R2 (kernelRun0_A.sl.r_21 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4) _ := pay116_spec D hr_4 pay99_spec pay102_spec hr_17 hr_19 hr_20
  have hr_31 : R2 (kernelRun0_A.sl.r_31 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4) _ := pay129_spec D pay71_spec pay72_spec hr_3 hr_9 pay99_spec hr_12 hr_23 hr_24 bits_one hv165 hv167
  have hv220 : R2 (φ := .f32) (kernelRun0_A.sl.v220 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4) _ := hdk0
  have hr_16 : R2 (kernelRun0_A.sl.r_16 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4) _ := pay109_spec D pay71_spec hr hr_8 pay99_spec hr_10 hv95
  have hr_22 : R2 (kernelRun0_A.sl.r_22 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4) _ := pay117_spec D hr_6 pay103_spec hr_16
  have hr_28 : R2 (kernelRun0_A.sl.r_28 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4) _ := pay126_spec D pay71_spec hr_9 pay99_spec hr_23 hr_24 bits_one hv165
  have hv227 : R2 (φ := .f32) (kernelRun0_A.sl.v227 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4) _ := hdv0
  have sk0 : R2 (φ := .f32) (arg13.view.read (Elt Ideal) (arg13.view.writes (Elt Ideal) arg13.view.junk (kernelRun0_A.sl.HS3_1_1 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4))) _ := store2 (n' := t + 256) hA.dk (off6_0 i ht) (k0_off6_inb i 0)
    (D.dkN_rows (d := 0) (n := 1024) (by omega) (pay134_spec D hr_5 hr_21 hr_31 hv220)) (by omega)
  have sv0 : R2 (φ := .f32) (arg14.view.read (Elt Ideal) (arg14.view.writes (Elt Ideal) arg14.view.junk (kernelRun0_A.sl.HS4_1_1 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4))) _ := store2 (n' := t + 256) hA.dv (off6_0 i ht) (k0_off6_inb i 0)
    (D.dvN_rows (d := 0) (n := 1024) (by omega) (pay135_spec D hr_7 hr_22 hr_28 hv227)) (by omega)
  have hK1 := loadRows (hw3 hx1) (off5_1 i ht) (k0_off5_inb i 1)
  have hV1 := loadRows (hw4 hx2) (off5_1 i ht) (k0_off5_inb i 1)
  have hr_33 : R2 (kernelRun0_A.sl.r_33 (F := Ideal) i arg3 harg3 x1) _ := pay137_spec D hK1
  have hr_34 : R2 (kernelRun0_A.sl.r_34 (F := Ideal) i arg4 harg4 x2) _ := pay138_spec D hV1
  have hr_35 : R2 (kernelRun0_A.sl.r_35 (F := Ideal) c arg6 harg6 x4) _ := pay141_spec D hr_2
  have hr_36 : R2 (kernelRun0_A.sl.r_36 (F := Ideal) c i arg2 harg2 arg3 harg3 x0 x1) _ := pay143_spec D hr hK1
  have hv268 : R3 (φ := .f32) (kernelRun0_A.sl.v268 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4) _ := loadSt sg01 inb_S2x1024x128_S1x768x128_0_256_0 rfl
  have hr_39 : R2 (kernelRun0_A.sl.r_39 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4) _ := pay146_spec D hv268
  have hv266 : R3 (φ := .f32) (kernelRun0_A.sl.v266 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4) _ := loadSt sp01 inb_S2x1024x128_S1x768x128_0_256_0 rfl
  have hr_40 : R2 (kernelRun0_A.sl.r_40 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4) _ := pay147_spec D pay71_spec hr hr_8 hK1 hv266
  have hv293 : R3 (φ := .f32) (kernelRun0_A.sl.v293 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4) _ := loadSt sq01 inb_S2x1024x128_S1x768x128_0_256_0 rfl
  have sq10 : R3 (φ := .f32) (arg10.view.read (Elt Ideal) (arg10.view.writes (Elt Ideal) arg10.view.junk (kernelRun0_A.sl.HS0_3 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4))) _ := store_head0 D.dqa_stops sq01 (r0 := 256) (m0' := t + 512) inb_S2x1024x128_S1x768x128_0_256_0 (pay153_spec D pay72_spec pay136_spec hr_33 hr_34 hr_35 hr_36 hr_39 hr_40 pay148_spec hv293)
    (by omega) (by omega) (by omega) (by omega)
  have hr_37 : R2 (kernelRun0_A.sl.r_37 (F := Ideal) c i arg2 harg2 arg3 harg3 x0 x1) _ := pay144_spec D pay71_spec hr hK1
  have hr_38 : R2 (kernelRun0_A.sl.r_38 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4) _ := pay145_spec D hv266
  have sp10 : R3 (φ := .f32) (arg11.view.read (Elt Ideal) (arg11.view.writes (Elt Ideal) arg11.view.junk (kernelRun0_A.sl.HS1_3 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4))) _ := store_head0 D.pre_stops sp01 (r0 := 256) (m0' := t + 512) inb_S2x1024x128_S1x768x128_0_256_0 (pay156_spec D hr_37 hr_38)
    (by omega) (by omega) (by omega) (by omega)
  have hr_43 : R2 (kernelRun0_A.sl.r_43 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4) _ := pay157_spec D pay72_spec pay136_spec hr_34 hr_35 hr_40 pay148_spec
  have sg10 : R3 (φ := .f32) (arg12.view.read (Elt Ideal) (arg12.view.writes (Elt Ideal) arg12.view.junk (kernelRun0_A.sl.HS2_3 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4))) _ := store_head0 D.gs_stops sg01 (r0 := 256) (m0' := t + 512) inb_S2x1024x128_S1x768x128_0_256_0 (pay158_spec D hr_39 hr_43)
    (by omega) (by omega) (by omega) (by omega)
  have hv343 : R3 (φ := .f32) (kernelRun0_A.sl.v343 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4) _ := loadSt sg10 inb_S2x1024x128_S1x768x128_1_256_0 rfl
  have hr_46 : R2 (kernelRun0_A.sl.r_46 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4) _ := pay163_spec D hv343
  have hv341 : R3 (φ := .f32) (kernelRun0_A.sl.v341 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4) _ := loadSt sp10 inb_S2x1024x128_S1x768x128_1_256_0 rfl
  have hr_48 : R2 (kernelRun0_A.sl.r_48 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4) _ := pay165_spec D pay71_spec hr_1 hr_3 hr_9 pay136_spec hr_33 hr_34 hv341
  have hr_49 : R2 (kernelRun0_A.sl.r_49 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4) _ := pay166_spec D pay71_spec pay72_spec hr_1 hr_3 hr_9 pay136_spec hr_33 hr_34 hv341
  have hr_50 : R2 (kernelRun0_A.sl.r_50 (F := Ideal) c i arg2 harg2 arg3 harg3 x0 x1) _ := pay167_spec D hr_1 hr_33
  have hv368 : R3 (φ := .f32) (kernelRun0_A.sl.v368 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4) _ := loadSt sq10 inb_S2x1024x128_S1x768x128_1_256_0 rfl
  have sq11 : R3 (φ := .f32) (arg10.view.read (Elt Ideal) (arg10.view.writes (Elt Ideal) arg10.view.junk (kernelRun0_A.sl.HS0_4 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4))) _ := store_head1 D.dqa_stops sq10 (r0 := 256) (m1' := t + 512) inb_S2x1024x128_S1x768x128_1_256_0 (pay169_spec D pay136_spec hr_33 hr_46 hr_48 hr_49 hr_50 hv368)
    (by omega) (by omega) (by omega) (by omega)
  have hr_44 : R2 (kernelRun0_A.sl.r_44 (F := Ideal) c i arg2 harg2 arg3 harg3 x0 x1) _ := pay161_spec D pay71_spec hr_1 pay136_spec hr_33
  have hr_45 : R2 (kernelRun0_A.sl.r_45 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4) _ := pay162_spec D hv341
  have sp11 : R3 (φ := .f32) (arg11.view.read (Elt Ideal) (arg11.view.writes (Elt Ideal) arg11.view.junk (kernelRun0_A.sl.HS1_4 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4))) _ := store_head1 D.pre_stops sp10 (r0 := 256) (m1' := t + 512) inb_S2x1024x128_S1x768x128_1_256_0 (pay172_spec D hr_44 hr_45)
    (by omega) (by omega) (by omega) (by omega)
  have sg11 : R3 (φ := .f32) (arg12.view.read (Elt Ideal) (arg12.view.writes (Elt Ideal) arg12.view.junk (kernelRun0_A.sl.HS2_4 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4))) _ := store_head1 D.gs_stops sg10 (r0 := 256) (m1' := t + 512) inb_S2x1024x128_S1x768x128_1_256_0 (pay173_spec D hr_46 hr_48 hr_49)
    (by omega) (by omega) (by omega) (by omega)
  have hdk1 := load2 sk0 (off6_1 i ht) (k0_off6_inb i 1)
  have hdv1 := load2 sv0 (off6_1 i ht) (k0_off6_inb i 1)
  have hr_41 : R2 (kernelRun0_A.sl.r_41 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4) _ := pay154_spec D pay72_spec hr_4 pay136_spec hr_34 pay139_spec hr_35 hr_36 hr_39 hr_40 pay148_spec
  have hr_51 : R2 (kernelRun0_A.sl.r_51 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4) _ := pay170_spec D hr_5 pay136_spec hr_41 hr_46 hr_48 hr_49 hr_50
  have hr_53 : R2 (φ := .f32) (kernelRun0_A.sl.r_53 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4) _ := hdk1
  have hr_42 : R2 (kernelRun0_A.sl.r_42 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4) _ := pay155_spec D hr_6 pay136_spec pay140_spec hr_40 pay148_spec
  have hr_47 : R2 (kernelRun0_A.sl.r_47 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4) _ := pay164_spec D pay71_spec hr_1 hr_9 pay136_spec hr_33 hv341
  have hr_52 : R2 (kernelRun0_A.sl.r_52 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4) _ := pay171_spec D hr_7 hr_42 hr_47
  have sk1 : R2 (φ := .f32) (arg13.view.read (Elt Ideal) (arg13.view.writes (Elt Ideal) arg13.view.junk (kernelRun0_A.sl.HS3_2 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4))) _ := store2 (n' := t + 512) sk0 (off6_1 i ht) (k0_off6_inb i 1)
    (D.dkN_rows (d := 256) (n := 768) (by omega) (pay174_spec D hr_51 hr_53)) (by omega)
  have sv1 : R2 (φ := .f32) (arg14.view.read (Elt Ideal) (arg14.view.writes (Elt Ideal) arg14.view.junk (kernelRun0_A.sl.HS4_2 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4))) _ := store2 (n' := t + 512) sv0 (off6_1 i ht) (k0_off6_inb i 1)
    (D.dvN_rows (d := 256) (n := 768) (by omega) (pay175_spec D hr_52 hdv1)) (by omega)
  have hK2 := loadRows (hw3 hx1) (off5_2 i ht) (k0_off5_inb i 2)
  have hV2 := loadRows (hw4 hx2) (off5_2 i ht) (k0_off5_inb i 2)
  have hr_54 : R2 (kernelRun0_A.sl.r_54 (F := Ideal) i arg3 harg3 x1) _ := pay177_spec D hK2
  have hr_55 : R2 (kernelRun0_A.sl.r_55 (F := Ideal) i arg4 harg4 x2) _ := pay178_spec D hV2
  have hr_56 : R2 (kernelRun0_A.sl.r_56 (F := Ideal) c arg6 harg6 x4) _ := pay181_spec D hr_2
  have hr_57 : R2 (kernelRun0_A.sl.r_57 (F := Ideal) c i arg2 harg2 arg3 harg3 x0 x1) _ := pay183_spec D hr hK2
  have hr_58 : R2 (kernelRun0_A.sl.r_58 (F := Ideal) c i arg2 harg2 arg3 harg3 x0 x1) _ := pay184_spec D hr hK2
  have hv445 : R3 (φ := .f32) (kernelRun0_A.sl.v445 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4) _ := loadSt sp11 inb_S2x1024x128_S1x512x128_0_512_0 rfl
  have hv447 : R3 (φ := .f32) (kernelRun0_A.sl.v447 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4) _ := loadSt sg11 inb_S2x1024x128_S1x512x128_0_512_0 rfl
  have hv472 : R3 (φ := .f32) (kernelRun0_A.sl.v472 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4) _ := loadSt sq11 inb_S2x1024x128_S1x512x128_0_512_0 rfl
  have sq20 : R3 (φ := .f32) (arg10.view.read (Elt Ideal) (arg10.view.writes (Elt Ideal) arg10.view.junk (kernelRun0_A.sl.HS0_5 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4))) _ := store_head0 D.dqa_stops sq11 (r0 := 512) (m0' := t + 768) inb_S2x1024x128_S1x512x128_0_512_0 (pay192_spec D pay71_spec pay72_spec hr_8 pay176_spec hr_54 hr_55 hr_56 hr_57 hr_58 hv445 hv447 hv472)
    (by omega) (by omega) (by omega) (by omega)
  have hr_59 : R2 (kernelRun0_A.sl.r_59 (F := Ideal) c i arg2 harg2 arg3 harg3 x0 x1) _ := pay185_spec D pay71_spec hr_58
  have hr_60 : R2 (kernelRun0_A.sl.r_60 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4) _ := pay186_spec D hv445
  have sp20 : R3 (φ := .f32) (arg11.view.read (Elt Ideal) (arg11.view.writes (Elt Ideal) arg11.view.junk (kernelRun0_A.sl.HS1_5 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4))) _ := store_head0 D.pre_stops sp11 (r0 := 512) (m0' := t + 768) inb_S2x1024x128_S1x512x128_0_512_0 (pay196_spec D hr_59 hr_60)
    (by omega) (by omega) (by omega) (by omega)
  have hr_61 : R2 (kernelRun0_A.sl.r_61 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4) _ := pay187_spec D hv447
  have hr_63 : R2 (kernelRun0_A.sl.r_63 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4) _ := pay189_spec D pay71_spec hr_8 pay176_spec hr_55 hr_56 hr_57 hr_58 hv445
  have hr_64 : R2 (kernelRun0_A.sl.r_64 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4) _ := pay190_spec D pay71_spec pay72_spec hr_8 pay176_spec hr_55 hr_56 hr_57 hr_58 hv445
  have sg20 : R3 (φ := .f32) (arg12.view.read (Elt Ideal) (arg12.view.writes (Elt Ideal) arg12.view.junk (kernelRun0_A.sl.HS2_5 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4))) _ := store_head0 D.gs_stops sg11 (r0 := 512) (m0' := t + 768) inb_S2x1024x128_S1x512x128_0_512_0 (pay197_spec D hr_61 hr_63 hr_64)
    (by omega) (by omega) (by omega) (by omega)
  have hr_68 : R2 (kernelRun0_A.sl.r_68 (F := Ideal) c arg6 harg6 x4) _ := pay198_spec D hr_3
  have hr_69 : R2 (kernelRun0_A.sl.r_69 (F := Ideal) c i arg2 harg2 arg3 harg3 x0 x1) _ := pay200_spec D hr_1 hr_54
  have hr_70 : R2 (kernelRun0_A.sl.r_70 (F := Ideal) c i arg2 harg2 arg3 harg3 x0 x1) _ := pay201_spec D pay71_spec hr_1 pay176_spec hr_54
  have hv520 : R3 (φ := .f32) (kernelRun0_A.sl.v520 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4) _ := loadSt sp20 inb_S2x1024x128_S1x512x128_1_512_0 rfl
  have hr_71 : R2 (kernelRun0_A.sl.r_71 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4) _ := pay202_spec D hv520
  have hv522 : R3 (φ := .f32) (kernelRun0_A.sl.v522 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4) _ := loadSt sg20 inb_S2x1024x128_S1x512x128_1_512_0 rfl
  have hv547 : R3 (φ := .f32) (kernelRun0_A.sl.v547 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4) _ := loadSt sq20 inb_S2x1024x128_S1x512x128_1_512_0 rfl
  have sq21 : R3 (φ := .f32) (arg10.view.read (Elt Ideal) (arg10.view.writes (Elt Ideal) arg10.view.junk (kernelRun0_A.sl.HS0_6 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4))) _ := store_head1 D.dqa_stops sq20 (r0 := 512) (m1' := t + 768) inb_S2x1024x128_S1x512x128_1_512_0 (pay208_spec D pay72_spec hr_9 pay176_spec hr_54 hr_55 hr_68 hr_69 hr_70 hr_71 hv522 hv547)
    (by omega) (by omega) (by omega) (by omega)
  have hr_77 : R2 (kernelRun0_A.sl.r_77 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4) _ := pay211_spec D hr_70 hr_71
  have sp21 : R3 (φ := .f32) (arg11.view.read (Elt Ideal) (arg11.view.writes (Elt Ideal) arg11.view.junk (kernelRun0_A.sl.HS1_6 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4))) _ := store_head1 D.pre_stops sp20 (r0 := 512) (m1' := t + 768) inb_S2x1024x128_S1x512x128_1_512_0 (pay212_spec D hr_77)
    (by omega) (by omega) (by omega) (by omega)
  have hr_72 : R2 (kernelRun0_A.sl.r_72 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4) _ := pay203_spec D hv522
  have hr_73 : R2 (kernelRun0_A.sl.r_73 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4) _ := pay205_spec D hr_9 pay176_spec hr_55 hr_68 hr_69 hr_70 hr_71
  have hr_74 : R2 (kernelRun0_A.sl.r_74 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4) _ := pay206_spec D pay72_spec hr_9 pay176_spec hr_55 hr_68 hr_69 hr_70 hr_71
  have sg21 : R3 (φ := .f32) (arg12.view.read (Elt Ideal) (arg12.view.writes (Elt Ideal) arg12.view.junk (kernelRun0_A.sl.HS2_6 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4))) _ := store_head1 D.gs_stops sg20 (r0 := 512) (m1' := t + 768) inb_S2x1024x128_S1x512x128_1_512_0 (pay213_spec D hr_72 hr_73 hr_74)
    (by omega) (by omega) (by omega) (by omega)
  have hdk2 := load2 sk1 (off6_2 i ht) (k0_off6_inb i 2)
  have hdv2 := load2 sv1 (off6_2 i ht) (k0_off6_inb i 2)
  have hr_65 : R2 (kernelRun0_A.sl.r_65 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4) _ := pay193_spec D pay71_spec pay72_spec hr_4 hr_8 pay176_spec hr_55 pay179_spec hr_56 hr_57 hr_58 hv445 hv447
  have hr_75 : R2 (kernelRun0_A.sl.r_75 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4) _ := pay209_spec D pay72_spec hr_5 hr_9 pay176_spec hr_55 hr_65 hr_68 hr_69 hr_70 hr_71 hv522
  have hr_62 : R2 (kernelRun0_A.sl.r_62 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4) _ := pay188_spec D pay71_spec hr_8 pay176_spec hr_57 hr_58 hv445
  have hr_66 : R2 (kernelRun0_A.sl.r_66 (F := Ideal) c arg6 harg6 x4) _ := pay194_spec D hr_6
  have hr_67 : R2 (kernelRun0_A.sl.r_67 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4) _ := pay195_spec D pay180_spec hr_62 hr_66
  have hr_76 : R2 (kernelRun0_A.sl.r_76 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4) _ := pay210_spec D hr_7 hr_9 pay176_spec hr_67 hr_69 hr_70 hr_71
  have sk2 : R2 (φ := .f32) (arg13.view.read (Elt Ideal) (arg13.view.writes (Elt Ideal) arg13.view.junk (kernelRun0_A.sl.HS3_3 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4))) _ := store2 (n' := t + 768) sk1 (off6_2 i ht) (k0_off6_inb i 2)
    (D.dkN_rows (d := 512) (n := 512) (by omega) (pay214_spec D hr_75 hdk2)) (by omega)
  have sv2 : R2 (φ := .f32) (arg14.view.read (Elt Ideal) (arg14.view.writes (Elt Ideal) arg14.view.junk (kernelRun0_A.sl.HS4_3 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4))) _ := store2 (n' := t + 768) sv1 (off6_2 i ht) (k0_off6_inb i 2)
    (D.dvN_rows (d := 512) (n := 512) (by omega) (pay215_spec D hr_76 hdv2)) (by omega)
  have hK3 := loadRows (hw3 hx1) (off5_3 i ht) (k0_off5_inb i 3)
  have hV3 := loadRows (hw4 hx2) (off5_3 i ht) (k0_off5_inb i 3)
  have hr_78 : R2 (kernelRun0_A.sl.r_78 (F := Ideal) i arg3 harg3 x1) _ := pay217_spec D hK3
  have hr_79 : R2 (kernelRun0_A.sl.r_79 (F := Ideal) i arg4 harg4 x2) _ := pay218_spec D hV3
  have hr_80 : R2 (kernelRun0_A.sl.r_80 (F := Ideal) c arg2 harg2 x0) _ := pay221_spec D hr
  have hv624 : R3 (φ := .f32) (kernelRun0_A.sl.v624 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4) _ := loadSt sp21 inb_S2x1024x128_S1x256x128_0_768_0 rfl
  have hv626 : R3 (φ := .f32) (kernelRun0_A.sl.v626 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4) _ := loadSt sg21 inb_S2x1024x128_S1x256x128_0_768_0 rfl
  have hr_87 : R2 (kernelRun0_A.sl.r_87 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4) _ := pay230_spec D pay71_spec pay72_spec hr_2 hr_8 pay216_spec hr_78 hr_79 hr_80 hv624 hv626
  have hv651 : R3 (φ := .f32) (kernelRun0_A.sl.v651 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4) _ := loadSt sq21 inb_S2x1024x128_S1x256x128_0_768_0 rfl
  have sq30 : R3 (φ := .f32) (arg10.view.read (Elt Ideal) (arg10.view.writes (Elt Ideal) arg10.view.junk (kernelRun0_A.sl.HS0_7 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4))) _ := store_head0 D.dqa_stops sq21 (r0 := 768) (m0' := t + 1024) inb_S2x1024x128_S1x256x128_0_768_0 (pay231_spec D hr_78 hr_87 hv651)
    (by omega) (by omega) (by omega) (by omega)
  have hr_81 : R2 (kernelRun0_A.sl.r_81 (F := Ideal) c i arg2 harg2 arg3 harg3 x0 x1) _ := pay224_spec D pay71_spec pay216_spec hr_78 hr_80
  have hr_82 : R2 (kernelRun0_A.sl.r_82 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4) _ := pay225_spec D hv624
  have sp30 : R3 (φ := .f32) (arg11.view.read (Elt Ideal) (arg11.view.writes (Elt Ideal) arg11.view.junk (kernelRun0_A.sl.HS1_7 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4))) _ := store_head0 D.pre_stops sp21 (r0 := 768) (m0' := t + 1024) inb_S2x1024x128_S1x256x128_0_768_0 (pay234_spec D hr_81 hr_82)
    (by omega) (by omega) (by omega) (by omega)
  have hr_83 : R2 (kernelRun0_A.sl.r_83 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4) _ := pay226_spec D hv626
  have hr_85 : R2 (kernelRun0_A.sl.r_85 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4) _ := pay228_spec D pay71_spec hr_2 hr_8 pay216_spec hr_78 hr_79 hr_80 hv624
  have hr_86 : R2 (kernelRun0_A.sl.r_86 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4) _ := pay229_spec D pay71_spec pay72_spec hr_2 hr_8 pay216_spec hr_78 hr_79 hr_80 hv624
  have sg30 : R3 (φ := .f32) (arg12.view.read (Elt Ideal) (arg12.view.writes (Elt Ideal) arg12.view.junk (kernelRun0_A.sl.HS2_7 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4))) _ := store_head0 D.gs_stops sg21 (r0 := 768) (m0' := t + 1024) inb_S2x1024x128_S1x256x128_0_768_0 (pay235_spec D hr_83 hr_85 hr_86)
    (by omega) (by omega) (by omega) (by omega)
  have hr_90 : R2 (kernelRun0_A.sl.r_90 (F := Ideal) c arg6 harg6 x4) _ := pay236_spec D hr_3
  have hr_91 : R2 (kernelRun0_A.sl.r_91 (F := Ideal) c i arg2 harg2 arg3 harg3 x0 x1) _ := pay237_spec D hr_1 hr_78
  have hr_92 : R2 (kernelRun0_A.sl.r_92 (F := Ideal) c i arg2 harg2 arg3 harg3 x0 x1) _ := pay238_spec D hr_1 hr_78
  have hv699 : R3 (φ := .f32) (kernelRun0_A.sl.v699 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4) _ := loadSt sp30 inb_S2x1024x128_S1x256x128_1_768_0 rfl
  have hv701 : R3 (φ := .f32) (kernelRun0_A.sl.v701 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4) _ := loadSt sg30 inb_S2x1024x128_S1x256x128_1_768_0 rfl
  have hv726 : R3 (φ := .f32) (kernelRun0_A.sl.v726 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4) _ := loadSt sq30 inb_S2x1024x128_S1x256x128_1_768_0 rfl
  have hr_100 : R2 (kernelRun0_A.sl.r_100 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4) _ := pay246_spec D pay71_spec pay72_spec hr_9 pay216_spec hr_78 hr_79 hr_90 hr_91 hr_92 hv699 hv701 hv726
  have sq31 : R3 (φ := .f32) (arg10.view.read (Elt Ideal) (arg10.view.writes (Elt Ideal) arg10.view.junk (kernelRun0_A.sl.HS0_8 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4))) _ := store_head1 D.dqa_stops sq30 (r0 := 768) (m1' := t + 1024) inb_S2x1024x128_S1x256x128_1_768_0 (pay247_spec D hr_100)
    (by omega) (by omega) (by omega) (by omega)
  have hdk3 := load2 sk2 (off6_3 i ht) (k0_off6_inb i 3)
  have hdv3 := load2 sv2 (off6_3 i ht) (k0_off6_inb i 3)
  have hr_88 : R2 (kernelRun0_A.sl.r_88 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4) _ := pay232_spec D hr_4 pay219_spec hr_87
  have hr_99 : R2 (kernelRun0_A.sl.r_99 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4) _ := pay245_spec D pay71_spec pay72_spec hr_9 pay216_spec hr_79 hr_90 hr_91 hr_92 hv699 hv701
  have hr_84 : R2 (kernelRun0_A.sl.r_84 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4) _ := pay227_spec D pay71_spec hr_8 pay216_spec hr_78 hr_80 hv624
  have hr_89 : R2 (kernelRun0_A.sl.r_89 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4) _ := pay233_spec D hr_6 pay220_spec hr_84
  have hr_96 : R2 (kernelRun0_A.sl.r_96 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4) _ := pay242_spec D pay71_spec hr_9 pay216_spec hr_91 hr_92 hv699
  have sk3 := store2 (n' := t + 1024) sk2 (off6_3 i ht) (k0_off6_inb i 3)
    (D.dkN_rows (d := 768) (n := 256) (by omega) (pay250_spec D hr_5 hr_88 hr_99 hdk3)) (by omega)
  have sv3 := store2 (n' := t + 1024) sv2 (off6_3 i ht) (k0_off6_inb i 3)
    (D.dvN_rows (d := 768) (n := 256) (by omega) (pay251_spec D hr_7 hr_89 hr_96 hdv3)) (by omega)
  have h770 : R3 (φ := .f32) (kernelRun0_A.sl.v770 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4) _ := loadSt sq31 inb_S2x1024x128_S1x1024x128_0_0_0 rfl
  have h772 : R3 (φ := .f32) (kernelRun0_A.sl.v772 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4) _ := loadSt sq31 inb_S2x1024x128_S1x1024x128_1_0_0 rfl
  refine ⟨fun i => (storeAll inb_S1024x128_S1024x128_0_0 _ i).trans ((pay1_spec h770 h772) i), ?_, ?_⟩
  · exact fun j => (congrFun (View.read_writes_of_cover _ _ arg13.view arg13.view.junk _ (scover0_A_3 (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4)) j).trans (sk3 j)
  · exact fun j => (congrFun (View.read_writes_of_cover _ _ arg14.view arg14.view.junk _ (scover0_A_4 (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4)) j).trans (sv3 j)

end Cert.Proof
-- ==== Proof.PointB.lean ====
/- What one grid point leaves at a tile neither first nor last: the query's derivative of the tile, and the accumulators of the keys' and
   values' derivatives after the tile's rows. -/
module

public import proofs.«01_k».proof.Proof.Point
public import proofs.«01_k».proof.Proof.Gen.KernelIdeal.Frame

@[expose] public section

noncomputable section

namespace Cert.Proof

open Idealize.ShloMosaic Idealize.SL Idealize.SL.Sem Cert.KernelIdeal Cert.KernelIdeal.Gen

set_option maxHeartbeats 1000000 in
theorem pointB {D : Data} {t : ℕ} {f g : ℕ → ℕ → ℝ}
    (c : Dev nD) (i : grid0.Coords) (arg2 : Memref sig .tc .vmem S1024x128 .f32) (harg2 : arg2.IsWhole)
    (arg3 : Memref sig .tc .vmem S4096x128 .f32) (harg3 : arg3.IsWhole) (arg4 : Memref sig .tc .vmem S4096x128 .f32)
    (harg4 : arg4.IsWhole) (arg5 : Memref sig .tc .vmem S1024x128 .f32) (harg5 : arg5.IsWhole)
    (arg6 : Memref sig .tc .vmem S1024x128 .f32) (harg6 : arg6.IsWhole) (arg7 : Memref sig .tc .vmem S1024x128 .bf16)
    (harg7 : arg7.IsWhole) (arg8 : Memref sig .tc .vmem S4096x128 .bf16) (harg8 : arg8.IsWhole)
    (arg9 : Memref sig .tc .vmem S4096x128 .bf16) (harg9 : arg9.IsWhole)
    (arg10 : Memref sig .tc .vmem S2x1024x128 .f32) (harg10 : arg10.IsWhole)
    (arg11 : Memref sig .tc .vmem S2x1024x128 .f32) (harg11 : arg11.IsWhole)
    (arg12 : Memref sig .tc .vmem S2x1024x128 .f32) (harg12 : arg12.IsWhole)
    (arg13 : Memref sig .tc .vmem S128x4096 .f32) (harg13 : arg13.IsWhole)
    (arg14 : Memref sig .tc .vmem S128x4096 .f32) (harg14 : arg14.IsWhole) (hc0 : ¬cond0_0 i) (hc1 : ¬cond0_1 i)
    (x0 : FVec Ideal S1024x128 .f32) (x1 : FVec Ideal S4096x128 .f32) (x2 : FVec Ideal S4096x128 .f32)
    (x3 : FVec Ideal S1024x128 .f32) (x4 : FVec Ideal S1024x128 .f32) (xs3 : FVec Ideal S128x4096 .f32)
    (xs4 : FVec Ideal S128x4096 .f32)
    (ht : t = 1024 * (i 1).val) (hx0 : R2 x0 (fun r l => D.Q (t + r) l)) (hx1 : R2 x1 D.K) (hx2 : R2 x2 D.V)
    (hx3 : R2 x3 (fun r l => D.T (l / 64) (t + r))) (hx4 : R2 x4 (fun r l => D.DY (t + r) l))
    (hs3 : R2 xs3 f) (hs4 : R2 xs4 g) :
    R2 (φ := .bf16) (out0_B_5 (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs3 xs4) (D.dqOut t)
    ∧ R2 (φ := .f32) (sout0_B_3 (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs3 xs4) (upTo (t + 1024) (D.dkN t f) f)
    ∧ R2 (φ := .f32) (sout0_B_4 (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs3 xs4) (upTo (t + 1024) (D.dvN t g) g) := by
  have hw3 : ∀ {f : ℕ → ℕ → ℝ}, R2 x1 f → R2 (φ := .f32) (arg3.view.read (Elt Ideal) (harg3.unread x1)) f := fun h => by
    rw [harg3.read_unread]; exact h
  have hw4 : ∀ {f : ℕ → ℕ → ℝ}, R2 x2 f → R2 (φ := .f32) (arg4.view.read (Elt Ideal) (harg4.unread x2)) f := fun h => by
    rw [harg4.read_unread]; exact h
  have hQ := loadAll (v := arg2.view) (c := harg2.unread x0) (by rw [harg2.read_unread]; exact hx0) inb_S1024x128_S1024x128_0_0
  have hT := loadAll (v := arg5.view) (c := harg5.unread x3) (by rw [harg5.read_unread]; exact hx3) inb_S1024x128_S1024x128_0_0
  have hDY := loadAll (v := arg6.view) (c := harg6.unread x4) (by rw [harg6.read_unread]; exact hx4) inb_S1024x128_S1024x128_0_0
  have hr : R2 (kernelRun0_B.sl.r (F := Ideal) c arg2 harg2 x0) _ := pay74_spec D hQ
  have hr_1 : R2 (kernelRun0_B.sl.r_1 (F := Ideal) c arg2 harg2 x0) _ := pay75_spec D hQ
  have hr_2 : R2 (kernelRun0_B.sl.r_2 (F := Ideal) c arg6 harg6 x4) _ := pay76_spec D hDY
  have hr_3 : R2 (kernelRun0_B.sl.r_3 (F := Ideal) c arg6 harg6 x4) _ := pay77_spec D hDY
  have hr_4 : R2 (kernelRun0_B.sl.r_4 (F := Ideal) c arg2 harg2 x0) _ := pay78_spec D hQ
  have hr_5 : R2 (kernelRun0_B.sl.r_5 (F := Ideal) c arg2 harg2 x0) _ := pay79_spec D hQ
  have hr_6 : R2 (kernelRun0_B.sl.r_6 (F := Ideal) c arg6 harg6 x4) _ := pay80_spec D hDY
  have hr_7 : R2 (kernelRun0_B.sl.r_7 (F := Ideal) c arg6 harg6 x4) _ := pay81_spec D hDY
  have hr_8 : R2 (kernelRun0_B.sl.r_8 (F := Ideal) c arg5 harg5 x3) _ := pay84_spec D hT
  have hr_9 : R2 (kernelRun0_B.sl.r_9 (F := Ideal) c arg5 harg5 x3) _ := pay85_spec D hT
  have b : Base D t _ _ _ _ _ _ _ _ _ _ _ _ := ⟨pay71_spec, pay72_spec, hr, hr_1, hr_2, hr_3, hr_4, hr_5, hr_6, hr_7, hr_8, hr_9⟩
  have hA := loops_from_contents (𝒱 := Variants.none) (c := c) (bd := none) (i := i) (harg2 := harg2) (harg3 := harg3) (harg4 := harg4)
    (harg5 := harg5) (harg6 := harg6) (harg7 := harg7) (harg8 := harg8) (harg9 := harg9) (harg10 := harg10)
    (harg11 := harg11) (harg12 := harg12) (harg13 := harg13) (harg14 := harg14) (arg1 := BitVec.ofNat 32 (i 1).val)
    (f := f) (g := g) b (hw3 hx1) (hw4 hx2) ht (kernelRun0_B.sl.v63 i) arg10.view.junk arg11.view.junk arg12.view.junk
    (harg13.unread xs3) (harg14.unread xs4) kernelRun0_B.sl.HS0_1 kernelRun0_B.sl.HS1_1 kernelRun0_B.sl.HS2_1
    ⟨fun j => (storeAll3 inb_S2x1024x128_S2x1024x128_0_0_0 (start_zero D.dqaA (by simp [Data.dqa]) pay86_spec)) j,
     fun j => (storeAll3 inb_S2x1024x128_S2x1024x128_0_0_0 (start_zero D.preA (by simp [Data.pre]) pay87_spec)) j,
     fun j => (storeAll3 inb_S2x1024x128_S2x1024x128_0_0_0 (start_zero D.gsA (by simp [Data.gs]) pay88_spec)) j,
     (by rw [upTo_zero, harg13.read_unread]; exact hs3),
     (by rw [upTo_zero, harg14.read_unread]; exact hs4)⟩
  have hK0 := loadRows (hw3 hx1) (off5_0 i ht) (k0_off5_inb i 0)
  have hV0 := loadRows (hw4 hx2) (off5_0 i ht) (k0_off5_inb i 0)
  have hr_10 : R2 (φ := .f32) (kernelRun0_B.sl.r_10 (F := Ideal) i arg3 harg3 x1) _ := hK0
  have hr_11 : R2 (kernelRun0_B.sl.r_11 (F := Ideal) i arg3 harg3 x1) _ := pay100_spec D hr_10
  have hv95 : R3 (φ := .f32) (kernelRun0_B.sl.v95 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4) _ := loadSt hA.pre inb_S2x1024x128_S1x1024x128_0_0_0 rfl
  have hr_17 : R2 (kernelRun0_B.sl.r_17 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4) _ := pay110_spec D pay71_spec hr hr_2 hr_8 pay99_spec hr_10 hV0 hv95
  have hr_19 : R2 (kernelRun0_B.sl.r_19 (F := Ideal) c i arg2 harg2 arg3 harg3 x0 x1) _ := pay112_spec D hr hr_10
  have hv97 : R3 (φ := .f32) (kernelRun0_B.sl.v97 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4) _ := loadSt hA.gs inb_S2x1024x128_S1x1024x128_0_0_0 rfl
  have hr_20 : R2 (kernelRun0_B.sl.r_20 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4) _ := pay113_spec D pay71_spec pay72_spec hr hr_2 hr_8 pay99_spec hr_10 hV0 hv95 hv97
  have hv121 : R3 (φ := .f32) (kernelRun0_B.sl.v121 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4) _ := loadSt hA.dq inb_S2x1024x128_S1x1024x128_0_0_0 rfl
  have sq00 : R3 (φ := .f32) (arg10.view.read (Elt Ideal) (arg10.view.writes (Elt Ideal) arg10.view.junk (kernelRun0_B.sl.HS0_1_1 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4))) _ := store_head0 D.dqa_stops hA.dq (r0 := 0) (m0' := t + 256) inb_S2x1024x128_S1x1024x128_0_0_0 (pay115_spec D pay99_spec hr_11 hr_17 hr_19 hr_20 hv121)
    (by omega) (by omega) (by omega) (by omega)
  have hr_13 : R2 (kernelRun0_B.sl.r_13 (F := Ideal) c i arg2 harg2 arg3 harg3 x0 x1) _ := pay106_spec D pay71_spec hr pay99_spec hr_10
  have hr_14 : R2 (kernelRun0_B.sl.r_14 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4) _ := pay107_spec D hv95
  have sp00 : R3 (φ := .f32) (arg11.view.read (Elt Ideal) (arg11.view.writes (Elt Ideal) arg11.view.junk (kernelRun0_B.sl.HS1_1_1 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4))) _ := store_head0 D.pre_stops hA.pre (r0 := 0) (m0' := t + 256) inb_S2x1024x128_S1x1024x128_0_0_0 (pay118_spec D hr_13 hr_14)
    (by omega) (by omega) (by omega) (by omega)
  have hr_15 : R2 (kernelRun0_B.sl.r_15 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4) _ := pay108_spec D hv97
  have hr_18 : R2 (kernelRun0_B.sl.r_18 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4) _ := pay111_spec D pay71_spec pay72_spec hr hr_2 hr_8 pay99_spec hr_10 hV0 hv95
  have sg00 : R3 (φ := .f32) (arg12.view.read (Elt Ideal) (arg12.view.writes (Elt Ideal) arg12.view.junk (kernelRun0_B.sl.HS2_1_1 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4))) _ := store_head0 D.gs_stops hA.gs (r0 := 0) (m0' := t + 256) inb_S2x1024x128_S1x1024x128_0_0_0 (pay119_spec D hr_15 hr_17 hr_18)
    (by omega) (by omega) (by omega) (by omega)
  have hr_12 : R2 (kernelRun0_B.sl.r_12 (F := Ideal) i arg4 harg4 x2) _ := pay101_spec D hV0
  have hr_23 : R2 (kernelRun0_B.sl.r_23 (F := Ideal) c i arg2 harg2 arg3 harg3 x0 x1) _ := pay120_spec D hr_1 hr_11
  have hr_24 : R2 (kernelRun0_B.sl.r_24 (F := Ideal) c i arg2 harg2 arg3 harg3 x0 x1) _ := pay121_spec D hr_1 hr_11
  have hv165 : R3 (φ := .f32) (kernelRun0_B.sl.v165 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4) _ := loadSt sp00 inb_S2x1024x128_S1x1024x128_1_0_0 rfl
  have hv167 : R3 (φ := .f32) (kernelRun0_B.sl.v167 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4) _ := loadSt sg00 inb_S2x1024x128_S1x1024x128_1_0_0 rfl
  have hv191 : R3 (φ := .f32) (kernelRun0_B.sl.v191 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4) _ := loadSt sq00 inb_S2x1024x128_S1x1024x128_1_0_0 rfl
  have hr_32 : R2 (kernelRun0_B.sl.r_32 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4) _ := pay130_spec D pay71_spec pay72_spec hr_3 hr_9 pay99_spec hr_11 hr_12 hr_23 hr_24 bits_one hv165 hv167 hv191
  have sq01 : R3 (φ := .f32) (arg10.view.read (Elt Ideal) (arg10.view.writes (Elt Ideal) arg10.view.junk (kernelRun0_B.sl.HS0_2 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4))) _ := store_head1 D.dqa_stops sq00 (r0 := 0) (m1' := t + 256) inb_S2x1024x128_S1x1024x128_1_0_0 (pay131_spec D hr_32)
    (by omega) (by omega) (by omega) (by omega)
  have hr_25 : R2 (kernelRun0_B.sl.r_25 (F := Ideal) c i arg2 harg2 arg3 harg3 x0 x1) _ := pay123_spec D pay71_spec pay99_spec hr_23 hr_24 bits_one
  have hr_26 : R2 (kernelRun0_B.sl.r_26 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4) _ := pay124_spec D hv165
  have sp01 : R3 (φ := .f32) (arg11.view.read (Elt Ideal) (arg11.view.writes (Elt Ideal) arg11.view.junk (kernelRun0_B.sl.HS1_2 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4))) _ := store_head1 D.pre_stops sp00 (r0 := 0) (m1' := t + 256) inb_S2x1024x128_S1x1024x128_1_0_0 (pay132_spec D hr_25 hr_26)
    (by omega) (by omega) (by omega) (by omega)
  have hr_27 : R2 (kernelRun0_B.sl.r_27 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4) _ := pay125_spec D hv167
  have hr_29 : R2 (kernelRun0_B.sl.r_29 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4) _ := pay127_spec D pay71_spec hr_3 hr_9 pay99_spec hr_12 hr_23 hr_24 bits_one hv165
  have hr_30 : R2 (kernelRun0_B.sl.r_30 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4) _ := pay128_spec D pay71_spec pay72_spec hr_3 hr_9 pay99_spec hr_12 hr_23 hr_24 bits_one hv165
  have sg01 : R3 (φ := .f32) (arg12.view.read (Elt Ideal) (arg12.view.writes (Elt Ideal) arg12.view.junk (kernelRun0_B.sl.HS2_2 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4))) _ := store_head1 D.gs_stops sg00 (r0 := 0) (m1' := t + 256) inb_S2x1024x128_S1x1024x128_1_0_0 (pay133_spec D hr_27 hr_29 hr_30)
    (by omega) (by omega) (by omega) (by omega)
  have hdk0 := load2 hA.dk (off6_0 i ht) (k0_off6_inb i 0)
  have hdv0 := load2 hA.dv (off6_0 i ht) (k0_off6_inb i 0)
  have hr_21 : R2 (kernelRun0_B.sl.r_21 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4) _ := pay116_spec D hr_4 pay99_spec pay102_spec hr_17 hr_19 hr_20
  have hr_31 : R2 (kernelRun0_B.sl.r_31 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4) _ := pay129_spec D pay71_spec pay72_spec hr_3 hr_9 pay99_spec hr_12 hr_23 hr_24 bits_one hv165 hv167
  have hv220 : R2 (φ := .f32) (kernelRun0_B.sl.v220 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4) _ := hdk0
  have hr_16 : R2 (kernelRun0_B.sl.r_16 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4) _ := pay109_spec D pay71_spec hr hr_8 pay99_spec hr_10 hv95
  have hr_22 : R2 (kernelRun0_B.sl.r_22 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4) _ := pay117_spec D hr_6 pay103_spec hr_16
  have hr_28 : R2 (kernelRun0_B.sl.r_28 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4) _ := pay126_spec D pay71_spec hr_9 pay99_spec hr_23 hr_24 bits_one hv165
  have hv227 : R2 (φ := .f32) (kernelRun0_B.sl.v227 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4) _ := hdv0
  have sk0 : R2 (φ := .f32) (arg13.view.read (Elt Ideal) (arg13.view.writes (Elt Ideal) (harg13.unread xs3) (kernelRun0_B.sl.HS3_1 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4))) _ := store2 (n' := t + 256) hA.dk (off6_0 i ht) (k0_off6_inb i 0)
    (D.dkN_rows (d := 0) (n := 1024) (by omega) (pay134_spec D hr_5 hr_21 hr_31 hv220)) (by omega)
  have sv0 : R2 (φ := .f32) (arg14.view.read (Elt Ideal) (arg14.view.writes (Elt Ideal) (harg14.unread xs4) (kernelRun0_B.sl.HS4_1 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4))) _ := store2 (n' := t + 256) hA.dv (off6_0 i ht) (k0_off6_inb i 0)
    (D.dvN_rows (d := 0) (n := 1024) (by omega) (pay135_spec D hr_7 hr_22 hr_28 hv227)) (by omega)
  have hK1 := loadRows (hw3 hx1) (off5_1 i ht) (k0_off5_inb i 1)
  have hV1 := loadRows (hw4 hx2) (off5_1 i ht) (k0_off5_inb i 1)
  have hr_33 : R2 (kernelRun0_B.sl.r_33 (F := Ideal) i arg3 harg3 x1) _ := pay137_spec D hK1
  have hr_34 : R2 (kernelRun0_B.sl.r_34 (F := Ideal) i arg4 harg4 x2) _ := pay138_spec D hV1
  have hr_35 : R2 (kernelRun0_B.sl.r_35 (F := Ideal) c arg6 harg6 x4) _ := pay141_spec D hr_2
  have hr_36 : R2 (kernelRun0_B.sl.r_36 (F := Ideal) c i arg2 harg2 arg3 harg3 x0 x1) _ := pay143_spec D hr hK1
  have hv268 : R3 (φ := .f32) (kernelRun0_B.sl.v268 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4) _ := loadSt sg01 inb_S2x1024x128_S1x768x128_0_256_0 rfl
  have hr_39 : R2 (kernelRun0_B.sl.r_39 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4) _ := pay146_spec D hv268
  have hv266 : R3 (φ := .f32) (kernelRun0_B.sl.v266 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4) _ := loadSt sp01 inb_S2x1024x128_S1x768x128_0_256_0 rfl
  have hr_40 : R2 (kernelRun0_B.sl.r_40 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4) _ := pay147_spec D pay71_spec hr hr_8 hK1 hv266
  have hv293 : R3 (φ := .f32) (kernelRun0_B.sl.v293 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4) _ := loadSt sq01 inb_S2x1024x128_S1x768x128_0_256_0 rfl
  have sq10 : R3 (φ := .f32) (arg10.view.read (Elt Ideal) (arg10.view.writes (Elt Ideal) arg10.view.junk (kernelRun0_B.sl.HS0_3 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4))) _ := store_head0 D.dqa_stops sq01 (r0 := 256) (m0' := t + 512) inb_S2x1024x128_S1x768x128_0_256_0 (pay153_spec D pay72_spec pay136_spec hr_33 hr_34 hr_35 hr_36 hr_39 hr_40 pay148_spec hv293)
    (by omega) (by omega) (by omega) (by omega)
  have hr_37 : R2 (kernelRun0_B.sl.r_37 (F := Ideal) c i arg2 harg2 arg3 harg3 x0 x1) _ := pay144_spec D pay71_spec hr hK1
  have hr_38 : R2 (kernelRun0_B.sl.r_38 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4) _ := pay145_spec D hv266
  have sp10 : R3 (φ := .f32) (arg11.view.read (Elt Ideal) (arg11.view.writes (Elt Ideal) arg11.view.junk (kernelRun0_B.sl.HS1_3 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4))) _ := store_head0 D.pre_stops sp01 (r0 := 256) (m0' := t + 512) inb_S2x1024x128_S1x768x128_0_256_0 (pay156_spec D hr_37 hr_38)
    (by omega) (by omega) (by omega) (by omega)
  have hr_43 : R2 (kernelRun0_B.sl.r_43 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4) _ := pay157_spec D pay72_spec pay136_spec hr_34 hr_35 hr_40 pay148_spec
  have sg10 : R3 (φ := .f32) (arg12.view.read (Elt Ideal) (arg12.view.writes (Elt Ideal) arg12.view.junk (kernelRun0_B.sl.HS2_3 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4))) _ := store_head0 D.gs_stops sg01 (r0 := 256) (m0' := t + 512) inb_S2x1024x128_S1x768x128_0_256_0 (pay158_spec D hr_39 hr_43)
    (by omega) (by omega) (by omega) (by omega)
  have hv343 : R3 (φ := .f32) (kernelRun0_B.sl.v343 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4) _ := loadSt sg10 inb_S2x1024x128_S1x768x128_1_256_0 rfl
  have hr_46 : R2 (kernelRun0_B.sl.r_46 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4) _ := pay163_spec D hv343
  have hv341 : R3 (φ := .f32) (kernelRun0_B.sl.v341 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4) _ := loadSt sp10 inb_S2x1024x128_S1x768x128_1_256_0 rfl
  have hr_48 : R2 (kernelRun0_B.sl.r_48 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4) _ := pay165_spec D pay71_spec hr_1 hr_3 hr_9 pay136_spec hr_33 hr_34 hv341
  have hr_49 : R2 (kernelRun0_B.sl.r_49 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4) _ := pay166_spec D pay71_spec pay72_spec hr_1 hr_3 hr_9 pay136_spec hr_33 hr_34 hv341
  have hr_50 : R2 (kernelRun0_B.sl.r_50 (F := Ideal) c i arg2 harg2 arg3 harg3 x0 x1) _ := pay167_spec D hr_1 hr_33
  have hv368 : R3 (φ := .f32) (kernelRun0_B.sl.v368 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4) _ := loadSt sq10 inb_S2x1024x128_S1x768x128_1_256_0 rfl
  have sq11 : R3 (φ := .f32) (arg10.view.read (Elt Ideal) (arg10.view.writes (Elt Ideal) arg10.view.junk (kernelRun0_B.sl.HS0_4 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4))) _ := store_head1 D.dqa_stops sq10 (r0 := 256) (m1' := t + 512) inb_S2x1024x128_S1x768x128_1_256_0 (pay169_spec D pay136_spec hr_33 hr_46 hr_48 hr_49 hr_50 hv368)
    (by omega) (by omega) (by omega) (by omega)
  have hr_44 : R2 (kernelRun0_B.sl.r_44 (F := Ideal) c i arg2 harg2 arg3 harg3 x0 x1) _ := pay161_spec D pay71_spec hr_1 pay136_spec hr_33
  have hr_45 : R2 (kernelRun0_B.sl.r_45 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4) _ := pay162_spec D hv341
  have sp11 : R3 (φ := .f32) (arg11.view.read (Elt Ideal) (arg11.view.writes (Elt Ideal) arg11.view.junk (kernelRun0_B.sl.HS1_4 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4))) _ := store_head1 D.pre_stops sp10 (r0 := 256) (m1' := t + 512) inb_S2x1024x128_S1x768x128_1_256_0 (pay172_spec D hr_44 hr_45)
    (by omega) (by omega) (by omega) (by omega)
  have sg11 : R3 (φ := .f32) (arg12.view.read (Elt Ideal) (arg12.view.writes (Elt Ideal) arg12.view.junk (kernelRun0_B.sl.HS2_4 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4))) _ := store_head1 D.gs_stops sg10 (r0 := 256) (m1' := t + 512) inb_S2x1024x128_S1x768x128_1_256_0 (pay173_spec D hr_46 hr_48 hr_49)
    (by omega) (by omega) (by omega) (by omega)
  have hdk1 := load2 sk0 (off6_1 i ht) (k0_off6_inb i 1)
  have hdv1 := load2 sv0 (off6_1 i ht) (k0_off6_inb i 1)
  have hr_41 : R2 (kernelRun0_B.sl.r_41 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4) _ := pay154_spec D pay72_spec hr_4 pay136_spec hr_34 pay139_spec hr_35 hr_36 hr_39 hr_40 pay148_spec
  have hr_51 : R2 (kernelRun0_B.sl.r_51 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4) _ := pay170_spec D hr_5 pay136_spec hr_41 hr_46 hr_48 hr_49 hr_50
  have hr_53 : R2 (φ := .f32) (kernelRun0_B.sl.r_53 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4) _ := hdk1
  have hr_42 : R2 (kernelRun0_B.sl.r_42 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4) _ := pay155_spec D hr_6 pay136_spec pay140_spec hr_40 pay148_spec
  have hr_47 : R2 (kernelRun0_B.sl.r_47 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4) _ := pay164_spec D pay71_spec hr_1 hr_9 pay136_spec hr_33 hv341
  have hr_52 : R2 (kernelRun0_B.sl.r_52 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4) _ := pay171_spec D hr_7 hr_42 hr_47
  have sk1 : R2 (φ := .f32) (arg13.view.read (Elt Ideal) (arg13.view.writes (Elt Ideal) (harg13.unread xs3) (kernelRun0_B.sl.HS3_2 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4))) _ := store2 (n' := t + 512) sk0 (off6_1 i ht) (k0_off6_inb i 1)
    (D.dkN_rows (d := 256) (n := 768) (by omega) (pay174_spec D hr_51 hr_53)) (by omega)
  have sv1 : R2 (φ := .f32) (arg14.view.read (Elt Ideal) (arg14.view.writes (Elt Ideal) (harg14.unread xs4) (kernelRun0_B.sl.HS4_2 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4))) _ := store2 (n' := t + 512) sv0 (off6_1 i ht) (k0_off6_inb i 1)
    (D.dvN_rows (d := 256) (n := 768) (by omega) (pay175_spec D hr_52 hdv1)) (by omega)
  have hK2 := loadRows (hw3 hx1) (off5_2 i ht) (k0_off5_inb i 2)
  have hV2 := loadRows (hw4 hx2) (off5_2 i ht) (k0_off5_inb i 2)
  have hr_54 : R2 (kernelRun0_B.sl.r_54 (F := Ideal) i arg3 harg3 x1) _ := pay177_spec D hK2
  have hr_55 : R2 (kernelRun0_B.sl.r_55 (F := Ideal) i arg4 harg4 x2) _ := pay178_spec D hV2
  have hr_56 : R2 (kernelRun0_B.sl.r_56 (F := Ideal) c arg6 harg6 x4) _ := pay181_spec D hr_2
  have hr_57 : R2 (kernelRun0_B.sl.r_57 (F := Ideal) c i arg2 harg2 arg3 harg3 x0 x1) _ := pay183_spec D hr hK2
  have hr_58 : R2 (kernelRun0_B.sl.r_58 (F := Ideal) c i arg2 harg2 arg3 harg3 x0 x1) _ := pay184_spec D hr hK2
  have hv445 : R3 (φ := .f32) (kernelRun0_B.sl.v445 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4) _ := loadSt sp11 inb_S2x1024x128_S1x512x128_0_512_0 rfl
  have hv447 : R3 (φ := .f32) (kernelRun0_B.sl.v447 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4) _ := loadSt sg11 inb_S2x1024x128_S1x512x128_0_512_0 rfl
  have hv472 : R3 (φ := .f32) (kernelRun0_B.sl.v472 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4) _ := loadSt sq11 inb_S2x1024x128_S1x512x128_0_512_0 rfl
  have sq20 : R3 (φ := .f32) (arg10.view.read (Elt Ideal) (arg10.view.writes (Elt Ideal) arg10.view.junk (kernelRun0_B.sl.HS0_5 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4))) _ := store_head0 D.dqa_stops sq11 (r0 := 512) (m0' := t + 768) inb_S2x1024x128_S1x512x128_0_512_0 (pay192_spec D pay71_spec pay72_spec hr_8 pay176_spec hr_54 hr_55 hr_56 hr_57 hr_58 hv445 hv447 hv472)
    (by omega) (by omega) (by omega) (by omega)
  have hr_59 : R2 (kernelRun0_B.sl.r_59 (F := Ideal) c i arg2 harg2 arg3 harg3 x0 x1) _ := pay185_spec D pay71_spec hr_58
  have hr_60 : R2 (kernelRun0_B.sl.r_60 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4) _ := pay186_spec D hv445
  have sp20 : R3 (φ := .f32) (arg11.view.read (Elt Ideal) (arg11.view.writes (Elt Ideal) arg11.view.junk (kernelRun0_B.sl.HS1_5 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4))) _ := store_head0 D.pre_stops sp11 (r0 := 512) (m0' := t + 768) inb_S2x1024x128_S1x512x128_0_512_0 (pay196_spec D hr_59 hr_60)
    (by omega) (by omega) (by omega) (by omega)
  have hr_61 : R2 (kernelRun0_B.sl.r_61 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4) _ := pay187_spec D hv447
  have hr_63 : R2 (kernelRun0_B.sl.r_63 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4) _ := pay189_spec D pay71_spec hr_8 pay176_spec hr_55 hr_56 hr_57 hr_58 hv445
  have hr_64 : R2 (kernelRun0_B.sl.r_64 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4) _ := pay190_spec D pay71_spec pay72_spec hr_8 pay176_spec hr_55 hr_56 hr_57 hr_58 hv445
  have sg20 : R3 (φ := .f32) (arg12.view.read (Elt Ideal) (arg12.view.writes (Elt Ideal) arg12.view.junk (kernelRun0_B.sl.HS2_5 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4))) _ := store_head0 D.gs_stops sg11 (r0 := 512) (m0' := t + 768) inb_S2x1024x128_S1x512x128_0_512_0 (pay197_spec D hr_61 hr_63 hr_64)
    (by omega) (by omega) (by omega) (by omega)
  have hr_68 : R2 (kernelRun0_B.sl.r_68 (F := Ideal) c arg6 harg6 x4) _ := pay198_spec D hr_3
  have hr_69 : R2 (kernelRun0_B.sl.r_69 (F := Ideal) c i arg2 harg2 arg3 harg3 x0 x1) _ := pay200_spec D hr_1 hr_54
  have hr_70 : R2 (kernelRun0_B.sl.r_70 (F := Ideal) c i arg2 harg2 arg3 harg3 x0 x1) _ := pay201_spec D pay71_spec hr_1 pay176_spec hr_54
  have hv520 : R3 (φ := .f32) (kernelRun0_B.sl.v520 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4) _ := loadSt sp20 inb_S2x1024x128_S1x512x128_1_512_0 rfl
  have hr_71 : R2 (kernelRun0_B.sl.r_71 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4) _ := pay202_spec D hv520
  have hv522 : R3 (φ := .f32) (kernelRun0_B.sl.v522 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4) _ := loadSt sg20 inb_S2x1024x128_S1x512x128_1_512_0 rfl
  have hv547 : R3 (φ := .f32) (kernelRun0_B.sl.v547 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4) _ := loadSt sq20 inb_S2x1024x128_S1x512x128_1_512_0 rfl
  have sq21 : R3 (φ := .f32) (arg10.view.read (Elt Ideal) (arg10.view.writes (Elt Ideal) arg10.view.junk (kernelRun0_B.sl.HS0_6 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4))) _ := store_head1 D.dqa_stops sq20 (r0 := 512) (m1' := t + 768) inb_S2x1024x128_S1x512x128_1_512_0 (pay208_spec D pay72_spec hr_9 pay176_spec hr_54 hr_55 hr_68 hr_69 hr_70 hr_71 hv522 hv547)
    (by omega) (by omega) (by omega) (by omega)
  have hr_77 : R2 (kernelRun0_B.sl.r_77 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4) _ := pay211_spec D hr_70 hr_71
  have sp21 : R3 (φ := .f32) (arg11.view.read (Elt Ideal) (arg11.view.writes (Elt Ideal) arg11.view.junk (kernelRun0_B.sl.HS1_6 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4))) _ := store_head1 D.pre_stops sp20 (r0 := 512) (m1' := t + 768) inb_S2x1024x128_S1x512x128_1_512_0 (pay212_spec D hr_77)
    (by omega) (by omega) (by omega) (by omega)
  have hr_72 : R2 (kernelRun0_B.sl.r_72 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4) _ := pay203_spec D hv522
  have hr_73 : R2 (kernelRun0_B.sl.r_73 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4) _ := pay205_spec D hr_9 pay176_spec hr_55 hr_68 hr_69 hr_70 hr_71
  have hr_74 : R2 (kernelRun0_B.sl.r_74 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4) _ := pay206_spec D pay72_spec hr_9 pay176_spec hr_55 hr_68 hr_69 hr_70 hr_71
  have sg21 : R3 (φ := .f32) (arg12.view.read (Elt Ideal) (arg12.view.writes (Elt Ideal) arg12.view.junk (kernelRun0_B.sl.HS2_6 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4))) _ := store_head1 D.gs_stops sg20 (r0 := 512) (m1' := t + 768) inb_S2x1024x128_S1x512x128_1_512_0 (pay213_spec D hr_72 hr_73 hr_74)
    (by omega) (by omega) (by omega) (by omega)
  have hdk2 := load2 sk1 (off6_2 i ht) (k0_off6_inb i 2)
  have hdv2 := load2 sv1 (off6_2 i ht) (k0_off6_inb i 2)
  have hr_65 : R2 (kernelRun0_B.sl.r_65 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4) _ := pay193_spec D pay71_spec pay72_spec hr_4 hr_8 pay176_spec hr_55 pay179_spec hr_56 hr_57 hr_58 hv445 hv447
  have hr_75 : R2 (kernelRun0_B.sl.r_75 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4) _ := pay209_spec D pay72_spec hr_5 hr_9 pay176_spec hr_55 hr_65 hr_68 hr_69 hr_70 hr_71 hv522
  have hr_62 : R2 (kernelRun0_B.sl.r_62 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4) _ := pay188_spec D pay71_spec hr_8 pay176_spec hr_57 hr_58 hv445
  have hr_66 : R2 (kernelRun0_B.sl.r_66 (F := Ideal) c arg6 harg6 x4) _ := pay194_spec D hr_6
  have hr_67 : R2 (kernelRun0_B.sl.r_67 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4) _ := pay195_spec D pay180_spec hr_62 hr_66
  have hr_76 : R2 (kernelRun0_B.sl.r_76 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4) _ := pay210_spec D hr_7 hr_9 pay176_spec hr_67 hr_69 hr_70 hr_71
  have sk2 : R2 (φ := .f32) (arg13.view.read (Elt Ideal) (arg13.view.writes (Elt Ideal) (harg13.unread xs3) (kernelRun0_B.sl.HS3_3 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4))) _ := store2 (n' := t + 768) sk1 (off6_2 i ht) (k0_off6_inb i 2)
    (D.dkN_rows (d := 512) (n := 512) (by omega) (pay214_spec D hr_75 hdk2)) (by omega)
  have sv2 : R2 (φ := .f32) (arg14.view.read (Elt Ideal) (arg14.view.writes (Elt Ideal) (harg14.unread xs4) (kernelRun0_B.sl.HS4_3 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4))) _ := store2 (n' := t + 768) sv1 (off6_2 i ht) (k0_off6_inb i 2)
    (D.dvN_rows (d := 512) (n := 512) (by omega) (pay215_spec D hr_76 hdv2)) (by omega)
  have hK3 := loadRows (hw3 hx1) (off5_3 i ht) (k0_off5_inb i 3)
  have hV3 := loadRows (hw4 hx2) (off5_3 i ht) (k0_off5_inb i 3)
  have hr_78 : R2 (kernelRun0_B.sl.r_78 (F := Ideal) i arg3 harg3 x1) _ := pay217_spec D hK3
  have hr_79 : R2 (kernelRun0_B.sl.r_79 (F := Ideal) i arg4 harg4 x2) _ := pay218_spec D hV3
  have hr_80 : R2 (kernelRun0_B.sl.r_80 (F := Ideal) c arg2 harg2 x0) _ := pay221_spec D hr
  have hv624 : R3 (φ := .f32) (kernelRun0_B.sl.v624 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4) _ := loadSt sp21 inb_S2x1024x128_S1x256x128_0_768_0 rfl
  have hv626 : R3 (φ := .f32) (kernelRun0_B.sl.v626 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4) _ := loadSt sg21 inb_S2x1024x128_S1x256x128_0_768_0 rfl
  have hr_87 : R2 (kernelRun0_B.sl.r_87 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4) _ := pay230_spec D pay71_spec pay72_spec hr_2 hr_8 pay216_spec hr_78 hr_79 hr_80 hv624 hv626
  have hv651 : R3 (φ := .f32) (kernelRun0_B.sl.v651 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4) _ := loadSt sq21 inb_S2x1024x128_S1x256x128_0_768_0 rfl
  have sq30 : R3 (φ := .f32) (arg10.view.read (Elt Ideal) (arg10.view.writes (Elt Ideal) arg10.view.junk (kernelRun0_B.sl.HS0_7 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4))) _ := store_head0 D.dqa_stops sq21 (r0 := 768) (m0' := t + 1024) inb_S2x1024x128_S1x256x128_0_768_0 (pay231_spec D hr_78 hr_87 hv651)
    (by omega) (by omega) (by omega) (by omega)
  have hr_81 : R2 (kernelRun0_B.sl.r_81 (F := Ideal) c i arg2 harg2 arg3 harg3 x0 x1) _ := pay224_spec D pay71_spec pay216_spec hr_78 hr_80
  have hr_82 : R2 (kernelRun0_B.sl.r_82 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4) _ := pay225_spec D hv624
  have sp30 : R3 (φ := .f32) (arg11.view.read (Elt Ideal) (arg11.view.writes (Elt Ideal) arg11.view.junk (kernelRun0_B.sl.HS1_7 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4))) _ := store_head0 D.pre_stops sp21 (r0 := 768) (m0' := t + 1024) inb_S2x1024x128_S1x256x128_0_768_0 (pay234_spec D hr_81 hr_82)
    (by omega) (by omega) (by omega) (by omega)
  have hr_83 : R2 (kernelRun0_B.sl.r_83 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4) _ := pay226_spec D hv626
  have hr_85 : R2 (kernelRun0_B.sl.r_85 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4) _ := pay228_spec D pay71_spec hr_2 hr_8 pay216_spec hr_78 hr_79 hr_80 hv624
  have hr_86 : R2 (kernelRun0_B.sl.r_86 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4) _ := pay229_spec D pay71_spec pay72_spec hr_2 hr_8 pay216_spec hr_78 hr_79 hr_80 hv624
  have sg30 : R3 (φ := .f32) (arg12.view.read (Elt Ideal) (arg12.view.writes (Elt Ideal) arg12.view.junk (kernelRun0_B.sl.HS2_7 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4))) _ := store_head0 D.gs_stops sg21 (r0 := 768) (m0' := t + 1024) inb_S2x1024x128_S1x256x128_0_768_0 (pay235_spec D hr_83 hr_85 hr_86)
    (by omega) (by omega) (by omega) (by omega)
  have hr_90 : R2 (kernelRun0_B.sl.r_90 (F := Ideal) c arg6 harg6 x4) _ := pay236_spec D hr_3
  have hr_91 : R2 (kernelRun0_B.sl.r_91 (F := Ideal) c i arg2 harg2 arg3 harg3 x0 x1) _ := pay237_spec D hr_1 hr_78
  have hr_92 : R2 (kernelRun0_B.sl.r_92 (F := Ideal) c i arg2 harg2 arg3 harg3 x0 x1) _ := pay238_spec D hr_1 hr_78
  have hv699 : R3 (φ := .f32) (kernelRun0_B.sl.v699 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4) _ := loadSt sp30 inb_S2x1024x128_S1x256x128_1_768_0 rfl
  have hv701 : R3 (φ := .f32) (kernelRun0_B.sl.v701 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4) _ := loadSt sg30 inb_S2x1024x128_S1x256x128_1_768_0 rfl
  have hv726 : R3 (φ := .f32) (kernelRun0_B.sl.v726 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4) _ := loadSt sq30 inb_S2x1024x128_S1x256x128_1_768_0 rfl
  have hr_100 : R2 (kernelRun0_B.sl.r_100 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4) _ := pay246_spec D pay71_spec pay72_spec hr_9 pay216_spec hr_78 hr_79 hr_90 hr_91 hr_92 hv699 hv701 hv726
  have sq31 : R3 (φ := .f32) (arg10.view.read (Elt Ideal) (arg10.view.writes (Elt Ideal) arg10.view.junk (kernelRun0_B.sl.HS0_8 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4))) _ := store_head1 D.dqa_stops sq30 (r0 := 768) (m1' := t + 1024) inb_S2x1024x128_S1x256x128_1_768_0 (pay247_spec D hr_100)
    (by omega) (by omega) (by omega) (by omega)
  have hdk3 := load2 sk2 (off6_3 i ht) (k0_off6_inb i 3)
  have hdv3 := load2 sv2 (off6_3 i ht) (k0_off6_inb i 3)
  have hr_88 : R2 (kernelRun0_B.sl.r_88 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4) _ := pay232_spec D hr_4 pay219_spec hr_87
  have hr_99 : R2 (kernelRun0_B.sl.r_99 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4) _ := pay245_spec D pay71_spec pay72_spec hr_9 pay216_spec hr_79 hr_90 hr_91 hr_92 hv699 hv701
  have hr_84 : R2 (kernelRun0_B.sl.r_84 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4) _ := pay227_spec D pay71_spec hr_8 pay216_spec hr_78 hr_80 hv624
  have hr_89 : R2 (kernelRun0_B.sl.r_89 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4) _ := pay233_spec D hr_6 pay220_spec hr_84
  have hr_96 : R2 (kernelRun0_B.sl.r_96 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4) _ := pay242_spec D pay71_spec hr_9 pay216_spec hr_91 hr_92 hv699
  have sk3 := store2 (n' := t + 1024) sk2 (off6_3 i ht) (k0_off6_inb i 3)
    (D.dkN_rows (d := 768) (n := 256) (by omega) (pay250_spec D hr_5 hr_88 hr_99 hdk3)) (by omega)
  have sv3 := store2 (n' := t + 1024) sv2 (off6_3 i ht) (k0_off6_inb i 3)
    (D.dvN_rows (d := 768) (n := 256) (by omega) (pay251_spec D hr_7 hr_89 hr_96 hdv3)) (by omega)
  have h770 : R3 (φ := .f32) (kernelRun0_B.sl.v770 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4) _ := loadSt sq31 inb_S2x1024x128_S1x1024x128_0_0_0 rfl
  have h772 : R3 (φ := .f32) (kernelRun0_B.sl.v772 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4) _ := loadSt sq31 inb_S2x1024x128_S1x1024x128_1_0_0 rfl
  refine ⟨fun i => (storeAll inb_S1024x128_S1024x128_0_0 _ i).trans ((pay1_spec h770 h772) i), sk3, sv3⟩

end Cert.Proof
-- ==== Proof.PointC.lean ====
/- What one grid point leaves at the last tile of a pair of heads: the query's derivative of the tile, and the accumulators of the keys' and
   values' derivatives after the tile's rows. -/
module

public import proofs.«01_k».proof.Proof.Point
public import proofs.«01_k».proof.Proof.Gen.KernelIdeal.Frame

@[expose] public section

noncomputable section

namespace Cert.Proof

open Idealize.ShloMosaic Idealize.SL Idealize.SL.Sem Cert.KernelIdeal Cert.KernelIdeal.Gen

set_option maxHeartbeats 1000000 in
theorem pointC {D : Data} {t : ℕ} {f g : ℕ → ℕ → ℝ}
    (c : Dev nD) (i : grid0.Coords) (arg2 : Memref sig .tc .vmem S1024x128 .f32) (harg2 : arg2.IsWhole)
    (arg3 : Memref sig .tc .vmem S4096x128 .f32) (harg3 : arg3.IsWhole) (arg4 : Memref sig .tc .vmem S4096x128 .f32)
    (harg4 : arg4.IsWhole) (arg5 : Memref sig .tc .vmem S1024x128 .f32) (harg5 : arg5.IsWhole)
    (arg6 : Memref sig .tc .vmem S1024x128 .f32) (harg6 : arg6.IsWhole) (arg7 : Memref sig .tc .vmem S1024x128 .bf16)
    (harg7 : arg7.IsWhole) (arg8 : Memref sig .tc .vmem S4096x128 .bf16) (harg8 : arg8.IsWhole)
    (arg9 : Memref sig .tc .vmem S4096x128 .bf16) (harg9 : arg9.IsWhole)
    (arg10 : Memref sig .tc .vmem S2x1024x128 .f32) (harg10 : arg10.IsWhole)
    (arg11 : Memref sig .tc .vmem S2x1024x128 .f32) (harg11 : arg11.IsWhole)
    (arg12 : Memref sig .tc .vmem S2x1024x128 .f32) (harg12 : arg12.IsWhole)
    (arg13 : Memref sig .tc .vmem S128x4096 .f32) (harg13 : arg13.IsWhole)
    (arg14 : Memref sig .tc .vmem S128x4096 .f32) (harg14 : arg14.IsWhole) (hc0 : ¬cond0_0 i) (hc1 : cond0_1 i)
    (x0 : FVec Ideal S1024x128 .f32) (x1 : FVec Ideal S4096x128 .f32) (x2 : FVec Ideal S4096x128 .f32)
    (x3 : FVec Ideal S1024x128 .f32) (x4 : FVec Ideal S1024x128 .f32) (xs3 : FVec Ideal S128x4096 .f32)
    (xs4 : FVec Ideal S128x4096 .f32)
    (ht : t = 1024 * (i 1).val) (hx0 : R2 x0 (fun r l => D.Q (t + r) l)) (hx1 : R2 x1 D.K) (hx2 : R2 x2 D.V)
    (hx3 : R2 x3 (fun r l => D.T (l / 64) (t + r))) (hx4 : R2 x4 (fun r l => D.DY (t + r) l))
    (hs3 : R2 xs3 f) (hs4 : R2 xs4 g) :
    R2 (φ := .bf16) (out0_C_5 (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs3 xs4) (D.dqOut t)
    ∧ R2 (φ := .f32) (sout0_C_3 (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs3 xs4) (upTo (t + 1024) (D.dkN t f) f)
    ∧ R2 (φ := .f32) (sout0_C_4 (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs3 xs4) (upTo (t + 1024) (D.dvN t g) g)
    ∧ R2 (φ := .bf16) (out0_C_6 (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs3 xs4) (fun s l => upTo (t + 1024) (D.dkN t f) f l s)
    ∧ R2 (φ := .bf16) (out0_C_7 (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs3 xs4) (fun s l => upTo (t + 1024) (D.dvN t g) g l s) := by
  have hw3 : ∀ {f : ℕ → ℕ → ℝ}, R2 x1 f → R2 (φ := .f32) (arg3.view.read (Elt Ideal) (harg3.unread x1)) f := fun h => by
    rw [harg3.read_unread]; exact h
  have hw4 : ∀ {f : ℕ → ℕ → ℝ}, R2 x2 f → R2 (φ := .f32) (arg4.view.read (Elt Ideal) (harg4.unread x2)) f := fun h => by
    rw [harg4.read_unread]; exact h
  have hQ := loadAll (v := arg2.view) (c := harg2.unread x0) (by rw [harg2.read_unread]; exact hx0) inb_S1024x128_S1024x128_0_0
  have hT := loadAll (v := arg5.view) (c := harg5.unread x3) (by rw [harg5.read_unread]; exact hx3) inb_S1024x128_S1024x128_0_0
  have hDY := loadAll (v := arg6.view) (c := harg6.unread x4) (by rw [harg6.read_unread]; exact hx4) inb_S1024x128_S1024x128_0_0
  have hr : R2 (kernelRun0_C.sl.r (F := Ideal) c arg2 harg2 x0) _ := pay74_spec D hQ
  have hr_1 : R2 (kernelRun0_C.sl.r_1 (F := Ideal) c arg2 harg2 x0) _ := pay75_spec D hQ
  have hr_2 : R2 (kernelRun0_C.sl.r_2 (F := Ideal) c arg6 harg6 x4) _ := pay76_spec D hDY
  have hr_3 : R2 (kernelRun0_C.sl.r_3 (F := Ideal) c arg6 harg6 x4) _ := pay77_spec D hDY
  have hr_4 : R2 (kernelRun0_C.sl.r_4 (F := Ideal) c arg2 harg2 x0) _ := pay78_spec D hQ
  have hr_5 : R2 (kernelRun0_C.sl.r_5 (F := Ideal) c arg2 harg2 x0) _ := pay79_spec D hQ
  have hr_6 : R2 (kernelRun0_C.sl.r_6 (F := Ideal) c arg6 harg6 x4) _ := pay80_spec D hDY
  have hr_7 : R2 (kernelRun0_C.sl.r_7 (F := Ideal) c arg6 harg6 x4) _ := pay81_spec D hDY
  have hr_8 : R2 (kernelRun0_C.sl.r_8 (F := Ideal) c arg5 harg5 x3) _ := pay84_spec D hT
  have hr_9 : R2 (kernelRun0_C.sl.r_9 (F := Ideal) c arg5 harg5 x3) _ := pay85_spec D hT
  have b : Base D t _ _ _ _ _ _ _ _ _ _ _ _ := ⟨pay71_spec, pay72_spec, hr, hr_1, hr_2, hr_3, hr_4, hr_5, hr_6, hr_7, hr_8, hr_9⟩
  have hA := loops_from_contents (𝒱 := Variants.none) (c := c) (bd := none) (i := i) (harg2 := harg2) (harg3 := harg3) (harg4 := harg4)
    (harg5 := harg5) (harg6 := harg6) (harg7 := harg7) (harg8 := harg8) (harg9 := harg9) (harg10 := harg10)
    (harg11 := harg11) (harg12 := harg12) (harg13 := harg13) (harg14 := harg14) (arg1 := BitVec.ofNat 32 (i 1).val)
    (f := f) (g := g) b (hw3 hx1) (hw4 hx2) ht (kernelRun0_C.sl.v63 i) arg10.view.junk arg11.view.junk arg12.view.junk
    (harg13.unread xs3) (harg14.unread xs4) kernelRun0_C.sl.HS0_1 kernelRun0_C.sl.HS1_1 kernelRun0_C.sl.HS2_1
    ⟨fun j => (storeAll3 inb_S2x1024x128_S2x1024x128_0_0_0 (start_zero D.dqaA (by simp [Data.dqa]) pay86_spec)) j,
     fun j => (storeAll3 inb_S2x1024x128_S2x1024x128_0_0_0 (start_zero D.preA (by simp [Data.pre]) pay87_spec)) j,
     fun j => (storeAll3 inb_S2x1024x128_S2x1024x128_0_0_0 (start_zero D.gsA (by simp [Data.gs]) pay88_spec)) j,
     (by rw [upTo_zero, harg13.read_unread]; exact hs3),
     (by rw [upTo_zero, harg14.read_unread]; exact hs4)⟩
  have hK0 := loadRows (hw3 hx1) (off5_0 i ht) (k0_off5_inb i 0)
  have hV0 := loadRows (hw4 hx2) (off5_0 i ht) (k0_off5_inb i 0)
  have hr_10 : R2 (φ := .f32) (kernelRun0_C.sl.r_10 (F := Ideal) i arg3 harg3 x1) _ := hK0
  have hr_11 : R2 (kernelRun0_C.sl.r_11 (F := Ideal) i arg3 harg3 x1) _ := pay100_spec D hr_10
  have hv95 : R3 (φ := .f32) (kernelRun0_C.sl.v95 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4) _ := loadSt hA.pre inb_S2x1024x128_S1x1024x128_0_0_0 rfl
  have hr_17 : R2 (kernelRun0_C.sl.r_17 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4) _ := pay110_spec D pay71_spec hr hr_2 hr_8 pay99_spec hr_10 hV0 hv95
  have hr_19 : R2 (kernelRun0_C.sl.r_19 (F := Ideal) c i arg2 harg2 arg3 harg3 x0 x1) _ := pay112_spec D hr hr_10
  have hv97 : R3 (φ := .f32) (kernelRun0_C.sl.v97 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4) _ := loadSt hA.gs inb_S2x1024x128_S1x1024x128_0_0_0 rfl
  have hr_20 : R2 (kernelRun0_C.sl.r_20 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4) _ := pay113_spec D pay71_spec pay72_spec hr hr_2 hr_8 pay99_spec hr_10 hV0 hv95 hv97
  have hv121 : R3 (φ := .f32) (kernelRun0_C.sl.v121 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4) _ := loadSt hA.dq inb_S2x1024x128_S1x1024x128_0_0_0 rfl
  have sq00 : R3 (φ := .f32) (arg10.view.read (Elt Ideal) (arg10.view.writes (Elt Ideal) arg10.view.junk (kernelRun0_C.sl.HS0_1_1 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4))) _ := store_head0 D.dqa_stops hA.dq (r0 := 0) (m0' := t + 256) inb_S2x1024x128_S1x1024x128_0_0_0 (pay115_spec D pay99_spec hr_11 hr_17 hr_19 hr_20 hv121)
    (by omega) (by omega) (by omega) (by omega)
  have hr_13 : R2 (kernelRun0_C.sl.r_13 (F := Ideal) c i arg2 harg2 arg3 harg3 x0 x1) _ := pay106_spec D pay71_spec hr pay99_spec hr_10
  have hr_14 : R2 (kernelRun0_C.sl.r_14 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4) _ := pay107_spec D hv95
  have sp00 : R3 (φ := .f32) (arg11.view.read (Elt Ideal) (arg11.view.writes (Elt Ideal) arg11.view.junk (kernelRun0_C.sl.HS1_1_1 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4))) _ := store_head0 D.pre_stops hA.pre (r0 := 0) (m0' := t + 256) inb_S2x1024x128_S1x1024x128_0_0_0 (pay118_spec D hr_13 hr_14)
    (by omega) (by omega) (by omega) (by omega)
  have hr_15 : R2 (kernelRun0_C.sl.r_15 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4) _ := pay108_spec D hv97
  have hr_18 : R2 (kernelRun0_C.sl.r_18 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4) _ := pay111_spec D pay71_spec pay72_spec hr hr_2 hr_8 pay99_spec hr_10 hV0 hv95
  have sg00 : R3 (φ := .f32) (arg12.view.read (Elt Ideal) (arg12.view.writes (Elt Ideal) arg12.view.junk (kernelRun0_C.sl.HS2_1_1 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4))) _ := store_head0 D.gs_stops hA.gs (r0 := 0) (m0' := t + 256) inb_S2x1024x128_S1x1024x128_0_0_0 (pay119_spec D hr_15 hr_17 hr_18)
    (by omega) (by omega) (by omega) (by omega)
  have hr_12 : R2 (kernelRun0_C.sl.r_12 (F := Ideal) i arg4 harg4 x2) _ := pay101_spec D hV0
  have hr_23 : R2 (kernelRun0_C.sl.r_23 (F := Ideal) c i arg2 harg2 arg3 harg3 x0 x1) _ := pay120_spec D hr_1 hr_11
  have hr_24 : R2 (kernelRun0_C.sl.r_24 (F := Ideal) c i arg2 harg2 arg3 harg3 x0 x1) _ := pay121_spec D hr_1 hr_11
  have hv165 : R3 (φ := .f32) (kernelRun0_C.sl.v165 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4) _ := loadSt sp00 inb_S2x1024x128_S1x1024x128_1_0_0 rfl
  have hv167 : R3 (φ := .f32) (kernelRun0_C.sl.v167 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4) _ := loadSt sg00 inb_S2x1024x128_S1x1024x128_1_0_0 rfl
  have hv191 : R3 (φ := .f32) (kernelRun0_C.sl.v191 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4) _ := loadSt sq00 inb_S2x1024x128_S1x1024x128_1_0_0 rfl
  have hr_32 : R2 (kernelRun0_C.sl.r_32 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4) _ := pay130_spec D pay71_spec pay72_spec hr_3 hr_9 pay99_spec hr_11 hr_12 hr_23 hr_24 bits_one hv165 hv167 hv191
  have sq01 : R3 (φ := .f32) (arg10.view.read (Elt Ideal) (arg10.view.writes (Elt Ideal) arg10.view.junk (kernelRun0_C.sl.HS0_2 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4))) _ := store_head1 D.dqa_stops sq00 (r0 := 0) (m1' := t + 256) inb_S2x1024x128_S1x1024x128_1_0_0 (pay131_spec D hr_32)
    (by omega) (by omega) (by omega) (by omega)
  have hr_25 : R2 (kernelRun0_C.sl.r_25 (F := Ideal) c i arg2 harg2 arg3 harg3 x0 x1) _ := pay123_spec D pay71_spec pay99_spec hr_23 hr_24 bits_one
  have hr_26 : R2 (kernelRun0_C.sl.r_26 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4) _ := pay124_spec D hv165
  have sp01 : R3 (φ := .f32) (arg11.view.read (Elt Ideal) (arg11.view.writes (Elt Ideal) arg11.view.junk (kernelRun0_C.sl.HS1_2 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4))) _ := store_head1 D.pre_stops sp00 (r0 := 0) (m1' := t + 256) inb_S2x1024x128_S1x1024x128_1_0_0 (pay132_spec D hr_25 hr_26)
    (by omega) (by omega) (by omega) (by omega)
  have hr_27 : R2 (kernelRun0_C.sl.r_27 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4) _ := pay125_spec D hv167
  have hr_29 : R2 (kernelRun0_C.sl.r_29 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4) _ := pay127_spec D pay71_spec hr_3 hr_9 pay99_spec hr_12 hr_23 hr_24 bits_one hv165
  have hr_30 : R2 (kernelRun0_C.sl.r_30 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4) _ := pay128_spec D pay71_spec pay72_spec hr_3 hr_9 pay99_spec hr_12 hr_23 hr_24 bits_one hv165
  have sg01 : R3 (φ := .f32) (arg12.view.read (Elt Ideal) (arg12.view.writes (Elt Ideal) arg12.view.junk (kernelRun0_C.sl.HS2_2 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4))) _ := store_head1 D.gs_stops sg00 (r0 := 0) (m1' := t + 256) inb_S2x1024x128_S1x1024x128_1_0_0 (pay133_spec D hr_27 hr_29 hr_30)
    (by omega) (by omega) (by omega) (by omega)
  have hdk0 := load2 hA.dk (off6_0 i ht) (k0_off6_inb i 0)
  have hdv0 := load2 hA.dv (off6_0 i ht) (k0_off6_inb i 0)
  have hr_21 : R2 (kernelRun0_C.sl.r_21 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4) _ := pay116_spec D hr_4 pay99_spec pay102_spec hr_17 hr_19 hr_20
  have hr_31 : R2 (kernelRun0_C.sl.r_31 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4) _ := pay129_spec D pay71_spec pay72_spec hr_3 hr_9 pay99_spec hr_12 hr_23 hr_24 bits_one hv165 hv167
  have hv220 : R2 (φ := .f32) (kernelRun0_C.sl.v220 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4) _ := hdk0
  have hr_16 : R2 (kernelRun0_C.sl.r_16 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4) _ := pay109_spec D pay71_spec hr hr_8 pay99_spec hr_10 hv95
  have hr_22 : R2 (kernelRun0_C.sl.r_22 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4) _ := pay117_spec D hr_6 pay103_spec hr_16
  have hr_28 : R2 (kernelRun0_C.sl.r_28 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4) _ := pay126_spec D pay71_spec hr_9 pay99_spec hr_23 hr_24 bits_one hv165
  have hv227 : R2 (φ := .f32) (kernelRun0_C.sl.v227 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4) _ := hdv0
  have sk0 : R2 (φ := .f32) (arg13.view.read (Elt Ideal) (arg13.view.writes (Elt Ideal) (harg13.unread xs3) (kernelRun0_C.sl.HS3_1 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4))) _ := store2 (n' := t + 256) hA.dk (off6_0 i ht) (k0_off6_inb i 0)
    (D.dkN_rows (d := 0) (n := 1024) (by omega) (pay134_spec D hr_5 hr_21 hr_31 hv220)) (by omega)
  have sv0 : R2 (φ := .f32) (arg14.view.read (Elt Ideal) (arg14.view.writes (Elt Ideal) (harg14.unread xs4) (kernelRun0_C.sl.HS4_1 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4))) _ := store2 (n' := t + 256) hA.dv (off6_0 i ht) (k0_off6_inb i 0)
    (D.dvN_rows (d := 0) (n := 1024) (by omega) (pay135_spec D hr_7 hr_22 hr_28 hv227)) (by omega)
  have hK1 := loadRows (hw3 hx1) (off5_1 i ht) (k0_off5_inb i 1)
  have hV1 := loadRows (hw4 hx2) (off5_1 i ht) (k0_off5_inb i 1)
  have hr_33 : R2 (kernelRun0_C.sl.r_33 (F := Ideal) i arg3 harg3 x1) _ := pay137_spec D hK1
  have hr_34 : R2 (kernelRun0_C.sl.r_34 (F := Ideal) i arg4 harg4 x2) _ := pay138_spec D hV1
  have hr_35 : R2 (kernelRun0_C.sl.r_35 (F := Ideal) c arg6 harg6 x4) _ := pay141_spec D hr_2
  have hr_36 : R2 (kernelRun0_C.sl.r_36 (F := Ideal) c i arg2 harg2 arg3 harg3 x0 x1) _ := pay143_spec D hr hK1
  have hv268 : R3 (φ := .f32) (kernelRun0_C.sl.v268 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4) _ := loadSt sg01 inb_S2x1024x128_S1x768x128_0_256_0 rfl
  have hr_39 : R2 (kernelRun0_C.sl.r_39 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4) _ := pay146_spec D hv268
  have hv266 : R3 (φ := .f32) (kernelRun0_C.sl.v266 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4) _ := loadSt sp01 inb_S2x1024x128_S1x768x128_0_256_0 rfl
  have hr_40 : R2 (kernelRun0_C.sl.r_40 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4) _ := pay147_spec D pay71_spec hr hr_8 hK1 hv266
  have hv293 : R3 (φ := .f32) (kernelRun0_C.sl.v293 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4) _ := loadSt sq01 inb_S2x1024x128_S1x768x128_0_256_0 rfl
  have sq10 : R3 (φ := .f32) (arg10.view.read (Elt Ideal) (arg10.view.writes (Elt Ideal) arg10.view.junk (kernelRun0_C.sl.HS0_3 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4))) _ := store_head0 D.dqa_stops sq01 (r0 := 256) (m0' := t + 512) inb_S2x1024x128_S1x768x128_0_256_0 (pay153_spec D pay72_spec pay136_spec hr_33 hr_34 hr_35 hr_36 hr_39 hr_40 pay148_spec hv293)
    (by omega) (by omega) (by omega) (by omega)
  have hr_37 : R2 (kernelRun0_C.sl.r_37 (F := Ideal) c i arg2 harg2 arg3 harg3 x0 x1) _ := pay144_spec D pay71_spec hr hK1
  have hr_38 : R2 (kernelRun0_C.sl.r_38 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4) _ := pay145_spec D hv266
  have sp10 : R3 (φ := .f32) (arg11.view.read (Elt Ideal) (arg11.view.writes (Elt Ideal) arg11.view.junk (kernelRun0_C.sl.HS1_3 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4))) _ := store_head0 D.pre_stops sp01 (r0 := 256) (m0' := t + 512) inb_S2x1024x128_S1x768x128_0_256_0 (pay156_spec D hr_37 hr_38)
    (by omega) (by omega) (by omega) (by omega)
  have hr_43 : R2 (kernelRun0_C.sl.r_43 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4) _ := pay157_spec D pay72_spec pay136_spec hr_34 hr_35 hr_40 pay148_spec
  have sg10 : R3 (φ := .f32) (arg12.view.read (Elt Ideal) (arg12.view.writes (Elt Ideal) arg12.view.junk (kernelRun0_C.sl.HS2_3 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4))) _ := store_head0 D.gs_stops sg01 (r0 := 256) (m0' := t + 512) inb_S2x1024x128_S1x768x128_0_256_0 (pay158_spec D hr_39 hr_43)
    (by omega) (by omega) (by omega) (by omega)
  have hv343 : R3 (φ := .f32) (kernelRun0_C.sl.v343 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4) _ := loadSt sg10 inb_S2x1024x128_S1x768x128_1_256_0 rfl
  have hr_46 : R2 (kernelRun0_C.sl.r_46 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4) _ := pay163_spec D hv343
  have hv341 : R3 (φ := .f32) (kernelRun0_C.sl.v341 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4) _ := loadSt sp10 inb_S2x1024x128_S1x768x128_1_256_0 rfl
  have hr_48 : R2 (kernelRun0_C.sl.r_48 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4) _ := pay165_spec D pay71_spec hr_1 hr_3 hr_9 pay136_spec hr_33 hr_34 hv341
  have hr_49 : R2 (kernelRun0_C.sl.r_49 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4) _ := pay166_spec D pay71_spec pay72_spec hr_1 hr_3 hr_9 pay136_spec hr_33 hr_34 hv341
  have hr_50 : R2 (kernelRun0_C.sl.r_50 (F := Ideal) c i arg2 harg2 arg3 harg3 x0 x1) _ := pay167_spec D hr_1 hr_33
  have hv368 : R3 (φ := .f32) (kernelRun0_C.sl.v368 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4) _ := loadSt sq10 inb_S2x1024x128_S1x768x128_1_256_0 rfl
  have sq11 : R3 (φ := .f32) (arg10.view.read (Elt Ideal) (arg10.view.writes (Elt Ideal) arg10.view.junk (kernelRun0_C.sl.HS0_4 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4))) _ := store_head1 D.dqa_stops sq10 (r0 := 256) (m1' := t + 512) inb_S2x1024x128_S1x768x128_1_256_0 (pay169_spec D pay136_spec hr_33 hr_46 hr_48 hr_49 hr_50 hv368)
    (by omega) (by omega) (by omega) (by omega)
  have hr_44 : R2 (kernelRun0_C.sl.r_44 (F := Ideal) c i arg2 harg2 arg3 harg3 x0 x1) _ := pay161_spec D pay71_spec hr_1 pay136_spec hr_33
  have hr_45 : R2 (kernelRun0_C.sl.r_45 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4) _ := pay162_spec D hv341
  have sp11 : R3 (φ := .f32) (arg11.view.read (Elt Ideal) (arg11.view.writes (Elt Ideal) arg11.view.junk (kernelRun0_C.sl.HS1_4 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4))) _ := store_head1 D.pre_stops sp10 (r0 := 256) (m1' := t + 512) inb_S2x1024x128_S1x768x128_1_256_0 (pay172_spec D hr_44 hr_45)
    (by omega) (by omega) (by omega) (by omega)
  have sg11 : R3 (φ := .f32) (arg12.view.read (Elt Ideal) (arg12.view.writes (Elt Ideal) arg12.view.junk (kernelRun0_C.sl.HS2_4 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4))) _ := store_head1 D.gs_stops sg10 (r0 := 256) (m1' := t + 512) inb_S2x1024x128_S1x768x128_1_256_0 (pay173_spec D hr_46 hr_48 hr_49)
    (by omega) (by omega) (by omega) (by omega)
  have hdk1 := load2 sk0 (off6_1 i ht) (k0_off6_inb i 1)
  have hdv1 := load2 sv0 (off6_1 i ht) (k0_off6_inb i 1)
  have hr_41 : R2 (kernelRun0_C.sl.r_41 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4) _ := pay154_spec D pay72_spec hr_4 pay136_spec hr_34 pay139_spec hr_35 hr_36 hr_39 hr_40 pay148_spec
  have hr_51 : R2 (kernelRun0_C.sl.r_51 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4) _ := pay170_spec D hr_5 pay136_spec hr_41 hr_46 hr_48 hr_49 hr_50
  have hr_53 : R2 (φ := .f32) (kernelRun0_C.sl.r_53 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4) _ := hdk1
  have hr_42 : R2 (kernelRun0_C.sl.r_42 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4) _ := pay155_spec D hr_6 pay136_spec pay140_spec hr_40 pay148_spec
  have hr_47 : R2 (kernelRun0_C.sl.r_47 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4) _ := pay164_spec D pay71_spec hr_1 hr_9 pay136_spec hr_33 hv341
  have hr_52 : R2 (kernelRun0_C.sl.r_52 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4) _ := pay171_spec D hr_7 hr_42 hr_47
  have sk1 : R2 (φ := .f32) (arg13.view.read (Elt Ideal) (arg13.view.writes (Elt Ideal) (harg13.unread xs3) (kernelRun0_C.sl.HS3_2 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4))) _ := store2 (n' := t + 512) sk0 (off6_1 i ht) (k0_off6_inb i 1)
    (D.dkN_rows (d := 256) (n := 768) (by omega) (pay174_spec D hr_51 hr_53)) (by omega)
  have sv1 : R2 (φ := .f32) (arg14.view.read (Elt Ideal) (arg14.view.writes (Elt Ideal) (harg14.unread xs4) (kernelRun0_C.sl.HS4_2 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4))) _ := store2 (n' := t + 512) sv0 (off6_1 i ht) (k0_off6_inb i 1)
    (D.dvN_rows (d := 256) (n := 768) (by omega) (pay175_spec D hr_52 hdv1)) (by omega)
  have hK2 := loadRows (hw3 hx1) (off5_2 i ht) (k0_off5_inb i 2)
  have hV2 := loadRows (hw4 hx2) (off5_2 i ht) (k0_off5_inb i 2)
  have hr_54 : R2 (kernelRun0_C.sl.r_54 (F := Ideal) i arg3 harg3 x1) _ := pay177_spec D hK2
  have hr_55 : R2 (kernelRun0_C.sl.r_55 (F := Ideal) i arg4 harg4 x2) _ := pay178_spec D hV2
  have hr_56 : R2 (kernelRun0_C.sl.r_56 (F := Ideal) c arg6 harg6 x4) _ := pay181_spec D hr_2
  have hr_57 : R2 (kernelRun0_C.sl.r_57 (F := Ideal) c i arg2 harg2 arg3 harg3 x0 x1) _ := pay183_spec D hr hK2
  have hr_58 : R2 (kernelRun0_C.sl.r_58 (F := Ideal) c i arg2 harg2 arg3 harg3 x0 x1) _ := pay184_spec D hr hK2
  have hv445 : R3 (φ := .f32) (kernelRun0_C.sl.v445 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4) _ := loadSt sp11 inb_S2x1024x128_S1x512x128_0_512_0 rfl
  have hv447 : R3 (φ := .f32) (kernelRun0_C.sl.v447 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4) _ := loadSt sg11 inb_S2x1024x128_S1x512x128_0_512_0 rfl
  have hv472 : R3 (φ := .f32) (kernelRun0_C.sl.v472 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4) _ := loadSt sq11 inb_S2x1024x128_S1x512x128_0_512_0 rfl
  have sq20 : R3 (φ := .f32) (arg10.view.read (Elt Ideal) (arg10.view.writes (Elt Ideal) arg10.view.junk (kernelRun0_C.sl.HS0_5 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4))) _ := store_head0 D.dqa_stops sq11 (r0 := 512) (m0' := t + 768) inb_S2x1024x128_S1x512x128_0_512_0 (pay192_spec D pay71_spec pay72_spec hr_8 pay176_spec hr_54 hr_55 hr_56 hr_57 hr_58 hv445 hv447 hv472)
    (by omega) (by omega) (by omega) (by omega)
  have hr_59 : R2 (kernelRun0_C.sl.r_59 (F := Ideal) c i arg2 harg2 arg3 harg3 x0 x1) _ := pay185_spec D pay71_spec hr_58
  have hr_60 : R2 (kernelRun0_C.sl.r_60 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4) _ := pay186_spec D hv445
  have sp20 : R3 (φ := .f32) (arg11.view.read (Elt Ideal) (arg11.view.writes (Elt Ideal) arg11.view.junk (kernelRun0_C.sl.HS1_5 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4))) _ := store_head0 D.pre_stops sp11 (r0 := 512) (m0' := t + 768) inb_S2x1024x128_S1x512x128_0_512_0 (pay196_spec D hr_59 hr_60)
    (by omega) (by omega) (by omega) (by omega)
  have hr_61 : R2 (kernelRun0_C.sl.r_61 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4) _ := pay187_spec D hv447
  have hr_63 : R2 (kernelRun0_C.sl.r_63 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4) _ := pay189_spec D pay71_spec hr_8 pay176_spec hr_55 hr_56 hr_57 hr_58 hv445
  have hr_64 : R2 (kernelRun0_C.sl.r_64 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4) _ := pay190_spec D pay71_spec pay72_spec hr_8 pay176_spec hr_55 hr_56 hr_57 hr_58 hv445
  have sg20 : R3 (φ := .f32) (arg12.view.read (Elt Ideal) (arg12.view.writes (Elt Ideal) arg12.view.junk (kernelRun0_C.sl.HS2_5 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4))) _ := store_head0 D.gs_stops sg11 (r0 := 512) (m0' := t + 768) inb_S2x1024x128_S1x512x128_0_512_0 (pay197_spec D hr_61 hr_63 hr_64)
    (by omega) (by omega) (by omega) (by omega)
  have hr_68 : R2 (kernelRun0_C.sl.r_68 (F := Ideal) c arg6 harg6 x4) _ := pay198_spec D hr_3
  have hr_69 : R2 (kernelRun0_C.sl.r_69 (F := Ideal) c i arg2 harg2 arg3 harg3 x0 x1) _ := pay200_spec D hr_1 hr_54
  have hr_70 : R2 (kernelRun0_C.sl.r_70 (F := Ideal) c i arg2 harg2 arg3 harg3 x0 x1) _ := pay201_spec D pay71_spec hr_1 pay176_spec hr_54
  have hv520 : R3 (φ := .f32) (kernelRun0_C.sl.v520 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4) _ := loadSt sp20 inb_S2x1024x128_S1x512x128_1_512_0 rfl
  have hr_71 : R2 (kernelRun0_C.sl.r_71 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4) _ := pay202_spec D hv520
  have hv522 : R3 (φ := .f32) (kernelRun0_C.sl.v522 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4) _ := loadSt sg20 inb_S2x1024x128_S1x512x128_1_512_0 rfl
  have hv547 : R3 (φ := .f32) (kernelRun0_C.sl.v547 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4) _ := loadSt sq20 inb_S2x1024x128_S1x512x128_1_512_0 rfl
  have sq21 : R3 (φ := .f32) (arg10.view.read (Elt Ideal) (arg10.view.writes (Elt Ideal) arg10.view.junk (kernelRun0_C.sl.HS0_6 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4))) _ := store_head1 D.dqa_stops sq20 (r0 := 512) (m1' := t + 768) inb_S2x1024x128_S1x512x128_1_512_0 (pay208_spec D pay72_spec hr_9 pay176_spec hr_54 hr_55 hr_68 hr_69 hr_70 hr_71 hv522 hv547)
    (by omega) (by omega) (by omega) (by omega)
  have hr_77 : R2 (kernelRun0_C.sl.r_77 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4) _ := pay211_spec D hr_70 hr_71
  have sp21 : R3 (φ := .f32) (arg11.view.read (Elt Ideal) (arg11.view.writes (Elt Ideal) arg11.view.junk (kernelRun0_C.sl.HS1_6 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4))) _ := store_head1 D.pre_stops sp20 (r0 := 512) (m1' := t + 768) inb_S2x1024x128_S1x512x128_1_512_0 (pay212_spec D hr_77)
    (by omega) (by omega) (by omega) (by omega)
  have hr_72 : R2 (kernelRun0_C.sl.r_72 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4) _ := pay203_spec D hv522
  have hr_73 : R2 (kernelRun0_C.sl.r_73 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4) _ := pay205_spec D hr_9 pay176_spec hr_55 hr_68 hr_69 hr_70 hr_71
  have hr_74 : R2 (kernelRun0_C.sl.r_74 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4) _ := pay206_spec D pay72_spec hr_9 pay176_spec hr_55 hr_68 hr_69 hr_70 hr_71
  have sg21 : R3 (φ := .f32) (arg12.view.read (Elt Ideal) (arg12.view.writes (Elt Ideal) arg12.view.junk (kernelRun0_C.sl.HS2_6 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4))) _ := store_head1 D.gs_stops sg20 (r0 := 512) (m1' := t + 768) inb_S2x1024x128_S1x512x128_1_512_0 (pay213_spec D hr_72 hr_73 hr_74)
    (by omega) (by omega) (by omega) (by omega)
  have hdk2 := load2 sk1 (off6_2 i ht) (k0_off6_inb i 2)
  have hdv2 := load2 sv1 (off6_2 i ht) (k0_off6_inb i 2)
  have hr_65 : R2 (kernelRun0_C.sl.r_65 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4) _ := pay193_spec D pay71_spec pay72_spec hr_4 hr_8 pay176_spec hr_55 pay179_spec hr_56 hr_57 hr_58 hv445 hv447
  have hr_75 : R2 (kernelRun0_C.sl.r_75 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4) _ := pay209_spec D pay72_spec hr_5 hr_9 pay176_spec hr_55 hr_65 hr_68 hr_69 hr_70 hr_71 hv522
  have hr_62 : R2 (kernelRun0_C.sl.r_62 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4) _ := pay188_spec D pay71_spec hr_8 pay176_spec hr_57 hr_58 hv445
  have hr_66 : R2 (kernelRun0_C.sl.r_66 (F := Ideal) c arg6 harg6 x4) _ := pay194_spec D hr_6
  have hr_67 : R2 (kernelRun0_C.sl.r_67 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4) _ := pay195_spec D pay180_spec hr_62 hr_66
  have hr_76 : R2 (kernelRun0_C.sl.r_76 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4) _ := pay210_spec D hr_7 hr_9 pay176_spec hr_67 hr_69 hr_70 hr_71
  have sk2 : R2 (φ := .f32) (arg13.view.read (Elt Ideal) (arg13.view.writes (Elt Ideal) (harg13.unread xs3) (kernelRun0_C.sl.HS3_3 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4))) _ := store2 (n' := t + 768) sk1 (off6_2 i ht) (k0_off6_inb i 2)
    (D.dkN_rows (d := 512) (n := 512) (by omega) (pay214_spec D hr_75 hdk2)) (by omega)
  have sv2 : R2 (φ := .f32) (arg14.view.read (Elt Ideal) (arg14.view.writes (Elt Ideal) (harg14.unread xs4) (kernelRun0_C.sl.HS4_3 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4))) _ := store2 (n' := t + 768) sv1 (off6_2 i ht) (k0_off6_inb i 2)
    (D.dvN_rows (d := 512) (n := 512) (by omega) (pay215_spec D hr_76 hdv2)) (by omega)
  have hK3 := loadRows (hw3 hx1) (off5_3 i ht) (k0_off5_inb i 3)
  have hV3 := loadRows (hw4 hx2) (off5_3 i ht) (k0_off5_inb i 3)
  have hr_78 : R2 (kernelRun0_C.sl.r_78 (F := Ideal) i arg3 harg3 x1) _ := pay217_spec D hK3
  have hr_79 : R2 (kernelRun0_C.sl.r_79 (F := Ideal) i arg4 harg4 x2) _ := pay218_spec D hV3
  have hr_80 : R2 (kernelRun0_C.sl.r_80 (F := Ideal) c arg2 harg2 x0) _ := pay221_spec D hr
  have hv624 : R3 (φ := .f32) (kernelRun0_C.sl.v624 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4) _ := loadSt sp21 inb_S2x1024x128_S1x256x128_0_768_0 rfl
  have hv626 : R3 (φ := .f32) (kernelRun0_C.sl.v626 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4) _ := loadSt sg21 inb_S2x1024x128_S1x256x128_0_768_0 rfl
  have hr_87 : R2 (kernelRun0_C.sl.r_87 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4) _ := pay230_spec D pay71_spec pay72_spec hr_2 hr_8 pay216_spec hr_78 hr_79 hr_80 hv624 hv626
  have hv651 : R3 (φ := .f32) (kernelRun0_C.sl.v651 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4) _ := loadSt sq21 inb_S2x1024x128_S1x256x128_0_768_0 rfl
  have sq30 : R3 (φ := .f32) (arg10.view.read (Elt Ideal) (arg10.view.writes (Elt Ideal) arg10.view.junk (kernelRun0_C.sl.HS0_7 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4))) _ := store_head0 D.dqa_stops sq21 (r0 := 768) (m0' := t + 1024) inb_S2x1024x128_S1x256x128_0_768_0 (pay231_spec D hr_78 hr_87 hv651)
    (by omega) (by omega) (by omega) (by omega)
  have hr_81 : R2 (kernelRun0_C.sl.r_81 (F := Ideal) c i arg2 harg2 arg3 harg3 x0 x1) _ := pay224_spec D pay71_spec pay216_spec hr_78 hr_80
  have hr_82 : R2 (kernelRun0_C.sl.r_82 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4) _ := pay225_spec D hv624
  have sp30 : R3 (φ := .f32) (arg11.view.read (Elt Ideal) (arg11.view.writes (Elt Ideal) arg11.view.junk (kernelRun0_C.sl.HS1_7 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4))) _ := store_head0 D.pre_stops sp21 (r0 := 768) (m0' := t + 1024) inb_S2x1024x128_S1x256x128_0_768_0 (pay234_spec D hr_81 hr_82)
    (by omega) (by omega) (by omega) (by omega)
  have hr_83 : R2 (kernelRun0_C.sl.r_83 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4) _ := pay226_spec D hv626
  have hr_85 : R2 (kernelRun0_C.sl.r_85 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4) _ := pay228_spec D pay71_spec hr_2 hr_8 pay216_spec hr_78 hr_79 hr_80 hv624
  have hr_86 : R2 (kernelRun0_C.sl.r_86 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4) _ := pay229_spec D pay71_spec pay72_spec hr_2 hr_8 pay216_spec hr_78 hr_79 hr_80 hv624
  have sg30 : R3 (φ := .f32) (arg12.view.read (Elt Ideal) (arg12.view.writes (Elt Ideal) arg12.view.junk (kernelRun0_C.sl.HS2_7 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4))) _ := store_head0 D.gs_stops sg21 (r0 := 768) (m0' := t + 1024) inb_S2x1024x128_S1x256x128_0_768_0 (pay235_spec D hr_83 hr_85 hr_86)
    (by omega) (by omega) (by omega) (by omega)
  have hr_90 : R2 (kernelRun0_C.sl.r_90 (F := Ideal) c arg6 harg6 x4) _ := pay236_spec D hr_3
  have hr_91 : R2 (kernelRun0_C.sl.r_91 (F := Ideal) c i arg2 harg2 arg3 harg3 x0 x1) _ := pay237_spec D hr_1 hr_78
  have hr_92 : R2 (kernelRun0_C.sl.r_92 (F := Ideal) c i arg2 harg2 arg3 harg3 x0 x1) _ := pay238_spec D hr_1 hr_78
  have hv699 : R3 (φ := .f32) (kernelRun0_C.sl.v699 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4) _ := loadSt sp30 inb_S2x1024x128_S1x256x128_1_768_0 rfl
  have hv701 : R3 (φ := .f32) (kernelRun0_C.sl.v701 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4) _ := loadSt sg30 inb_S2x1024x128_S1x256x128_1_768_0 rfl
  have hv726 : R3 (φ := .f32) (kernelRun0_C.sl.v726 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4) _ := loadSt sq30 inb_S2x1024x128_S1x256x128_1_768_0 rfl
  have hr_100 : R2 (kernelRun0_C.sl.r_100 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4) _ := pay246_spec D pay71_spec pay72_spec hr_9 pay216_spec hr_78 hr_79 hr_90 hr_91 hr_92 hv699 hv701 hv726
  have sq31 : R3 (φ := .f32) (arg10.view.read (Elt Ideal) (arg10.view.writes (Elt Ideal) arg10.view.junk (kernelRun0_C.sl.HS0_8 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4))) _ := store_head1 D.dqa_stops sq30 (r0 := 768) (m1' := t + 1024) inb_S2x1024x128_S1x256x128_1_768_0 (pay247_spec D hr_100)
    (by omega) (by omega) (by omega) (by omega)
  have hdk3 := load2 sk2 (off6_3 i ht) (k0_off6_inb i 3)
  have hdv3 := load2 sv2 (off6_3 i ht) (k0_off6_inb i 3)
  have hr_88 : R2 (kernelRun0_C.sl.r_88 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4) _ := pay232_spec D hr_4 pay219_spec hr_87
  have hr_99 : R2 (kernelRun0_C.sl.r_99 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4) _ := pay245_spec D pay71_spec pay72_spec hr_9 pay216_spec hr_79 hr_90 hr_91 hr_92 hv699 hv701
  have hr_84 : R2 (kernelRun0_C.sl.r_84 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4) _ := pay227_spec D pay71_spec hr_8 pay216_spec hr_78 hr_80 hv624
  have hr_89 : R2 (kernelRun0_C.sl.r_89 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4) _ := pay233_spec D hr_6 pay220_spec hr_84
  have hr_96 : R2 (kernelRun0_C.sl.r_96 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4) _ := pay242_spec D pay71_spec hr_9 pay216_spec hr_91 hr_92 hv699
  have sk3 : R2 (φ := .f32) (arg13.view.read (Elt Ideal) (arg13.view.writes (Elt Ideal) (harg13.unread xs3) (kernelRun0_C.sl.HS3_4 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4))) _ := store2 (n' := t + 1024) sk2 (off6_3 i ht) (k0_off6_inb i 3)
    (D.dkN_rows (d := 768) (n := 256) (by omega) (pay250_spec D hr_5 hr_88 hr_99 hdk3)) (by omega)
  have sv3 : R2 (φ := .f32) (arg14.view.read (Elt Ideal) (arg14.view.writes (Elt Ideal) (harg14.unread xs4) (kernelRun0_C.sl.HS4_4 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4))) _ := store2 (n' := t + 1024) sv2 (off6_3 i ht) (k0_off6_inb i 3)
    (D.dvN_rows (d := 768) (n := 256) (by omega) (pay251_spec D hr_7 hr_89 hr_96 hdv3)) (by omega)
  have h770 : R3 (φ := .f32) (kernelRun0_C.sl.v770 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4) _ := loadSt sq31 inb_S2x1024x128_S1x1024x128_0_0_0 rfl
  have h772 : R3 (φ := .f32) (kernelRun0_C.sl.v772 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 xs3 xs4) _ := loadSt sq31 inb_S2x1024x128_S1x1024x128_1_0_0 rfl
  refine ⟨fun i => (storeAll inb_S1024x128_S1024x128_0_0 _ i).trans ((pay1_spec h770 h772) i), sk3, sv3,
    fun i => (storeAll inb_S4096x128_S4096x128_0_0 _ i).trans ((pay2_spec (loadAll sk3 inb_S128x4096_S128x4096_0_0)) i),
    fun i => (storeAll inb_S4096x128_S4096x128_0_0 _ i).trans ((pay3_spec (loadAll sv3 inb_S128x4096_S128x4096_0_0)) i)⟩

end Cert.Proof
-- ==== Proof.Grid.lean ====
/- The grid: four pairs of heads, four tiles of 1024 query rows each. By induction over the points, what each one leaves:
   the query's derivative of its tile, and the accumulators of the keys' and values' derivatives after the pair's tiles so
   far. The last tile of a pair also leaves those two, transposed. -/
module

public import proofs.«01_k».proof.Proof.PointA
public import proofs.«01_k».proof.Proof.PointB
public import proofs.«01_k».proof.Proof.PointC

@[expose] public section

noncomputable section

namespace Cert.Proof

open Idealize.ShloMosaic Idealize.ShloMosaic.TcCoe Idealize.SL Idealize.SL.Sem Cert.KernelIdeal Cert.KernelIdeal.Gen

namespace Data
variable (D : Data)

/-- The key's derivative, by lane and key, after `k` tiles. -/
def kAfter : ℕ → ℕ → ℕ → ℝ
  | 0 => fun _ _ => 0
  | k + 1 => D.dkN (1024 * k) (kAfter k)
/-- The value's derivative, by lane and key, after `k` tiles. -/
def vAfter : ℕ → ℕ → ℕ → ℝ
  | 0 => fun _ _ => 0
  | k + 1 => D.dvN (1024 * k) (vAfter k)

theorem dkh_ge {h t n l s : ℕ} (hs : t + n ≤ s) : D.dkh h t n l s = 0 := by
  unfold dkh
  refine Finset.sum_eq_zero fun r hr => ?_
  have := Finset.mem_range.1 hr
  rw [D.dz_ge (by omega), mul_zero]
theorem dvh_ge {h t n l s : ℕ} (hs : t + n ≤ s) : D.dvh h t n l s = 0 := by
  unfold dvh
  refine Finset.sum_eq_zero fun r hr => ?_
  have := Finset.mem_range.1 hr
  rw [D.a_ge (by omega), mul_zero]

theorem upTo_dkN (t : ℕ) (f : ℕ → ℕ → ℝ) : upTo (t + 1024) (D.dkN t f) f = D.dkN t f := by
  funext l s
  unfold upTo
  split
  · rfl
  · rw [dkN, D.dkh_ge (by omega), D.dkh_ge (by omega)]; ring
theorem upTo_dvN (t : ℕ) (f : ℕ → ℕ → ℝ) : upTo (t + 1024) (D.dvN t f) f = D.dvN t f := by
  funext l s
  unfold upTo
  split
  · rfl
  · rw [dvN, D.dvh_ge (by omega), D.dvh_ge (by omega)]; ring

theorem kAfter_eq (k l s : ℕ) : D.kAfter k l s = -(D.dkh 0 0 (1024 * k) l s + D.dkh 1 0 (1024 * k) l s) := by
  induction k with
  | zero => simp [kAfter, dkh]
  | succ k ih =>
    have e : ∀ h, D.dkh h 0 (1024 * (k + 1)) l s = D.dkh h 0 (1024 * k) l s + D.dkh h (1024 * k) 1024 l s := fun h => by
      unfold dkh
      rw [Nat.mul_succ, Finset.sum_range_add]
      simp only [zero_add]
    rw [kAfter, dkN, ih, e, e]; ring
theorem vAfter_eq (k l s : ℕ) : D.vAfter k l s = D.dvh 0 0 (1024 * k) l s + D.dvh 1 0 (1024 * k) l s := by
  induction k with
  | zero => simp [vAfter, dvh]
  | succ k ih =>
    have e : ∀ h, D.dvh h 0 (1024 * (k + 1)) l s = D.dvh h 0 (1024 * k) l s + D.dvh h (1024 * k) 1024 l s := fun h => by
      unfold dvh
      rw [Nat.mul_succ, Finset.sum_range_add]
      simp only [zero_add]
    rw [vAfter, dvN, ih, e, e]; ring

end Data

theorem tile_eq (t : Fin cfg0.N) : 1024 * (t.val % 4) = 1024 * (grid0.coords t 1).val := by
  revert t; decide +kernel

/-- The blocks each point loads hold the pair's rows. -/
structure Loads (m : (ℓ : Loc nD τ sig) → Buf (Elt Ideal) ℓ) (c : Dev nD) (DD : ℕ → Data) : Prop where
  q : ∀ t : Fin cfg0.N, R2 (n := 1024) (m := 128) (φ := .f32) (iblk m c 0 t) (fun r l => (DD (t.val / 4)).Q (1024 * (t.val % 4) + r) l)
  k : ∀ t : Fin cfg0.N, R2 (n := 4096) (m := 128) (φ := .f32) (iblk m c 1 t) (DD (t.val / 4)).K
  v : ∀ t : Fin cfg0.N, R2 (n := 4096) (m := 128) (φ := .f32) (iblk m c 2 t) (DD (t.val / 4)).V
  t : ∀ t : Fin cfg0.N, R2 (n := 1024) (m := 128) (φ := .f32) (iblk m c 3 t) (fun r l => (DD (t.val / 4)).T (l / 64) (1024 * (t.val % 4) + r))
  dy : ∀ t : Fin cfg0.N, R2 (n := 1024) (m := 128) (φ := .f32) (iblk m c 4 t) (fun r l => (DD (t.val / 4)).DY (1024 * (t.val % 4) + r) l)

variable {m : (ℓ : Loc nD τ sig) → Buf (Elt Ideal) ℓ} {c : Dev nD} {DD : ℕ → Data}

/-- What the outputs and the carried accumulators hold after point `n`. -/
structure Left (D : Data) (i : ℕ) (o : Vec Ideal S1024x128 .bf16 × Vec Ideal S4096x128 .bf16 × Vec Ideal S4096x128 .bf16 × Vec Ideal S128x4096 .f32 × Vec Ideal S128x4096 .f32) : Prop where
  dq : R2 (n := 1024) (m := 128) (φ := .bf16) o.1 (D.dqOut (1024 * i))
  kt : R2 (n := 128) (m := 4096) (φ := .f32) o.2.2.2.1 (D.kAfter (i + 1))
  vt : R2 (n := 128) (m := 4096) (φ := .f32) o.2.2.2.2 (D.vAfter (i + 1))
  dk : i = 3 → R2 (n := 4096) (m := 128) (φ := .bf16) o.2.1 (fun s l => D.kAfter (i + 1) l s)
  dv : i = 3 → R2 (n := 4096) (m := 128) (φ := .bf16) o.2.2.1 (fun s l => D.vAfter (i + 1) l s)

/-- The five arrays of a point, one by one. -/
theorem left_of {D : Data} {i : ℕ} {o : Vec Ideal S1024x128 .bf16 × Vec Ideal S4096x128 .bf16 × Vec Ideal S4096x128 .bf16 × Vec Ideal S128x4096 .f32 × Vec Ideal S128x4096 .f32}
    {o5 : Vec Ideal S1024x128 .bf16} {o6 o7 : Vec Ideal S4096x128 .bf16} {k v : Vec Ideal S128x4096 .f32} (e : o = (o5, o6, o7, k, v))
    (p1 : R2 (n := 1024) (m := 128) (φ := .bf16) o5 (D.dqOut (1024 * i)))
    (p2 : R2 (n := 128) (m := 4096) (φ := .f32) k (D.kAfter (i + 1)))
    (p3 : R2 (n := 128) (m := 4096) (φ := .f32) v (D.vAfter (i + 1)))
    (p4 : i = 3 → R2 (n := 4096) (m := 128) (φ := .bf16) o6 (fun s l => D.kAfter (i + 1) l s))
    (p5 : i = 3 → R2 (n := 4096) (m := 128) (φ := .bf16) o7 (fun s l => D.vAfter (i + 1) l s)) : Left D i o := by
  subst e
  exact ⟨p1, p2, p3, p4, p5⟩

theorem left_A (L : Loads m c DD) (t : Fin cfg0.N) (h0 : t.val % 4 = 0) : Left (DD (t.val / 4)) (t.val % 4) (outsAt0 m c t.val t.isLt) := by
  have h1 : ¬ t.val % 4 = 3 := by omega
  have e := outsAt0_A m c t h0 h1
  have p := pointA (D := DD (t.val / 4)) (t := 1024 * (t.val % 4)) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _)
    ((hcond0_0 t).mpr h0) (fun h => h1 ((hcond0_1 t).mp h)) (iblk m c 0 t) (iblk m c 1 t) (iblk m c 2 t) (iblk m c 3 t) (iblk m c 4 t)
    (tile_eq t) (L.q t) (L.k t) (L.v t) (L.t t) (L.dy t)
  have hk : upTo (1024 * (t.val % 4) + 1024) ((DD (t.val / 4)).dkN (1024 * (t.val % 4)) (fun _ _ => 0)) (fun _ _ => 0) = (DD (t.val / 4)).kAfter (t.val % 4 + 1) := by
    rw [Data.upTo_dkN, h0]; rfl
  have hv : upTo (1024 * (t.val % 4) + 1024) ((DD (t.val / 4)).dvN (1024 * (t.val % 4)) (fun _ _ => 0)) (fun _ _ => 0) = (DD (t.val / 4)).vAfter (t.val % 4 + 1) := by
    rw [Data.upTo_dvN, h0]; rfl
  exact left_of e p.1 (hk ▸ p.2.1) (hv ▸ p.2.2) (fun h => absurd h h1) (fun h => absurd h h1)

theorem left_B (L : Loads m c DD) (t : Fin cfg0.N) (h0 : ¬ t.val % 4 = 0) (h1 : ¬ t.val % 4 = 3)
    (hp : Left (DD (t.val / 4)) (t.val % 4 - 1) (outsAt0 m c (t.val - 1) (Nat.lt_of_le_of_lt (Nat.sub_le _ _) t.isLt))) :
    Left (DD (t.val / 4)) (t.val % 4) (outsAt0 m c t.val t.isLt) := by
  have e : t.val % 4 - 1 + 1 = t.val % 4 := by omega
  have k := hp.kt
  have v := hp.vt
  rw [e] at k v
  have o := outsAt0_B m c t h0 h1
  have p := pointB (D := DD (t.val / 4)) (t := 1024 * (t.val % 4)) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _)
    (fun h => h0 ((hcond0_0 t).mp h)) (fun h => h1 ((hcond0_1 t).mp h)) (iblk m c 0 t) (iblk m c 1 t) (iblk m c 2 t) (iblk m c 3 t) (iblk m c 4 t)
    (outsAt0 m c (t.val - 1) (Nat.lt_of_le_of_lt (Nat.sub_le _ _) t.isLt)).2.2.2.1 (outsAt0 m c (t.val - 1) (Nat.lt_of_le_of_lt (Nat.sub_le _ _) t.isLt)).2.2.2.2
    (tile_eq t) (L.q t) (L.k t) (L.v t) (L.t t) (L.dy t) k v
  have hk : upTo (1024 * (t.val % 4) + 1024) ((DD (t.val / 4)).dkN (1024 * (t.val % 4)) ((DD (t.val / 4)).kAfter (t.val % 4))) ((DD (t.val / 4)).kAfter (t.val % 4)) = (DD (t.val / 4)).kAfter (t.val % 4 + 1) := by
    rw [Data.upTo_dkN]; rfl
  have hv : upTo (1024 * (t.val % 4) + 1024) ((DD (t.val / 4)).dvN (1024 * (t.val % 4)) ((DD (t.val / 4)).vAfter (t.val % 4))) ((DD (t.val / 4)).vAfter (t.val % 4)) = (DD (t.val / 4)).vAfter (t.val % 4 + 1) := by
    rw [Data.upTo_dvN]; rfl
  exact left_of o p.1 (hk ▸ p.2.1) (hv ▸ p.2.2) (fun h => absurd h h1) (fun h => absurd h h1)

theorem left_C (L : Loads m c DD) (t : Fin cfg0.N) (h1 : t.val % 4 = 3)
    (hp : Left (DD (t.val / 4)) (t.val % 4 - 1) (outsAt0 m c (t.val - 1) (Nat.lt_of_le_of_lt (Nat.sub_le _ _) t.isLt))) :
    Left (DD (t.val / 4)) (t.val % 4) (outsAt0 m c t.val t.isLt) := by
  have h0 : ¬ t.val % 4 = 0 := by omega
  have e : t.val % 4 - 1 + 1 = t.val % 4 := by omega
  have k := hp.kt
  have v := hp.vt
  rw [e] at k v
  have o := outsAt0_C m c t h0 h1
  have p := pointC (D := DD (t.val / 4)) (t := 1024 * (t.val % 4)) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _)
    (fun h => h0 ((hcond0_0 t).mp h)) ((hcond0_1 t).mpr h1) (iblk m c 0 t) (iblk m c 1 t) (iblk m c 2 t) (iblk m c 3 t) (iblk m c 4 t)
    (outsAt0 m c (t.val - 1) (Nat.lt_of_le_of_lt (Nat.sub_le _ _) t.isLt)).2.2.2.1 (outsAt0 m c (t.val - 1) (Nat.lt_of_le_of_lt (Nat.sub_le _ _) t.isLt)).2.2.2.2
    (tile_eq t) (L.q t) (L.k t) (L.v t) (L.t t) (L.dy t) k v
  have hk : upTo (1024 * (t.val % 4) + 1024) ((DD (t.val / 4)).dkN (1024 * (t.val % 4)) ((DD (t.val / 4)).kAfter (t.val % 4))) ((DD (t.val / 4)).kAfter (t.val % 4)) = (DD (t.val / 4)).kAfter (t.val % 4 + 1) := by
    rw [Data.upTo_dkN]; rfl
  have hv : upTo (1024 * (t.val % 4) + 1024) ((DD (t.val / 4)).dvN (1024 * (t.val % 4)) ((DD (t.val / 4)).vAfter (t.val % 4))) ((DD (t.val / 4)).vAfter (t.val % 4)) = (DD (t.val / 4)).vAfter (t.val % 4 + 1) := by
    rw [Data.upTo_dvN]; rfl
  exact left_of o p.1 (hk ▸ p.2.1) (hv ▸ p.2.2.1) (fun _ => hk ▸ p.2.2.2.1) (fun _ => hv ▸ p.2.2.2.2)

/-- What each point leaves. -/
theorem left (L : Loads m c DD) : ∀ (n : ℕ) (hn : n < cfg0.N), Left (DD (n / 4)) (n % 4) (outsAt0 m c n hn)
  | 0, hn => left_A L ⟨0, hn⟩ rfl
  | n + 1, hn => by
    by_cases h0 : (n + 1) % 4 = 0
    · exact left_A L ⟨n + 1, hn⟩ h0
    · have hp := left L n (Nat.lt_of_succ_lt hn)
      rw [show n / 4 = (n + 1) / 4 by omega, show n % 4 = (n + 1) % 4 - 1 by omega] at hp
      by_cases h1 : (n + 1) % 4 = 3
      · exact left_C L ⟨n + 1, hn⟩ h1 hp
      · exact left_B L ⟨n + 1, hn⟩ h0 h1 hp

end Cert.Proof
-- ==== Proof.Inputs.lean ====
/- The two argument arrays as real numbers, and what they give each head. Head `H` of the eight is half `H % 2` of the pair `H / 2`; its lanes
   are the columns `64 H …` of q (and 512, 1024 columns further on for k and v) and of the output's derivative. -/
module

public import proofs.«01_k».proof.Proof.Forms

@[expose] public section

noncomputable section

namespace Cert.Proof

open Idealize.ShloMosaic Idealize.ShloMosaic.ValueIdx
open scoped BigOperators

/-- The element at row `r` and column `c` of an array, zero outside it. -/
def entry {n m : ℕ} (x : FVec Ideal ⟨2, ![n, m]⟩ .f32) (r c : ℕ) : ℝ :=
  if h : r < n ∧ c < m then EReal.toReal (x (ix2 ⟨r, h.1⟩ ⟨c, h.2⟩)) else 0

theorem entry_spec {n m : ℕ} (x : FVec Ideal ⟨2, ![n, m]⟩ .f32) (i : (⟨2, ![n, m]⟩ : Shape).Idx) (ht : x i ≠ (⊤ : EReal))
    (hb : x i ≠ (⊥ : EReal)) : x i = ((entry x (i 0).val (i 1).val : ℝ) : EReal) := by
  have h0 : (i 0).val < n := (i 0).isLt
  have h1 : (i 1).val < m := (i 1).isLt
  have e : i = ix2 ⟨(i 0).val, h0⟩ ⟨(i 1).val, h1⟩ := eq_ix2 i
  unfold entry
  rw [dif_pos ⟨h0, h1⟩, ← e, EReal.coe_toReal ht hb]

/-- The rows of one pair of heads. -/
def rows (x0 : FVec Ideal ⟨2, ![4096, 4608]⟩ .f32) (x1 : FVec Ideal ⟨2, ![4096, 512]⟩ .f32) (p : ℕ) : Data where
  Q t l := entry x0 t (128 * p + l)
  K t l := entry x0 t (512 + 128 * p + l)
  V t l := entry x0 t (1024 + 128 * p + l)
  DY t l := entry x1 t (128 * p + l)
  T _ _ := 0

/-- One pair of heads, each row's sum of log(1 - beta) included. -/
def dat (x0 : FVec Ideal ⟨2, ![4096, 4608]⟩ .f32) (x1 : FVec Ideal ⟨2, ![4096, 512]⟩ .f32) (p : ℕ) : Data where
  Q := (rows x0 x1 p).Q
  K := (rows x0 x1 p).K
  V := (rows x0 x1 p).V
  DY := (rows x0 x1 p).DY
  T h t := (rows x0 x1 p).pre h t 4096

/-- The sums of log(1 - beta) depend on the queries and keys alone. -/
theorem pre_congr {D E : Data} (hQ : D.Q = E.Q) (hK : D.K = E.K) (h t n : ℕ) : D.pre h t n = E.pre h t n := by
  simp only [Data.pre, Data.lk, Data.sp, Data.mn, Data.nz, Data.qh, hQ, hK]

theorem dat_T (x0 : FVec Ideal ⟨2, ![4096, 4608]⟩ .f32) (x1 : FVec Ideal ⟨2, ![4096, 512]⟩ .f32) (p h t : ℕ) :
    (dat x0 x1 p).T h t = (dat x0 x1 p).pre h t 4096 := by
  rw [pre_congr (D := dat x0 x1 p) (E := rows x0 x1 p) rfl rfl]
  simp only [dat]

/-- The columns of q, k and v hold real numbers. -/
def Finite (x0 : FVec Ideal ⟨2, ![4096, 4608]⟩ .f32) : Prop :=
  ∀ i : (⟨2, ![4096, 4608]⟩ : Shape).Idx, (i 1).val < 1536 → x0 i = ((entry x0 (i 0).val (i 1).val : ℝ) : EReal)

/-- The arrays hold real numbers where they are read, and no score below the diagonal is less than -80. -/
def Tame (x0 : FVec Ideal ⟨2, ![4096, 4608]⟩ .f32) (x1 : FVec Ideal ⟨2, ![4096, 512]⟩ .f32) : Prop :=
  Finite x0
  ∧ R2 x1 (entry x1)
  ∧ ∀ H t s : ℕ, H < 8 → t < 4096 → s < t → (dat x0 x1 (H / 2)).nz (H % 2) t s ≤ 80

/-- A sum over the lanes of the pair against one head's lanes is a sum over that head's lanes. -/
theorem sum_pick {h : ℕ} (hh : h < 2) (f g : ℕ → ℝ) :
    ∑ l ∈ Finset.range 128, pick h l (f l) * g l = ∑ l ∈ Finset.range 64, f (64 * h + l) * g (64 * h + l) := by
  rw [show (128 : ℕ) = 64 + 64 from rfl, Finset.sum_range_add]
  obtain rfl | rfl : h = 0 ∨ h = 1 := by omega
  · rw [Finset.sum_eq_zero (s := Finset.range 64) (f := fun l => pick 0 (64 + l) _ * _), add_zero]
    · refine Finset.sum_congr rfl fun l hl => ?_
      rw [pick, if_pos rfl, if_pos (Finset.mem_range.1 hl), Nat.mul_zero, Nat.zero_add]
    · intro l _
      rw [pick, if_pos rfl, if_neg (by omega), zero_mul]
  · rw [Finset.sum_eq_zero (s := Finset.range 64) (f := fun l => pick 1 l _ * _), zero_add]
    · refine Finset.sum_congr rfl fun l hl => ?_
      rw [pick, if_neg (by omega), if_neg (by omega), Nat.mul_one]
    · intro l hl
      rw [pick, if_neg (by omega), if_pos (Finset.mem_range.1 hl), zero_mul]

/-- A sum of products of real numbers. -/
theorem sum_coe_mul {n : ℕ} {a b : Fin n → EReal} {f g : ℕ → ℝ} (ha : ∀ k, a k = ((f k.val : ℝ) : EReal))
    (hb : ∀ k, b k = ((g k.val : ℝ) : EReal)) : ∑ k, a k * b k = ((∑ k ∈ Finset.range n, f k * g k : ℝ) : EReal) := by
  rw [Finset.sum_range, coe_sum]
  refine Finset.sum_congr rfl fun k _ => ?_
  rw [ha, hb, EReal.coe_mul]

section
variable (x0 : FVec Ideal ⟨2, ![4096, 4608]⟩ .f32) (x1 : FVec Ideal ⟨2, ![4096, 512]⟩ .f32)

/-- Minus head `H`'s score, from the array. -/
theorem nz_head (H t s : ℕ) : (dat x0 x1 (H / 2)).nz (H % 2) t s
    = -((∑ k ∈ Finset.range 64, entry x0 t (64 * H + k) * entry x0 s (512 + 64 * H + k)) * 0.125) := by
  unfold Data.nz Data.qh
  rw [sum_pick (Nat.mod_lt _ (by omega)), Finset.sum_mul, ← Finset.sum_neg_distrib]
  refine Finset.sum_congr rfl fun k _ => ?_
  show (0 - entry x0 t (128 * (H / 2) + (64 * (H % 2) + k)) * 0.125) * entry x0 s (512 + 128 * (H / 2) + (64 * (H % 2) + k)) = _
  rw [show 128 * (H / 2) + (64 * (H % 2) + k) = 64 * H + k by omega, show 512 + 128 * (H / 2) + (64 * (H % 2) + k) = 512 + 64 * H + k by omega]
  ring

/-- The derivative of head `H`'s weight, from the arrays. -/
theorem dyv_head (H t s : ℕ) : (dat x0 x1 (H / 2)).dyv (H % 2) t s
    = ∑ k ∈ Finset.range 64, entry x1 t (64 * H + k) * entry x0 s (1024 + 64 * H + k) := by
  unfold Data.dyv Data.dyh
  rw [sum_pick (Nat.mod_lt _ (by omega))]
  refine Finset.sum_congr rfl fun k _ => ?_
  show entry x1 t (128 * (H / 2) + (64 * (H % 2) + k)) * entry x0 s (1024 + 128 * (H / 2) + (64 * (H % 2) + k)) = _
  rw [show 128 * (H / 2) + (64 * (H % 2) + k) = 64 * H + k by omega, show 1024 + 128 * (H / 2) + (64 * (H % 2) + k) = 1024 + 64 * H + k by omega]
end

/-- The softplus of a real number, as it is computed without overflow. -/
theorem softplus_eq (x : ℝ) : max x 0 + Real.log (1 + Real.exp (-|x|)) = Real.log (1 + Real.exp x) := by
  rcases le_total 0 x with h | h
  · rw [max_eq_left h, abs_of_nonneg h]
    have e : Real.log (1 + Real.exp x) = Real.log (Real.exp x * (1 + Real.exp (-x))) := by
      rw [mul_add, mul_one, ← Real.exp_add, add_neg_cancel, Real.exp_zero, add_comm]
    rw [e, Real.log_mul (Real.exp_pos x).ne' (by positivity), Real.log_exp]
  · rw [max_eq_right h, abs_of_nonpos h, neg_neg, zero_add]

/-- One minus the logistic function, from its logarithm. -/
theorem logistic_eq (x : ℝ) : Real.exp (x - Real.log (1 + Real.exp x)) = 1 - Real.exp (0 - Real.log (1 + Real.exp x)) := by
  have h : (0 : ℝ) < 1 + Real.exp x := by positivity
  rw [zero_sub, Real.exp_sub, Real.exp_neg, Real.exp_log h]
  field_simp
  ring

end Cert.Proof
-- ==== Proof.Host.lean ====
/- The host's operations on three-axis arrays whose elements are real numbers: each one is an operation on the functions
   that `R3` names. The running sums along the last axis, in either direction, are the sums jax's `cumsum` prints. -/
module

public import proofs.«01_k».proof.Proof.RealVec

@[expose] public section

noncomputable section

namespace Cert.Proof

open Idealize.ShloMosaic Idealize.ShloMosaic.ValueIdx
open scoped BigOperators

/-- The three-axis mask `c` is set where `p h r s` holds. -/
def M3 {a n m : ℕ} (c : IVec ⟨3, ![a, n, m]⟩ 1) (p : ℕ → ℕ → ℕ → Prop) [∀ h r s, Decidable (p h r s)] : Prop :=
  ∀ i : (⟨3, ![a, n, m]⟩ : Shape).Idx, c i = if p (i 0).val (i 1).val (i 2).val then 1#1 else 0#1

section
variable {a n m : ℕ} {φ : FTy} {u v w : FVec Ideal ⟨3, ![a, n, m]⟩ φ} {f g : ℕ → ℕ → ℕ → ℝ}

theorem R3.addf (h : R3 u f) (h' : R3 v g) : R3 (addf u v) (fun t r c => f t r c + g t r c) := fun i => by
  show u i + v i = _
  rw [h i, h' i, EReal.coe_add]
theorem R3.subf (h : R3 u f) (h' : R3 v g) : R3 (subf u v) (fun t r c => f t r c - g t r c) := fun i => by
  show u i - v i = _
  rw [h i, h' i, EReal.coe_sub]
theorem R3.mulf (h : R3 u f) (h' : R3 v g) : R3 (mulf u v) (fun t r c => f t r c * g t r c) := fun i => by
  show u i * v i = _
  rw [h i, h' i, EReal.coe_mul]
theorem R3.maximumf (h : R3 u f) (h' : R3 v g) : R3 (maximumf u v) (fun t r c => max (f t r c) (g t r c)) := fun i => by
  show max (u i) (v i) = _
  rw [h i, h' i, EReal.coe_strictMono.monotone.map_max]
theorem R3.negf (h : R3 u f) : R3 (φ := φ) (Host.negf u) (fun t r c => -f t r c) := fun i => by
  show -(u i) = _
  rw [h i, EReal.coe_neg]
theorem R3.absf (h : R3 u f) : R3 (φ := φ) (Host.absf u) (fun t r c => |f t r c|) := fun i => by
  show max (u i) (-(u i)) = _
  rw [h i, ← EReal.coe_neg, ← EReal.coe_strictMono.monotone.map_max]; rfl
theorem R3.exp (h : R3 u f) : R3 (φ := φ) (Host.exp u) (fun t r c => Real.exp (f t r c)) := fun i => by
  show Ideal.exp (u i) = _
  rw [h i, Ideal.exp_coe]
theorem R3.log1p (h : R3 u f) (hp : ∀ t r c, 0 < 1 + f t r c) : R3 (φ := φ) (Host.log1p u) (fun t r c => Real.log (1 + f t r c)) := fun i => by
  show Ideal.log (1 + u i) = _
  rw [h i, show (1 : EReal) = ((1 : ℝ) : EReal) from rfl, ← EReal.coe_add, Ideal.log_coe, if_neg (not_le.2 (hp _ _ _))]
theorem R3.select {c : IVec ⟨3, ![a, n, m]⟩ 1} {p : ℕ → ℕ → ℕ → Prop} [∀ h r s, Decidable (p h r s)] (hc : M3 c p) (h : R3 u f)
    (h' : R3 v g) : R3 (φ := φ) (select c u v) (fun t r s => if p t r s then f t r s else g t r s) := fun i => by
  show Scalar.select (c i) (u i) (v i) = _
  rw [hc i, h i, h' i]
  by_cases hp : p (i 0).val (i 1).val (i 2).val
  · simp only [if_pos hp]; rfl
  · simp only [if_neg hp]; rfl
/-- A number differs from itself nowhere. -/
theorem M3.une : M3 (cmpf .une u u) (fun _ _ _ => False) := fun i => by
  show BitVec.ofBool (decide (u i ≠ u i)) = _
  simp
/-- A real number is not infinite. -/
theorem M3.isTop (h : R3 u f) (hv : ∀ i, v i = (⊤ : EReal)) : M3 (cmpf .oeq u v) (fun _ _ _ => False) := fun i => by
  show BitVec.ofBool (decide (u i = v i)) = _
  rw [hv i, h i]
  simp
theorem R3.scalar {x : FVec Ideal ⟨0, ![]⟩ φ} {r : ℝ} (h : x ix0 = (r : EReal)) (hb : (⟨0, ![]⟩ : Shape).BroadcastsInDim ⟨3, ![a, n, m]⟩ ![]) :
    R3 (φ := φ) (broadcastInDim ⟨3, ![a, n, m]⟩ ![] hb x) (fun _ _ _ => r) := fun i => by
  rw [broadcastInDim_scalar_apply, h]
end

/-- A left fold of addition over real numbers is their sum. -/
theorem foldl_add_coe {ι : Type} (L : List ι) (e : ι → EReal) (g : ι → ℝ) (h : ∀ x ∈ L, e x = (g x : EReal)) (v : ℝ) :
    L.foldl (fun r x => r + e x) (v : EReal) = ((v + (L.map g).sum : ℝ) : EReal) := by
  induction L generalizing v with
  | nil => simp
  | cons x L ih =>
    rw [List.foldl_cons, h x List.mem_cons_self, ← EReal.coe_add, ih (fun y hy => h y (List.mem_cons_of_mem _ hy)), List.map_cons,
      List.sum_cons, add_assoc]

theorem window_numel (N : ℕ) : (⟨3, ![1, 1, N]⟩ : Shape).numel = N := by
  show ∏ a : Fin 3, (![1, 1, N] : Fin 3 → Nat) a = N
  rw [Fin.prod_univ_three]
  show 1 * 1 * N = N
  omega

theorem window_symm {N : ℕ} (n : Fin (⟨3, ![1, 1, N]⟩ : Shape).numel) :
    (⟨3, ![1, 1, N]⟩ : Shape).rowMajor.symm n = ix3 (0 : Fin 1) (0 : Fin 1) (n.cast (window_numel N)) :=
  ((⟨3, ![1, 1, N]⟩ : Shape).rowMajor.symm_apply_eq).2 (Fin.ext (by
    rw [Shape.rowMajor_val_three]
    show n.val = (0 * 1 + 0) * N + n.val
    omega))

theorem sum_finRange {M : ℕ} (g : ℕ → ℝ) : ((List.finRange M).map fun n => g n.val).sum = ∑ n ∈ Finset.range M, g n := by
  rw [Finset.sum_range, ← List.ofFn_eq_map, List.sum_ofFn]

section
variable {a n N : ℕ} {φ : FTy} {u : FVec Ideal ⟨3, ![a, n, N]⟩ φ} {f : ℕ → ℕ → ℕ → ℝ} {x : FVec Ideal ⟨0, ![]⟩ φ}

/-- What a window running along the last axis sums, padded `lo` low and `hi` high. -/
theorem R3.window (h : R3 u f) (hx : x ix0 = ((0 : ℝ) : EReal)) (lo hi : ℕ)
    (hw : (⟨3, ![a, n, N]⟩ : Shape).ReduceWindows (![1, 1, N] : Fin 3 → Nat) ![1, 1, 1] ![0, 0, lo] ![0, 0, hi] ⟨3, ![a, n, N]⟩)
    (hu : 0 < (⟨0, ![]⟩ : Shape).numel) :
    R3 (φ := φ) (Host.reduceWindowAdd ![1, 1, N] ![1, 1, 1] ![0, 0, lo] ![0, 0, hi] u x hw hu)
      (fun t r s => ∑ k ∈ Finset.range N, if lo ≤ s + k ∧ s + k - lo < N then f t r (s + k - lo) else 0) := fun i => by
  have hv : x (Shape.Idx.first hu) = ((0 : ℝ) : EReal) := (congrArg x (eq_ix0 _)).trans hx
  show Host.reduceWindow (s := ⟨3, ![a, n, N]⟩) (t := ⟨3, ![a, n, N]⟩) (fun p q : EReal => p + q) ![1, 1, N] ![1, 1, 1] ![0, 0, lo] ![0, 0, hi]
    u x hw hu i = _
  unfold Host.reduceWindow
  rw [hv]
  refine (foldl_add_coe _ _ (fun k => if lo ≤ (i 2).val + k.val ∧ (i 2).val + k.val - lo < N then f (i 0).val (i 1).val ((i 2).val + k.val - lo) else 0)
    (fun k _ => ?_) 0).trans ?_
  · have w0 : ((⟨3, ![1, 1, N]⟩ : Shape).rowMajor.symm k 0).val = 0 := by rw [window_symm]; rfl
    have w1 : ((⟨3, ![1, 1, N]⟩ : Shape).rowMajor.symm k 1).val = 0 := by rw [window_symm]; rfl
    have w2 : ((⟨3, ![1, 1, N]⟩ : Shape).rowMajor.symm k 2).val = k.val := by rw [window_symm]; rfl
    have b0 : (i 0).val < a := (i 0).isLt
    have b1 : (i 1).val < n := (i 1).isLt
    dsimp only
    split
    · next hin =>
      have h2 := hin 2
      change lo ≤ (i 2).val * 1 + ((⟨3, ![1, 1, N]⟩ : Shape).rowMajor.symm k 2).val
        ∧ (i 2).val * 1 + ((⟨3, ![1, 1, N]⟩ : Shape).rowMajor.symm k 2).val - lo < N at h2
      rw [w2, Nat.mul_one] at h2
      rw [if_pos h2]
      refine (h _).trans ?_
      have e0 : (i 0).val * 1 + ((⟨3, ![1, 1, N]⟩ : Shape).rowMajor.symm k 0).val - 0 = (i 0).val := by rw [w0]; omega
      have e1 : (i 1).val * 1 + ((⟨3, ![1, 1, N]⟩ : Shape).rowMajor.symm k 1).val - 0 = (i 1).val := by rw [w1]; omega
      have e2 : (i 2).val * 1 + ((⟨3, ![1, 1, N]⟩ : Shape).rowMajor.symm k 2).val - lo = (i 2).val + k.val - lo := by rw [w2]; omega
      show ((f ((i 0).val * 1 + ((⟨3, ![1, 1, N]⟩ : Shape).rowMajor.symm k 0).val - 0)
        ((i 1).val * 1 + ((⟨3, ![1, 1, N]⟩ : Shape).rowMajor.symm k 1).val - 0)
        ((i 2).val * 1 + ((⟨3, ![1, 1, N]⟩ : Shape).rowMajor.symm k 2).val - lo) : ℝ) : EReal) = _
      rw [e0, e1, e2]
    · next hin =>
      rw [if_neg]
      intro h2
      apply hin
      intro b
      match b with
      | ⟨0, _⟩ =>
        show 0 ≤ (i 0).val * 1 + ((⟨3, ![1, 1, N]⟩ : Shape).rowMajor.symm k 0).val ∧ (i 0).val * 1 + ((⟨3, ![1, 1, N]⟩ : Shape).rowMajor.symm k 0).val - 0 < a
        rw [w0]; omega
      | ⟨1, _⟩ =>
        show 0 ≤ (i 1).val * 1 + ((⟨3, ![1, 1, N]⟩ : Shape).rowMajor.symm k 1).val ∧ (i 1).val * 1 + ((⟨3, ![1, 1, N]⟩ : Shape).rowMajor.symm k 1).val - 0 < n
        rw [w1]; omega
      | ⟨2, _⟩ =>
        show lo ≤ (i 2).val * 1 + ((⟨3, ![1, 1, N]⟩ : Shape).rowMajor.symm k 2).val ∧ (i 2).val * 1 + ((⟨3, ![1, 1, N]⟩ : Shape).rowMajor.symm k 2).val - lo < N
        rw [w2]; omega
  · rw [sum_finRange (fun k => if lo ≤ (i 2).val + k ∧ (i 2).val + k - lo < N then f (i 0).val (i 1).val ((i 2).val + k - lo) else 0), zero_add]
    congr 1
    exact congrArg (fun M => ∑ k ∈ Finset.range M, if lo ≤ (i 2).val + k ∧ (i 2).val + k - lo < N then f (i 0).val (i 1).val ((i 2).val + k - lo) else 0) (window_numel N)

/-- The running sum from the last element back: each element and what follows it. -/
theorem R3.sumFrom (h : R3 u f) (hx : x ix0 = ((0 : ℝ) : EReal)) (hi : ℕ)
    (hw : (⟨3, ![a, n, N]⟩ : Shape).ReduceWindows (![1, 1, N] : Fin 3 → Nat) ![1, 1, 1] ![0, 0, 0] ![0, 0, hi] ⟨3, ![a, n, N]⟩)
    (hu : 0 < (⟨0, ![]⟩ : Shape).numel) :
    R3 (φ := φ) (Host.reduceWindowAdd ![1, 1, N] ![1, 1, 1] ![0, 0, 0] ![0, 0, hi] u x hw hu)
      (fun t r s => ∑ k ∈ Finset.range N, f t r k - ∑ k ∈ Finset.range s, f t r k) :=
  (h.window hx 0 hi hw hu).congr fun t _ r _ s hs => by
    obtain ⟨d, rfl⟩ : ∃ d, N = s + d := ⟨N - s, by omega⟩
    rw [Nat.add_comm s d, Finset.sum_range_add (n := d) (m := s), Nat.add_comm d s, Finset.sum_range_add (n := s) (m := d), add_sub_cancel_left,
      Finset.sum_eq_zero (s := Finset.range s), add_zero]
    · refine Finset.sum_congr rfl fun k hk => ?_
      have := Finset.mem_range.1 hk
      rw [if_pos (by omega), Nat.sub_zero]
    · intro k _
      rw [if_neg (by omega)]

/-- The running sum from the first element on: each element and what precedes it. -/
theorem R3.sumTo (h : R3 u f) (hx : x ix0 = ((0 : ℝ) : EReal)) (lo : ℕ) (hlo : lo + 1 = N)
    (hw : (⟨3, ![a, n, N]⟩ : Shape).ReduceWindows (![1, 1, N] : Fin 3 → Nat) ![1, 1, 1] ![0, 0, lo] ![0, 0, 0] ⟨3, ![a, n, N]⟩)
    (hu : 0 < (⟨0, ![]⟩ : Shape).numel) :
    R3 (φ := φ) (Host.reduceWindowAdd ![1, 1, N] ![1, 1, 1] ![0, 0, lo] ![0, 0, 0] u x hw hu)
      (fun t r s => ∑ k ∈ Finset.range (s + 1), f t r k) :=
  (h.window hx lo 0 hw hu).congr fun t _ r _ s hs => by
    obtain ⟨d, rfl⟩ : ∃ d, lo = s + d := ⟨lo - s, by omega⟩
    have e : N = d + (s + 1) := by omega
    rw [congrArg Finset.range e, Finset.sum_range_add (n := d) (m := s + 1), Finset.sum_eq_zero (s := Finset.range d), zero_add]
    · refine Finset.sum_congr rfl fun k hk => ?_
      have := Finset.mem_range.1 hk
      rw [if_pos (by omega)]
      congr 1; omega
    · intro k hk
      have := Finset.mem_range.1 hk
      rw [if_neg (by omega)]
end

end Cert.Proof
-- ==== Proof.Weights.lean ====
/- What the reference computes of the forward pass: the scores, log(1 - beta), its running sums, and the attention weights. -/
module

public import proofs.«01_k».proof.Proof.Inputs
public import proofs.«01_k».proof.Proof.Host
public import proofs.«01_k».proof.Proof.Gen.ReferenceIdeal.Read

@[expose] public section

noncomputable section

namespace Cert.Proof

open Idealize.ShloMosaic Idealize.ShloMosaic.ValueIdx Cert.ReferenceIdeal Cert.ReferenceIdeal.Gen Cert.ReferenceIdeal.Read
open scoped BigOperators

section
variable {x0 : FVec Ideal ⟨2, ![4096, 4608]⟩ .f32} {x1 : FVec Ideal ⟨2, ![4096, 512]⟩ .f32}

/-- Softplus of minus head `H`'s score. -/
def soft (x0 : FVec Ideal ⟨2, ![4096, 4608]⟩ .f32) (x1 : FVec Ideal ⟨2, ![4096, 512]⟩ .f32) (H t s : ℕ) : ℝ :=
  Real.log (1 + Real.exp ((dat x0 x1 (H / 2)).nz (H % 2) t s))

theorem soft_eq (hT : Tame x0 x1) {H t s : ℕ} (hH : H < 8) (ht : t < 4096) (hs : s < t) :
    (dat x0 x1 (H / 2)).mn (H % 2) t s = (dat x0 x1 (H / 2)).nz (H % 2) t s ∧ (dat x0 x1 (H / 2)).sp (H % 2) t s = soft x0 x1 H t s := by
  have e : (dat x0 x1 (H / 2)).mn (H % 2) t s = (dat x0 x1 (H / 2)).nz (H % 2) t s := min_eq_left (hT.2.2 H t s hH ht hs)
  exact ⟨e, by rw [Data.sp, e, soft]⟩

theorem r_q (hT : Finite x0) : R3 (φ := .f32) (val_main_v4 (F := Ideal) x0) (fun H t l => entry x0 t (64 * H + l)) := fun i => by
  have h0 : (i 0).val < 8 := (i 0).isLt
  have h1 : (i 1).val < 4096 := (i 1).isLt
  have h2 : (i 2).val < 64 := (i 2).isLt
  rw [val_main_v4_apply, val_main_v3_apply, val_main_v0_apply]
  refine (hT _ ?_).trans ?_
  · show (((i 1).val * 8 + (i 0).val) * 64 + (i 2).val) % 512 < 1536
    omega
  · show ((entry x0 ((((i 1).val * 8 + (i 0).val) * 64 + (i 2).val) / 512) ((((i 1).val * 8 + (i 0).val) * 64 + (i 2).val) % 512) : ℝ) : EReal) = _
    rw [show (((i 1).val * 8 + (i 0).val) * 64 + (i 2).val) / 512 = (i 1).val by omega,
      show (((i 1).val * 8 + (i 0).val) * 64 + (i 2).val) % 512 = 64 * (i 0).val + (i 2).val by omega]

theorem r_k (hT : Finite x0) : R3 (φ := .f32) (val_main_v6 (F := Ideal) x0) (fun H t l => entry x0 t (512 + 64 * H + l)) := fun i => by
  have h0 : (i 0).val < 8 := (i 0).isLt
  have h1 : (i 1).val < 4096 := (i 1).isLt
  have h2 : (i 2).val < 64 := (i 2).isLt
  rw [val_main_v6_apply, val_main_v5_apply, val_main_v1_apply]
  refine (hT _ ?_).trans ?_
  · show 512 + (((i 1).val * 8 + (i 0).val) * 64 + (i 2).val) % 512 < 1536
    omega
  · show ((entry x0 ((((i 1).val * 8 + (i 0).val) * 64 + (i 2).val) / 512) (512 + (((i 1).val * 8 + (i 0).val) * 64 + (i 2).val) % 512) : ℝ) : EReal) = _
    rw [show (((i 1).val * 8 + (i 0).val) * 64 + (i 2).val) / 512 = (i 1).val by omega,
      show 512 + (((i 1).val * 8 + (i 0).val) * 64 + (i 2).val) % 512 = 512 + 64 * (i 0).val + (i 2).val by omega]

theorem r_v (hT : Tame x0 x1) : R3 (φ := .f32) (val_main_v27 (F := Ideal) x0) (fun H t l => entry x0 t (1024 + 64 * H + l)) := fun i => by
  have h0 : (i 0).val < 8 := (i 0).isLt
  have h1 : (i 1).val < 4096 := (i 1).isLt
  have h2 : (i 2).val < 64 := (i 2).isLt
  rw [val_main_v27_apply, val_main_v26_apply, val_main_v2_apply]
  refine (hT.1 _ ?_).trans ?_
  · show 1024 + (((i 1).val * 8 + (i 0).val) * 64 + (i 2).val) % 512 < 1536
    omega
  · show ((entry x0 ((((i 1).val * 8 + (i 0).val) * 64 + (i 2).val) / 512) (1024 + (((i 1).val * 8 + (i 0).val) * 64 + (i 2).val) % 512) : ℝ) : EReal) = _
    rw [show (((i 1).val * 8 + (i 0).val) * 64 + (i 2).val) / 512 = (i 1).val by omega,
      show 1024 + (((i 1).val * 8 + (i 0).val) * 64 + (i 2).val) % 512 = 1024 + 64 * (i 0).val + (i 2).val by omega]

theorem r_dy (hT : Tame x0 x1) : R3 (φ := .f32) (val_main_v32 (F := Ideal) x1) (fun H t l => entry x1 t (64 * H + l)) := fun i => by
  have h0 : (i 0).val < 8 := (i 0).isLt
  have h1 : (i 1).val < 4096 := (i 1).isLt
  have h2 : (i 2).val < 64 := (i 2).isLt
  rw [val_main_v32_apply, val_main_v31_apply]
  refine (hT.2.1 _).trans ?_
  show ((entry x1 ((((i 1).val * 8 + (i 0).val) * 64 + (i 2).val) / 512) ((((i 1).val * 8 + (i 0).val) * 64 + (i 2).val) % 512) : ℝ) : EReal) = _
  rw [show (((i 1).val * 8 + (i 0).val) * 64 + (i 2).val) / 512 = (i 1).val by omega,
    show (((i 1).val * 8 + (i 0).val) * 64 + (i 2).val) % 512 = 64 * (i 0).val + (i 2).val by omega]

/-- An array holding one constant everywhere. -/
theorem r_const {b : BitVec 32} {r : ℝ} (h : Ideal.ofBits .f32 b = (r : EReal)) :
    R3 (φ := .f32) (broadcastInDim S8x4096x4096 ![] bcast_S_S8x4096x4096 (constant (F := Ideal) S_ .f32 b)) (fun _ _ _ => r) :=
  R3.scalar (φ := .f32) (x := constant (F := Ideal) S_ .f32 b) h bcast_S_S8x4096x4096

theorem r_score (hT : Finite x0) :
    R3 (φ := .f32) (val_main_v7 (F := Ideal) x0) (fun H t s => ∑ k ∈ Finset.range 64, entry x0 t (64 * H + k) * entry x0 s (512 + 64 * H + k)) := fun i => by
  rw [val_main_v7_apply]
  exact sum_coe_mul (fun k => r_q hT _) (fun k => r_k hT _)

theorem r_z (hT : Finite x0) : R3 (φ := .f32) (val_main_v9 (F := Ideal) x0) (fun H t s => -(dat x0 x1 (H / 2)).nz (H % 2) t s) := by
  have h : R3 (φ := .f32) (val_main_v9 (F := Ideal) x0) _ := (r_score hT).mulf (r_const bits_eighth)
  exact h.congr fun H _ t _ s _ => by rw [nz_head, neg_neg]

theorem r_nz (hT : Tame x0 x1) : R3 (φ := .f32) (val_main_call0_v0 (F := Ideal) x0) (fun H t s => (dat x0 x1 (H / 2)).nz (H % 2) t s) := by
  have h : R3 (φ := .f32) (val_main_call0_v0 (F := Ideal) x0) _ := (r_z (x1 := x1) hT.1).negf
  exact h.congr fun H _ t _ s _ => neg_neg _

theorem r_soft (hT : Tame x0 x1) : R3 (φ := .f32) (val_main_call0_v1_0 (F := Ideal) x0) (soft x0 x1) := by
  have h3 : R3 (φ := .f32) (val_main_call0_call0_v3 (F := Ideal) x0) _ := (r_nz hT).subf (r_const bits_zero)
  have h6 : R3 (φ := .f32) (val_main_call0_call0_v6 (F := Ideal) x0) _ := (r_nz hT).addf (r_const bits_zero)
  have h1 : R3 (φ := .f32) (val_main_call0_call0_v1 (F := Ideal) x0) _ := (r_nz hT).maximumf (r_const bits_zero)
  have h9 : R3 (φ := .f32) (val_main_call0_call0_v9 (F := Ideal) x0) _ := h3.absf.negf.exp
  have h10 : R3 (φ := .f32) (val_main_call0_call0_v10 (F := Ideal) x0) _ := h9.log1p fun _ _ _ => by positivity
  have h11 : R3 (φ := .f32) (val_main_call0_call0_v11 (F := Ideal) x0) _ := h1.addf h10
  have h : R3 (φ := .f32) (val_main_call0_v1_0 (F := Ideal) x0) _ := R3.select (M3.une (u := val_main_call0_call0_v3 (F := Ideal) x0)) h6 h11
  exact h.congr fun H _ t _ s _ => by rw [if_neg id, sub_zero, softplus_eq, soft]

/-- The bits of infinity. -/
theorem bits_top : Ideal.ofBits .f32 0x7F800000#32 = (⊤ : EReal) := by
  simp [Ideal.ofBits, Ideal.ieee]

theorem r_top (i : S8x4096x4096.Idx) :
    broadcastInDim S8x4096x4096 ![] bcast_S_S8x4096x4096 (constant (F := Ideal) S_ .f32 0x7F800000#32) i = (⊤ : EReal) := by
  rw [broadcastInDim_scalar_apply]
  exact bits_top

/-- One minus beta, as the derivative of softplus is computed. -/
theorem r_rest (hT : Tame x0 x1) : R3 (φ := .f32) (val_main_v18_1 (F := Ideal) x0) (fun H t s => 1 - Real.exp (0 - soft x0 x1 H t s)) := by
  have m14 : M3 (val_main_call0_call0_v14 (F := Ideal) x0) (fun _ _ _ => False) := M3.isTop (r_nz hT) r_top
  have m18 : M3 (val_main_call0_call0_v18 (F := Ideal) x0) (fun _ _ _ => False) := M3.isTop (r_soft hT) r_top
  have h16 : R3 (φ := .f32) (val_main_call0_call0_v16 (F := Ideal) x0) _ := R3.select m14 (r_const bits_zero) (r_nz hT)
  have h20 : R3 (φ := .f32) (val_main_call0_call0_v20 (F := Ideal) x0) _ := R3.select m18 (r_const bits_zero) (r_soft hT)
  have h : R3 (φ := .f32) (val_main_v18_1 (F := Ideal) x0) _ := (h16.subf h20).exp
  exact h.congr fun H _ t _ s _ => by rw [if_neg id, if_neg id, soft, logistic_eq]

theorem r_logb (hT : Tame x0 x1) : R3 (φ := .f32) (val_main_v18_0 (F := Ideal) x0) (fun H t s => -soft x0 x1 H t s) := (r_soft hT).negf

theorem m_below : M3 (val_main_v20_1 (F := Ideal)) (fun _ t s => s < t) := fun i => by
  have h1 : (i 1).val < 4096 := (i 1).isLt
  have h2 : (i 2).val < 4096 := (i 2).isLt
  rw [val_main_v20_1_apply, val_main_v17_apply, val_main_v16_apply, val_main_v14_apply, val_main_v15_apply, val_main_v11_apply,
    val_main_v13_apply, val_main_v10_apply, val_main_v12_apply]
  show BitVec.ofBool ((BitVec.ofNat 32 (i 2).val).slt (BitVec.ofNat 32 (i 1).val)) = _
  rw [slt_small (by omega) (by omega)]
  by_cases hc : (i 2).val < (i 1).val <;> simp [hc]

theorem m_below' : M3 (val_main_v25_1 (F := Ideal)) (fun _ t s => s < t) := m_below

theorem r_lk (hT : Tame x0 x1) : R3 (φ := .f32) (val_main_v20_0 (F := Ideal) x0) (fun H t s => (dat x0 x1 (H / 2)).lk (H % 2) t s) := by
  have h19 : R3 (φ := .f32) (val_main_v19 (F := Ideal) x0) _ := (r_logb hT).subf (r_z (x1 := x1) hT.1)
  have h : R3 (φ := .f32) (val_main_v20_0 (F := Ideal) x0) _ := R3.select m_below h19 (r_const bits_zero)
  refine h.congr fun H hH t ht s _ => ?_
  by_cases hs : s < t
  · rw [if_pos hs, Data.lk, if_pos hs, (soft_eq hT hH ht hs).1, (soft_eq hT hH ht hs).2]; ring
  · rw [if_neg hs, Data.lk, if_neg hs]

theorem zero_scalar : (broadcastInDim S_ ![] bcast_S_S_ (constant (F := Ideal) S_ .f32 0x00000000#32)) ix0 = ((0 : ℝ) : EReal) := by
  rw [broadcastInDim_scalar_apply]
  exact bits_zero

theorem r_logw (hT : Tame x0 x1) : R3 (φ := .f32) (val_main_v24 (F := Ideal) x0)
    (fun H t s => Real.exp (-soft x0 x1 H t s + ((dat x0 x1 (H / 2)).pre (H % 2) t 4096 - (dat x0 x1 (H / 2)).pre (H % 2) t (s + 1)))) := by
  have h21 : R3 (φ := .f32) (val_main_v21 (F := Ideal) x0) _ := R3.sumFrom (r_lk hT) (x := val_main_call2_v0 (F := Ideal)) zero_scalar 4095
    reduceWindows_S8x4096x4096_S8x4096x4096_w1s1p0_0_w1s1p0_0_w4096s1p0_4095 h_S_
  have h22 : R3 (φ := .f32) (val_main_v22 (F := Ideal) x0) _ := h21.subf (r_lk hT)
  have h23 : R3 (φ := .f32) (val_main_v23 (F := Ideal) x0) _ := (r_logb hT).addf h22
  have h : R3 (φ := .f32) (val_main_v24 (F := Ideal) x0) _ := h23.exp
  exact h.congr fun H _ t _ s _ => by
    rw [show (dat x0 x1 (H / 2)).pre (H % 2) t (s + 1) = (dat x0 x1 (H / 2)).pre (H % 2) t s + (dat x0 x1 (H / 2)).lk (H % 2) t s from
      Finset.sum_range_succ _ _, Data.pre, Data.pre, sub_add_eq_sub_sub]

/-- The weight, below the diagonal. -/
theorem weight_eq (hT : Tame x0 x1) {H t s : ℕ} (hH : H < 8) (ht : t < 4096) (hs : s < t) :
    Real.exp (-soft x0 x1 H t s + ((dat x0 x1 (H / 2)).pre (H % 2) t 4096 - (dat x0 x1 (H / 2)).pre (H % 2) t (s + 1)))
      = (dat x0 x1 (H / 2)).a (H % 2) t s := by
  rw [Data.a, if_pos hs, (soft_eq hT hH ht hs).2, dat_T]
  congr 1
  ring

theorem r_a (hT : Tame x0 x1) : R3 (φ := .f32) (val_main_v25_0 (F := Ideal) x0) (fun H t s => (dat x0 x1 (H / 2)).a (H % 2) t s) := by
  have h : R3 (φ := .f32) (val_main_v25_0 (F := Ideal) x0) _ := R3.select m_below' (r_logw hT) (r_const bits_zero)
  refine h.congr fun H hH t ht s _ => ?_
  by_cases hs : s < t
  · rw [if_pos hs, weight_eq hT hH ht hs]
  · rw [if_neg hs, Data.a, if_neg hs]
end

end Cert.Proof
-- ==== Proof.Blocks.lean ====
/- What each grid point loads: rows of q, k and v (columns of the first argument), of the output's derivative (the second argument), and the
   row sums of log(1 - beta), which the host computes beforehand with the forward pass's own operations. -/
module

public import proofs.«01_k».proof.Proof.Weights
public import proofs.«01_k».proof.Proof.Gen.KernelIdeal.Frame
public import Idealize.ShloMosaic.Lib.Pointwise.Reduce

@[expose] public section

noncomputable section

namespace Cert.Proof

open Idealize.ShloMosaic Idealize.ShloMosaic.TcCoe Idealize.ShloMosaic.ValueIdx Idealize.SL Idealize.SL.Sem Cert.KernelIdeal Cert.KernelIdeal.Gen
open scoped BigOperators

section
variable (m : (ℓ : Loc nD τ sig) → Buf (Elt Ideal) ℓ) (c : Dev nD)

/-- The two arguments. -/
abbrev arg0 : FVec Ideal ⟨2, ![4096, 4608]⟩ .f32 := m ((c : Thread nD τ).loc main_arg0)
abbrev arg1 : FVec Ideal ⟨2, ![4096, 512]⟩ .f32 := m ((c : Thread nD τ).loc main_arg1)

/-- The row sums, each head's repeated over its 64 lanes. -/
theorem V_tot : (V m c main_v23 : FVec Ideal ⟨2, ![4096, 512]⟩ .f32) = shapeCast S4096x512 (broadcastInDim S4096x8x64 ![0, 1] bcast_S4096x8_S4096x8x64_0_1
    (transpose S4096x8 [1, 0] (Host.reduceAdd (Cert.ReferenceIdeal.Read.val_main_v20_0 (F := Ideal) (arg0 m c)) (constant (F := Ideal) S_ .f32 0x00000000#32)
      reducesTo_S8x4096x4096_S8x4096_d2 h_S_) transposes_S8x4096_S4096x8_1_0)) shapeCasts_S4096x8x64_S4096x512 := by
  simp only [V, hostOps0, hostOps0_1, hostOps0_2, hostOps0_3, hostOps0_4, List.flatten_cons, List.flatten_nil, List.append_nil, List.cons_append,
    List.nil_append, StableHlo.TRef.binary, StableHlo.TRef.nullary, StableHlo.TRef.ternary, StableHlo.TRef.unary, StableHlo.TRef.toBuf, StableHlo.TRef.ofBuf, cast_eq]
  after_results_simp <;> rfl

/-- Every element of the row sums' array. -/
theorem tot (hT : Tame (arg0 m c) (arg1 m c)) : R2 (φ := .f32) (V m c main_v23 : FVec Ideal ⟨2, ![4096, 512]⟩ .f32)
    (fun t l => (dat (arg0 m c) (arg1 m c) (l / 128)).T (l / 64 % 2) t) := fun i => by
  have h0 : (i 0).val < 4096 := (i 0).isLt
  have h1 : (i 1).val < 512 := (i 1).isLt
  have hr := r_lk hT
  rw [V_tot m c]
  generalize Cert.ReferenceIdeal.Read.val_main_v20_0 (F := Ideal) (arg0 m c) = u at hr ⊢
  refine (shapeCast_apply _ _ i (ValueIdx.ix3 ⟨(i 0).val, h0⟩ ⟨(i 1).val / 64, by omega⟩ ⟨(i 1).val % 64, by omega⟩) ?_).trans ?_
  · rewrite [Shape.rowMajor_val_two, Shape.rowMajor_val_three]
    show ((i 0).val * 8 + (i 1).val / 64) * 64 + (i 1).val % 64 = (i 0).val * 512 + (i 1).val
    omega
  refine (broadcastInDim_apply _ _ _ _ (ValueIdx.ix2 ⟨(i 0).val, h0⟩ ⟨(i 1).val / 64, by omega⟩) (fun a => match a with | ⟨0, _⟩ => rfl | ⟨1, _⟩ => rfl)).trans ?_
  refine (transpose_apply _ _ _ _ (ValueIdx.ix2 ⟨(i 1).val / 64, by omega⟩ ⟨(i 0).val, h0⟩) (fun b => match b with | ⟨0, _⟩ => rfl | ⟨1, _⟩ => rfl)).trans ?_
  rw [hostReduceAdd_apply, Ideal.hostReduceAdd_r3_a2]
  have e : ∀ k : Fin 4096, u (ValueIdx.ix3 ⟨(i 1).val / 64, by omega⟩ ⟨(i 0).val, h0⟩ k) =
      (((dat (arg0 m c) (arg1 m c) ((i 1).val / 64 / 2)).lk ((i 1).val / 64 % 2) (i 0).val k.val : ℝ) : EReal) := fun k => hr _
  refine (congrArg₂ (· + ·) bits_zero (Finset.sum_congr rfl fun k _ => e k)).trans ?_
  show _ = (((dat (arg0 m c) (arg1 m c) ((i 1).val / 128)).T ((i 1).val / 64 % 2) (i 0).val : ℝ) : EReal)
  rw [← coe_sum, ← EReal.coe_add, zero_add, dat_T, Data.pre, Finset.sum_range, show (i 1).val / 64 / 2 = (i 1).val / 128 by omega]
end

section
variable (m : (ℓ : Loc nD τ sig) → Buf (Elt Ideal) ℓ) (c : Dev nD)

theorem at0 : ∀ t : Fin cfg0.N, win0_0.index t (0 : Fin 2) = t.val % 4 ∧ win0_0.index t (1 : Fin 2) = t.val / 4 :=
  (by decide +kernel : ∀ t : Fin grid0.N, win0_0.index t (0 : Fin 2) = t.val % 4 ∧ win0_0.index t (1 : Fin 2) = t.val / 4)
theorem at1 : ∀ t : Fin cfg0.N, win0_1.index t (0 : Fin 2) = 0 ∧ win0_1.index t (1 : Fin 2) = 4 + t.val / 4 :=
  (by decide +kernel : ∀ t : Fin grid0.N, win0_1.index t (0 : Fin 2) = 0 ∧ win0_1.index t (1 : Fin 2) = 4 + t.val / 4)
theorem at2 : ∀ t : Fin cfg0.N, win0_2.index t (0 : Fin 2) = 0 ∧ win0_2.index t (1 : Fin 2) = 8 + t.val / 4 :=
  (by decide +kernel : ∀ t : Fin grid0.N, win0_2.index t (0 : Fin 2) = 0 ∧ win0_2.index t (1 : Fin 2) = 8 + t.val / 4)
theorem at3 : ∀ t : Fin cfg0.N, win0_3.index t (0 : Fin 2) = t.val % 4 ∧ win0_3.index t (1 : Fin 2) = t.val / 4 :=
  (by decide +kernel : ∀ t : Fin grid0.N, win0_3.index t (0 : Fin 2) = t.val % 4 ∧ win0_3.index t (1 : Fin 2) = t.val / 4)
theorem at4 : ∀ t : Fin cfg0.N, win0_4.index t (0 : Fin 2) = t.val % 4 ∧ win0_4.index t (1 : Fin 2) = t.val / 4 :=
  (by decide +kernel : ∀ t : Fin grid0.N, win0_4.index t (0 : Fin 2) = t.val % 4 ∧ win0_4.index t (1 : Fin 2) = t.val / 4)

theorem load_q (hT : Tame (arg0 m c) (arg1 m c)) (t : Fin cfg0.N) : R2 (n := 1024) (m := 128) (φ := .f32) (iblk m c 0 t)
    (fun r l => (dat (arg0 m c) (arg1 m c) (t.val / 4)).Q (1024 * (t.val % 4) + r) l) := fun y => by
  have h0 : (y 0).val < 1024 := (y 0).isLt
  have h1 : (y 1).val < 128 := (y 1).isLt
  have hN : t.val < 16 := lt_of_lt_of_eq t.isLt N_0
  have e0 : (((cfg0.win 0).blk t).view.emb y 0).val = win0_0.index t (0 : Fin 2) * 1024 + 1 * (y 0).val := rfl
  have e1 : (((cfg0.win 0).blk t).view.emb y 1).val = win0_0.index t (1 : Fin 2) * 128 + 1 * (y 1).val := rfl
  rw [(at0 t).1] at e0
  rw [(at0 t).2] at e1
  have e : iblk m c 0 t y = arg0 m c (((cfg0.win 0).blk t).view.emb y) := congrFun (V_main_arg0 m c) _
  refine e.trans ((hT.1 _ ?_).trans ?_)
  · rw [e1]; omega
  · show _ = ((entry (arg0 m c) (1024 * (t.val % 4) + (y 0).val) (128 * (t.val / 4) + (y 1).val) : ℝ) : EReal)
    rw [e0, e1, show t.val % 4 * 1024 + 1 * (y 0).val = 1024 * (t.val % 4) + (y 0).val by omega,
      show t.val / 4 * 128 + 1 * (y 1).val = 128 * (t.val / 4) + (y 1).val by omega]

theorem load_k (hT : Tame (arg0 m c) (arg1 m c)) (t : Fin cfg0.N) : R2 (n := 4096) (m := 128) (φ := .f32) (iblk m c 1 t)
    (dat (arg0 m c) (arg1 m c) (t.val / 4)).K := fun y => by
  have h0 : (y 0).val < 4096 := (y 0).isLt
  have h1 : (y 1).val < 128 := (y 1).isLt
  have hN : t.val < 16 := lt_of_lt_of_eq t.isLt N_0
  have e0 : (((cfg0.win 1).blk t).view.emb y 0).val = win0_1.index t (0 : Fin 2) * 4096 + 1 * (y 0).val := rfl
  have e1 : (((cfg0.win 1).blk t).view.emb y 1).val = win0_1.index t (1 : Fin 2) * 128 + 1 * (y 1).val := rfl
  rw [(at1 t).1] at e0
  rw [(at1 t).2] at e1
  have e : iblk m c 1 t y = arg0 m c (((cfg0.win 1).blk t).view.emb y) := congrFun (V_main_arg0 m c) _
  refine e.trans ((hT.1 _ ?_).trans ?_)
  · rw [e1]; omega
  · show _ = ((entry (arg0 m c) (y 0).val (512 + 128 * (t.val / 4) + (y 1).val) : ℝ) : EReal)
    rw [e0, e1, show 0 * 4096 + 1 * (y 0).val = (y 0).val by omega,
      show (4 + t.val / 4) * 128 + 1 * (y 1).val = 512 + 128 * (t.val / 4) + (y 1).val by omega]

theorem load_v (hT : Tame (arg0 m c) (arg1 m c)) (t : Fin cfg0.N) : R2 (n := 4096) (m := 128) (φ := .f32) (iblk m c 2 t)
    (dat (arg0 m c) (arg1 m c) (t.val / 4)).V := fun y => by
  have h0 : (y 0).val < 4096 := (y 0).isLt
  have h1 : (y 1).val < 128 := (y 1).isLt
  have hN : t.val < 16 := lt_of_lt_of_eq t.isLt N_0
  have e0 : (((cfg0.win 2).blk t).view.emb y 0).val = win0_2.index t (0 : Fin 2) * 4096 + 1 * (y 0).val := rfl
  have e1 : (((cfg0.win 2).blk t).view.emb y 1).val = win0_2.index t (1 : Fin 2) * 128 + 1 * (y 1).val := rfl
  rw [(at2 t).1] at e0
  rw [(at2 t).2] at e1
  have e : iblk m c 2 t y = arg0 m c (((cfg0.win 2).blk t).view.emb y) := congrFun (V_main_arg0 m c) _
  refine e.trans ((hT.1 _ ?_).trans ?_)
  · rw [e1]; omega
  · show _ = ((entry (arg0 m c) (y 0).val (1024 + 128 * (t.val / 4) + (y 1).val) : ℝ) : EReal)
    rw [e0, e1, show 0 * 4096 + 1 * (y 0).val = (y 0).val by omega,
      show (8 + t.val / 4) * 128 + 1 * (y 1).val = 1024 + 128 * (t.val / 4) + (y 1).val by omega]

theorem load_t (hT : Tame (arg0 m c) (arg1 m c)) (t : Fin cfg0.N) : R2 (n := 1024) (m := 128) (φ := .f32) (iblk m c 3 t)
    (fun r l => (dat (arg0 m c) (arg1 m c) (t.val / 4)).T (l / 64) (1024 * (t.val % 4) + r)) := fun y => by
  have h0 : (y 0).val < 1024 := (y 0).isLt
  have h1 : (y 1).val < 128 := (y 1).isLt
  have hN : t.val < 16 := lt_of_lt_of_eq t.isLt N_0
  have e0 : (((cfg0.win 3).blk t).view.emb y 0).val = win0_3.index t (0 : Fin 2) * 1024 + 1 * (y 0).val := rfl
  have e1 : (((cfg0.win 3).blk t).view.emb y 1).val = win0_3.index t (1 : Fin 2) * 128 + 1 * (y 1).val := rfl
  rw [(at3 t).1] at e0
  rw [(at3 t).2] at e1
  have e : iblk m c 3 t y = (V m c main_v23 : FVec Ideal ⟨2, ![4096, 512]⟩ .f32) (((cfg0.win 3).blk t).view.emb y) := rfl
  refine e.trans ((tot m c hT _).trans ?_)
  show (((dat (arg0 m c) (arg1 m c) ((((cfg0.win 3).blk t).view.emb y 1).val / 128)).T ((((cfg0.win 3).blk t).view.emb y 1).val / 64 % 2)
      (((cfg0.win 3).blk t).view.emb y 0).val : ℝ) : EReal)
    = (((dat (arg0 m c) (arg1 m c) (t.val / 4)).T ((y 1).val / 64) (1024 * (t.val % 4) + (y 0).val) : ℝ) : EReal)
  rw [e0, e1, show (t.val / 4 * 128 + 1 * (y 1).val) / 128 = t.val / 4 by omega, show (t.val / 4 * 128 + 1 * (y 1).val) / 64 % 2 = (y 1).val / 64 by omega,
    show t.val % 4 * 1024 + 1 * (y 0).val = 1024 * (t.val % 4) + (y 0).val by omega]

theorem load_dy (hT : Tame (arg0 m c) (arg1 m c)) (t : Fin cfg0.N) : R2 (n := 1024) (m := 128) (φ := .f32) (iblk m c 4 t)
    (fun r l => (dat (arg0 m c) (arg1 m c) (t.val / 4)).DY (1024 * (t.val % 4) + r) l) := fun y => by
  have h0 : (y 0).val < 1024 := (y 0).isLt
  have h1 : (y 1).val < 128 := (y 1).isLt
  have hN : t.val < 16 := lt_of_lt_of_eq t.isLt N_0
  have e0 : (((cfg0.win 4).blk t).view.emb y 0).val = win0_4.index t (0 : Fin 2) * 1024 + 1 * (y 0).val := rfl
  have e1 : (((cfg0.win 4).blk t).view.emb y 1).val = win0_4.index t (1 : Fin 2) * 128 + 1 * (y 1).val := rfl
  rw [(at4 t).1] at e0
  rw [(at4 t).2] at e1
  have e : iblk m c 4 t y = arg1 m c (((cfg0.win 4).blk t).view.emb y) := congrFun (V_main_arg1 m c) _
  refine e.trans ((hT.2.1 _).trans ?_)
  show _ = ((entry (arg1 m c) (1024 * (t.val % 4) + (y 0).val) (128 * (t.val / 4) + (y 1).val) : ℝ) : EReal)
  rw [e0, e1, show t.val % 4 * 1024 + 1 * (y 0).val = 1024 * (t.val % 4) + (y 0).val by omega,
    show t.val / 4 * 128 + 1 * (y 1).val = 128 * (t.val / 4) + (y 1).val by omega]

end

end Cert.Proof
-- ==== Proof.Gradients.lean ====
/- What the reference computes of the backward pass: the derivatives of the weights and of the scores, and from them the three results. -/
module

public import proofs.«01_k».proof.Proof.Weights

@[expose] public section

noncomputable section

namespace Cert.Proof

open Idealize.ShloMosaic Idealize.ShloMosaic.ValueIdx Cert.ReferenceIdeal Cert.ReferenceIdeal.Gen Cert.ReferenceIdeal.Read
open scoped BigOperators

section
variable {x0 : FVec Ideal ⟨2, ![4096, 4608]⟩ .f32} {x1 : FVec Ideal ⟨2, ![4096, 512]⟩ .f32}

theorem r_dyv (hT : Tame x0 x1) :
    R3 (φ := .f32) (val_main_v35 (F := Ideal) x0 x1) (fun H t s => (dat x0 x1 (H / 2)).dyv (H % 2) t s) := fun i => by
  rw [val_main_v35_apply]
  exact (sum_coe_mul (fun k => r_dy hT _) (fun k => r_v hT _)).trans (congrArg (fun x : ℝ => (x : EReal)) (dyv_head x0 x1 _ _ _).symm)

theorem r_g (hT : Tame x0 x1) :
    R3 (φ := .f32) (val_main_v39 (F := Ideal) x0 x1) (fun H t s => (dat x0 x1 (H / 2)).g (H % 2) t s) := by
  have h38 : R3 (φ := .f32) (val_main_v38 (F := Ideal) x0 x1) _ := R3.select m_below' (r_dyv hT) (r_const bits_zero)
  have h : R3 (φ := .f32) (val_main_v39 (F := Ideal) x0 x1) _ := h38.mulf (r_logw hT)
  refine h.congr fun H hH t ht s _ => ?_
  by_cases hs : s < t
  · rw [if_pos hs, weight_eq hT hH ht hs, Data.g]
  · rw [if_neg hs, zero_mul, Data.g_ge _ (by omega)]

theorem r_gs (hT : Tame x0 x1) :
    R3 (φ := .f32) (val_main_v43 (F := Ideal) x0 x1) (fun H t s => if s < t then (dat x0 x1 (H / 2)).gs (H % 2) t s else 0) := by
  have h41 : R3 (φ := .f32) (val_main_v41 (F := Ideal) x0 x1) _ := R3.sumTo (r_g hT) (x := val_main_call5_v0 (F := Ideal)) zero_scalar 4095 rfl
    reduceWindows_S8x4096x4096_S8x4096x4096_w1s1p0_0_w1s1p0_0_w4096s1p4095_0 h_S_
  have h42 : R3 (φ := .f32) (val_main_v42 (F := Ideal) x0 x1) _ := (r_g hT).negf.addf h41
  have h : R3 (φ := .f32) (val_main_v43 (F := Ideal) x0 x1) _ := R3.select m_below h42 (r_const bits_zero)
  refine h.congr fun H _ t _ s _ => ?_
  rw [Finset.sum_range_succ, Data.gs]
  congr 1
  ring

theorem r_dz (hT : Tame x0 x1) :
    R3 (φ := .f32) (val_main_v47 (F := Ideal) x0 x1) (fun H t s => (dat x0 x1 (H / 2)).dz (H % 2) t s) := by
  have h45 : R3 (φ := .f32) (val_main_v45 (F := Ideal) x0 x1) _ := (r_g hT).addf (r_gs hT)
  have h46 : R3 (φ := .f32) (val_main_v46 (F := Ideal) x0 x1) _ := (h45.negf.mulf (r_rest hT)).negf
  have h : R3 (φ := .f32) (val_main_v47 (F := Ideal) x0 x1) _ := (r_gs hT).negf.addf h46
  refine h.congr fun H hH t ht s _ => ?_
  by_cases hs : s < t
  · rw [if_pos hs, Data.dz, if_pos hs, (soft_eq hT hH ht hs).2]; ring
  · rw [if_neg hs, Data.dz, if_neg hs, Data.g_ge _ (by omega)]; ring

theorem r_dzs (hT : Tame x0 x1) :
    R3 (φ := .f32) (val_main_v49 (F := Ideal) x0 x1) (fun H t s => (dat x0 x1 (H / 2)).dz (H % 2) t s * 0.125) :=
  (r_dz hT).mulf (r_const bits_eighth)

theorem r_dqh (hT : Tame x0 x1) : R3 (φ := .f32) (val_main_v51 (F := Ideal) x0 x1)
    (fun H t l => ∑ s ∈ Finset.range 4096, (dat x0 x1 (H / 2)).dz (H % 2) t s * 0.125 * entry x0 s (512 + 64 * H + l)) := fun i => by
  rw [val_main_v51_apply]
  exact sum_coe_mul (f := fun s => (dat x0 x1 ((i 0).val / 2)).dz ((i 0).val % 2) (i 1).val s * 0.125)
    (g := fun s => entry x0 s (512 + 64 * (i 0).val + (i 2).val)) (fun k => r_dzs hT _) (fun k => r_k hT.1 _)

theorem r_dkh (hT : Tame x0 x1) : R3 (φ := .f32) (val_main_v50 (F := Ideal) x0 x1)
    (fun H s l => ∑ t ∈ Finset.range 4096, (dat x0 x1 (H / 2)).dz (H % 2) t s * 0.125 * entry x0 t (64 * H + l)) := fun i => by
  rw [val_main_v50_apply]
  exact sum_coe_mul (f := fun t => (dat x0 x1 ((i 0).val / 2)).dz ((i 0).val % 2) t (i 1).val * 0.125)
    (g := fun t => entry x0 t (64 * (i 0).val + (i 2).val)) (fun k => r_dzs hT _) (fun k => r_q hT.1 _)

theorem r_dvh (hT : Tame x0 x1) : R3 (φ := .f32) (val_main_v33 (F := Ideal) x0 x1)
    (fun H l s => ∑ t ∈ Finset.range 4096, entry x1 t (64 * H + l) * (dat x0 x1 (H / 2)).a (H % 2) t s) := fun i => by
  rw [val_main_v33_apply]
  exact sum_coe_mul (f := fun t => entry x1 t (64 * (i 0).val + (i 1).val))
    (g := fun t => (dat x0 x1 ((i 0).val / 2)).a ((i 0).val % 2) t (i 2).val) (fun k => r_dy hT _) (fun k => r_a hT _)

/-- The reference's derivative of q. -/
theorem ref_dq (hT : Tame x0 x1) : R2 (φ := .bf16) (val_main_v56 (F := Ideal) x0 x1)
    (fun t c => ∑ s ∈ Finset.range 4096, (dat x0 x1 (c / 128)).dz (c / 64 % 2) t s * 0.125 * entry x0 s (512 + c)) := fun i => by
  have h0 : (i 0).val < 4096 := (i 0).isLt
  have h1 : (i 1).val < 512 := (i 1).isLt
  refine (val_main_v55_apply (F := Ideal) x0 x1 i).trans ?_
  rw [val_main_v54_apply]
  refine (r_dqh hT _).trans (congrArg (fun x : ℝ => (x : EReal)) ?_)
  show ∑ s ∈ Finset.range 4096, (dat x0 x1 (((i 0).val * 512 + (i 1).val) / 64 % 8 / 2)).dz (((i 0).val * 512 + (i 1).val) / 64 % 8 % 2)
    (((i 0).val * 512 + (i 1).val) / 512) s * 0.125 * entry x0 s (512 + 64 * (((i 0).val * 512 + (i 1).val) / 64 % 8) + ((i 0).val * 512 + (i 1).val) % 64) = _
  rw [show ((i 0).val * 512 + (i 1).val) / 64 % 8 / 2 = (i 1).val / 128 by omega,
    show ((i 0).val * 512 + (i 1).val) / 64 % 8 % 2 = (i 1).val / 64 % 2 by omega, show ((i 0).val * 512 + (i 1).val) / 512 = (i 0).val by omega,
    show 512 + 64 * (((i 0).val * 512 + (i 1).val) / 64 % 8) + ((i 0).val * 512 + (i 1).val) % 64 = 512 + (i 1).val by omega]

/-- The reference's derivative of k. -/
theorem ref_dk (hT : Tame x0 x1) : R2 (φ := .bf16) (val_main_v57 (F := Ideal) x0 x1)
    (fun s c => ∑ t ∈ Finset.range 4096, (dat x0 x1 (c / 128)).dz (c / 64 % 2) t s * 0.125 * entry x0 t c) := fun i => by
  have h0 : (i 0).val < 4096 := (i 0).isLt
  have h1 : (i 1).val < 512 := (i 1).isLt
  refine (val_main_v53_apply (F := Ideal) x0 x1 i).trans ?_
  rw [val_main_v52_apply]
  refine (r_dkh hT _).trans (congrArg (fun x : ℝ => (x : EReal)) ?_)
  show ∑ t ∈ Finset.range 4096, (dat x0 x1 (((i 0).val * 512 + (i 1).val) / 64 % 8 / 2)).dz (((i 0).val * 512 + (i 1).val) / 64 % 8 % 2)
    t (((i 0).val * 512 + (i 1).val) / 512) * 0.125 * entry x0 t (64 * (((i 0).val * 512 + (i 1).val) / 64 % 8) + ((i 0).val * 512 + (i 1).val) % 64) = _
  rw [show ((i 0).val * 512 + (i 1).val) / 64 % 8 / 2 = (i 1).val / 128 by omega,
    show ((i 0).val * 512 + (i 1).val) / 64 % 8 % 2 = (i 1).val / 64 % 2 by omega, show ((i 0).val * 512 + (i 1).val) / 512 = (i 0).val by omega,
    show 64 * (((i 0).val * 512 + (i 1).val) / 64 % 8) + ((i 0).val * 512 + (i 1).val) % 64 = (i 1).val by omega]

/-- The reference's derivative of v. -/
theorem ref_dv (hT : Tame x0 x1) : R2 (φ := .bf16) (val_main_v58 (F := Ideal) x0 x1)
    (fun s c => ∑ t ∈ Finset.range 4096, entry x1 t c * (dat x0 x1 (c / 128)).a (c / 64 % 2) t s) := fun i => by
  have h0 : (i 0).val < 4096 := (i 0).isLt
  have h1 : (i 1).val < 512 := (i 1).isLt
  refine (val_main_v37_apply (F := Ideal) x0 x1 i).trans ?_
  rw [val_main_v36_apply, val_main_v34_apply]
  refine (r_dvh hT _).trans (congrArg (fun x : ℝ => (x : EReal)) ?_)
  show ∑ t ∈ Finset.range 4096, entry x1 t (64 * (((i 0).val * 512 + (i 1).val) / 64 % 8) + ((i 0).val * 512 + (i 1).val) % 64)
    * (dat x0 x1 (((i 0).val * 512 + (i 1).val) / 64 % 8 / 2)).a (((i 0).val * 512 + (i 1).val) / 64 % 8 % 2) t (((i 0).val * 512 + (i 1).val) / 512) = _
  rw [show ((i 0).val * 512 + (i 1).val) / 64 % 8 / 2 = (i 1).val / 128 by omega,
    show ((i 0).val * 512 + (i 1).val) / 64 % 8 % 2 = (i 1).val / 64 % 2 by omega, show ((i 0).val * 512 + (i 1).val) / 512 = (i 0).val by omega,
    show 64 * (((i 0).val * 512 + (i 1).val) / 64 % 8) + ((i 0).val * 512 + (i 1).val) % 64 = (i 1).val by omega]
end

end Cert.Proof
-- ==== Proof.Equation.lean ====
/- The equation: what the kernel's grid leaves in its three result arrays is what the reference computes. The kernel's array at a row and a
   column is what the point that wrote it left; the pair's rows make that the reference's sum. -/
module

public import proofs.«01_k».proof.Proof.Grid
public import proofs.«01_k».proof.Proof.Blocks
public import proofs.«01_k».proof.Proof.Gradients
public import proofs.«01_k».proof.Proof.Gen.KernelIdeal.Value

@[expose] public section

noncomputable section

namespace Cert.Proof

open Idealize.ShloMosaic Idealize.ShloMosaic.TcCoe Idealize.SL Idealize.SL.Sem Cert.KernelIdeal Cert.KernelIdeal.Gen Cert.KernelIdeal.Value
open scoped BigOperators

namespace Data
variable (D : Data)

/-- The query's derivative, all keys counted. -/
theorem dqOut_all {t0 r l : ℕ} (hr : r < 1024) (ht : t0 + 1024 ≤ 4096) :
    D.dqOut t0 r l = ∑ s ∈ Finset.range 4096, D.dz (if l < 64 then 0 else 1) (t0 + r) s * 0.125 * D.K s l := by
  have e : ∀ h, D.dqa h (t0 + r) (t0 + 1024) l = ∑ s ∈ Finset.range 4096, D.dz h (t0 + r) s * D.K s l := fun h =>
    D.dqa_stops h (t0 + r) (t0 + 1024) 4096 l (by omega) (by omega)
  unfold dqOut
  rw [e, e, ← apply_ite (fun h => ∑ s ∈ Finset.range 4096, D.dz h (t0 + r) s * D.K s l), Finset.sum_mul]
  exact Finset.sum_congr rfl fun s _ => by ring

/-- The key's derivative: the lane's head alone adds to it. -/
theorem kAfter_all (s l : ℕ) : D.kAfter 4 l s = ∑ t ∈ Finset.range 4096, D.dz (if l < 64 then 0 else 1) t s * 0.125 * D.Q t l := by
  rw [kAfter_eq, dkh, dkh, ← Finset.sum_add_distrib, ← Finset.sum_neg_distrib]
  refine Finset.sum_congr rfl fun t _ => ?_
  rw [zero_add]
  by_cases hl : l < 64
  · simp only [qh, pick, if_pos hl, if_true, one_ne_zero, if_false]; ring
  · simp only [qh, pick, if_neg hl, if_true, one_ne_zero, if_false]; ring

/-- The value's derivative: the lane's head alone adds to it. -/
theorem vAfter_all (s l : ℕ) : D.vAfter 4 l s = ∑ t ∈ Finset.range 4096, D.DY t l * D.a (if l < 64 then 0 else 1) t s := by
  rw [vAfter_eq, dvh, dvh, ← Finset.sum_add_distrib]
  refine Finset.sum_congr rfl fun t _ => ?_
  rw [zero_add]
  by_cases hl : l < 64
  · simp only [dyh, pick, if_pos hl, if_true, one_ne_zero, if_false]; ring
  · simp only [dyh, pick, if_neg hl, if_true, one_ne_zero, if_false]; ring

end Data

/-- A column's half of its pair. -/
theorem half_eq (c : ℕ) : (if c % 128 < 64 then 0 else 1) = c / 64 % 2 := by split <;> omega

variable (m : (ℓ : Loc nD τ sig) → Buf (Elt Ideal) ℓ) (c : Dev nD)

/-- The pair of heads `p` of the arguments. -/
abbrev pair (p : ℕ) : Data := dat (arg0 m c) (arg1 m c) p

theorem loads (hT : Tame (arg0 m c) (arg1 m c)) : Loads m c (pair m c) :=
  ⟨load_q m c hT, load_k m c hT, load_v m c hT, load_t m c hT, load_dy m c hT⟩

theorem eq_dq (hT : Tame (arg0 m c) (arg1 m c)) : R2 (n := 4096) (m := 512) (φ := .bf16) (G5 m c)
    (fun t l => ∑ s ∈ Finset.range 4096, (pair m c (l / 128)).dz (l / 64 % 2) t s * 0.125 * entry (arg0 m c) s (512 + l)) := fun i => by
  have h0 : (i 0).val < 4096 := (i 0).isLt
  have h1 : (i 1).val < 512 := (i 1).isLt
  have hp : pt5Of i = 1 * ((i 0).val / 1024 - 0) + 4 * ((i 1).val / 128 - 0) := rfl
  have hn : pt5Of i < cfg0.N := lt_of_lt_of_eq (by rw [hp]; omega) N_0.symm
  have e : G5 m c i = (outsAt0 m c (pt5Of i) hn).1 (loc5Of i) := by
    unfold G5
    rw [dif_pos hn, outsAt0_sweep m c (pt5Of i) hn]
  refine e.trans (((left (loads m c hT) (pt5Of i) hn).dq (loc5Of i)).trans (congrArg _ ?_))
  show (pair m c (pt5Of i / 4)).dqOut (1024 * (pt5Of i % 4)) ((i 0).val % 1024) ((i 1).val % 128) = _
  rw [show pt5Of i / 4 = (i 1).val / 128 by omega, show pt5Of i % 4 = (i 0).val / 1024 by omega, Data.dqOut_all _ (by omega) (by omega),
    half_eq, show 1024 * ((i 0).val / 1024) + (i 0).val % 1024 = (i 0).val by omega]
  refine Finset.sum_congr rfl fun s _ => ?_
  show _ * entry (arg0 m c) s (512 + 128 * ((i 1).val / 128) + (i 1).val % 128) = _
  rw [show 512 + 128 * ((i 1).val / 128) + (i 1).val % 128 = 512 + (i 1).val by omega]

theorem eq_dk (hT : Tame (arg0 m c) (arg1 m c)) : R2 (n := 4096) (m := 512) (φ := .bf16) (G6 m c)
    (fun s l => ∑ t ∈ Finset.range 4096, (pair m c (l / 128)).dz (l / 64 % 2) t s * 0.125 * entry (arg0 m c) t l) := fun i => by
  have h0 : (i 0).val < 4096 := (i 0).isLt
  have h1 : (i 1).val < 512 := (i 1).isLt
  have hp : pt6Of i = 4 * (4 * ((i 0).val / 4096 - 0) + 1 * ((i 1).val / 128 - 0)) + 3 := rfl
  have hn : pt6Of i < cfg0.N := lt_of_lt_of_eq (by rw [hp]; omega) N_0.symm
  have e : G6 m c i = (outsAt0 m c (pt6Of i) hn).2.1 (loc6Of i) := by
    unfold G6
    rw [dif_pos hn, outsAt0_sweep m c (pt6Of i) hn]
  refine e.trans (((left (loads m c hT) (pt6Of i) hn).dk (by omega) (loc6Of i)).trans (congrArg _ ?_))
  show (pair m c (pt6Of i / 4)).kAfter (pt6Of i % 4 + 1) ((i 1).val % 128) ((i 0).val % 4096) = _
  rw [show pt6Of i / 4 = (i 1).val / 128 by omega, show pt6Of i % 4 + 1 = 4 by omega, Data.kAfter_all, half_eq,
    show (i 0).val % 4096 = (i 0).val by omega]
  refine Finset.sum_congr rfl fun t _ => ?_
  show _ * entry (arg0 m c) t (128 * ((i 1).val / 128) + (i 1).val % 128) = _
  rw [show 128 * ((i 1).val / 128) + (i 1).val % 128 = (i 1).val by omega]

theorem eq_dv (hT : Tame (arg0 m c) (arg1 m c)) : R2 (n := 4096) (m := 512) (φ := .bf16) (G7 m c)
    (fun s l => ∑ t ∈ Finset.range 4096, entry (arg1 m c) t l * (pair m c (l / 128)).a (l / 64 % 2) t s) := fun i => by
  have h0 : (i 0).val < 4096 := (i 0).isLt
  have h1 : (i 1).val < 512 := (i 1).isLt
  have hp : pt7Of i = 4 * (4 * ((i 0).val / 4096 - 0) + 1 * ((i 1).val / 128 - 0)) + 3 := rfl
  have hn : pt7Of i < cfg0.N := lt_of_lt_of_eq (by rw [hp]; omega) N_0.symm
  have e : G7 m c i = (outsAt0 m c (pt7Of i) hn).2.2.1 (loc7Of i) := by
    unfold G7
    rw [dif_pos hn, outsAt0_sweep m c (pt7Of i) hn]
  refine e.trans (((left (loads m c hT) (pt7Of i) hn).dv (by omega) (loc7Of i)).trans (congrArg _ ?_))
  show (pair m c (pt7Of i / 4)).vAfter (pt7Of i % 4 + 1) ((i 1).val % 128) ((i 0).val % 4096) = _
  rw [show pt7Of i / 4 = (i 1).val / 128 by omega, show pt7Of i % 4 + 1 = 4 by omega, Data.vAfter_all, half_eq,
    show (i 0).val % 4096 = (i 0).val by omega]
  refine Finset.sum_congr rfl fun t _ => ?_
  show entry (arg1 m c) t (128 * ((i 1).val / 128) + (i 1).val % 128) * _ = _
  rw [show 128 * ((i 1).val / 128) + (i 1).val % 128 = (i 1).val by omega]

/-- Two arrays of the same real numbers. -/
theorem R2.unique {n k : ℕ} {φ : FTy} {u v : FVec Ideal ⟨2, ![n, k]⟩ φ} {f : ℕ → ℕ → ℝ} (hu : R2 u f) (hv : R2 v f) : u = v :=
  funext fun i => (hu i).trans (hv i).symm

theorem final_dq (hT : Tame (arg0 m c) (arg1 m c)) :
    (Cert.ReferenceIdeal.Read.val_main_v56 (F := Ideal) (arg0 m c) (arg1 m c) : FVec Ideal ⟨2, ![4096, 512]⟩ .bf16) = G5 m c :=
  (ref_dq hT).unique (eq_dq m c hT)
theorem final_dk (hT : Tame (arg0 m c) (arg1 m c)) :
    (Cert.ReferenceIdeal.Read.val_main_v57 (F := Ideal) (arg0 m c) (arg1 m c) : FVec Ideal ⟨2, ![4096, 512]⟩ .bf16) = G6 m c :=
  (ref_dk hT).unique (eq_dk m c hT)
theorem final_dv (hT : Tame (arg0 m c) (arg1 m c)) :
    (Cert.ReferenceIdeal.Read.val_main_v58 (F := Ideal) (arg0 m c) (arg1 m c) : FVec Ideal ⟨2, ![4096, 512]⟩ .bf16) = G7 m c :=
  (ref_dv hT).unique (eq_dv m c hT)

end Cert.Proof
-- ==== Proof.Precondition.lean ====
/- What the precondition says of the arguments: their elements are real numbers, and no score below the diagonal is less than -80. -/
module

public import proofs.«01_k».proof.Proof.Weights
public import proofs.«01_k».proof.Proof.Gen.Pre_tame

@[expose] public section

noncomputable section

namespace Cert.Proof

open Idealize.ShloMosaic Idealize.ShloMosaic.ValueIdx Cert.ReferenceIdeal Cert.ReferenceIdeal.Gen Cert.ReferenceIdeal.Read
open scoped BigOperators

theorem bits_neg80 : Ideal.ofBits .f32 0xC2A00000#32 = ((-80 : ℝ) : EReal) := by
  simp [Ideal.ofBits, Ideal.ieee, -EReal.coe_mul]; norm_num

/-- An element whose absolute value is below infinity is neither infinity. -/
theorem ne_of_abs {x : EReal} (h : BitVec.ofBool (decide (max x (-x) < (⊤ : EReal))) = 1#1) : x ≠ ⊤ ∧ x ≠ ⊥ := by
  have h' : max x (-x) < (⊤ : EReal) := by
    by_contra hc
    rw [decide_eq_false hc] at h
    exact absurd h (by decide)
  refine ⟨fun e => ?_, fun e => ?_⟩
  · rw [e] at h'; exact absurd h' (by simp)
  · rw [e] at h'; exact absurd h' (by simp)

/-- Of two bits one is set, and the second is not. -/
theorem bit_or {a b : BitVec 1} (h : a ||| ~~~b = 1#1) (hb : b = 1#1) : a = 1#1 := by
  subst hb
  simpa using h

variable {x0 : FVec Ideal ⟨2, ![4096, 4608]⟩ .f32} {x1 : FVec Ideal ⟨2, ![4096, 512]⟩ .f32}

theorem finite_of (h : (Cert.Pre_tame.fn (F := Ideal) x0 x1).1 = fun _ => 1#1) : Finite x0 := fun i hi => by
  have h0 : (i 0).val < 4096 := (i 0).isLt
  have hj := congrFun h (ix2 ⟨(i 0).val, h0⟩ ⟨(i 1).val, hi⟩)
  have e : BitVec.ofBool (decide (max (x0 i) (-(x0 i)) < (⊤ : EReal))) = 1#1 := by
    refine Eq.trans ?_ hj
    show _ = BitVec.ofBool (decide (max (extractStridedSlice _ ![0, 0] x0 _ (ix2 ⟨(i 0).val, h0⟩ ⟨(i 1).val, hi⟩)) (-(extractStridedSlice _ ![0, 0] x0 _ (ix2 ⟨(i 0).val, h0⟩ ⟨(i 1).val, hi⟩)))
      < Ideal.ofBits .f32 0x7F800000#32))
    rw [bits_top, extractStridedSlice_apply _ _ _ _ i (fun a => match a with | ⟨0, _⟩ => (Nat.zero_add _).symm | ⟨1, _⟩ => (Nat.zero_add _).symm)]
  exact entry_spec x0 i (ne_of_abs e).1 (ne_of_abs e).2

theorem real_of (h : (Cert.Pre_tame.fn (F := Ideal) x0 x1).2.1 = fun _ => 1#1) : R2 x1 (entry x1) := fun i => by
  have e : BitVec.ofBool (decide (max (x1 i) (-(x1 i)) < (⊤ : EReal))) = 1#1 := by
    refine Eq.trans ?_ (congrFun h i)
    show _ = BitVec.ofBool (decide (max (x1 i) (-(x1 i)) < Ideal.ofBits .f32 0x7F800000#32))
    rw [bits_top]
  exact entry_spec x1 i (ne_of_abs e).1 (ne_of_abs e).2

theorem below_of (hF : Finite x0) (h : (Cert.Pre_tame.fn (F := Ideal) x0 x1).2.2 = fun _ => 1#1) {H t s : ℕ} (hH : H < 8) (ht : t < 4096)
    (hs : s < t) : (dat x0 x1 (H / 2)).nz (H % 2) t s ≤ 80 := by
  have hj := congrFun h (ix3 ⟨H, hH⟩ ⟨t, ht⟩ ⟨s, by omega⟩)
  have e : BitVec.ofBool (decide (Ideal.ofBits .f32 0xC2A00000#32 ≤ val_main_v9 (F := Ideal) x0 (ix3 ⟨H, hH⟩ ⟨t, ht⟩ ⟨s, by omega⟩)))
      ||| ~~~(val_main_v20_1 (F := Ideal) (ix3 ⟨H, hH⟩ ⟨t, ht⟩ ⟨s, by omega⟩)) = 1#1 := hj
  have b := bit_or e ((m_below _).trans (if_pos hs))
  rw [bits_neg80, (r_z (x1 := x1) hF) _] at b
  have b' : ((-80 : ℝ) : EReal) ≤ ((-(dat x0 x1 (H / 2)).nz (H % 2) t s : ℝ) : EReal) := by
    by_contra hc
    rw [decide_eq_false hc] at b
    exact absurd b (by decide)
  have := EReal.coe_le_coe_iff.1 b'
  linarith

/-- The precondition makes the arguments tame. -/
theorem tame_of (h : (Cert.Pre_tame.fn (F := Ideal) x0 x1).1 = fun _ => 1#1) (h' : (Cert.Pre_tame.fn (F := Ideal) x0 x1).2.1 = fun _ => 1#1)
    (h'' : (Cert.Pre_tame.fn (F := Ideal) x0 x1).2.2 = fun _ => 1#1) : Tame x0 x1 :=
  ⟨finite_of h, real_of h', fun _ _ _ hH ht hs => below_of (finite_of h) h'' hH ht hs⟩

end Cert.Proof
-- ==== Proof.lean ====
/- The proof of every claim: the frames of all programs, and that each kernel computes what its reference does. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.ReferenceIdeal
public import proofs.«01_k».proof.Proof.Gen.Pre_tame
public import proofs.«01_k».proof.Proof.Gen.Kernel2.Frame
public import proofs.«01_k».proof.Proof.Gen.Reference2Ideal.Run
public import proofs.«01_k».proof.Proof.WeightIn
public import proofs.«01_k».proof.Proof.Gen.Kernel3.Frame
public import proofs.«01_k».proof.Proof.Gen.Reference3Ideal.Run
public import proofs.«01_k».proof.Proof.WeightOut
public import proofs.«01_k».proof.Proof.Gen.Kernel4.Frame
public import proofs.«01_k».proof.Proof.Gen.Reference4Ideal.Run
public import proofs.«01_k».proof.Proof.WeightUp
public import proofs.«01_k».proof.Proof.Gen.Kernel5.Frame
public import proofs.«01_k».proof.Proof.Gen.Reference5Ideal.Run
public import proofs.«01_k».proof.Proof.Projection
public import proofs.«01_k».proof.Proof.Gen.Kernel6.Frame
public import proofs.«01_k».proof.Proof.Gen.Reference6Ideal.Run
public import proofs.«01_k».proof.Proof.Adam
public import proofs.«01_k».proof.Proof.Gen.Kernel7.Frame
public import proofs.«01_k».proof.Proof.Gen.Reference7Ideal.Run
public import proofs.«01_k».proof.Proof.GateCols
public import proofs.«01_k».proof.Proof.Equation
public import proofs.«01_k».proof.Proof.Precondition
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference runs, its arguments end unchanged and its counters at zero: it declares no semaphore. -/
theorem frame_ref (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0) :=
  (θ_run Cert.ReferenceIdeal.defs _ _).mono
    (fun r h => ⟨fun c => ⟨(h c).2.2.2.1, (h c).2.2.2.2⟩, sem_eq_zero_of_no_sems (by decide) r.2⟩)
    (Cert.ReferenceIdeal.Value.run (F := Ideal) m g)

/-- The three gradients: both programs end with the same arrays. -/
theorem gradients : Cert.algebraic_KernelIdeal_ReferenceIdeal_pre_tame := fun m g m' g' hpre hagree => by
  have hT : ∀ c : Dev Cert.KernelIdeal.nD, Tame (arg0 m c) (arg1 m c) := fun c => tame_of (hpre c).1 (hpre c).2.1 (hpre c).2.2
  refine ⟨fun c => Cert.KernelIdeal.Value.G5 m c, fun c => Cert.KernelIdeal.Value.G6 m c, fun c => Cert.KernelIdeal.Value.G7 m c,
    Cert.KernelIdeal.Value.run (F := Ideal) m g, ?_⟩
  refine (θ_run Cert.ReferenceIdeal.defs _ _).mono (fun r h c => ?_) (Cert.ReferenceIdeal.Value.run (F := Ideal) m' g')
  obtain ⟨a0, a1⟩ := hagree c
  refine ⟨(h c).1.trans ?_, (h c).2.1.trans ?_, (h c).2.2.1.trans ?_, (h c).2.2.2.1, (h c).2.2.2.2⟩
  · rw [Cert.ReferenceIdeal.Read.val_main_v56_eq, a0, a1]
    exact final_dq m c (hT c)
  · rw [Cert.ReferenceIdeal.Read.val_main_v57_eq, a0, a1]
    exact final_dk m c (hT c)
  · rw [Cert.ReferenceIdeal.Read.val_main_v58_eq, a0, a1]
    exact final_dv m c (hT c)

/-- The reference of the program 2 runs, its arguments end unchanged and its counters at zero. -/
theorem frame_ref2 (m : (ℓ : Loc Cert.Reference2Ideal.nD Cert.Reference2Ideal.τ Cert.Reference2Ideal.sig) → Buf (Elt Ideal) ℓ) (g : Dev Cert.Reference2Ideal.nD → PrngReg) :
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0) :=
  (θ_run Cert.Reference2Ideal.defs _ _).mono
    (fun r h => ⟨fun c => ⟨(h c).2.1, (h c).2.2.1, (h c).2.2.2.1, (h c).2.2.2.2⟩, sem_eq_zero_of_no_sems (by decide) r.2⟩)
    (Cert.Reference2Ideal.Value.run (F := Ideal) m g)

/-- The gradient of the input projection's weights: both programs end with the same array. -/
theorem value2 : Cert.algebraic_Kernel2Ideal_Reference2Ideal := fun m g m' g' _ hagree => by
  refine ⟨fun c => (Cert.Kernel2Ideal.Gen.dats m 0 c).arrAt 2 Cert.Kernel2Ideal.cfg0.N, Cert.Kernel2Ideal.Value.run_blocks (F := Ideal) m g, ?_⟩
  refine (θ_run Cert.Reference2Ideal.defs _ _).mono (fun r h c => ?_) (Cert.Reference2Ideal.Value.run (F := Ideal) m' g')
  obtain ⟨a0, a1, a2, a3⟩ := hagree c
  refine ⟨(h c).1.trans ?_, (h c).2⟩
  rw [Cert.Reference2Ideal.Read.val_main_v15_eq, a0, a1, a3]
  exact (WeightIn.result m c).symm

/-- The reference of the program 3 runs, its arguments end unchanged and its counters at zero. -/
theorem frame_ref3 (m : (ℓ : Loc Cert.Reference3Ideal.nD Cert.Reference3Ideal.τ Cert.Reference3Ideal.sig) → Buf (Elt Ideal) ℓ) (g : Dev Cert.Reference3Ideal.nD → PrngReg) :
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0) :=
  (θ_run Cert.Reference3Ideal.defs _ _).mono
    (fun r h => ⟨fun c => ⟨(h c).2.1, (h c).2.2.1, (h c).2.2.2⟩, sem_eq_zero_of_no_sems (by decide) r.2⟩)
    (Cert.Reference3Ideal.Value.run (F := Ideal) m g)

/-- The gradient of the output projection's weights: both programs end with the same array. -/
theorem value3 : Cert.algebraic_Kernel3Ideal_Reference3Ideal := fun m g m' g' _ hagree => by
  refine ⟨fun c => (Cert.Kernel3Ideal.Gen.dats m 0 c).arrAt 2 Cert.Kernel3Ideal.cfg0.N, Cert.Kernel3Ideal.Value.run_blocks (F := Ideal) m g, ?_⟩
  refine (θ_run Cert.Reference3Ideal.defs _ _).mono (fun r h c => ?_) (Cert.Reference3Ideal.Value.run (F := Ideal) m' g')
  obtain ⟨a0, a1, a2⟩ := hagree c
  refine ⟨(h c).1.trans ?_, (h c).2⟩
  rw [Cert.Reference3Ideal.Read.val_main_v2_eq, a0, a2]
  exact (WeightOut.result m c).symm

/-- The reference of the program 4 runs, its arguments end unchanged and its counters at zero. -/
theorem frame_ref4 (m : (ℓ : Loc Cert.Reference4Ideal.nD Cert.Reference4Ideal.τ Cert.Reference4Ideal.sig) → Buf (Elt Ideal) ℓ) (g : Dev Cert.Reference4Ideal.nD → PrngReg) :
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0) :=
  (θ_run Cert.Reference4Ideal.defs _ _).mono
    (fun r h => ⟨fun c => ⟨(h c).2.1, (h c).2.2.1, (h c).2.2.2⟩, sem_eq_zero_of_no_sems (by decide) r.2⟩)
    (Cert.Reference4Ideal.Value.run (F := Ideal) m g)

/-- The gradient of the up-projection's weights: both programs end with the same array. -/
theorem value4 : Cert.algebraic_Kernel4Ideal_Reference4Ideal := fun m g m' g' _ hagree => by
  refine ⟨fun c => (Cert.Kernel4Ideal.Gen.dats m 0 c).arrAt 2 Cert.Kernel4Ideal.cfg0.N, Cert.Kernel4Ideal.Value.run_blocks (F := Ideal) m g, ?_⟩
  refine (θ_run Cert.Reference4Ideal.defs _ _).mono (fun r h c => ?_) (Cert.Reference4Ideal.Value.run (F := Ideal) m' g')
  obtain ⟨a0, a1, a2⟩ := hagree c
  refine ⟨(h c).1.trans ?_, (h c).2⟩
  rw [Cert.Reference4Ideal.Read.val_main_v2_eq, a0, a2]
  exact (WeightUp.result m c).symm

/-- The reference of the program 5 runs, its arguments end unchanged and its counters at zero. -/
theorem frame_ref5 (m : (ℓ : Loc Cert.Reference5Ideal.nD Cert.Reference5Ideal.τ Cert.Reference5Ideal.sig) → Buf (Elt Ideal) ℓ) (g : Dev Cert.Reference5Ideal.nD → PrngReg) :
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0) :=
  (θ_run Cert.Reference5Ideal.defs _ _).mono
    (fun r h => ⟨fun c => ⟨(h c).2.2.1, (h c).2.2.2.1, (h c).2.2.2.2.1, (h c).2.2.2.2.2.1, (h c).2.2.2.2.2.2⟩, sem_eq_zero_of_no_sems (by decide) r.2⟩)
    (Cert.Reference5Ideal.Value.run (F := Ideal) m g)

/-- The norm's and the input projection's backward pass: both programs end with the same derivative of the activations and the same gradient of the
    norm's weights. -/
theorem value5 : Cert.algebraic_Kernel5Ideal_Reference5Ideal := fun m g m' g' _ hagree => by
  refine ⟨fun c => (Cert.Kernel5Ideal.Gen.dats m 0 c).arrAt 7 Cert.Kernel5Ideal.cfg0.N, fun c => (Cert.Kernel5Ideal.Gen.dats m 0 c).arrAt 8 Cert.Kernel5Ideal.cfg0.N,
    Cert.Kernel5Ideal.Value.run_blocks (F := Ideal) m g, ?_⟩
  refine (θ_run Cert.Reference5Ideal.defs _ _).mono (fun r h c => ?_) (Cert.Reference5Ideal.Value.run (F := Ideal) m' g')
  obtain ⟨a0, a1, a2, a3, a4⟩ := hagree c
  refine ⟨(h c).1.trans ?_, (h c).2.1.trans ?_, (h c).2.2⟩
  · rw [Cert.Reference5Ideal.Read.val_main_v36_eq, a0, a1, a2, a3, a4]
    exact (Inproj.result_slope m c).symm
  · rw [Cert.Reference5Ideal.Read.val_main_v19_eq, a0, a2, a3]
    exact (Inproj.result_weights m c).symm

/-- The reference of the program 6 runs, its arguments end unchanged and its counters at zero. -/
theorem frame_ref6 (m : (ℓ : Loc Cert.Reference6Ideal.nD Cert.Reference6Ideal.τ Cert.Reference6Ideal.sig) → Buf (Elt Ideal) ℓ) (g : Dev Cert.Reference6Ideal.nD → PrngReg) :
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0) :=
  (θ_run Cert.Reference6Ideal.defs _ _).mono
    (fun r h => ⟨fun c => ⟨(h c).2.2.2.2.1, (h c).2.2.2.2.2.1, (h c).2.2.2.2.2.2.1, (h c).2.2.2.2.2.2.2⟩, sem_eq_zero_of_no_sems (by decide) r.2⟩)
    (Cert.Reference6Ideal.Value.run (F := Ideal) m g)

/-- The step of the packed weights: both programs end with the same gradient, change and moments. -/
theorem value6 : Cert.algebraic_Kernel6Ideal_Reference6Ideal := fun m g m' g' _ hagree => by
  refine ⟨fun c => (Cert.Kernel6Ideal.Gen.dats m 0 c).arrAt 4 Cert.Kernel6Ideal.cfg0.N, fun c => (Cert.Kernel6Ideal.Gen.dats m 0 c).arrAt 5 Cert.Kernel6Ideal.cfg0.N, fun c => (Cert.Kernel6Ideal.Gen.dats m 0 c).arrAt 6 Cert.Kernel6Ideal.cfg0.N, fun c => (Cert.Kernel6Ideal.Gen.dats m 0 c).arrAt 7 Cert.Kernel6Ideal.cfg0.N,
    Cert.Kernel6Ideal.Value.run_blocks (F := Ideal) m g, ?_⟩
  refine (θ_run Cert.Reference6Ideal.defs _ _).mono (fun r h c => ?_) (Cert.Reference6Ideal.Value.run (F := Ideal) m' g')
  obtain ⟨a0, a1, a2, a3⟩ := hagree c
  refine ⟨(h c).1.trans ?_, (h c).2.1.trans ?_, (h c).2.2.1.trans ?_, (h c).2.2.2.1.trans ?_, (h c).2.2.2.2⟩
  · rw [Cert.Reference6Ideal.Read.val_main_v1_eq, a0]
    exact (Adam.result4 m c).symm
  · rw [Cert.Reference6Ideal.Read.val_main_v25_eq, a0, a1, a2, a3]
    exact (Adam.result5 m c).symm
  · rw [Cert.Reference6Ideal.Read.val_main_v6_eq, a0, a2]
    exact (Adam.result6 m c).symm
  · rw [Cert.Reference6Ideal.Read.val_main_v12_eq, a0, a3]
    exact (Adam.result7 m c).symm

/-- The reference of the program 7 runs, its arguments end unchanged and its counters at zero. -/
theorem frame_ref7 (m : (ℓ : Loc Cert.Reference7Ideal.nD Cert.Reference7Ideal.τ Cert.Reference7Ideal.sig) → Buf (Elt Ideal) ℓ) (g : Dev Cert.Reference7Ideal.nD → PrngReg) :
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0) :=
  (θ_run Cert.Reference7Ideal.defs _ _).mono
    (fun r h => ⟨fun c => ⟨(h c).2.1, (h c).2.2.1, (h c).2.2.2.1, (h c).2.2.2.2.1, (h c).2.2.2.2.2⟩, sem_eq_zero_of_no_sems (by decide) r.2⟩)
    (Cert.Reference7Ideal.Value.run (F := Ideal) m g)

/-- The gradient of the input projection's weights for the gates, below the rows already there: both programs end with the same array. -/
theorem value7 : Cert.algebraic_Kernel7Ideal_Reference7Ideal := fun m g m' g' _ hagree => by
  refine ⟨fun c => (Cert.Kernel7Ideal.Gen.dats m 0 c).arrAt 2 Cert.Kernel7Ideal.cfg0.N, Cert.Kernel7Ideal.Value.run_blocks (F := Ideal) m g, ?_⟩
  refine (θ_run Cert.Reference7Ideal.defs _ _).mono (fun r h c => ?_) (Cert.Reference7Ideal.Value.run (F := Ideal) m' g')
  obtain ⟨a0, a1, a2, a3, a4⟩ := hagree c
  refine ⟨(h c).1.trans ?_, (h c).2⟩
  rw [Cert.Reference7Ideal.Read.val_main_v17_eq, a0, a1, a3, a4]
  exact (GateCols.result m c).symm

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Pre_tame.Gen.facts,
    fun m g _ => Cert.Kernel.Gen.frame (F := Bits) m g,
    fun m g _ => Cert.KernelIdeal.Gen.frame (F := Ideal) m g,
    fun m g _ => Cert.KernelIdeal.Gen.frame (F := Ideal) m g,
    fun m g _ => frame_ref m g,
    fun m g _ => frame_ref m g,
    fun m g _ => Cert.Kernel2.Gen.frame (F := Bits) m g,
    fun m g _ => Cert.Kernel2Ideal.Gen.frame (F := Ideal) m g,
    fun m g _ => frame_ref2 m g,
    fun m g _ => Cert.Kernel3.Gen.frame (F := Bits) m g,
    fun m g _ => Cert.Kernel3Ideal.Gen.frame (F := Ideal) m g,
    fun m g _ => frame_ref3 m g,
    fun m g _ => Cert.Kernel4.Gen.frame (F := Bits) m g,
    fun m g _ => Cert.Kernel4Ideal.Gen.frame (F := Ideal) m g,
    fun m g _ => frame_ref4 m g,
    fun m g _ => Cert.Kernel5.Gen.frame (F := Bits) m g,
    fun m g _ => Cert.Kernel5Ideal.Gen.frame (F := Ideal) m g,
    fun m g _ => frame_ref5 m g,
    fun m g _ => Cert.Kernel6.Gen.frame (F := Bits) m g,
    fun m g _ => Cert.Kernel6Ideal.Gen.frame (F := Ideal) m g,
    fun m g _ => frame_ref6 m g,
    fun m g _ => Cert.Kernel7.Gen.frame (F := Bits) m g,
    fun m g _ => Cert.Kernel7Ideal.Gen.frame (F := Ideal) m g,
    fun m g _ => frame_ref7 m g,
    trivial,
    gradients,
    trivial,
    value2,
    trivial,
    value3,
    trivial,
    value4,
    trivial,
    value5,
    trivial,
    value6,
    trivial,
    value7⟩

end Cert.Proof

end
